-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_kv [hPre_finite_kv : Cert.Pre_finite_kv.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_kv.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_kv [hPre_finite_kv : Cert.Pre_finite_kv.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_kv.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_q [hPre_finite_q : Cert.Pre_finite_q.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_q.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_q [hPre_finite_q : Cert.Pre_finite_q.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_q.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_kv_s [hPre_finite_kv_s : Cert.Pre_finite_kv_s.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_kv_s.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_kv_s [hPre_finite_kv_s : Cert.Pre_finite_kv_s.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_kv_s.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_s5 [hPre_finite_s5 : Cert.Pre_finite_s5.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_s5.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12)) (m ((c.tc : Thread Cert.Kernel9Ideal.nD Cert.Kernel9Ideal.τ).loc Cert.Kernel9Ideal.main_arg13))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_s5 [hPre_finite_s5 : Cert.Pre_finite_s5.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_s5.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12)) (m ((c.tc : Thread Cert.Reference9Ideal.nD Cert.Reference9Ideal.τ).loc Cert.Reference9Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_kv [hKernel5Ideal : Cert.Kernel5Ideal.Facts] [hPre_finite_kv : Cert.Pre_finite_kv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_kv m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_kv [hReference5Ideal : Cert.Reference5Ideal.Facts] [hPre_finite_kv : Cert.Pre_finite_kv.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_kv m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite_q [hKernel6Ideal : Cert.Kernel6Ideal.Facts] [hPre_finite_q : Cert.Pre_finite_q.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_q m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite_q [hReference6Ideal : Cert.Reference6Ideal.Facts] [hPre_finite_q : Cert.Pre_finite_q.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_q m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite_kv_s [hKernel8Ideal : Cert.Kernel8Ideal.Facts] [hPre_finite_kv_s : Cert.Pre_finite_kv_s.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_kv_s m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite_kv_s [hReference8Ideal : Cert.Reference8Ideal.Facts] [hPre_finite_kv_s : Cert.Pre_finite_kv_s.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_kv_s m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ r.2.sem = fun _ => 0)

def quiescent_Kernel9Ideal_pre_finite_s5 [hKernel9Ideal : Cert.Kernel9Ideal.Facts] [hPre_finite_s5 : Cert.Pre_finite_s5.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_s5 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13))
      ∧ r.2.sem = fun _ => 0)

def quiescent_Reference9Ideal_pre_finite_s5 [hReference9Ideal : Cert.Reference9Ideal.Facts] [hPre_finite_s5 : Cert.Pre_finite_s5.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_s5 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_kv [hKernel5Ideal : Cert.Kernel5Ideal.Facts] [hReference5Ideal : Cert.Reference5Ideal.Facts] [hPre_finite_kv : Cert.Pre_finite_kv.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_kv m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v52_0)) (v1 : (c : Dev Cert.Kernel5Ideal.nD) → Buf (Elt Ideal) ((c.tc : Thread Cert.Kernel5Ideal.nD Cert.Kernel5Ideal.τ).loc Cert.Kernel5Ideal.main_v52_1)) (v2 : (c : Dev Cert.Kernel5Ideal.nD) → Buf (Elt Ideal) ((c.tc : Thread Cert.Kernel5Ideal.nD Cert.Kernel5Ideal.τ).loc Cert.Kernel5Ideal.main_v52_2)) (v3 : (c : Dev Cert.Kernel5Ideal.nD) → Buf (Elt Ideal) ((c.tc : Thread Cert.Kernel5Ideal.nD Cert.Kernel5Ideal.τ).loc Cert.Kernel5Ideal.main_v52_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v52_0) = v0 c
          ∧ r.2.mem ((c.tc : Thread Cert.Kernel5Ideal.nD Cert.Kernel5Ideal.τ).loc Cert.Kernel5Ideal.main_v52_1) = v1 c
          ∧ r.2.mem ((c.tc : Thread Cert.Kernel5Ideal.nD Cert.Kernel5Ideal.τ).loc Cert.Kernel5Ideal.main_v52_2) = v2 c
          ∧ r.2.mem ((c.tc : Thread Cert.Kernel5Ideal.nD Cert.Kernel5Ideal.τ).loc Cert.Kernel5Ideal.main_v52_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v71) = v1 c
          ∧ r.2.mem ((c.tc : Thread Cert.Reference5Ideal.nD Cert.Reference5Ideal.τ).loc Cert.Reference5Ideal.main_v82) = v2 c
          ∧ r.2.mem ((c.tc : Thread Cert.Reference5Ideal.nD Cert.Reference5Ideal.τ).loc Cert.Reference5Ideal.main_v84) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite_q [hKernel6Ideal : Cert.Kernel6Ideal.Facts] [hReference6Ideal : Cert.Reference6Ideal.Facts] [hPre_finite_q : Cert.Pre_finite_q.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_q m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v52)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v52) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_kv_s [hKernel8Ideal : Cert.Kernel8Ideal.Facts] [hReference8Ideal : Cert.Reference8Ideal.Facts] [hPre_finite_kv_s : Cert.Pre_finite_kv_s.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_kv_s m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v54_0)) (v1 : (c : Dev Cert.Kernel8Ideal.nD) → Buf (Elt Ideal) ((c.tc : Thread Cert.Kernel8Ideal.nD Cert.Kernel8Ideal.τ).loc Cert.Kernel8Ideal.main_v54_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v54_0) = v0 c
          ∧ r.2.mem ((c.tc : Thread Cert.Kernel8Ideal.nD Cert.Kernel8Ideal.τ).loc Cert.Kernel8Ideal.main_v54_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v71) = v0 c
          ∧ r.2.mem ((c.tc : Thread Cert.Reference8Ideal.nD Cert.Reference8Ideal.τ).loc Cert.Reference8Ideal.main_v72) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal_pre_finite_s5 [hKernel9Ideal : Cert.Kernel9Ideal.Facts] [hReference9Ideal : Cert.Reference9Ideal.Facts] [hPre_finite_s5 : Cert.Pre_finite_s5.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_s5 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)) →
    ∃ (v0 : (c : Dev Cert.Kernel9Ideal.nD) → Buf (Elt Ideal) ((c.tc : Thread Cert.Kernel9Ideal.nD Cert.Kernel9Ideal.τ).loc Cert.Kernel9Ideal.main_v98_1)) (v1 : (c : Dev Cert.Kernel9Ideal.nD) → Buf (Elt Ideal) ((c.tc : Thread Cert.Kernel9Ideal.nD Cert.Kernel9Ideal.τ).loc Cert.Kernel9Ideal.main_v98_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v98_1) = v0 c
          ∧ r.2.mem ((c.tc : Thread Cert.Kernel9Ideal.nD Cert.Kernel9Ideal.τ).loc Cert.Kernel9Ideal.main_v98_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v85) = v0 c
          ∧ r.2.mem ((c.tc : Thread Cert.Reference9Ideal.nD Cert.Reference9Ideal.τ).loc Cert.Reference9Ideal.main_v86) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite_kv : Cert.Pre_finite_kv.Facts) (hPre_finite_q : Cert.Pre_finite_q.Facts) (hPre_finite_kv_s : Cert.Pre_finite_kv_s.Facts) (hPre_finite_s5 : Cert.Pre_finite_s5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_kv (hKernel5Ideal := hKernel5Ideal) (hPre_finite_kv := hPre_finite_kv)
    ∧ quiescent_Reference5Ideal (hReference5Ideal := hReference5Ideal)
    ∧ quiescent_Reference5Ideal_pre_finite_kv (hReference5Ideal := hReference5Ideal) (hPre_finite_kv := hPre_finite_kv)
    ∧ quiescent_Kernel6 (hKernel6 := hKernel6)
    ∧ quiescent_Kernel6Ideal (hKernel6Ideal := hKernel6Ideal)
    ∧ quiescent_Kernel6Ideal_pre_finite_q (hKernel6Ideal := hKernel6Ideal) (hPre_finite_q := hPre_finite_q)
    ∧ quiescent_Reference6Ideal (hReference6Ideal := hReference6Ideal)
    ∧ quiescent_Reference6Ideal_pre_finite_q (hReference6Ideal := hReference6Ideal) (hPre_finite_q := hPre_finite_q)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_kv_s (hKernel8Ideal := hKernel8Ideal) (hPre_finite_kv_s := hPre_finite_kv_s)
    ∧ quiescent_Reference8Ideal (hReference8Ideal := hReference8Ideal)
    ∧ quiescent_Reference8Ideal_pre_finite_kv_s (hReference8Ideal := hReference8Ideal) (hPre_finite_kv_s := hPre_finite_kv_s)
    ∧ quiescent_Kernel9 (hKernel9 := hKernel9)
    ∧ quiescent_Kernel9Ideal (hKernel9Ideal := hKernel9Ideal)
    ∧ quiescent_Kernel9Ideal_pre_finite_s5 (hKernel9Ideal := hKernel9Ideal) (hPre_finite_s5 := hPre_finite_s5)
    ∧ quiescent_Reference9Ideal (hReference9Ideal := hReference9Ideal)
    ∧ quiescent_Reference9Ideal_pre_finite_s5 (hReference9Ideal := hReference9Ideal) (hPre_finite_s5 := hPre_finite_s5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_kv (hKernel5Ideal := hKernel5Ideal) (hReference5Ideal := hReference5Ideal) (hPre_finite_kv := hPre_finite_kv)
    ∧ preserves_Kernel6_Kernel6Ideal
    ∧ algebraic_Kernel6Ideal_Reference6Ideal_pre_finite_q (hKernel6Ideal := hKernel6Ideal) (hReference6Ideal := hReference6Ideal) (hPre_finite_q := hPre_finite_q)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_kv_s (hKernel8Ideal := hKernel8Ideal) (hReference8Ideal := hReference8Ideal) (hPre_finite_kv_s := hPre_finite_kv_s)
    ∧ preserves_Kernel9_Kernel9Ideal
    ∧ algebraic_Kernel9Ideal_Reference9Ideal_pre_finite_s5 (hKernel9Ideal := hKernel9Ideal) (hReference9Ideal := hReference9Ideal) (hPre_finite_s5 := hPre_finite_s5)
-- ==== Pre_finite.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn {F : FTy → Type} [FloatOps F] (main_arg0 : FVec F S4x4096x2048 .bf16) (main_arg1 : FVec F S4x4096x2048 .bf16) (main_arg2 : FVec F S4x4096x2048 .bf16) : IVec S_ 1 :=
  let main_v0 : FVec F S4x4096x2048 .bf16 := Host.absf main_arg0
  let main_cst : FVec F S_ .bf16 := constant S_ .bf16 0x7F80#16
  let main_v1 : FVec F S4x4096x2048 .bf16 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .bf16 := Host.absf main_arg1
  let main_cst_0 : FVec F S_ .bf16 := constant S_ .bf16 0x7F80#16
  let main_v5 : FVec F S4x4096x2048 .bf16 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  main_v8
-- ==== Pre_finite_kv.lean ====
abbrev S4x4096x1024 : Shape := ⟨3, ![4, 4096, 1024]⟩
abbrev S4x1024 : Shape := ⟨2, ![4, 1024]⟩
abbrev S1024 : Shape := ⟨1, ![1024]⟩
abbrev S1024x256 : Shape := ⟨2, ![1024, 256]⟩
abbrev S256 : Shape := ⟨1, ![256]⟩
abbrev S1024x32 : Shape := ⟨2, ![1024, 32]⟩
abbrev S256x16x128 : Shape := ⟨3, ![256, 16, 128]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg4 : FVec F S1024x256 .f32) (main_arg6 : FVec F S1024x32 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x32 .f32 := Host.absf main_arg6
  let main_cst_8 : FVec F S_ .f32 := constant S_ .f32 0x7F800000#32
  let main_v25 : FVec F S1024x32 .f32 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  main_v28

def fn {F : FTy → Type} [FloatOps F] (main_arg0 : FVec F S4x4096x1024 .f32) (main_arg1 : FVec F S4x1024 .f32) (main_arg2 : FVec F S4x1024 .f32) (main_arg3 : FVec F S1024 .f32) (main_arg4 : FVec F S1024x256 .f32) (main_arg5 : FVec F S256 .f32) (main_arg6 : FVec F S1024x32 .f32) (main_arg7 : FVec F S256x16x128 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S4x1024 .f32 := Host.absf main_arg2
  let main_cst_2 : FVec F S_ .f32 := constant S_ .f32 0x7F800000#32
  let main_v10 : FVec F S4x1024 .f32 := broadcastInDim S4x1024 ![] bcast_S_S4x1024 main_cst_2
  let main_v11 : IVec S4x1024 1 := cmpf .olt main_v9 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg6 main_v13 main_v16
-- ==== Pre_finite_kv_s.lean ====
abbrev S128x1x1024 : Shape := ⟨3, ![128, 1, 1024]⟩
abbrev S128x1024 : Shape := ⟨2, ![128, 1024]⟩
abbrev S1024 : Shape := ⟨1, ![1024]⟩
abbrev S1024x256 : Shape := ⟨2, ![1024, 256]⟩
abbrev S256 : Shape := ⟨1, ![256]⟩
abbrev S1024x32 : Shape := ⟨2, ![1024, 32]⟩
abbrev S256x16x128 : Shape := ⟨3, ![256, 16, 128]⟩
abbrev S_ : Shape := ⟨0, ![]⟩

class Facts : Prop where
  bcast_S_S128x1x1024 : S_.BroadcastsInDim S128x1x1024 (![] : Fin 0 → Fin S128x1x1024.rank)
  reducesTo_S128x1x1024_S_d0_1_2 : S128x1x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg4 : FVec F S1024x256 .f32) (main_arg6 : FVec F S1024x32 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x32 .f32 := Host.absf main_arg6
  let main_cst_8 : FVec F S_ .f32 := constant S_ .f32 0x7F800000#32
  let main_v25 : FVec F S1024x32 .f32 := broadcastInDim S1024x32 ![] bcast_S_S1024x32 main_cst_8
  let main_v26 : IVec S1024x32 1 := cmpf .olt main_v24 main_v25
  let main_c_9 : IVec S_ 1 := constantI S_ 1 1#1
  let main_v27 : IVec S_ 1 := (fun x v => Host.reduce IntOp.andi x v reducesTo_S1024x32_S_d0_1 h_S_) main_v26 main_c_9
  let main_v28 : IVec S_ 1 := andi main_v23 main_v27
  main_v28

def fn {F : FTy → Type} [FloatOps F] (main_arg0 : FVec F S128x1x1024 .f32) (main_arg1 : FVec F S128x1024 .f32) (main_arg2 : FVec F S128x1024 .f32) (main_arg3 : FVec F S1024 .f32) (main_arg4 : FVec F S1024x256 .f32) (main_arg5 : FVec F S256 .f32) (main_arg6 : FVec F S1024x32 .f32) (main_arg7 : FVec F S256x16x128 .f32) : IVec S_ 1 :=
  let main_v0 : FVec F S128x1x1024 .f32 := Host.absf main_arg0
  let main_cst : FVec F S_ .f32 := constant S_ .f32 0x7F800000#32
  let main_v1 : FVec F S128x1x1024 .f32 := broadcastInDim S128x1x1024 ![] bcast_S_S128x1x1024 main_cst
  let main_v2 : IVec S128x1x1024 1 := cmpf .olt main_v0 main_v1
  let main_c : IVec S_ 1 := constantI S_ 1 1#1
  let main_v3 : IVec S_ 1 := (fun x v => Host.reduce IntOp.andi x v reducesTo_S128x1x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg6 main_v13 main_v16
-- ==== Pre_finite_q.lean ====
abbrev S4x4096x1024 : Shape := ⟨3, ![4, 4096, 1024]⟩
abbrev S1024 : Shape := ⟨1, ![1024]⟩
abbrev S4x1024 : Shape := ⟨2, ![4, 1024]⟩
abbrev S1024x512 : Shape := ⟨2, ![1024, 512]⟩
abbrev S512 : Shape := ⟨1, ![512]⟩
abbrev S512x1536 : Shape := ⟨2, ![512, 1536]⟩
abbrev S1024x1024 : Shape := ⟨2, ![1024, 1024]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S512x1536 : S_.BroadcastsInDim S512x1536 (![] : Fin 0 → Fin S512x1536.rank)
  reducesTo_S512x1536_S_d0_1 : S512x1536.ReducesTo [0, 1] S_

variable [Facts]

def fn {F : FTy → Type} [FloatOps F] (main_arg0 : FVec F S4x4096x1024 .f32) (main_arg1 : FVec F S1024 .f32) (main_arg2 : FVec F S4x1024 .f32) (main_arg3 : FVec F S4x1024 .f32) (main_arg4 : FVec F S1024x512 .f32) (main_arg5 : FVec F S512 .f32) (main_arg6 : FVec F S512x1536 .f32) (main_arg7 : FVec F S1024x1024 .f32) : IVec S_ 1 :=
  let main_v0 : FVec F S512 .f32 := Host.absf main_arg5
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S512x1536 .f32 := Host.absf main_arg6
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  main_v8
-- ==== Pre_finite_s5.lean ====
abbrev S128x1x1024 : Shape := ⟨3, ![128, 1, 1024]⟩
abbrev S1024 : Shape := ⟨1, ![1024]⟩
abbrev S128x1024 : Shape := ⟨2, ![128, 1024]⟩
abbrev S128x64x64 : Shape := ⟨3, ![128, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩

class Facts : Prop where
  bcast_S_S128x1x1024 : S_.BroadcastsInDim S128x1x1024 (![] : Fin 0 → Fin S128x1x1024.rank)
  reducesTo_S128x1x1024_S_d0_1_2 : S128x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_

variable [Facts]

def fn_part2 {F : FTy → Type} [FloatOps F] (main_arg6 : FVec F S64x64 .f32) (main_arg7 : FVec F S64x64 .f32) (main_arg9 : FVec F S64x64x16 .f32) (main_arg10 : FVec F S64x64x16 .f32) (main_v33 : IVec S_ 1) : IVec S_ 1 :=
  let main_v34 : FVec F S64x64x16 .f32 := Host.absf main_arg9
  let main_cst_12 : FVec F S_ .f32 := constant S_ .f32 0x7F800000#32
  let main_v35 : FVec F S64x64x16 .f32 := broadcastInDim S64x64x16 ![] bcast_S_S64x64x16 main_cst_12
  let main_v36 : IVec S64x64x16 1 := cmpf .olt main_v34 main_v35
  let main_c_13 : IVec S_ 1 := constantI S_ 1 1#1
  let main_v37 : IVec S_ 1 := (fun x v => Host.reduce IntOp.andi x v reducesTo_S64x64x16_S_d0_1_2 h_S_) main_v36 main_c_13
  let main_v38 : IVec S_ 1 := andi main_v33 main_v37
  let main_v39 : FVec F S64x64x16 .f32 := Host.absf main_arg10
  let main_cst_14 : FVec F S_ .f32 := constant S_ .f32 0x7F800000#32
  let main_v40 : FVec F S64x64x16 .f32 := broadcastInDim S64x64x16 ![] bcast_S_S64x64x16 main_cst_14
  let main_v41 : IVec S64x64x16 1 := cmpf .olt main_v39 main_v40
  let main_c_15 : IVec S_ 1 := constantI S_ 1 1#1
  let main_v42 : IVec S_ 1 := (fun x v => Host.reduce IntOp.andi x v reducesTo_S64x64x16_S_d0_1_2 h_S_) main_v41 main_c_15
  let main_v43 : IVec S_ 1 := andi main_v38 main_v42
  let main_v44 : FVec F S64x64 .f32 := mulf main_arg6 main_arg6
  let main_v45 : FVec F S64x64 .f32 := mulf main_arg7 main_arg7
  let main_v46 : FVec F S64x64 .f32 := addf main_v44 main_v45
  let main_cst_16 : FVec F S_ .f32 := constant S_ .f32 0x00000000#32
  let main_v47 : FVec F S64x64 .f32 := broadcastInDim S64x64 ![] bcast_S_S64x64 main_cst_16
  let main_v48 : IVec S64x64 1 := cmpf .ogt main_v46 main_v47
  let main_c_17 : IVec S_ 1 := constantI S_ 1 1#1
  let main_v49 : IVec S_ 1 := (fun x v => Host.reduce IntOp.andi x v reducesTo_S64x64_S_d0_1 h_S_) main_v48 main_c_17
  let main_v50 : IVec S_ 1 := andi main_v43 main_v49
  main_v50

def fn_part1 {F : FTy → Type} [FloatOps F] (main_arg6 : FVec F S64x64 .f32) (main_arg7 : FVec F S64x64 .f32) (main_arg8 : FVec F S64 .f32) (main_arg9 : FVec F S64x64x16 .f32) (main_arg10 : FVec F S64x64x16 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg6 main_arg7 main_arg9 main_arg10 main_v33

def fn {F : FTy → Type} [FloatOps F] (main_arg0 : FVec F S128x1x1024 .f32) (main_arg1 : FVec F S1024 .f32) (main_arg2 : FVec F S128x1024 .f32) (main_arg3 : FVec F S128x1024 .f32) (main_arg4 : FVec F S128x64x64 .f32) (main_arg5 : FVec F S128x64x64 .f32) (main_arg6 : FVec F S64x64 .f32) (main_arg7 : FVec F S64x64 .f32) (main_arg8 : FVec F S64 .f32) (main_arg9 : FVec F S64x64x16 .f32) (main_arg10 : FVec F S64x64x16 .f32) (main_arg11 : FVec F S64x16x64 .f32) (main_arg12 : FVec F S64x16x64 .f32) (main_arg13 : FVec F S1024 .f32) : IVec S_ 1 :=
  let main_v0 : FVec F S128x1x1024 .f32 := Host.absf main_arg0
  let main_cst : FVec F S_ .f32 := constant S_ .f32 0x7F800000#32
  let main_v1 : FVec F S128x1x1024 .f32 := broadcastInDim S128x1x1024 ![] bcast_S_S128x1x1024 main_cst
  let main_v2 : IVec S128x1x1024 1 := cmpf .olt main_v0 main_v1
  let main_c : IVec S_ 1 := constantI S_ 1 1#1
  let main_v3 : IVec S_ 1 := (fun x v => Host.reduce IntOp.andi x v reducesTo_S128x1x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg6 main_arg7 main_arg8 main_arg9 main_arg10 main_v13 main_v16
-- ==== Kernel.lean ====
abbrev S4x4096x2048 : Shape := ⟨3, ![4, 4096, 2048]⟩
abbrev S1x512x512 : Shape := ⟨3, ![1, 512, 512]⟩
abbrev S1x4096x512 : Shape := ⟨3, ![1, 4096, 512]⟩
abbrev S4x512x128 : Shape := ⟨3, ![4, 512, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 4
  | .vmem => 11
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .bf16⟩
  | .hbm, ⟨3, _⟩ => ⟨S4x4096x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x512x512, .bf16⟩
  | .local _ .vmem, ⟨7, _⟩ => ⟨S1x512x512, .bf16⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_11 : BitVec 32 := 1#32
  ⟨c0_i32_10, v16, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c512_i32_163 : BitVec 32 := 512#32
  let v243 : BitVec 32 := Scalar.muli arg10 c512_i32_163
  v243
def k0_off1 (i : grid0.Coords) (k0_t1 : Fin (k0_t1_loop i).trips) : Fin 3 → Nat :=
  let c0_164 : Index := 0#32
  let c0_i32_10 : BitVec 32 := 0#32
  let c1_i32_11 : BitVec 32 := 1#32
  let arg10 : BitVec 32 := Scf.iv c0_i32_10 c1_i32_11 k0_t1
  let c512_i32_163 : BitVec 32 := 512#32
  let v243 : BitVec 32 := Scalar.muli arg10 c512_i32_163
  let v244 : BitVec 32 := v243
  let v245 : Index := Scalar.indexCast v244
  let c0_165 : Index := 0#32
  ![0, v245.toNat, 0]
def k0_off2 (i : grid0.Coords) (k0_t1 : Fin (k0_t1_loop i).trips) : Fin 3 → Nat :=
  let c0_193 : Index := 0#32
  let c0_i32_10 : BitVec 32 := 0#32
  let c1_i32_11 : BitVec 32 := 1#32
  let arg10 : BitVec 32 := Scf.iv c0_i32_10 c1_i32_11 k0_t1
  let c512_i32_163 : BitVec 32 := 512#32
  let v243 : BitVec 32 := Scalar.muli arg10 c512_i32_163
  let v244 : BitVec 32 := v243
  let v287 : Index := Scalar.indexCast v244
  let c128_194 : Index := 128#32
  ![0, v287.toNat, 128]
def k0_off3 (i : grid0.Coords) (k0_t1 : Fin (k0_t1_loop i).trips) : Fin 3 → Nat :=
  let c0_222 : Index := 0#32
  let c0_i32_10 : BitVec 32 := 0#32
  let c1_i32_11 : BitVec 32 := 1#32
  let arg10 : BitVec 32 := Scf.iv c0_i32_10 c1_i32_11 k0_t1
  let c512_i32_163 : BitVec 32 := 512#32
  let v243 : BitVec 32 := Scalar.muli arg10 c512_i32_163
  let v244 : BitVec 32 := v243
  let v329 : Index := Scalar.indexCast v244
  let c256_223 : Index := 256#32
  ![0, v329.toNat, 256]
def k0_off4 (i : grid0.Coords) (k0_t1 : Fin (k0_t1_loop i).trips) : Fin 3 → Nat :=
  let c0_251 : Index := 0#32
  let c0_i32_10 : BitVec 32 := 0#32
  let c1_i32_11 : BitVec 32 := 1#32
  let arg10 : BitVec 32 := Scf.iv c0_i32_10 c1_i32_11 k0_t1
  let c512_i32_163 : BitVec 32 := 512#32
  let v243 : BitVec 32 := Scalar.muli arg10 c512_i32_163
  let v244 : BitVec 32 := v243
  let v371 : Index := Scalar.indexCast v244
  let c384_252 : Index := 384#32
  ![0, v371.toNat, 384]
@[reducible] def k0_t2_loop (i : grid0.Coords) : Scf.Loop 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let v13 : BitVec 32 := Scalar.addi c0_i32_10 v12
  let c1_i32_12 : BitVec 32 := 1#32
  ⟨v16, v13, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_163 : BitVec 32 := 512#32
  let v243 : BitVec 32 := Scalar.muli arg10 c512_i32_163
  v243
def k0_off5 (i : grid0.Coords) (k0_t2 : Fin (k0_t2_loop i).trips) : Fin 3 → Nat :=
  let c0_164 : Index := 0#32
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_163 : BitVec 32 := 512#32
  let v243 : BitVec 32 := Scalar.muli arg10 c512_i32_163
  let v244 : BitVec 32 := v243
  let v245 : Index := Scalar.indexCast v244
  let c0_165 : Index := 0#32
  ![0, v245.toNat, 0]
def k0_off6 (i : grid0.Coords) (k0_t2 : Fin (k0_t2_loop i).trips) : Fin 3 → Nat :=
  let c0_193 : Index := 0#32
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_163 : BitVec 32 := 512#32
  let v243 : BitVec 32 := Scalar.muli arg10 c512_i32_163
  let v244 : BitVec 32 := v243
  let v287 : Index := Scalar.indexCast v244
  let c128_194 : Index := 128#32
  ![0, v287.toNat, 128]
def k0_off7 (i : grid0.Coords) (k0_t2 : Fin (k0_t2_loop i).trips) : Fin 3 → Nat :=
  let c0_222 : Index := 0#32
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_163 : BitVec 32 := 512#32
  let v243 : BitVec 32 := Scalar.muli arg10 c512_i32_163
  let v244 : BitVec 32 := v243
  let v329 : Index := Scalar.indexCast v244
  let c256_223 : Index := 256#32
  ![0, v329.toNat, 256]
def k0_off8 (i : grid0.Coords) (k0_t2 : Fin (k0_t2_loop i).trips) : Fin 3 → Nat :=
  let c0_251 : Index := 0#32
  let c0_i32_10 : BitVec 32 := 0#32
  let arg2 : BitVec 32 := BitVec.ofNat 32 (i 2).val
  let v12 : BitVec 32 := Scalar.subi arg2 c0_i32_10
  let c1_i32 : BitVec 32 := 1#32
  let v14 : BitVec 32 := Scalar.divsi v12 c1_i32
  let v15 : BitVec 32 := Scalar.muli v14 c1_i32
  let v16 : BitVec 32 := Scalar.addi c0_i32_10 v15
  let c1_i32_12 : BitVec 32 := 1#32
  let arg10 : BitVec 32 := Scf.iv v16 c1_i32_12 k0_t2
  let c512_i32_163 : BitVec 32 := 512#32
  let v243 : BitVec 32 := Scalar.muli arg10 c512_i32_163
  let v244 : BitVec 32 := v243
  let v371 : Index := Scalar.indexCast v244
  let c384_252 : Index := 384#32
  ![0, v371.toNat, 384]
def k0_mult3 (i : grid0.Coords) : BitVec 32 :=
  let arg2 : BitVec 32 := BitVec.ofNat 32 (i 2).val
  let c512_i32 : BitVec 32 := 512#32
  let v17 : BitVec 32 := Scalar.muli arg2 c512_i32
  v17
def k0_off9 (i : grid0.Coords) : Fin 3 → Nat :=
  let c0_13 : Index := 0#32
  let arg2 : BitVec 32 := BitVec.ofNat 32 (i 2).val
  let c512_i32 : BitVec 32 := 512#32
  let v17 : BitVec 32 := Scalar.muli arg2 c512_i32
  let v18 : BitVec 32 := v17
  let v19 : Index := Scalar.indexCast v18
  let c0_14 : Index := 0#32
  ![0, v19.toNat, 0]
def k0_off10 (i : grid0.Coords) : Fin 3 → Nat :=
  let c0_43 : Index := 0#32
  let arg2 : BitVec 32 := BitVec.ofNat 32 (i 2).val
  let c512_i32 : BitVec 32 := 512#32
  let v17 : BitVec 32 := Scalar.muli arg2 c512_i32
  let v18 : BitVec 32 := v17
  let v66 : Index := Scalar.indexCast v18
  let c128 : Index := 128#32
  ![0, v66.toNat, 128]
def k0_off11 (i : grid0.Coords) : Fin 3 → Nat :=
  let c0_71 : Index := 0#32
  let arg2 : BitVec 32 := BitVec.ofNat 32 (i 2).val
  let c512_i32 : BitVec 32 := 512#32
  let v17 : BitVec 32 := Scalar.muli arg2 c512_i32
  let v18 : BitVec 32 := v17
  let v113 : Index := Scalar.indexCast v18
  let c256 : Index := 256#32
  ![0, v113.toNat, 256]
def k0_off12 (i : grid0.Coords) : Fin 3 → Nat :=
  let c0_99 : Index := 0#32
  let arg2 : BitVec 32 := BitVec.ofNat 32 (i 2).val
  let c512_i32 : BitVec 32 := 512#32
  let v17 : BitVec 32 := Scalar.muli arg2 c512_i32
  let v18 : BitVec 32 := v17
  let v160 : Index := Scalar.indexCast v18
  let c384 : Index := 384#32
  ![0, v160.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x2048 : Shape := ⟨3, ![4, 4096, 2048]⟩
abbrev S4x4096x16x128 : Shape := ⟨4, ![4, 4096, 16, 128]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .bf16⟩
  | .hbm, ⟨3, _⟩ => ⟨S4x4096x2048, .f32⟩
  | .hbm, ⟨4, _⟩ => ⟨S4x4096x16x128, .f32⟩
  | .hbm, ⟨5, _⟩ => ⟨S4x4096x2048, .f32⟩
  | .hbm, ⟨6, _⟩ => ⟨S4x4096x16x128, .f32⟩
  | .hbm, ⟨7, _⟩ => ⟨S4x4096x2048, .f32⟩
  | .hbm, ⟨8, _⟩ => ⟨S4x4096x16x128, .f32⟩
  | .hbm, ⟨9, _⟩ => ⟨S4x16x4096x4096, .f32⟩
  | .hbm, ⟨10, _⟩ => ⟨S_, .f32⟩
  | .hbm, ⟨11, _⟩ => ⟨S_, .f32⟩
  | .hbm, ⟨12, _⟩ => ⟨S4x16x4096x4096, .f32⟩
  | .hbm, ⟨13, _⟩ => ⟨S4x16x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4x16x4096x4096, .i1⟩
  | .hbm, ⟨23, _⟩ => ⟨S4x16x4096x4096, .f32⟩
  | .hbm, ⟨24, _⟩ => ⟨S4x16x4096x4096, .f32⟩
  | .hbm, ⟨25, _⟩ => ⟨S_, .f32⟩
  | .hbm, ⟨26, _⟩ => ⟨S4x16x4096, .f32⟩
  | .hbm, ⟨27, _⟩ => ⟨S_, .f32⟩
  | .hbm, ⟨28, _⟩ => ⟨S4x16x4096, .f32⟩
  | .hbm, ⟨29, _⟩ => ⟨S4x16x4096, .f32⟩
  | .hbm, ⟨30, _⟩ => ⟨S4x16x4096x1, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S_, .f32⟩
  | .hbm, ⟨35, _⟩ => ⟨S4x16x4096, .f32⟩
  | .hbm, ⟨36, _⟩ => ⟨S4x16x4096x1, .f32⟩
  | .hbm, ⟨37, _⟩ => ⟨S4x16x4096x4096, .f32⟩
  | .hbm, ⟨38, _⟩ => ⟨S4x16x4096x4096, .f32⟩
  | .hbm, ⟨39, _⟩ => ⟨S4x16x128x4096, .f32⟩
  | .hbm, ⟨40, _⟩ => ⟨S4x4096x16x128, .f32⟩
  | .hbm, ⟨41, _⟩ => ⟨S4x4096x2048, .f32⟩
  | .hbm, ⟨42, _⟩ => ⟨S4x4096x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x2048 : Shape := ⟨2, ![1024, 2048]⟩
abbrev S4x1024 : Shape := ⟨2, ![4, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512x2048 : Shape := ⟨2, ![512, 2048]⟩
abbrev S1x1024 : Shape := ⟨2, ![1, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024x2048, .f32⟩
  | .hbm, ⟨2, _⟩ => ⟨S4x4096x1024, .f32⟩
  | .hbm, ⟨3, _⟩ => ⟨S4x1024, .f32⟩
  | .hbm, ⟨4, _⟩ => ⟨S1024x2048, .bf16⟩
  | .hbm, ⟨5, _⟩ => ⟨S4x1x1024, .f32⟩
  | .hbm, ⟨6, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x2048, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S4x4096x1024 : Shape := ⟨3, ![4, 4096, 1024]⟩
abbrev S1024x2048 : Shape := ⟨2, ![1024, 2048]⟩
abbrev S4x1024 : Shape := ⟨2, ![4, 1024]⟩
abbrev S4x4096x2048 : Shape := ⟨3, ![4, 4096, 2048]⟩
abbrev S4x1x1024 : Shape := ⟨3, ![4, 1, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x2048, .f32⟩
  | .hbm, ⟨2, _⟩ => ⟨S4x4096x1024, .f32⟩
  | .hbm, ⟨3, _⟩ => ⟨S4x1024, .f32⟩
  | .hbm, ⟨4, _⟩ => ⟨S4x4096x2048, .f32⟩
  | .hbm, ⟨5, _⟩ => ⟨S4x4096x1024, .f32⟩
  | .hbm, ⟨6, _⟩ => ⟨S4x4096x1024, .f32⟩
  | .hbm, ⟨7, _⟩ => ⟨S4x1x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel3.lean ====
abbrev S4x4096x2048 : Shape := ⟨3, ![4, 4096, 2048]⟩
abbrev S1024x1024 : Shape := ⟨2, ![1024, 1024]⟩
abbrev S4x4096x1024 : Shape := ⟨3, ![4, 4096, 1024]⟩
abbrev S4x1024 : Shape := ⟨2, ![4, 1024]⟩
abbrev S16x64x1024 : Shape := ⟨3, ![16, 64, 1024]⟩
abbrev S_ : Shape := ⟨0, ![]⟩
abbrev S16x128x1024 : Shape := ⟨3, ![16, 128, 1024]⟩
abbrev S2048x1024 : Shape := ⟨2, ![2048, 1024]⟩
abbrev S4x1x1024 : Shape := ⟨3, ![4, 1, 1024]⟩
abbrev S1x512x2048 : Shape := ⟨3, ![1, 512, 2048]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S512x2048 : Shape := ⟨2, ![512, 2048]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x2048, .bf16⟩
  | .hbm, ⟨1, _⟩ => ⟨S1024x1024, .f32⟩
  | .hbm, ⟨2, _⟩ => ⟨S4x4096x1024, .f32⟩
  | .hbm, ⟨3, _⟩ => ⟨S4x1024, .f32⟩
  | .hbm, ⟨4, _⟩ => ⟨S16x64x1024, .f32⟩
  | .hbm, ⟨5, _⟩ => ⟨S_, .i32⟩
  | .hbm, ⟨6, _⟩ => ⟨S_, .f32⟩
  | .hbm, ⟨7, _⟩ => ⟨S16x128x1024, .f32⟩
  | .hbm, ⟨8, _⟩ => ⟨S2048x1024, .f32⟩
  | .hbm, ⟨9, _⟩ => ⟨S2048x1024, .bf16⟩
  | .hbm, ⟨10, _⟩ => ⟨S4x1x1024, .f32⟩
  | .hbm, ⟨11, _⟩ => ⟨S4x4096x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4x4096x2048 : Shape := ⟨3, ![4, 4096, 2048]⟩
abbrev S1024x1024 : Shape := ⟨2, ![1024, 1024]⟩
abbrev S4x4096x1024 : Shape := ⟨3, ![4, 4096, 1024]⟩
abbrev S4x1024 : Shape := ⟨2, ![4, 1024]⟩
abbrev S4x4096x16x128 : Shape := ⟨4, ![4, 4096, 16, 128]⟩
abbrev S4x4096x16x64 : Shape := ⟨4, ![4, 4096, 16, 64]⟩
abbrev S4x1x1024 : Shape := ⟨3, ![4, 1, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S1024x1024, .f32⟩
  | .hbm, ⟨2, _⟩ => ⟨S4x4096x1024, .f32⟩
  | .hbm, ⟨3, _⟩ => ⟨S4x1024, .f32⟩
  | .hbm, ⟨4, _⟩ => ⟨S4x4096x2048, .f32⟩
  | .hbm, ⟨5, _⟩ => ⟨S4x4096x16x128, .f32⟩
  | .hbm, ⟨6, _⟩ => ⟨S4x4096x16x64, .f32⟩
  | .hbm, ⟨7, _⟩ => ⟨S4x1x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S4x1024 : Shape := ⟨2, ![4, 1024]⟩
abbrev S1x1024 : Shape := ⟨2, ![1, 1024]⟩
abbrev S4x1x1024 : Shape := ⟨3, ![4, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1x1024, .f32⟩
  | .hbm, ⟨5, _⟩ => ⟨S4x1x1024, .f32⟩
  | .hbm, ⟨6, _⟩ => ⟨S4x1x1024, .f32⟩
  | .hbm, ⟨7, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x4096x1024 : Shape := ⟨3, ![4, 4096, 1024]⟩
abbrev S1024 : Shape := ⟨1, ![1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x1x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x1024 : Shape := ⟨2, ![4, 1024]⟩
abbrev S1024 : Shape := ⟨1, ![1024]⟩
abbrev S1024x256 : Shape := ⟨2, ![1024, 256]⟩
abbrev S256 : Shape := ⟨1, ![256]⟩
abbrev S1024x32 : Shape := ⟨2, ![1024, 32]⟩
abbrev S256x16x128 : Shape := ⟨3, ![256, 16, 128]⟩
abbrev S32x32 : Shape := ⟨2, ![32, 32]⟩
abbrev S_ : Shape := ⟨0, ![]⟩
abbrev S32x128 : Shape := ⟨2, ![32, 128]⟩
abbrev S1x32x1x128 : Shape := ⟨4, ![1, 32, 1, 128]⟩
abbrev S1x32x16x128 : Shape := ⟨4, ![1, 32, 16, 128]⟩
abbrev S32x2048 : Shape := ⟨2, ![32, 2048]⟩
abbrev S1x256 : Shape := ⟨2, ![1, 256]⟩
abbrev S1024x16 : Shape := ⟨2, ![1024, 16]⟩
abbrev S256x16x64 : Shape := ⟨3, ![256, 16, 64]⟩
abbrev S256x2048 : Shape := ⟨2, ![256, 2048]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S1x1024 : Shape := ⟨2, ![1, 1024]⟩
abbrev S4x1x1024 : Shape := ⟨3, ![4, 1, 1024]⟩
abbrev S4x4096x256 : Shape := ⟨3, ![4, 4096, 256]⟩
abbrev S4x4096x32 : Shape := ⟨3, ![4, 4096, 32]⟩
abbrev S4x4096x2048 : Shape := ⟨3, ![4, 4096, 2048]⟩
abbrev S1x512x1024 : Shape := ⟨3, ![1, 512, 1024]⟩
abbrev S1x1x1024 : Shape := ⟨3, ![1, 1, 1024]⟩
abbrev S512x32 : Shape := ⟨2, ![512, 32]⟩
abbrev S1x512x256 : Shape := ⟨3, ![1, 512, 256]⟩
abbrev S1x512x32 : Shape := ⟨3, ![1, 512, 32]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x2048 : Shape := ⟨2, ![512, 2048]⟩

abbrev nBuf : Space → Nat
  | .hbm => 77
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1024x32, .f32⟩
  | .hbm, ⟨7, _⟩ => ⟨S256x16x128, .f32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S_, .i32⟩
  | .hbm, ⟨16, _⟩ => ⟨S_, .f32⟩
  | .hbm, ⟨17, _⟩ => ⟨S32x128, .f32⟩
  | .hbm, ⟨18, _⟩ => ⟨S1x32x1x128, .f32⟩
  | .hbm, ⟨19, _⟩ => ⟨S1x32x16x128, .f32⟩
  | .hbm, ⟨20, _⟩ => ⟨S32x2048, .f32⟩
  | .hbm, ⟨21, _⟩ => ⟨S1x256, .f32⟩
  | .hbm, ⟨22, _⟩ => ⟨S1024x16, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S256x16x64, .f32⟩
  | .hbm, ⟨27, _⟩ => ⟨S_, .i32⟩
  | .hbm, ⟨28, _⟩ => ⟨S_, .f32⟩
  | .hbm, ⟨29, _⟩ => ⟨S256x16x128, .f32⟩
  | .hbm, ⟨30, _⟩ => ⟨S256x2048, .f32⟩
  | .hbm, ⟨31, _⟩ => ⟨S256x2048, .bf16⟩
  | .hbm, ⟨32, _⟩ => ⟨S256x16x64, .f32⟩
  | .hbm, ⟨33, _⟩ => ⟨S_, .i32⟩
  | .hbm, ⟨34, _⟩ => ⟨S_, .f32⟩
  | .hbm, ⟨35, _⟩ => ⟨S256x16x128, .f32⟩
  | .hbm, ⟨36, _⟩ => ⟨S256x2048, .f32⟩
  | .hbm, ⟨37, _⟩ => ⟨S256x2048, .bf16⟩
  | .hbm, ⟨38, _⟩ => ⟨S32x2048, .bf16⟩
  | .hbm, ⟨39, _⟩ => ⟨S4096, .i32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S4096, .f32⟩
  | .hbm, ⟨55, _⟩ => ⟨S4096x1, .f32⟩
  | .hbm, ⟨56, _⟩ => ⟨S1x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x32, .f32⟩
  | .hbm, ⟨63, _⟩ => ⟨S_, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S_, .f32⟩
  | .hbm, ⟨68, _⟩ => ⟨S4096x32, .f32⟩
  | .hbm, ⟨69, _⟩ => ⟨S4096x32, .f32⟩
  | .hbm, ⟨70, _⟩ => ⟨S1x1024, .f32⟩
  | .hbm, ⟨71, _⟩ => ⟨S4x1x1024, .f32⟩
  | .hbm, ⟨72, _⟩ => ⟨S4x1x1024, .f32⟩
  | .hbm, ⟨73, _⟩ => ⟨S4x4096x256, .f32⟩
  | .hbm, ⟨74, _⟩ => ⟨S4x4096x32, .f32⟩
  | .hbm, ⟨75, _⟩ => ⟨S4x4096x2048, .bf16⟩
  | .hbm, ⟨76, _⟩ => ⟨S4x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x256, .f32⟩
  | .local _ .vmem, ⟨8, _⟩ => ⟨S1x256, .f32⟩
  | .local _ .vmem, ⟨9, _⟩ => ⟨S1024x32, .f32⟩
  | .local _ .vmem, ⟨10, _⟩ => ⟨S1024x32, .f32⟩
  | .local _ .vmem, ⟨11, _⟩ => ⟨S512x32, .f32⟩
  | .local _ .vmem, ⟨12, _⟩ => ⟨S512x32, .f32⟩
  | .local _ .vmem, ⟨13, _⟩ => ⟨S512x32, .f32⟩
  | .local _ .vmem, ⟨14, _⟩ => ⟨S512x32, .f32⟩
  | .local _ .vmem, ⟨15, _⟩ => ⟨S256x2048, .bf16⟩
  | .local _ .vmem, ⟨16, _⟩ => ⟨S32x2048, .bf16⟩
  | .local _ .vmem, ⟨17, _⟩ => ⟨S256x2048, .bf16⟩
  | .local _ .vmem, ⟨18, _⟩ => ⟨S1x512x256, .f32⟩
  | .local _ .vmem, ⟨19, _⟩ => ⟨S1x512x256, .f32⟩
  | .local _ .vmem, ⟨20, _⟩ => ⟨S1x512x32, .f32⟩
  | .local _ .vmem, ⟨21, _⟩ => ⟨S1x512x32, .f32⟩
  | .local _ .vmem, ⟨22, _⟩ => ⟨S1x512x2048, .bf16⟩
  | .local _ .vmem, ⟨23, _⟩ => ⟨S1x512x2048, .bf16⟩
  | .local _ .vmem, ⟨24, _⟩ => ⟨S1x512x2048, .bf16⟩
  | .local _ .vmem, ⟨25, _⟩ => ⟨S1x512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52_0 : Ref sig .tc := ⟨.hbm, 73, rfl⟩
abbrev main_v52_1 : Ref sig .tc := ⟨.hbm, 74, rfl⟩
abbrev main_v52_2 : Ref sig .tc := ⟨.hbm, 75, rfl⟩
abbrev main_v52_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference5Ideal.lean ====
abbrev S4x4096x1024 : Shape := ⟨3, ![4, 4096, 1024]⟩
abbrev S4x1024 : Shape := ⟨2, ![4, 1024]⟩
abbrev S1024 : Shape := ⟨1, ![1024]⟩
abbrev S1024x256 : Shape := ⟨2, ![1024, 256]⟩
abbrev S256 : Shape := ⟨1, ![256]⟩
abbrev S1024x32 : Shape := ⟨2, ![1024, 32]⟩
abbrev S256x16x128 : Shape := ⟨3, ![256, 16, 128]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x256 : Shape := ⟨3, ![4, 4096, 256]⟩
abbrev S1x1x256 : Shape := ⟨3, ![1, 1, 256]⟩
abbrev S4x4096x32 : Shape := ⟨3, ![4, 4096, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4x4096x16 : Shape := ⟨3, ![4, 4096, 16]⟩
abbrev S1x4096x16 : Shape := ⟨3, ![1, 4096, 16]⟩
abbrev S4x4096x16x128 : Shape := ⟨4, ![4, 4096, 16, 128]⟩
abbrev S4x4096x1x32 : Shape := ⟨4, ![4, 4096, 1, 32]⟩
abbrev S4x4096x16x32 : Shape := ⟨4, ![4, 4096, 16, 32]⟩
abbrev S4x4096x16x64 : Shape := ⟨4, ![4, 4096, 16, 64]⟩
abbrev S4x4096x2048 : Shape := ⟨3, ![4, 4096, 2048]⟩

abbrev nBuf : Space → Nat
  | .hbm => 106
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1024x32, .f32⟩
  | .hbm, ⟨7, _⟩ => ⟨S256x16x128, .f32⟩
  | .hbm, ⟨8, _⟩ => ⟨S4096, .i32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x256, .f32⟩
  | .hbm, ⟨35, _⟩ => ⟨S4x4096x256, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S1x1x256, .f32⟩
  | .hbm, ⟨49, _⟩ => ⟨S4x4096x256, .f32⟩
  | .hbm, ⟨50, _⟩ => ⟨S4x4096x256, .f32⟩
  | .hbm, ⟨51, _⟩ => ⟨S4x4096x32, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S4096, .f32⟩
  | .hbm, ⟨67, _⟩ => ⟨S4096x1, .f32⟩
  | .hbm, ⟨68, _⟩ => ⟨S1x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x16, .f32⟩
  | .hbm, ⟨73, _⟩ => ⟨S4096x16, .f32⟩
  | .hbm, ⟨74, _⟩ => ⟨S4x4096x16, .f32⟩
  | .hbm, ⟨75, _⟩ => ⟨S4x4096x16, .f32⟩
  | .hbm, ⟨76, _⟩ => ⟨S1x4096x16, .f32⟩
  | .hbm, ⟨77, _⟩ => ⟨S4x4096x16, .f32⟩
  | .hbm, ⟨78, _⟩ => ⟨S4x4096x16, .f32⟩
  | .hbm, ⟨79, _⟩ => ⟨S1x4096x16, .f32⟩
  | .hbm, ⟨80, _⟩ => ⟨S4x4096x16, .f32⟩
  | .hbm, ⟨81, _⟩ => ⟨S4x4096x16, .f32⟩
  | .hbm, ⟨82, _⟩ => ⟨S4x4096x16, .f32⟩
  | .hbm, ⟨83, _⟩ => ⟨S1x4096x16, .f32⟩
  | .hbm, ⟨84, _⟩ => ⟨S4x4096x16, .f32⟩
  | .hbm, ⟨85, _⟩ => ⟨S4x4096x16, .f32⟩
  | .hbm, ⟨86, _⟩ => ⟨S1x4096x16, .f32⟩
  | .hbm, ⟨87, _⟩ => ⟨S4x4096x16, .f32⟩
  | .hbm, ⟨88, _⟩ => ⟨S4x4096x16, .f32⟩
  | .hbm, ⟨89, _⟩ => ⟨S4x4096x16, .f32⟩
  | .hbm, ⟨90, _⟩ => ⟨S4x4096x32, .f32⟩
  | .hbm, ⟨91, _⟩ => ⟨S4x4096x16x128, .f32⟩
  | .hbm, ⟨92, _⟩ => ⟨S4x4096x1x32, .f32⟩
  | .hbm, ⟨93, _⟩ => ⟨S4x4096x16x32, .f32⟩
  | .hbm, ⟨94, _⟩ => ⟨S4x4096x16x64, .f32⟩
  | .hbm, ⟨95, _⟩ => ⟨S_, .f32⟩
  | .hbm, ⟨96, _⟩ => ⟨S4x4096x16x32, .f32⟩
  | .hbm, ⟨97, _⟩ => ⟨S4x4096x16x128, .f32⟩
  | .hbm, ⟨98, _⟩ => ⟨S4x4096x16x64, .f32⟩
  | .hbm, ⟨99, _⟩ => ⟨S_, .f32⟩
  | .hbm, ⟨100, _⟩ => ⟨S4x4096x16x64, .f32⟩
  | .hbm, ⟨101, _⟩ => ⟨S4x4096x16x128, .f32⟩
  | .hbm, ⟨102, _⟩ => ⟨S4x4096x2048, .f32⟩
  | .hbm, ⟨103, _⟩ => ⟨S4x4096x2048, .bf16⟩
  | .hbm, ⟨104, _⟩ => ⟨S4x4096x2048, .f32⟩
  | .hbm, ⟨105, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_11 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩

abbrev nD : Nat := 1
abbrev τ : Topo := Topo.v7x

variable {F : FTy → Type} [FloatOps F]
-- ==== Kernel6.lean ====
abbrev S4x4096x1024 : Shape := ⟨3, ![4, 4096, 1024]⟩
abbrev S1024 : Shape := ⟨1, ![1024]⟩
abbrev S4x1024 : Shape := ⟨2, ![4, 1024]⟩
abbrev S1024x512 : Shape := ⟨2, ![1024, 512]⟩
abbrev S512 : Shape := ⟨1, ![512]⟩
abbrev S512x1536 : Shape := ⟨2, ![512, 1536]⟩
abbrev S1024x1024 : Shape := ⟨2, ![1024, 1024]⟩
abbrev S512x16x96 : Shape := ⟨3, ![512, 16, 96]⟩
abbrev S512x16x32 : Shape := ⟨3, ![512, 16, 32]⟩
abbrev S_ : Shape := ⟨0, ![]⟩
abbrev S512x16x128 : Shape := ⟨3, ![512, 16, 128]⟩
abbrev S512x2048 : Shape := ⟨2, ![512, 2048]⟩
abbrev S512x16x16 : Shape := ⟨3, ![512, 16, 16]⟩
abbrev S16x64x1024 : Shape := ⟨3, ![16, 64, 1024]⟩
abbrev S16x128x1024 : Shape := ⟨3, ![16, 128, 1024]⟩
abbrev S1x512 : Shape := ⟨2, ![1, 512]⟩
abbrev S2048x1024 : Shape := ⟨2, ![2048, 1024]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S1x1024 : Shape := ⟨2, ![1, 1024]⟩
abbrev S4x1x1024 : Shape := ⟨3, ![4, 1, 1024]⟩
abbrev S4x4096x2048 : Shape := ⟨3, ![4, 4096, 2048]⟩
abbrev S1x512x1024 : Shape := ⟨3, ![1, 512, 1024]⟩
abbrev S1x1x1024 : Shape := ⟨3, ![1, 1, 1024]⟩
abbrev S512x128 : Shape := ⟨2, ![512, 128]⟩
abbrev S1x512x2048 : Shape := ⟨3, ![1, 512, 2048]⟩
abbrev S512x1024 : Shape := ⟨2, ![512, 1024]⟩
abbrev S512x1 : Shape := ⟨2, ![512, 1]⟩
abbrev S512x512 : Shape := ⟨2, ![512, 512]⟩
abbrev S1x512x128 : Shape := ⟨3, ![1, 512, 128]⟩

abbrev nBuf : Space → Nat
  | .hbm => 77
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x512, .f32⟩
  | .hbm, ⟨5, _⟩ => ⟨S512, .f32⟩
  | .hbm, ⟨6, _⟩ => ⟨S512x1536, .f32⟩
  | .hbm, ⟨7, _⟩ => ⟨S1024x1024, .f32⟩
  | .hbm, ⟨8, _⟩ => ⟨S512x16x96, .f32⟩
  | .hbm, ⟨9, _⟩ => ⟨S512x16x32, .f32⟩
  | .hbm, ⟨10, _⟩ => ⟨S_, .i32⟩
  | .hbm, ⟨11, _⟩ => ⟨S_, .f32⟩
  | .hbm, ⟨12, _⟩ => ⟨S512x16x128, .f32⟩
  | .hbm, ⟨13, _⟩ => ⟨S512x2048, .f32⟩
  | .hbm, ⟨14, _⟩ => ⟨S512x16x16, .f32⟩
  | .hbm, ⟨15, _⟩ => ⟨S512x16x16, .f32⟩
  | .hbm, ⟨16, _⟩ => ⟨S512x16x16, .f32⟩
  | .hbm, ⟨17, _⟩ => ⟨S512x16x32, .f32⟩
  | .hbm, ⟨18, _⟩ => ⟨S_, .i32⟩
  | .hbm, ⟨19, _⟩ => ⟨S_, .f32⟩
  | .hbm, ⟨20, _⟩ => ⟨S512x16x128, .f32⟩
  | .hbm, ⟨21, _⟩ => ⟨S512x2048, .f32⟩
  | .hbm, ⟨22, _⟩ => ⟨S16x64x1024, .f32⟩
  | .hbm, ⟨23, _⟩ => ⟨S_, .i32⟩
  | .hbm, ⟨24, _⟩ => ⟨S_, .f32⟩
  | .hbm, ⟨25, _⟩ => ⟨S16x128x1024, .f32⟩
  | .hbm, ⟨26, _⟩ => ⟨S1024x512, .bf16⟩
  | .hbm, ⟨27, _⟩ => ⟨S1x512, .f32⟩
  | .hbm, ⟨28, _⟩ => ⟨S512x2048, .bf16⟩
  | .hbm, ⟨29, _⟩ => ⟨S512x2048, .bf16⟩
  | .hbm, ⟨30, _⟩ => ⟨S2048x1024, .f32⟩
  | .hbm, ⟨31, _⟩ => ⟨S2048x1024, .bf16⟩
  | .hbm, ⟨32, _⟩ => ⟨S4096, .i32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S4096, .f32⟩
  | .hbm, ⟨48, _⟩ => ⟨S4096x1, .f32⟩
  | .hbm, ⟨49, _⟩ => ⟨S1x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x32, .f32⟩
  | .hbm, ⟨56, _⟩ => ⟨S_, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S_, .f32⟩
  | .hbm, ⟨61, _⟩ => ⟨S4096x32, .f32⟩
  | .hbm, ⟨62, _⟩ => ⟨S4096x32, .f32⟩
  | .hbm, ⟨63, _⟩ => ⟨S_, .f32⟩
  | .hbm, ⟨64, _⟩ => ⟨S4096x64, .f32⟩
  | .hbm, ⟨65, _⟩ => ⟨S_, .f32⟩
  | .hbm, ⟨66, _⟩ => ⟨S4096x32, .f32⟩
  | .hbm, ⟨67, _⟩ => ⟨S4096x128, .f32⟩
  | .hbm, ⟨68, _⟩ => ⟨S_, .f32⟩
  | .hbm, ⟨69, _⟩ => ⟨S4096x64, .f32⟩
  | .hbm, ⟨70, _⟩ => ⟨S_, .f32⟩
  | .hbm, ⟨71, _⟩ => ⟨S4096x32, .f32⟩
  | .hbm, ⟨72, _⟩ => ⟨S4096x128, .f32⟩
  | .hbm, ⟨73, _⟩ => ⟨S1x1024, .f32⟩
  | .hbm, ⟨74, _⟩ => ⟨S4x1x1024, .f32⟩
  | .hbm, ⟨75, _⟩ => ⟨S4x1x1024, .f32⟩
  | .hbm, ⟨76, _⟩ => ⟨S4x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x512, .bf16⟩
  | .local _ .vmem, ⟨8, _⟩ => ⟨S1x512, .f32⟩
  | .local _ .vmem, ⟨9, _⟩ => ⟨S512x2048, .bf16⟩
  | .local _ .vmem, ⟨10, _⟩ => ⟨S512x2048, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x2048, .bf16⟩
  | .local _ .vmem, ⟨16, _⟩ => ⟨S1x512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call2_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S4x4096x1024 : Shape := ⟨3, ![4, 4096, 1024]⟩
abbrev S1024 : Shape := ⟨1, ![1024]⟩
abbrev S4x1024 : Shape := ⟨2, ![4, 1024]⟩
abbrev S1024x512 : Shape := ⟨2, ![1024, 512]⟩
abbrev S512 : Shape := ⟨1, ![512]⟩
abbrev S512x1536 : Shape := ⟨2, ![512, 1536]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x512 : Shape := ⟨3, ![4, 4096, 512]⟩
abbrev S1x1x512 : Shape := ⟨3, ![1, 1, 512]⟩
abbrev S4x4096x1536 : Shape := ⟨3, ![4, 4096, 1536]⟩
abbrev S4x4096x16x96 : Shape := ⟨4, ![4, 4096, 16, 96]⟩
abbrev S4x4096x16x32 : Shape := ⟨4, ![4, 4096, 16, 32]⟩
abbrev S4096 : Shape := ⟨1, ![4096]⟩
abbrev S4096x1 : Shape := ⟨2, ![4096, 1]⟩
abbrev S16 : Shape := ⟨1, ![16]⟩
abbrev S4096x1x1 : Shape := ⟨3, ![4096, 1, 1]⟩
abbrev S1x1x16 : Shape := ⟨3, ![1, 1, 16]⟩
abbrev S4096x1x16 : Shape := ⟨3, ![4096, 1, 16]⟩
abbrev S4x4096x16x16 : Shape := ⟨4, ![4, 4096, 16, 16]⟩
abbrev S1x4096x1x16 : Shape := ⟨4, ![1, 4096, 1, 16]⟩
abbrev S4x4096x16x64 : Shape := ⟨4, ![4, 4096, 16, 64]⟩
abbrev S4x4096x16x128 : Shape := ⟨4, ![4, 4096, 16, 128]⟩
abbrev S4x4096x2048 : Shape := ⟨3, ![4, 4096, 2048]⟩

abbrev nBuf : Space → Nat
  | .hbm => 103
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x512, .f32⟩
  | .hbm, ⟨5, _⟩ => ⟨S512, .f32⟩
  | .hbm, ⟨6, _⟩ => ⟨S512x1536, .f32⟩
  | .hbm, ⟨7, _⟩ => ⟨S1024x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x4096x1024, .f32⟩
  | .hbm, ⟨29, _⟩ => ⟨S4x4096x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1, .f32⟩
  | .hbm, ⟨45, _⟩ => ⟨S4x4096x512, .f32⟩
  | .hbm, ⟨46, _⟩ => ⟨S4x4096x512, .f32⟩
  | .hbm, ⟨47, _⟩ => ⟨S1x1x512, .f32⟩
  | .hbm, ⟨48, _⟩ => ⟨S4x4096x512, .f32⟩
  | .hbm, ⟨49, _⟩ => ⟨S4x4096x512, .f32⟩
  | .hbm, ⟨50, _⟩ => ⟨S4x4096x1536, .f32⟩
  | .hbm, ⟨51, _⟩ => ⟨S4x4096x16x96, .f32⟩
  | .hbm, ⟨52, _⟩ => ⟨S4x4096x16x32, .f32⟩
  | .hbm, ⟨53, _⟩ => ⟨S4096, .i32⟩
  | .hbm, ⟨54, _⟩ => ⟨S4096x1, .i32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S4096x1, .f32⟩
  | .hbm, ⟨70, _⟩ => ⟨S4096x1x1, .f32⟩
  | .hbm, ⟨71, _⟩ => ⟨S1x1x16, .f32⟩
  | .hbm, ⟨72, _⟩ => ⟨S4096x1x16, .f32⟩
  | .hbm, ⟨73, _⟩ => ⟨S4096x1x16, .f32⟩
  | .hbm, ⟨74, _⟩ => ⟨S4096x1x16, .f32⟩
  | .hbm, ⟨75, _⟩ => ⟨S4096x1x16, .f32⟩
  | .hbm, ⟨76, _⟩ => ⟨S4096x1x16, .f32⟩
  | .hbm, ⟨77, _⟩ => ⟨S4x4096x16x16, .f32⟩
  | .hbm, ⟨78, _⟩ => ⟨S4x4096x16x16, .f32⟩
  | .hbm, ⟨79, _⟩ => ⟨S1x4096x1x16, .f32⟩
  | .hbm, ⟨80, _⟩ => ⟨S4x4096x16x16, .f32⟩
  | .hbm, ⟨81, _⟩ => ⟨S4x4096x16x16, .f32⟩
  | .hbm, ⟨82, _⟩ => ⟨S1x4096x1x16, .f32⟩
  | .hbm, ⟨83, _⟩ => ⟨S4x4096x16x16, .f32⟩
  | .hbm, ⟨84, _⟩ => ⟨S4x4096x16x16, .f32⟩
  | .hbm, ⟨85, _⟩ => ⟨S4x4096x16x16, .f32⟩
  | .hbm, ⟨86, _⟩ => ⟨S1x4096x1x16, .f32⟩
  | .hbm, ⟨87, _⟩ => ⟨S4x4096x16x16, .f32⟩
  | .hbm, ⟨88, _⟩ => ⟨S4x4096x16x16, .f32⟩
  | .hbm, ⟨89, _⟩ => ⟨S1x4096x1x16, .f32⟩
  | .hbm, ⟨90, _⟩ => ⟨S4x4096x16x16, .f32⟩
  | .hbm, ⟨91, _⟩ => ⟨S4x4096x16x16, .f32⟩
  | .hbm, ⟨92, _⟩ => ⟨S4x4096x16x16, .f32⟩
  | .hbm, ⟨93, _⟩ => ⟨S4x4096x16x32, .f32⟩
  | .hbm, ⟨94, _⟩ => ⟨S4x4096x16x64, .f32⟩
  | .hbm, ⟨95, _⟩ => ⟨S_, .f32⟩
  | .hbm, ⟨96, _⟩ => ⟨S4x4096x16x32, .f32⟩
  | .hbm, ⟨97, _⟩ => ⟨S4x4096x16x128, .f32⟩
  | .hbm, ⟨98, _⟩ => ⟨S_, .f32⟩
  | .hbm, ⟨99, _⟩ => ⟨S4x4096x16x128, .f32⟩
  | .hbm, ⟨100, _⟩ => ⟨S4x4096x16x128, .f32⟩
  | .hbm, ⟨101, _⟩ => ⟨S4x4096x2048, .f32⟩
  | .hbm, ⟨102, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_cst_11 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== Kernel7.lean ====
abbrev S128x1x1024 : Shape := ⟨3, ![128, 1, 1024]⟩
abbrev S1024 : Shape := ⟨1, ![1024]⟩
abbrev S128x1024 : Shape := ⟨2, ![128, 1024]⟩
abbrev S1x128x1024 : Shape := ⟨3, ![1, 128, 1024]⟩
abbrev S1x1024 : Shape := ⟨2, ![1, 1024]⟩
abbrev S128 : Shape := ⟨1, ![128]⟩
abbrev S128x1 : Shape := ⟨2, ![128, 1]⟩

abbrev nBuf : Space → Nat
  | .hbm => 9
  | .vmem => 5
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S1x128x1024, .f32⟩
  | .hbm, ⟨5, _⟩ => ⟨S1x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference7Ideal.lean ====
abbrev S128x1x1024 : Shape := ⟨3, ![128, 1, 1024]⟩
abbrev S1024 : Shape := ⟨1, ![1024]⟩
abbrev S128x1024 : Shape := ⟨2, ![128, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S1x128x1024 : Shape := ⟨3, ![1, 128, 1024]⟩

abbrev nBuf : Space → Nat
  | .hbm => 28
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x1x1024, .f32⟩
  | .hbm, ⟨5, _⟩ => ⟨S_, .f32⟩
  | .hbm, ⟨6, _⟩ => ⟨S128x1, .f32⟩
  | .hbm, ⟨7, _⟩ => ⟨S128x1x1, .f32⟩
  | .hbm, ⟨8, _⟩ => ⟨S_, .f32⟩
  | .hbm, ⟨9, _⟩ => ⟨S128x1x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S128x1x1, .f32⟩
  | .hbm, ⟨15, _⟩ => ⟨S128x1x1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S128x1x1024, .f32⟩
  | .hbm, ⟨21, _⟩ => ⟨S_, .f32⟩
  | .hbm, ⟨22, _⟩ => ⟨S128x1x1024, .f32⟩
  | .hbm, ⟨23, _⟩ => ⟨S128x1x1024, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S1x128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel8.lean ====
abbrev S128x1x1024 : Shape := ⟨3, ![128, 1, 1024]⟩
abbrev S128x1024 : Shape := ⟨2, ![128, 1024]⟩
abbrev S1024 : Shape := ⟨1, ![1024]⟩
abbrev S1024x256 : Shape := ⟨2, ![1024, 256]⟩
abbrev S256 : Shape := ⟨1, ![256]⟩
abbrev S1024x32 : Shape := ⟨2, ![1024, 32]⟩
abbrev S256x16x128 : Shape := ⟨3, ![256, 16, 128]⟩
abbrev S32x32 : Shape := ⟨2, ![32, 32]⟩
abbrev S_ : Shape := ⟨0, ![]⟩
abbrev S32x128 : Shape := ⟨2, ![32, 128]⟩
abbrev S1x32x1x128 : Shape := ⟨4, ![1, 32, 1, 128]⟩
abbrev S1x32x16x128 : Shape := ⟨4, ![1, 32, 16, 128]⟩
abbrev S32x2048 : Shape := ⟨2, ![32, 2048]⟩
abbrev S1x256 : Shape := ⟨2, ![1, 256]⟩
abbrev S1024x16 : Shape := ⟨2, ![1024, 16]⟩
abbrev S256x16x64 : Shape := ⟨3, ![256, 16, 64]⟩
abbrev S256x2048 : Shape := ⟨2, ![256, 2048]⟩
abbrev S1 : Shape := ⟨1, ![1]⟩
abbrev S16 : Shape := ⟨1, ![16]⟩
abbrev S1x1 : Shape := ⟨2, ![1, 1]⟩
abbrev S1x16 : Shape := ⟨2, ![1, 16]⟩
abbrev S1x32 : Shape := ⟨2, ![1, 32]⟩
abbrev S1x128x1024 : Shape := ⟨3, ![1, 128, 1024]⟩
abbrev S1x1024 : Shape := ⟨2, ![1, 1024]⟩
abbrev S1x128x256 : Shape := ⟨3, ![1, 128, 256]⟩
abbrev S1x128x32 : Shape := ⟨3, ![1, 128, 32]⟩
abbrev S128 : Shape := ⟨1, ![128]⟩
abbrev S128x1 : Shape := ⟨2, ![128, 1]⟩
abbrev S128x256 : Shape := ⟨2, ![128, 256]⟩
abbrev S128x32 : Shape := ⟨2, ![128, 32]⟩

abbrev nBuf : Space → Nat
  | .hbm => 78
  | .vmem => 12
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1024x32, .f32⟩
  | .hbm, ⟨7, _⟩ => ⟨S256x16x128, .f32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S_, .i32⟩
  | .hbm, ⟨16, _⟩ => ⟨S_, .f32⟩
  | .hbm, ⟨17, _⟩ => ⟨S32x128, .f32⟩
  | .hbm, ⟨18, _⟩ => ⟨S1x32x1x128, .f32⟩
  | .hbm, ⟨19, _⟩ => ⟨S1x32x16x128, .f32⟩
  | .hbm, ⟨20, _⟩ => ⟨S32x2048, .f32⟩
  | .hbm, ⟨21, _⟩ => ⟨S1x256, .f32⟩
  | .hbm, ⟨22, _⟩ => ⟨S1024x16, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S256x16x64, .f32⟩
  | .hbm, ⟨27, _⟩ => ⟨S_, .i32⟩
  | .hbm, ⟨28, _⟩ => ⟨S_, .f32⟩
  | .hbm, ⟨29, _⟩ => ⟨S256x16x128, .f32⟩
  | .hbm, ⟨30, _⟩ => ⟨S256x2048, .f32⟩
  | .hbm, ⟨31, _⟩ => ⟨S256x2048, .bf16⟩
  | .hbm, ⟨32, _⟩ => ⟨S256x16x64, .f32⟩
  | .hbm, ⟨33, _⟩ => ⟨S_, .i32⟩
  | .hbm, ⟨34, _⟩ => ⟨S_, .f32⟩
  | .hbm, ⟨35, _⟩ => ⟨S256x16x128, .f32⟩
  | .hbm, ⟨36, _⟩ => ⟨S256x2048, .f32⟩
  | .hbm, ⟨37, _⟩ => ⟨S256x2048, .bf16⟩
  | .hbm, ⟨38, _⟩ => ⟨S32x2048, .bf16⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S1, .f32⟩
  | .hbm, ⟨58, _⟩ => ⟨S1x1, .f32⟩
  | .hbm, ⟨59, _⟩ => ⟨S1x16, .f32⟩
  | .hbm, ⟨60, _⟩ => ⟨S1x16, .f32⟩
  | .hbm, ⟨61, _⟩ => ⟨S1x16, .f32⟩
  | .hbm, ⟨62, _⟩ => ⟨S1x16, .f32⟩
  | .hbm, ⟨63, _⟩ => ⟨S1x16, .f32⟩
  | .hbm, ⟨64, _⟩ => ⟨S1x32, .f32⟩
  | .hbm, ⟨65, _⟩ => ⟨S_, .f32⟩
  | .hbm, ⟨66, _⟩ => ⟨S1x32, .f32⟩
  | .hbm, ⟨67, _⟩ => ⟨S1x32, .f32⟩
  | .hbm, ⟨68, _⟩ => ⟨S1x32, .f32⟩
  | .hbm, ⟨69, _⟩ => ⟨S_, .f32⟩
  | .hbm, ⟨70, _⟩ => ⟨S1x32, .f32⟩
  | .hbm, ⟨71, _⟩ => ⟨S1x32, .f32⟩
  | .hbm, ⟨72, _⟩ => ⟨S1x128x1024, .f32⟩
  | .hbm, ⟨73, _⟩ => ⟨S1x1024, .f32⟩
  | .hbm, ⟨74, _⟩ => ⟨S1x128x1024, .f32⟩
  | .hbm, ⟨75, _⟩ => ⟨S1x128x1024, .f32⟩
  | .hbm, ⟨76, _⟩ => ⟨S1x128x256, .f32⟩
  | .hbm, ⟨77, _⟩ => ⟨S1x128x32, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x256, .f32⟩
  | .local _ .vmem, ⟨5, _⟩ => ⟨S1x256, .f32⟩
  | .local _ .vmem, ⟨6, _⟩ => ⟨S1024x32, .f32⟩
  | .local _ .vmem, ⟨7, _⟩ => ⟨S1024x32, .f32⟩
  | .local _ .vmem, ⟨8, _⟩ => ⟨S1x32, .f32⟩
  | .local _ .vmem, ⟨9, _⟩ => ⟨S1x32, .f32⟩
  | .local _ .vmem, ⟨10, _⟩ => ⟨S1x128x256, .f32⟩
  | .local _ .vmem, ⟨11, _⟩ => ⟨S1x128x32, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_call2_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54_0 : Ref sig .tc := ⟨.hbm, 76, rfl⟩
abbrev main_v54_1 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x128x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== Reference8Ideal.lean ====
abbrev S128x1x1024 : Shape := ⟨3, ![128, 1, 1024]⟩
abbrev S128x1024 : Shape := ⟨2, ![128, 1024]⟩
abbrev S1024 : Shape := ⟨1, ![1024]⟩
abbrev S1024x256 : Shape := ⟨2, ![1024, 256]⟩
abbrev S256 : Shape := ⟨1, ![256]⟩
abbrev S1024x32 : Shape := ⟨2, ![1024, 32]⟩
abbrev S256x16x128 : Shape := ⟨3, ![256, 16, 128]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x256 : Shape := ⟨3, ![128, 1, 256]⟩
abbrev S1x1x256 : Shape := ⟨3, ![1, 1, 256]⟩
abbrev S128x1x32 : Shape := ⟨3, ![128, 1, 32]⟩
abbrev S16 : Shape := ⟨1, ![16]⟩
abbrev S1x1 : Shape := ⟨2, ![1, 1]⟩
abbrev S1x16 : Shape := ⟨2, ![1, 16]⟩
abbrev S128x1x16 : Shape := ⟨3, ![128, 1, 16]⟩
abbrev S1x1x16 : Shape := ⟨3, ![1, 1, 16]⟩
abbrev S1x128x256 : Shape := ⟨3, ![1, 128, 256]⟩
abbrev S1x128x32 : Shape := ⟨3, ![1, 128, 32]⟩

abbrev nBuf : Space → Nat
  | .hbm => 93
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1024x32, .f32⟩
  | .hbm, ⟨7, _⟩ => ⟨S256x16x128, .f32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S1, .i32⟩
  | .hbm, ⟨12, _⟩ => ⟨S128x1x1024, .f32⟩
  | .hbm, ⟨13, _⟩ => ⟨S_, .f32⟩
  | .hbm, ⟨14, _⟩ => ⟨S128x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S_, .f32⟩
  | .hbm, ⟨20, _⟩ => ⟨S128x1x1, .f32⟩
  | .hbm, ⟨21, _⟩ => ⟨S128x1x1, .f32⟩
  | .hbm, ⟨22, _⟩ => ⟨S128x1x1, .f32⟩
  | .hbm, ⟨23, _⟩ => ⟨S128x1x1024, .f32⟩
  | .hbm, ⟨24, _⟩ => ⟨S128x1x1024, .f32⟩
  | .hbm, ⟨25, _⟩ => ⟨S1x1x1024, .f32⟩
  | .hbm, ⟨26, _⟩ => ⟨S128x1x1024, .f32⟩
  | .hbm, ⟨27, _⟩ => ⟨S128x1x1024, .f32⟩
  | .hbm, ⟨28, _⟩ => ⟨S128x1x1024, .f32⟩
  | .hbm, ⟨29, _⟩ => ⟨S_, .f32⟩
  | .hbm, ⟨30, _⟩ => ⟨S128x1x1024, .f32⟩
  | .hbm, ⟨31, _⟩ => ⟨S128x1x1024, .f32⟩
  | .hbm, ⟨32, _⟩ => ⟨S128x1x1024, .f32⟩
  | .hbm, ⟨33, _⟩ => ⟨S128x1x1024, .f32⟩
  | .hbm, ⟨34, _⟩ => ⟨S128x1x1024, .f32⟩
  | .hbm, ⟨35, _⟩ => ⟨S128x1x256, .f32⟩
  | .hbm, ⟨36, _⟩ => ⟨S128x1x256, .f32⟩
  | .hbm, ⟨37, _⟩ => ⟨S_, .f32⟩
  | .hbm, ⟨38, _⟩ => ⟨S128x1, .f32⟩
  | .hbm, ⟨39, _⟩ => ⟨S128x1x1, .f32⟩
  | .hbm, ⟨40, _⟩ => ⟨S_, .f32⟩
  | .hbm, ⟨41, _⟩ => ⟨S128x1x1, .f32⟩
  | .hbm, ⟨42, _⟩ => ⟨S128x1x1, .f32⟩
  | .hbm, ⟨43, _⟩ => ⟨S_, .f32⟩
  | .hbm, ⟨44, _⟩ => ⟨S128x1x1, .f32⟩
  | .hbm, ⟨45, _⟩ => ⟨S128x1x1, .f32⟩
  | .hbm, ⟨46, _⟩ => ⟨S128x1x1, .f32⟩
  | .hbm, ⟨47, _⟩ => ⟨S128x1x256, .f32⟩
  | .hbm, ⟨48, _⟩ => ⟨S128x1x256, .f32⟩
  | .hbm, ⟨49, _⟩ => ⟨S1x1x256, .f32⟩
  | .hbm, ⟨50, _⟩ => ⟨S128x1x256, .f32⟩
  | .hbm, ⟨51, _⟩ => ⟨S128x1x256, .f32⟩
  | .hbm, ⟨52, _⟩ => ⟨S128x1x32, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S1, .f32⟩
  | .hbm, ⟨68, _⟩ => ⟨S1x1, .f32⟩
  | .hbm, ⟨69, _⟩ => ⟨S1x16, .f32⟩
  | .hbm, ⟨70, _⟩ => ⟨S1x16, .f32⟩
  | .hbm, ⟨71, _⟩ => ⟨S1x16, .f32⟩
  | .hbm, ⟨72, _⟩ => ⟨S1x16, .f32⟩
  | .hbm, ⟨73, _⟩ => ⟨S1x16, .f32⟩
  | .hbm, ⟨74, _⟩ => ⟨S128x1x16, .f32⟩
  | .hbm, ⟨75, _⟩ => ⟨S128x1x16, .f32⟩
  | .hbm, ⟨76, _⟩ => ⟨S1x1x16, .f32⟩
  | .hbm, ⟨77, _⟩ => ⟨S128x1x16, .f32⟩
  | .hbm, ⟨78, _⟩ => ⟨S128x1x16, .f32⟩
  | .hbm, ⟨79, _⟩ => ⟨S1x1x16, .f32⟩
  | .hbm, ⟨80, _⟩ => ⟨S128x1x16, .f32⟩
  | .hbm, ⟨81, _⟩ => ⟨S128x1x16, .f32⟩
  | .hbm, ⟨82, _⟩ => ⟨S128x1x16, .f32⟩
  | .hbm, ⟨83, _⟩ => ⟨S1x1x16, .f32⟩
  | .hbm, ⟨84, _⟩ => ⟨S128x1x16, .f32⟩
  | .hbm, ⟨85, _⟩ => ⟨S128x1x16, .f32⟩
  | .hbm, ⟨86, _⟩ => ⟨S1x1x16, .f32⟩
  | .hbm, ⟨87, _⟩ => ⟨S128x1x16, .f32⟩
  | .hbm, ⟨88, _⟩ => ⟨S128x1x16, .f32⟩
  | .hbm, ⟨89, _⟩ => ⟨S128x1x16, .f32⟩
  | .hbm, ⟨90, _⟩ => ⟨S128x1x32, .f32⟩
  | .hbm, ⟨91, _⟩ => ⟨S1x128x256, .f32⟩
  | .hbm, ⟨92, _⟩ => ⟨S1x128x32, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Kernel9.lean ====
abbrev S128x1x1024 : Shape := ⟨3, ![128, 1, 1024]⟩
abbrev S1024 : Shape := ⟨1, ![1024]⟩
abbrev S128x1024 : Shape := ⟨2, ![128, 1024]⟩
abbrev S128x64x64 : Shape := ⟨3, ![128, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S_ : Shape := ⟨0, ![]⟩
abbrev S64x64x1 : Shape := ⟨3, ![64, 64, 1]⟩
abbrev S16x16 : Shape := ⟨2, ![16, 16]⟩
abbrev S4x16x64x16 : Shape := ⟨4, ![4, 16, 64, 16]⟩
abbrev S4x16x16x64 : Shape := ⟨4, ![4, 16, 16, 64]⟩
abbrev S4x16x16x1x64 : Shape := ⟨5, ![4, 16, 16, 1, 64]⟩
abbrev S1x16x1x16x1 : Shape := ⟨5, ![1, 16, 1, 16, 1]⟩
abbrev S4x16x16x16x64 : Shape := ⟨5, ![4, 16, 16, 16, 64]⟩
abbrev S4x256x1024 : Shape := ⟨3, ![4, 256, 1024]⟩
abbrev S4x256x2048 : Shape := ⟨3, ![4, 256, 2048]⟩
abbrev S4x16x64x1x16 : Shape := ⟨5, ![4, 16, 64, 1, 16]⟩
abbrev S4x16x64x16x16 : Shape := ⟨5, ![4, 16, 64, 16, 16]⟩
abbrev S4x1024x256 : Shape := ⟨3, ![4, 1024, 256]⟩
abbrev S4x2048x256 : Shape := ⟨3, ![4, 2048, 256]⟩
abbrev S1x4096 : Shape := ⟨2, ![1, 4096]⟩
abbrev S1x128x1024 : Shape := ⟨3, ![1, 128, 1024]⟩
abbrev S1x1024 : Shape := ⟨2, ![1, 1024]⟩
abbrev S128x4096 : Shape := ⟨2, ![128, 4096]⟩
abbrev S128 : Shape := ⟨1, ![128]⟩
abbrev S128x1 : Shape := ⟨2, ![128, 1]⟩
abbrev S128x256 : Shape := ⟨2, ![128, 256]⟩
abbrev S1x256x2048 : Shape := ⟨3, ![1, 256, 2048]⟩
abbrev S256x2048 : Shape := ⟨2, ![256, 2048]⟩
abbrev S128x2048 : Shape := ⟨2, ![128, 2048]⟩
abbrev S1x1024x256 : Shape := ⟨3, ![1, 1024, 256]⟩
abbrev S1024x256 : Shape := ⟨2, ![1024, 256]⟩
abbrev S1x256 : Shape := ⟨2, ![1, 256]⟩
abbrev S1x128x256 : Shape := ⟨3, ![1, 128, 256]⟩

abbrev nBuf : Space → Nat
  | .hbm => 118
  | .vmem => 15
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x64x64, .f32⟩
  | .hbm, ⟨5, _⟩ => ⟨S128x64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64x16, .f32⟩
  | .hbm, ⟨10, _⟩ => ⟨S64x64x16, .f32⟩
  | .hbm, ⟨11, _⟩ => ⟨S64x16x64, .f32⟩
  | .hbm, ⟨12, _⟩ => ⟨S64x16x64, .f32⟩
  | .hbm, ⟨13, _⟩ => ⟨S1024, .f32⟩
  | .hbm, ⟨14, _⟩ => ⟨S64, .f32⟩
  | .hbm, ⟨15, _⟩ => ⟨S64x1, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64x1, .f32⟩
  | .hbm, ⟨45, _⟩ => ⟨S64x64x16, .f32⟩
  | .hbm, ⟨46, _⟩ => ⟨S64x64x16, .f32⟩
  | .hbm, ⟨47, _⟩ => ⟨S64x64x1, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x1, .f32⟩
  | .hbm, ⟨52, _⟩ => ⟨S64x64x16, .f32⟩
  | .hbm, ⟨53, _⟩ => ⟨S64x64x16, .f32⟩
  | .hbm, ⟨54, _⟩ => ⟨S64x64x1, .f32⟩
  | .hbm, ⟨55, _⟩ => ⟨S64x64x16, .f32⟩
  | .hbm, ⟨56, _⟩ => ⟨S64x64x16, .f32⟩
  | .hbm, ⟨57, _⟩ => ⟨S64x64x16, .f32⟩
  | .hbm, ⟨58, _⟩ => ⟨S16x16, .i32⟩
  | .hbm, ⟨59, _⟩ => ⟨S16x16, .i32⟩
  | .hbm, ⟨60, _⟩ => ⟨S_, .i32⟩
  | .hbm, ⟨61, _⟩ => ⟨S16x16, .i32⟩
  | .hbm, ⟨62, _⟩ => ⟨S16x16, .i32⟩
  | .hbm, ⟨63, _⟩ => ⟨S16x16, .i1⟩
  | .hbm, ⟨64, _⟩ => ⟨S16x16, .f32⟩
  | .hbm, ⟨65, _⟩ => ⟨S4x16x64x16, .f32⟩
  | .hbm, ⟨66, _⟩ => ⟨S4x16x16x64, .f32⟩
  | .hbm, ⟨67, _⟩ => ⟨S4x16x16x1x64, .f32⟩
  | .hbm, ⟨68, _⟩ => ⟨S1x16x1x16x1, .f32⟩
  | .hbm, ⟨69, _⟩ => ⟨S4x16x16x16x64, .f32⟩
  | .hbm, ⟨70, _⟩ => ⟨S4x16x16x16x64, .f32⟩
  | .hbm, ⟨71, _⟩ => ⟨S4x16x16x16x64, .f32⟩
  | .hbm, ⟨72, _⟩ => ⟨S4x256x1024, .f32⟩
  | .hbm, ⟨73, _⟩ => ⟨S4x16x64x16, .f32⟩
  | .hbm, ⟨74, _⟩ => ⟨S4x16x16x64, .f32⟩
  | .hbm, ⟨75, _⟩ => ⟨S4x16x16x1x64, .f32⟩
  | .hbm, ⟨76, _⟩ => ⟨S1x16x1x16x1, .f32⟩
  | .hbm, ⟨77, _⟩ => ⟨S4x16x16x16x64, .f32⟩
  | .hbm, ⟨78, _⟩ => ⟨S4x16x16x16x64, .f32⟩
  | .hbm, ⟨79, _⟩ => ⟨S4x16x16x16x64, .f32⟩
  | .hbm, ⟨80, _⟩ => ⟨S4x256x1024, .f32⟩
  | .hbm, ⟨81, _⟩ => ⟨S4x256x2048, .f32⟩
  | .hbm, ⟨82, _⟩ => ⟨S4x16x16x64, .f32⟩
  | .hbm, ⟨83, _⟩ => ⟨S4x16x64x16, .f32⟩
  | .hbm, ⟨84, _⟩ => ⟨S4x16x64x1x16, .f32⟩
  | .hbm, ⟨85, _⟩ => ⟨S1x16x1x16x1, .f32⟩
  | .hbm, ⟨86, _⟩ => ⟨S4x16x64x16x16, .f32⟩
  | .hbm, ⟨87, _⟩ => ⟨S4x16x64x16x16, .f32⟩
  | .hbm, ⟨88, _⟩ => ⟨S4x16x64x16x16, .f32⟩
  | .hbm, ⟨89, _⟩ => ⟨S4x1024x256, .f32⟩
  | .hbm, ⟨90, _⟩ => ⟨S4x16x16x64, .f32⟩
  | .hbm, ⟨91, _⟩ => ⟨S4x16x64x16, .f32⟩
  | .hbm, ⟨92, _⟩ => ⟨S4x16x64x1x16, .f32⟩
  | .hbm, ⟨93, _⟩ => ⟨S1x16x1x16x1, .f32⟩
  | .hbm, ⟨94, _⟩ => ⟨S4x16x64x16x16, .f32⟩
  | .hbm, ⟨95, _⟩ => ⟨S4x16x64x16x16, .f32⟩
  | .hbm, ⟨96, _⟩ => ⟨S4x16x64x16x16, .f32⟩
  | .hbm, ⟨97, _⟩ => ⟨S4x1024x256, .f32⟩
  | .hbm, ⟨98, _⟩ => ⟨S4x1024x256, .f32⟩
  | .hbm, ⟨99, _⟩ => ⟨S4x2048x256, .f32⟩
  | .hbm, ⟨100, _⟩ => ⟨S4x256x2048, .bf16⟩
  | .hbm, ⟨101, _⟩ => ⟨S4x256x2048, .f32⟩
  | .hbm, ⟨102, _⟩ => ⟨S4x256x2048, .bf16⟩
  | .hbm, ⟨103, _⟩ => ⟨S4x256x2048, .f32⟩
  | .hbm, ⟨104, _⟩ => ⟨S4x256x2048, .bf16⟩
  | .hbm, ⟨105, _⟩ => ⟨S4x2048x256, .bf16⟩
  | .hbm, ⟨106, _⟩ => ⟨S1x4096, .f32⟩
  | .hbm, ⟨107, _⟩ => ⟨S1x4096, .f32⟩
  | .hbm, ⟨108, _⟩ => ⟨S1x128x1024, .f32⟩
  | .hbm, ⟨109, _⟩ => ⟨S1x1024, .f32⟩
  | .hbm, ⟨110, _⟩ => ⟨S1x128x1024, .f32⟩
  | .hbm, ⟨111, _⟩ => ⟨S1x128x1024, .f32⟩
  | .hbm, ⟨112, _⟩ => ⟨S128x4096, .f32⟩
  | .hbm, ⟨113, _⟩ => ⟨S128x4096, .f32⟩
  | .hbm, ⟨114, _⟩ => ⟨S1x1024, .f32⟩
  | .hbm, ⟨115, _⟩ => ⟨S1x128x1024, .f32⟩
  | .hbm, ⟨116, _⟩ => ⟨S128x4096, .f32⟩
  | .hbm, ⟨117, _⟩ => ⟨S128x4096, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x4096, .f32⟩
  | .local _ .vmem, ⟨5, _⟩ => ⟨S128x4096, .f32⟩
  | .local _ .vmem, ⟨6, _⟩ => ⟨S4x256x2048, .bf16⟩
  | .local _ .vmem, ⟨7, _⟩ => ⟨S4x256x2048, .bf16⟩
  | .local _ .vmem, ⟨8, _⟩ => ⟨S4x2048x256, .bf16⟩
  | .local _ .vmem, ⟨9, _⟩ => ⟨S1x4096, .f32⟩
  | .local _ .vmem, ⟨10, _⟩ => ⟨S1x4096, .f32⟩
  | .local _ .vmem, ⟨11, _⟩ => ⟨S1x1024, .f32⟩
  | .local _ .vmem, ⟨12, _⟩ => ⟨S1x128x1024, .f32⟩
  | .local _ .vmem, ⟨13, _⟩ => ⟨S128x4096, .f32⟩
  | .local _ .vmem, ⟨14, _⟩ => ⟨S128x4096, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98_0 : Ref sig .tc := ⟨.hbm, 115, rfl⟩
abbrev main_v98_1 : Ref sig .tc := ⟨.hbm, 116, rfl⟩
abbrev main_v98_2 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S4x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S128x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, true]

abbrev stage0_14 : Fin 1 → Memref sig .tc .vmem S128x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, true]
-- ==== Reference9Ideal.lean ====
abbrev S128x1x1024 : Shape := ⟨3, ![128, 1, 1024]⟩
abbrev S1024 : Shape := ⟨1, ![1024]⟩
abbrev S128x1024 : Shape := ⟨2, ![128, 1024]⟩
abbrev S128x64x64 : Shape := ⟨3, ![128, 64, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x64x16 : Shape := ⟨3, ![128, 64, 16]⟩
abbrev S64x1 : Shape := ⟨2, ![64, 1]⟩
abbrev S64x64x1 : Shape := ⟨3, ![64, 64, 1]⟩
abbrev S1x64x64 : Shape := ⟨3, ![1, 64, 64]⟩
abbrev S64x64x128 : Shape := ⟨3, ![64, 64, 128]⟩
abbrev S128x4096 : Shape := ⟨2, ![128, 4096]⟩

abbrev nBuf : Space → Nat
  | .hbm => 107
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S128x1024, .f32⟩
  | .hbm, ⟨3, _⟩ => ⟨S128x1024, .f32⟩
  | .hbm, ⟨4, _⟩ => ⟨S128x64x64, .f32⟩
  | .hbm, ⟨5, _⟩ => ⟨S128x64x64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64x16, .f32⟩
  | .hbm, ⟨10, _⟩ => ⟨S64x64x16, .f32⟩
  | .hbm, ⟨11, _⟩ => ⟨S64x16x64, .f32⟩
  | .hbm, ⟨12, _⟩ => ⟨S64x16x64, .f32⟩
  | .hbm, ⟨13, _⟩ => ⟨S1024, .f32⟩
  | .hbm, ⟨14, _⟩ => ⟨S128x1x1024, .f32⟩
  | .hbm, ⟨15, _⟩ => ⟨S_, .f32⟩
  | .hbm, ⟨16, _⟩ => ⟨S128x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S128x1x1, .f32⟩
  | .hbm, ⟨25, _⟩ => ⟨S128x1x1024, .f32⟩
  | .hbm, ⟨26, _⟩ => ⟨S128x1x1024, .f32⟩
  | .hbm, ⟨27, _⟩ => ⟨S1x1x1024, .f32⟩
  | .hbm, ⟨28, _⟩ => ⟨S128x1x1024, .f32⟩
  | .hbm, ⟨29, _⟩ => ⟨S128x1x1024, .f32⟩
  | .hbm, ⟨30, _⟩ => ⟨S128x1x1024, .f32⟩
  | .hbm, ⟨31, _⟩ => ⟨S_, .f32⟩
  | .hbm, ⟨32, _⟩ => ⟨S128x1x1024, .f32⟩
  | .hbm, ⟨33, _⟩ => ⟨S128x1x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S128x64x16, .f32⟩
  | .hbm, ⟨38, _⟩ => ⟨S64, .f32⟩
  | .hbm, ⟨39, _⟩ => ⟨S64x1, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S_, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S64x64x1, .f32⟩
  | .hbm, ⟨72, _⟩ => ⟨S64x64x16, .f32⟩
  | .hbm, ⟨73, _⟩ => ⟨S64x64x16, .f32⟩
  | .hbm, ⟨74, _⟩ => ⟨S64x64x1, .f32⟩
  | .hbm, ⟨75, _⟩ => ⟨S64x64x16, .f32⟩
  | .hbm, ⟨76, _⟩ => ⟨S64x64x16, .f32⟩
  | .hbm, ⟨77, _⟩ => ⟨S64x64x16, .f32⟩
  | .hbm, ⟨78, _⟩ => ⟨S64x64x1, .f32⟩
  | .hbm, ⟨79, _⟩ => ⟨S64x64x16, .f32⟩
  | .hbm, ⟨80, _⟩ => ⟨S64x64x16, .f32⟩
  | .hbm, ⟨81, _⟩ => ⟨S64x64x1, .f32⟩
  | .hbm, ⟨82, _⟩ => ⟨S64x64x16, .f32⟩
  | .hbm, ⟨83, _⟩ => ⟨S64x64x16, .f32⟩
  | .hbm, ⟨84, _⟩ => ⟨S64x64x16, .f32⟩
  | .hbm, ⟨85, _⟩ => ⟨S1x64x64, .f32⟩
  | .hbm, ⟨86, _⟩ => ⟨S128x64x64, .f32⟩
  | .hbm, ⟨87, _⟩ => ⟨S128x64x64, .f32⟩
  | .hbm, ⟨88, _⟩ => ⟨S1x64x64, .f32⟩
  | .hbm, ⟨89, _⟩ => ⟨S128x64x64, .f32⟩
  | .hbm, ⟨90, _⟩ => ⟨S128x64x64, .f32⟩
  | .hbm, ⟨91, _⟩ => ⟨S128x64x64, .f32⟩
  | .hbm, ⟨92, _⟩ => ⟨S64x64x128, .f32⟩
  | .hbm, ⟨93, _⟩ => ⟨S128x64x64, .f32⟩
  | .hbm, ⟨94, _⟩ => ⟨S128x64x64, .f32⟩
  | .hbm, ⟨95, _⟩ => ⟨S1x64x64, .f32⟩
  | .hbm, ⟨96, _⟩ => ⟨S128x64x64, .f32⟩
  | .hbm, ⟨97, _⟩ => ⟨S128x64x64, .f32⟩
  | .hbm, ⟨98, _⟩ => ⟨S1x64x64, .f32⟩
  | .hbm, ⟨99, _⟩ => ⟨S128x64x64, .f32⟩
  | .hbm, ⟨100, _⟩ => ⟨S128x64x64, .f32⟩
  | .hbm, ⟨101, _⟩ => ⟨S128x64x64, .f32⟩
  | .hbm, ⟨102, _⟩ => ⟨S64x64x128, .f32⟩
  | .hbm, ⟨103, _⟩ => ⟨S128x64x64, .f32⟩
  | .hbm, ⟨104, _⟩ => ⟨S128x64x64, .f32⟩
  | .hbm, ⟨105, _⟩ => ⟨S128x4096, .f32⟩
  | .hbm, ⟨106, _⟩ => ⟨S128x4096, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩

abbrev nD : Nat := 1
abbrev τ : Topo := Topo.v7x

variable {F : FTy → Type} [FloatOps F]
-- ==== Proof.FlashHead.lean ====
module

public import proofs.«01_k».proof.Proof.Gen.KernelIdeal.Skeleton
public import Idealize.ShloMosaic.Lib.Pointwise

@[expose] public section

set_option maxRecDepth 16384

noncomputable section

/- One head's update by one block of 512 keys, read at an index: what the new maximum, the new sum and the new weighted sum are,
   for a block before the diagonal and for the diagonal block. -/
namespace Cert.KernelIdeal.Flash

open Idealize.ShloMosaic Cert.KernelIdeal.Gen

/-- The score of query row `r` against key row `κ` of one head's blocks. -/
def score (kb qb : Vec Ideal S1x512x128 .bf16) (r κ : Fin 512) : EReal :=
  ∑ d : Fin 128, qb (ix3 0 r d) * kb (ix3 0 κ d)

/-- The same on the diagonal block: a key after the query's row is masked. -/
def mscore (kb qb : Vec Ideal S1x512x128 .bf16) (r κ : Fin 512) : EReal :=
  if κ.val ≤ r.val then score kb qb r κ else ⊥

/-- The pattern of minus infinity denotes the bottom element. -/
theorem ofBits_neg_inf : Ideal.ofBits FTy.f32 0xFF800000#32 = ⊥ := by
  simp [Ideal.ofBits, Ideal.ieee]

/-- A maximum folded from the bottom element is the supremum. -/
theorem fold_max_bot {ι : Type} (t : Finset ι) (f : ι → EReal) : Finset.fold max ⊥ f t = t.sup f := rfl

/-! ## The update before the diagonal -/

section Plain

variable (kb qb vb : Vec Ideal S1x512x128 .bf16) (mb lb ab : Vec Ideal S1x512x128 .f32)

/-- The new maximum of a head, from its key and query blocks and the maximum before. -/
def hM : Vec Ideal S1x512x128 .f32 := k0_pay12 (F := Ideal) (k0_pay6 kb qb mb)
/-- The new sum of a head. -/
def hL : Vec Ideal S1x512x128 .f32 := k0_pay9 (F := Ideal) kb qb mb lb
/-- The new weighted sum of a head. -/
def hA : Vec Ideal S1x512x128 .f32 := k0_pay11 (F := Ideal) (k0_pay3 vb) (k0_pay8 kb qb mb) (k0_pay10 kb qb mb ab)

theorem pay4_apply (r κ : Fin 512) : k0_pay4 (F := Ideal) kb qb (ix2 r κ) = score kb qb r κ := by
  pointwise [k0_pay4, score]

theorem pay6_apply (r : Fin 512) (l : Fin 128) :
    k0_pay6 (F := Ideal) kb qb mb (ix2 r l) = max (mb (ix3 0 r l)) (Finset.univ.sup (score kb qb r)) := by
  pointwise [k0_pay6, k0_pay5]
  rw [ofBits_neg_inf, fold_max_bot]
  simp only [pay4_apply]

theorem hM_apply (r : Fin 512) (l : Fin 128) :
    hM kb qb mb (ix3 0 r l) = max (mb (ix3 0 r l)) (Finset.univ.sup (score kb qb r)) := by
  pointwise [hM, k0_pay12]
  exact pay6_apply kb qb mb r l

variable (m : Fin 512 → EReal) (hm : ∀ (r : Fin 512) (l : Fin 128), mb (ix3 0 r l) = m r)
include hm

theorem pay8_apply (r κ : Fin 512) :
    k0_pay8 (F := Ideal) kb qb mb (ix2 r κ)
      = Ideal.exp2 (score kb qb r κ - max (m r) (Finset.univ.sup (score kb qb r))) := by
  pointwise [k0_pay8]
  simp only [pay4_apply, pay6_apply, hm, dite_eq_ite, ite_self]
  rfl

theorem pay7_apply (r : Fin 512) (l : Fin 128) :
    k0_pay7 (F := Ideal) kb qb mb (ix2 r l) = Ideal.exp2 (m r - max (m r) (Finset.univ.sup (score kb qb r))) := by
  pointwise [k0_pay7, k0_pay5]
  rw [pay6_apply, hm]
  rfl

theorem hL_apply (r : Fin 512) (l : Fin 128) :
    hL kb qb mb lb (ix3 0 r l) = lb (ix3 0 r l) * Ideal.exp2 (m r - max (m r) (Finset.univ.sup (score kb qb r)))
      + ∑ κ : Fin 512, Ideal.exp2 (score kb qb r κ - max (m r) (Finset.univ.sup (score kb qb r))) := by
  pointwise [hL, k0_pay9]
  rw [pay7_apply kb qb mb m hm]
  simp only [pay8_apply kb qb mb m hm]

theorem hA_apply (r : Fin 512) (l : Fin 128) :
    hA kb qb vb mb ab (ix3 0 r l) = ab (ix3 0 r l) * Ideal.exp2 (m r - max (m r) (Finset.univ.sup (score kb qb r)))
      + ∑ κ : Fin 512, Ideal.exp2 (score kb qb r κ - max (m r) (Finset.univ.sup (score kb qb r))) * vb (ix3 0 κ l) := by
  pointwise [hA, k0_pay11, k0_pay10, k0_pay3]
  rw [pay7_apply kb qb mb m hm]
  simp only [pay8_apply kb qb mb m hm]

end Plain

/-! ## The update on the diagonal -/

section Masked

variable (kb qb vb : Vec Ideal S1x512x128 .bf16) (mb lb ab : Vec Ideal S1x512x128 .f32)

/-- The new maximum of a head after the diagonal block. -/
def gM : Vec Ideal S1x512x128 .f32 := k0_pay98 (F := Ideal) (k0_pay93 (k0_pay88 kb) (k0_pay90 qb) mb)
/-- The new sum of a head after the diagonal block. -/
def gL : Vec Ideal S1x512x128 .f32 := k0_pay96 (F := Ideal) (k0_pay88 kb) (k0_pay90 qb) mb lb
/-- The new weighted sum of a head after the diagonal block. -/
def gA : Vec Ideal S1x512x128 .f32 := k0_pay97 (F := Ideal) (k0_pay88 kb) (k0_pay89 vb) (k0_pay90 qb) mb ab

/-- The comparison of two coordinates below 512, as 32-bit words, is the comparison of the coordinates. -/
theorem sle_coord (r κ : Fin 512) :
    IntOp.cmpi CmpIPredicate.sle (BitVec.ofNat 32 κ.val) (BitVec.ofNat 32 r.val) = BitVec.ofBool (decide (κ.val ≤ r.val)) := by
  have hk := κ.isLt
  have hr := r.isLt
  show BitVec.ofBool ((BitVec.ofNat 32 κ.val).sle (BitVec.ofNat 32 r.val)) = _
  congr 1
  have e : ∀ n : ℕ, n < 512 → (BitVec.ofNat 32 n).toInt = n := fun n hn => by
    have hn' : (BitVec.ofNat 32 n).toNat = n := by rw [BitVec.toNat_ofNat]; exact Nat.mod_eq_of_lt (by omega)
    rw [BitVec.toInt_eq_toNat_of_lt (by rw [hn']; omega), hn']
  rw [BitVec.sle, e _ hk, e _ hr]
  simp

theorem pay91_apply (r κ : Fin 512) :
    k0_pay91 (F := Ideal) (k0_pay88 kb) (k0_pay90 qb) (ix2 r κ) = mscore kb qb r κ := by
  pointwise [k0_pay91, k0_pay88, k0_pay90]
  rw [sle_coord]
  unfold mscore score
  by_cases h : κ.val ≤ r.val
  · rw [if_pos h, decide_eq_true h]; rfl
  · rw [if_neg h, decide_eq_false h]; rfl

theorem pay93_apply (r : Fin 512) (l : Fin 128) :
    k0_pay93 (F := Ideal) (k0_pay88 kb) (k0_pay90 qb) mb (ix2 r l) = max (mb (ix3 0 r l)) (Finset.univ.sup (mscore kb qb r)) := by
  pointwise [k0_pay93, k0_pay92]
  rw [ofBits_neg_inf, fold_max_bot]
  simp only [pay91_apply]

theorem gM_apply (r : Fin 512) (l : Fin 128) :
    gM kb qb mb (ix3 0 r l) = max (mb (ix3 0 r l)) (Finset.univ.sup (mscore kb qb r)) := by
  pointwise [gM, k0_pay98]
  exact pay93_apply kb qb mb r l

variable (m : Fin 512 → EReal) (hm : ∀ (r : Fin 512) (l : Fin 128), mb (ix3 0 r l) = m r)
include hm

theorem pay95_apply (r κ : Fin 512) :
    k0_pay95 (F := Ideal) (k0_pay88 kb) (k0_pay90 qb) mb (ix2 r κ)
      = Ideal.exp2 (mscore kb qb r κ - max (m r) (Finset.univ.sup (mscore kb qb r))) := by
  pointwise [k0_pay95]
  simp only [pay91_apply, pay93_apply, hm, dite_eq_ite, ite_self]
  rfl

theorem pay94_apply (r : Fin 512) (l : Fin 128) :
    k0_pay94 (F := Ideal) (k0_pay88 kb) (k0_pay90 qb) mb (ix2 r l)
      = Ideal.exp2 (m r - max (m r) (Finset.univ.sup (mscore kb qb r))) := by
  pointwise [k0_pay94, k0_pay92]
  rw [pay93_apply, hm]
  rfl

theorem gL_apply (r : Fin 512) (l : Fin 128) :
    gL kb qb mb lb (ix3 0 r l) = lb (ix3 0 r l) * Ideal.exp2 (m r - max (m r) (Finset.univ.sup (mscore kb qb r)))
      + ∑ κ : Fin 512, Ideal.exp2 (mscore kb qb r κ - max (m r) (Finset.univ.sup (mscore kb qb r))) := by
  pointwise [gL, k0_pay96]
  rw [pay94_apply kb qb mb m hm]
  simp only [pay95_apply kb qb mb m hm]

theorem gA_apply (r : Fin 512) (l : Fin 128) :
    gA kb qb vb mb ab (ix3 0 r l) = ab (ix3 0 r l) * Ideal.exp2 (m r - max (m r) (Finset.univ.sup (mscore kb qb r)))
      + ∑ κ : Fin 512, Ideal.exp2 (mscore kb qb r κ - max (m r) (Finset.univ.sup (mscore kb qb r))) * vb (ix3 0 κ l) := by
  pointwise [gA, k0_pay97, k0_pay89]
  rw [pay94_apply kb qb mb m hm]
  simp only [pay95_apply kb qb mb m hm]

end Masked

/-! ## The initial values and the quotient -/

/-- The maximum starts at the bottom element. -/
theorem pay85_apply (y : S4x512x128.Idx) : k0_pay85 (F := Ideal) y = ⊥ := by
  pointwise [k0_pay85]
  rfl

/-- The sum starts at zero. -/
theorem pay86_apply (y : S4x512x128.Idx) : k0_pay86 (F := Ideal) y = 0 := by
  idx_vars y
  pointwise [k0_pay86]

/-- The weighted sum starts at zero. -/
theorem pay87_apply (y : S4x512x128.Idx) : k0_pay87 (F := Ideal) y = 0 := by
  idx_vars y
  pointwise [k0_pay87]

/-- A head's block of the result: the weighted sum over the sum. -/
theorem pay128_apply (a l : Vec Ideal S1x512x128 .f32) (r : Fin 512) (d : Fin 128) :
    k0_pay128 (F := Ideal) a l (ix3 0 r d) = Ideal.div (a (ix3 0 r d)) (l (ix3 0 r d)) := by
  pointwise [k0_pay128]

end Cert.KernelIdeal.Flash
-- ==== Proof.FlashMath.lean ====
module

public import Idealize.ShloMosaic.PureOps.Ideal.Laws
public import Mathlib.Algebra.Order.BigOperators.Group.Finset

@[expose] public section

noncomputable section

/- The mathematics of the online softmax over the extended reals: running maximum, running sum and running weighted sum of a row of
   scores, taken block by block, and the textbook softmax of the same row. -/
namespace Cert.OnlineSoftmax

open Idealize.ShloMosaic Finset

/-- A weight taken against one maximum, rescaled to a larger maximum, is the weight taken against the larger one. -/
theorem exp2_sub_mul (s m m' : EReal) (h : s ≤ m) (h' : m ≤ m') :
    Ideal.exp2 (s - m) * Ideal.exp2 (m - m') = Ideal.exp2 (s - m') := by
  induction s with
  | bot => simp [EReal.bot_sub]
  | top =>
    obtain rfl : m = ⊤ := top_le_iff.mp h
    obtain rfl : m' = ⊤ := top_le_iff.mp h'
    simp [EReal.sub_top]
  | coe a =>
    induction m with
    | bot => exact absurd h (by simp)
    | top =>
      obtain rfl : m' = ⊤ := top_le_iff.mp h'
      simp [EReal.sub_top]
    | coe b =>
      induction m' with
      | bot => exact absurd h' (by simp)
      | top => simp [EReal.sub_top]
      | coe c =>
        rw [← EReal.coe_sub, ← EReal.coe_sub, ← EReal.coe_sub, Ideal.exp2_coe, Ideal.exp2_coe, Ideal.exp2_coe, ← EReal.coe_mul]
        congr 1
        show (2 : ℝ) ^ (a - b) * (2 : ℝ) ^ (b - c) = (2 : ℝ) ^ (a - c)
        rw [← Real.rpow_add (by norm_num)]
        congr 1; ring

/-- A power of two is not negative. -/
theorem exp2_nonneg (x : EReal) : 0 ≤ Ideal.exp2 x := by
  induction x with
  | bot => simp
  | top => simp
  | coe a => rw [Ideal.exp2_coe]; exact EReal.coe_nonneg.mpr (Real.rpow_nonneg (by norm_num) _)

/-- A power of two is the top element only at the top element. -/
theorem exp2_ne_top (x : EReal) (h : x ≠ ⊤) : Ideal.exp2 x ≠ ⊤ := by
  induction x with
  | bot => simp
  | top => exact absurd rfl h
  | coe a => rw [Ideal.exp2_coe]; exact EReal.coe_ne_top _

/-- The difference of a smaller and a larger extended real is not the top element. -/
theorem sub_ne_top (m m' : EReal) (h : m ≤ m') : m - m' ≠ ⊤ := by
  induction m with
  | bot => simp [EReal.bot_sub]
  | top => obtain rfl : m' = ⊤ := top_le_iff.mp h; simp [EReal.sub_top]
  | coe a =>
    induction m' with
    | bot => exact absurd h (by simp)
    | top => simp [EReal.sub_top]
    | coe b => rw [← EReal.coe_sub]; exact EReal.coe_ne_top _

/-- A factor that is not negative and not the top element goes into a finite sum. -/
theorem sum_mul_of_nonneg {ι : Type} (t : Finset ι) (f : ι → EReal) (c : EReal) (h0 : 0 ≤ c) (ht : c ≠ ⊤) :
    (∑ i ∈ t, f i) * c = ∑ i ∈ t, f i * c := by
  classical
  induction t using Finset.induction_on with
  | empty => simp
  | insert a t ha ih => rw [Finset.sum_insert ha, Finset.sum_insert ha, EReal.right_distrib_of_nonneg_of_ne_top h0 ht, ih]

section Run

variable (s : ℕ → EReal)

/-- The greatest of the first `n` scores. -/
def top (n : ℕ) : EReal := (range n).sup s

/-- The sum of the first `n` weights, against the greatest of the first `n` scores. -/
def mass (n : ℕ) : EReal := ∑ c ∈ range n, Ideal.exp2 (s c - top s n)

/-- The sum of the first `n` values `v`, each with its weight. -/
def mix (v : ℕ → EReal) (n : ℕ) : EReal := ∑ c ∈ range n, Ideal.exp2 (s c - top s n) * v c

theorem le_top {n c : ℕ} (h : c < n) : s c ≤ top s n := Finset.le_sup (f := s) (mem_range.mpr h)

/-- The greatest of the first `n + b` scores, from that of the first `n` and that of the block of `b` after them. -/
theorem top_add (n b : ℕ) : top s (n + b) = max (top s n) (univ.sup fun κ : Fin b => s (n + κ)) := by
  apply le_antisymm
  · refine Finset.sup_le fun c hc => ?_
    rcases lt_or_ge c n with h | h
    · exact le_max_of_le_left (le_top s h)
    · refine le_max_of_le_right ?_
      have hc' : c < n + b := mem_range.mp hc
      have := Finset.le_sup (f := fun κ : Fin b => s (n + κ)) (mem_univ (⟨c - n, by omega⟩ : Fin b))
      simpa [Nat.add_sub_cancel' h] using this
  · refine max_le (Finset.sup_le fun c hc => le_top s (by have := mem_range.mp hc; omega)) (Finset.sup_le fun κ _ => le_top s (by omega))

theorem top_mono {n n' : ℕ} (h : n ≤ n') : top s n ≤ top s n' :=
  Finset.sup_le fun c hc => le_top s (by have := mem_range.mp hc; omega)

/-- One block of the running sum. -/
theorem mass_add (n b : ℕ) :
    mass s (n + b) = mass s n * Ideal.exp2 (top s n - top s (n + b)) + ∑ κ : Fin b, Ideal.exp2 (s (n + κ) - top s (n + b)) := by
  have hle := top_mono s (Nat.le_add_right n b)
  unfold mass
  rw [Finset.sum_range_add, sum_mul_of_nonneg _ _ _ (exp2_nonneg _) (exp2_ne_top _ (sub_ne_top _ _ hle)),
    ← Finset.sum_range (fun κ => Ideal.exp2 (s (n + κ) - top s (n + b)))]
  congr 1
  exact Finset.sum_congr rfl fun c hc => (exp2_sub_mul _ _ _ (le_top s (mem_range.mp hc)) hle).symm

/-- One block of the running weighted sum. -/
theorem mix_add (v : ℕ → EReal) (n b : ℕ) :
    mix s v (n + b) = mix s v n * Ideal.exp2 (top s n - top s (n + b))
      + ∑ κ : Fin b, Ideal.exp2 (s (n + κ) - top s (n + b)) * v (n + κ) := by
  have hle := top_mono s (Nat.le_add_right n b)
  unfold mix
  rw [Finset.sum_range_add, sum_mul_of_nonneg _ _ _ (exp2_nonneg _) (exp2_ne_top _ (sub_ne_top _ _ hle)),
    ← Finset.sum_range (fun κ => Ideal.exp2 (s (n + κ) - top s (n + b)) * v (n + κ))]
  congr 1
  exact Finset.sum_congr rfl fun c hc => by
    rw [← exp2_sub_mul _ _ _ (le_top s (mem_range.mp hc)) hle]
    rw [mul_assoc, mul_assoc, mul_comm (v c)]

theorem top_zero : top s 0 = ⊥ := by simp [top]
theorem mass_zero : mass s 0 = 0 := by simp [mass]
theorem mix_zero (v : ℕ → EReal) : mix s v 0 = 0 := by simp [mix]

/-- Scores past `n` that are the bottom element do not raise the greatest. -/
theorem top_eq_of_bot {n N : ℕ} (h : n ≤ N) (hb : ∀ c, n ≤ c → s c = ⊥) : top s N = top s n := by
  refine le_antisymm (Finset.sup_le fun c _ => ?_) (top_mono s h)
  rcases lt_or_ge c n with hc | hc
  · exact le_top s hc
  · rw [hb c hc]; exact bot_le

/-- Scores past `n` that are the bottom element add nothing to the sum of the weights. -/
theorem mass_eq_of_bot {n N : ℕ} (h : n ≤ N) (hb : ∀ c, n ≤ c → s c = ⊥) : mass s N = mass s n := by
  unfold mass
  rw [top_eq_of_bot s h hb]
  refine (Finset.sum_subset (range_mono h) fun c _ hc => ?_).symm
  rw [hb c (by simpa using hc)]; simp [EReal.bot_sub]

/-- Scores past `n` that are the bottom element add nothing to the weighted sum. -/
theorem mix_eq_of_bot (v : ℕ → EReal) {n N : ℕ} (h : n ≤ N) (hb : ∀ c, n ≤ c → s c = ⊥) : mix s v N = mix s v n := by
  unfold mix
  rw [top_eq_of_bot s h hb]
  refine (Finset.sum_subset (range_mono h) fun c _ hc => ?_).symm
  rw [hb c (by simpa using hc)]; simp [EReal.bot_sub]

end Run

/-- The natural logarithm of two, as the extended real the textbook scales a score by. -/
def ln2 : EReal := ((Real.log 2 : ℝ) : EReal)

theorem log_two_pos : 0 < Real.log 2 := Real.log_pos (by norm_num)

/-- Scaling by log 2 keeps order. -/
theorem mul_ln2_mono : Monotone (fun x : EReal => x * ln2) :=
  fun _ _ h => mul_le_mul_of_nonneg_right h (EReal.coe_nonneg.mpr log_two_pos.le)

theorem bot_mul_ln2 : (⊥ : EReal) * ln2 = ⊥ := EReal.bot_mul_coe_of_pos log_two_pos

/-- The greatest scaled score is the greatest score, scaled. -/
theorem sup_mul_ln2 {ι : Type} (t : Finset ι) (f : ι → EReal) : (t.sup fun i => f i * ln2) = t.sup f * ln2 :=
  (Finset.comp_sup_eq_sup_comp (fun x : EReal => x * ln2) (fun a b => mul_ln2_mono.map_sup a b) bot_mul_ln2).symm

/-- An exponential of scaled scores is the power of two of the scores, the maximum being real. -/
theorem exp_eq_exp2 (x : EReal) (hx : x ≠ ⊤) (m : ℝ) : Ideal.exp (x * ln2 - (m : EReal) * ln2) = Ideal.exp2 (x - m) := by
  induction x with
  | bot => rw [bot_mul_ln2]; simp [EReal.bot_sub]
  | top => exact absurd rfl hx
  | coe a =>
    unfold ln2
    rw [← EReal.coe_mul, ← EReal.coe_mul, ← EReal.coe_sub, ← EReal.coe_sub, Ideal.exp2_coe, Ideal.exp_coe]
    congr 1
    show Real.exp _ = (2 : ℝ) ^ (a - m)
    rw [Real.rpow_def_of_pos (by norm_num)]
    congr 1; ring

/-- The textbook softmax-weighted sum of a row whose scores up to `row` are real and whose later ones are masked is the running weighted
    sum over the running sum, both taken over any range that holds `row`. -/
theorem softmax_eq (s v : ℕ → EReal) (row N N' : ℕ) (hN : row < N) (hN' : row < N') (hs : ∀ c, c ≤ row → ∃ x : ℝ, s c = x)
    (hb : ∀ c, row < c → s c = ⊥) :
    Ideal.div (mix s v N) (mass s N)
      = ∑ c : Fin N', v c * Ideal.div (Ideal.exp (s c * ln2 - univ.sup fun c' : Fin N' => s c' * ln2))
          (∑ c' : Fin N', Ideal.exp (s c' * ln2 - univ.sup fun c'' : Fin N' => s c'' * ln2)) := by
  have hb' : ∀ c, row + 1 ≤ c → s c = ⊥ := fun c hc => hb c hc
  have hne : ∀ c, s c ≠ ⊤ := fun c => by
    rcases le_or_gt c row with h | h
    · obtain ⟨x, hx⟩ := hs c h; rw [hx]; exact EReal.coe_ne_top x
    · rw [hb c h]; exact bot_ne_top
  -- the greatest score is a real number, attained
  obtain ⟨c0, hc0, htop⟩ : ∃ c0 ∈ range (row + 1), top s (row + 1) = s c0 :=
    Finset.exists_mem_eq_sup (range (row + 1)) ⟨0, by simp⟩ s
  obtain ⟨M, hM⟩ := hs c0 (by have := mem_range.mp hc0; omega)
  have hsup : (univ.sup fun c' : Fin N' => s c' * ln2) = (M : EReal) * ln2 := by
    have h1 : (univ.sup fun c' : Fin N' => s c') = top s N' := by
      have := top_add s 0 N'
      rw [Nat.zero_add, top_zero] at this
      rw [this]
      simp
    rw [sup_mul_ln2 univ (fun c' : Fin N' => s c'), h1, top_eq_of_bot s (by omega : row + 1 ≤ N') hb', htop, hM]
  have hMt : ∀ n, row < n → top s n = (M : EReal) := fun n hn => by
    rw [top_eq_of_bot s (by omega : row + 1 ≤ n) hb', htop, hM]
  rw [hsup]
  simp only [fun c => exp_eq_exp2 (s c) (hne c) M]
  have hmass : (∑ c' : Fin N', Ideal.exp2 (s c' - M)) = mass s N := by
    rw [mass_eq_of_bot s (by omega : row + 1 ≤ N) hb', ← mass_eq_of_bot s (by omega : row + 1 ≤ N') hb']
    unfold mass
    rw [hMt N' hN', Finset.sum_range]
  have hmix : (∑ c' : Fin N', Ideal.exp2 (s c' - M) * v c') = mix s v N := by
    rw [mix_eq_of_bot s v (by omega : row + 1 ≤ N) hb', ← mix_eq_of_bot s v (by omega : row + 1 ≤ N') hb']
    unfold mix
    rw [hMt N' hN', Finset.sum_range]
  have h1 : (1 : EReal) ≤ mass s N := by
    have hc : c0 ∈ range N := mem_range.mpr (by have := mem_range.mp hc0; omega)
    have hz : Ideal.exp2 (s c0 - top s N) = 1 := by
      rw [hMt N hN, hM, ← EReal.coe_sub, Ideal.exp2_coe, sub_self]
      show (((2 : ℝ) ^ (0 : ℝ) : ℝ) : EReal) = 1
      rw [Real.rpow_zero]; rfl
    rw [← hz]
    exact Finset.single_le_sum (f := fun c => Ideal.exp2 (s c - top s N)) (fun c _ => exp2_nonneg _) hc
  have h0 : mass s N ≠ 0 := fun h => by rw [h] at h1; exact absurd h1 (by simp)
  rw [hmass, ← hmix]
  have hdiv : ∀ x : EReal, Ideal.div x (mass s N) = x * (mass s N)⁻¹ := fun x => by unfold Ideal.div; rw [if_neg h0]
  simp only [hdiv]
  have hi0 : 0 ≤ (mass s N)⁻¹ := EReal.inv_nonneg_of_nonneg (le_trans zero_le_one h1)
  have hit : (mass s N)⁻¹ ≠ ⊤ := by
    induction hx : mass s N with
    | bot => simp
    | top => simp
    | coe a => rw [← EReal.coe_inv]; exact EReal.coe_ne_top _
  rw [sum_mul_of_nonneg _ _ _ hi0 hit]
  exact Finset.sum_congr rfl fun c _ => by rw [mul_comm (v c), mul_assoc, mul_assoc, mul_comm (v c)]

end Cert.OnlineSoftmax
-- ==== Proof.FlashTrip.lean ====
module

public import proofs.«01_k».proof.Proof.FlashHead
public import proofs.«01_k».proof.Proof.FlashMath
public import proofs.«01_k».proof.Proof.Gen.KernelIdeal.Frame
public import Idealize.ShloMosaic.Lib.Pipeline.Value
public import Idealize.ShloMosaic.Lib.WholeRead
public import Idealize.ShloMosaic.Lib.WritesUnit
public import Idealize.ShloMosaic.Lib.VecWindow
public import Idealize.ShloMosaic.Lib.LoopRemainder

@[expose] public section

set_option maxRecDepth 16384

noncomputable section

/- What the loop over the key blocks before the diagonal stores, trip by trip: the four heads' updates of the running maximum,
   the running sum and the running weighted sum. -/
namespace Cert.KernelIdeal.Flash

open Idealize.ShloMosaic Idealize.ShloMosaic.TcCoe Cert.KernelIdeal Cert.KernelIdeal.Gen

/-- One head's block of a key or value buffer, loaded at the offsets `off`. -/
abbrev ldK (M : Memref sig .tc .vmem S1x4096x512 .bf16) (off : Fin 3 → ℕ) (inb : ∀ a, off a + S1x512x128.size a ≤ S1x4096x512.size a)
    (X : BufTy.Contents (Elt Ideal) M.view.ty) : Vec Ideal S1x512x128 .bf16 :=
  View.readAt (Elt Ideal) M.view (Rect.unit (s := S1x4096x512) off S1x512x128.size inb).toLoadRect X

/-- One head's block of a query buffer, loaded at the offsets `off`. -/
abbrev ldQ (M : Memref sig .tc .vmem S1x512x512 .bf16) (off : Fin 3 → ℕ) (inb : ∀ a, off a + S1x512x128.size a ≤ S1x512x512.size a)
    (X : BufTy.Contents (Elt Ideal) M.view.ty) : Vec Ideal S1x512x128 .bf16 :=
  View.readAt (Elt Ideal) M.view (Rect.unit (s := S1x512x512) off S1x512x128.size inb).toLoadRect X

/-- One head's block of a running buffer, loaded at the offsets `off`. -/
abbrev ldS (M : Memref sig .tc .vmem S4x512x128 .f32) (off : Fin 3 → ℕ) (inb : ∀ a, off a + S1x512x128.size a ≤ S4x512x128.size a)
    (f : BufTy.Contents (Elt Ideal) M.view.ty) : Vec Ideal S1x512x128 .f32 :=
  View.readAt (Elt Ideal) M.view (Rect.unit (s := S4x512x128) off S1x512x128.size inb).toLoadRect f

section Trip

variable (𝒱 : Variants) (c : Dev nD) (bd : Option 𝒱.V) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x512x512 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
  (X3 : BufTy.Contents (Elt Ideal) arg3.view.ty) (X4 : BufTy.Contents (Elt Ideal) arg4.view.ty) (X5 : BufTy.Contents (Elt Ideal) arg5.view.ty)
  (k : Fin (k0_t1_loop i).trips)
  (f7 : BufTy.Contents (Elt Ideal) arg7.view.ty) (f8 : BufTy.Contents (Elt Ideal) arg8.view.ty) (f9 : BufTy.Contents (Elt Ideal) arg9.view.ty)

/-- A trip stores the four heads' new maxima. -/
theorem trip_m : (trip_k0_t1 (F := Ideal) 𝒱 c bd i arg3 harg3 arg4 harg4 arg5 harg5 arg6 harg6 arg7 harg7 arg8 harg8 arg9 harg9 X3 X4 X5 k).1 f7 f8 f9
    = [⟨Rect.unit ![3, 0, 0] S1x512x128.size inb_S4x512x128_S1x512x128_3_0_0, hM (ldK arg4 (k0_off4 i k) (k0_off4_inb i k) X4) (ldQ arg3 ![0, 0, 384] inb_S1x512x512_S1x512x128_0_0_384 X3) (ldS arg7 ![3, 0, 0] inb_S4x512x128_S1x512x128_3_0_0 f7)⟩,
        ⟨Rect.unit ![2, 0, 0] S1x512x128.size inb_S4x512x128_S1x512x128_2_0_0, hM (ldK arg4 (k0_off3 i k) (k0_off3_inb i k) X4) (ldQ arg3 ![0, 0, 256] inb_S1x512x512_S1x512x128_0_0_256 X3) (ldS arg7 ![2, 0, 0] inb_S4x512x128_S1x512x128_2_0_0 f7)⟩,
        ⟨Rect.unit ![1, 0, 0] S1x512x128.size inb_S4x512x128_S1x512x128_1_0_0, hM (ldK arg4 (k0_off2 i k) (k0_off2_inb i k) X4) (ldQ arg3 ![0, 0, 128] inb_S1x512x512_S1x512x128_0_0_128 X3) (ldS arg7 ![1, 0, 0] inb_S4x512x128_S1x512x128_1_0_0 f7)⟩,
        ⟨Rect.unit ![0, 0, 0] S1x512x128.size inb_S4x512x128_S1x512x128_0_0_0, hM (ldK arg4 (k0_off1 i k) (k0_off1_inb i k) X4) (ldQ arg3 ![0, 0, 0] inb_S1x512x512_S1x512x128_0_0_0 X3) (ldS arg7 ![0, 0, 0] inb_S4x512x128_S1x512x128_0_0_0 f7)⟩] := by
  unfold trip_k0_t1
  rfl

/-- A trip stores the four heads' new sums. -/
theorem trip_l : (trip_k0_t1 (F := Ideal) 𝒱 c bd i arg3 harg3 arg4 harg4 arg5 harg5 arg6 harg6 arg7 harg7 arg8 harg8 arg9 harg9 X3 X4 X5 k).2.1 f7 f8 f9
    = [⟨Rect.unit ![3, 0, 0] S1x512x128.size inb_S4x512x128_S1x512x128_3_0_0, hL (ldK arg4 (k0_off4 i k) (k0_off4_inb i k) X4) (ldQ arg3 ![0, 0, 384] inb_S1x512x512_S1x512x128_0_0_384 X3) (ldS arg7 ![3, 0, 0] inb_S4x512x128_S1x512x128_3_0_0 f7) (ldS arg8 ![3, 0, 0] inb_S4x512x128_S1x512x128_3_0_0 f8)⟩,
        ⟨Rect.unit ![2, 0, 0] S1x512x128.size inb_S4x512x128_S1x512x128_2_0_0, hL (ldK arg4 (k0_off3 i k) (k0_off3_inb i k) X4) (ldQ arg3 ![0, 0, 256] inb_S1x512x512_S1x512x128_0_0_256 X3) (ldS arg7 ![2, 0, 0] inb_S4x512x128_S1x512x128_2_0_0 f7) (ldS arg8 ![2, 0, 0] inb_S4x512x128_S1x512x128_2_0_0 f8)⟩,
        ⟨Rect.unit ![1, 0, 0] S1x512x128.size inb_S4x512x128_S1x512x128_1_0_0, hL (ldK arg4 (k0_off2 i k) (k0_off2_inb i k) X4) (ldQ arg3 ![0, 0, 128] inb_S1x512x512_S1x512x128_0_0_128 X3) (ldS arg7 ![1, 0, 0] inb_S4x512x128_S1x512x128_1_0_0 f7) (ldS arg8 ![1, 0, 0] inb_S4x512x128_S1x512x128_1_0_0 f8)⟩,
        ⟨Rect.unit ![0, 0, 0] S1x512x128.size inb_S4x512x128_S1x512x128_0_0_0, hL (ldK arg4 (k0_off1 i k) (k0_off1_inb i k) X4) (ldQ arg3 ![0, 0, 0] inb_S1x512x512_S1x512x128_0_0_0 X3) (ldS arg7 ![0, 0, 0] inb_S4x512x128_S1x512x128_0_0_0 f7) (ldS arg8 ![0, 0, 0] inb_S4x512x128_S1x512x128_0_0_0 f8)⟩] := by
  unfold trip_k0_t1
  rfl

/-- A trip stores the four heads' new weighted sums. -/
theorem trip_a : (trip_k0_t1 (F := Ideal) 𝒱 c bd i arg3 harg3 arg4 harg4 arg5 harg5 arg6 harg6 arg7 harg7 arg8 harg8 arg9 harg9 X3 X4 X5 k).2.2.1 f7 f8 f9
    = [⟨Rect.unit ![3, 0, 0] S1x512x128.size inb_S4x512x128_S1x512x128_3_0_0, hA (ldK arg4 (k0_off4 i k) (k0_off4_inb i k) X4) (ldQ arg3 ![0, 0, 384] inb_S1x512x512_S1x512x128_0_0_384 X3) (ldK arg5 (k0_off4 i k) (k0_off4_inb i k) X5) (ldS arg7 ![3, 0, 0] inb_S4x512x128_S1x512x128_3_0_0 f7) (ldS arg9 ![3, 0, 0] inb_S4x512x128_S1x512x128_3_0_0 f9)⟩,
        ⟨Rect.unit ![2, 0, 0] S1x512x128.size inb_S4x512x128_S1x512x128_2_0_0, hA (ldK arg4 (k0_off3 i k) (k0_off3_inb i k) X4) (ldQ arg3 ![0, 0, 256] inb_S1x512x512_S1x512x128_0_0_256 X3) (ldK arg5 (k0_off3 i k) (k0_off3_inb i k) X5) (ldS arg7 ![2, 0, 0] inb_S4x512x128_S1x512x128_2_0_0 f7) (ldS arg9 ![2, 0, 0] inb_S4x512x128_S1x512x128_2_0_0 f9)⟩,
        ⟨Rect.unit ![1, 0, 0] S1x512x128.size inb_S4x512x128_S1x512x128_1_0_0, hA (ldK arg4 (k0_off2 i k) (k0_off2_inb i k) X4) (ldQ arg3 ![0, 0, 128] inb_S1x512x512_S1x512x128_0_0_128 X3) (ldK arg5 (k0_off2 i k) (k0_off2_inb i k) X5) (ldS arg7 ![1, 0, 0] inb_S4x512x128_S1x512x128_1_0_0 f7) (ldS arg9 ![1, 0, 0] inb_S4x512x128_S1x512x128_1_0_0 f9)⟩,
        ⟨Rect.unit ![0, 0, 0] S1x512x128.size inb_S4x512x128_S1x512x128_0_0_0, hA (ldK arg4 (k0_off1 i k) (k0_off1_inb i k) X4) (ldQ arg3 ![0, 0, 0] inb_S1x512x512_S1x512x128_0_0_0 X3) (ldK arg5 (k0_off1 i k) (k0_off1_inb i k) X5) (ldS arg7 ![0, 0, 0] inb_S4x512x128_S1x512x128_0_0_0 f7) (ldS arg9 ![0, 0, 0] inb_S4x512x128_S1x512x128_0_0_0 f9)⟩] := by
  unfold trip_k0_t1
  rfl

end Trip

end Cert.KernelIdeal.Flash
-- ==== Proof.FlashStep.lean ====
module

public import proofs.«01_k».proof.Proof.FlashTrip

@[expose] public section

set_option maxRecDepth 16384

noncomputable section

/- One head's update as a step of the online softmax, and the reading of the buffers a step loads from and stores to. -/
namespace Cert.KernelIdeal.Flash

open Idealize.ShloMosaic Idealize.ShloMosaic.TcCoe Cert.KernelIdeal Cert.KernelIdeal.Gen Cert.OnlineSoftmax

/-! ## A head's update -/

section Step

variable (kb qb vb : Vec Ideal S1x512x128 .bf16) (mb lb ab : Vec Ideal S1x512x128 .f32) (s : ℕ → ℕ → EReal) (v : ℕ → ℕ → EReal) (n : ℕ)

/-- A head's running state after the first `n` keys: the greatest score, the sum of the weights, the weighted sum of the values. -/
structure Run (s : ℕ → ℕ → EReal) (v : ℕ → ℕ → EReal) (n : ℕ) (mb lb ab : Vec Ideal S1x512x128 .f32) : Prop where
  m : ∀ (r : Fin 512) (l : Fin 128), mb (ix3 0 r l) = top (s r) n
  l : ∀ (r : Fin 512) (l : Fin 128), lb (ix3 0 r l) = mass (s r) n
  a : ∀ (r : Fin 512) (d : Fin 128), ab (ix3 0 r d) = mix (s r) (v d) n

variable {kb qb vb mb lb ab s v n}

theorem top_block (f : Fin 512 → EReal) (r : Fin 512) (hf : ∀ κ : Fin 512, f κ = s r (n + κ)) :
    max (top (s r) n) (Finset.univ.sup f) = top (s r) (n + 512) := by
  rw [top_add]
  congr 1
  exact Finset.sup_congr rfl fun κ _ => hf κ

/-- A block of 512 keys before the diagonal takes a head's state from the first `n` keys to the first `n + 512`. -/
theorem Run.plain (h : Run s v n mb lb ab) (hs : ∀ r κ : Fin 512, score kb qb r κ = s r (n + κ))
    (hv : ∀ (κ : Fin 512) (d : Fin 128), vb (ix3 0 κ d) = v d (n + κ)) :
    Run s v (n + 512) (hM kb qb mb) (hL kb qb mb lb) (hA kb qb vb mb ab) where
  m r l := by rw [hM_apply, h.m, top_block _ r (hs r)]
  l r l := by
    rw [hL_apply kb qb mb lb (fun r => top (s r) n) h.m, top_block _ r (hs r), h.l, mass_add]
    simp only [hs]
  a r d := by
    rw [hA_apply kb qb vb mb ab (fun r => top (s r) n) h.m, top_block _ r (hs r), h.a, mix_add]
    simp only [hs, hv]

/-- The diagonal block does the same with its masked scores. -/
theorem Run.masked (h : Run s v n mb lb ab) (hs : ∀ r κ : Fin 512, mscore kb qb r κ = s r (n + κ))
    (hv : ∀ (κ : Fin 512) (d : Fin 128), vb (ix3 0 κ d) = v d (n + κ)) :
    Run s v (n + 512) (gM kb qb mb) (gL kb qb mb lb) (gA kb qb vb mb ab) where
  m r l := by rw [gM_apply, h.m, top_block _ r (hs r)]
  l r l := by
    rw [gL_apply kb qb mb lb (fun r => top (s r) n) h.m, top_block _ r (hs r), h.l, mass_add]
    simp only [hs]
  a r d := by
    rw [gA_apply kb qb vb mb ab (fun r => top (s r) n) h.m, top_block _ r (hs r), h.a, mix_add]
    simp only [hs, hv]

end Step

/-! ## Reading a block -/

/-- What holds of each of three axes holds of every axis. -/
theorem forall_axes {P : Fin 3 → Prop} (h : P 0 ∧ P 1 ∧ P 2) : ∀ j, P j
  | ⟨0, _⟩ => h.1
  | ⟨1, _⟩ => h.2.1
  | ⟨2, _⟩ => h.2.2

/-- An element of a rank-3 array of one leading row, by natural-number coordinates. -/
def at3 {a b : ℕ} (x : (⟨3, ![1, a, b]⟩ : Shape).Idx → EReal) (p q : ℕ) : EReal :=
  if h : p < a ∧ q < b then x (ix3 0 ⟨p, h.1⟩ ⟨q, h.2⟩) else 0

theorem at3_eq {a b : ℕ} (x : (⟨3, ![1, a, b]⟩ : Shape).Idx → EReal) (y : (⟨3, ![1, a, b]⟩ : Shape).Idx) (p q : ℕ)
    (hp : (y 1).val = p) (hq : (y 2).val = q) : x y = at3 x p q := by
  have h1 : (y 1).val < a := (y 1).isLt
  have h2 : (y 2).val < b := (y 2).isLt
  unfold at3
  rw [dif_pos (by omega)]
  congr 1
  refine funext (forall_axes ⟨?_, ?_, ?_⟩)
  · exact Fin.ext (by have h0 : (y 0).val < 1 := (y 0).isLt; show (y 0).val = 0; omega)
  · exact Fin.ext hp
  · exact Fin.ext hq

section Load

variable {M : Memref sig .tc .vmem S1x4096x512 .bf16} {Q : Memref sig .tc .vmem S1x512x512 .bf16} {S : Memref sig .tc .vmem S4x512x128 .f32}

/-- A head's block of the keys (or values), at an element. -/
theorem ldK_apply (h : M.IsWhole) (X : Vec Ideal S1x4096x512 .bf16) (off : Fin 3 → ℕ) (inb) (p o : ℕ) (hoff : off = ![0, p, o])
    (κ : Fin 512) (d : Fin 128) : ldK M off inb (h.unread X) (ix3 0 κ d) = at3 (a := 4096) (b := 512) X (p + κ) (o + d) := by
  subst hoff
  unfold ldK
  rw [Memref.IsWhole.readAt_unread]
  refine at3_eq (a := 4096) (b := 512) X _ _ _ ?_ ?_
  · show p + 1 * κ.val = p + κ.val; omega
  · show o + 1 * d.val = o + d.val; omega

/-- A head's block of the queries, at an element. -/
theorem ldQ_apply (h : Q.IsWhole) (X : Vec Ideal S1x512x512 .bf16) (off : Fin 3 → ℕ) (inb) (o : ℕ) (hoff : off = ![0, 0, o])
    (r : Fin 512) (d : Fin 128) : ldQ Q off inb (h.unread X) (ix3 0 r d) = at3 (a := 512) (b := 512) X r (o + d) := by
  subst hoff
  unfold ldQ
  rw [Memref.IsWhole.readAt_unread]
  refine at3_eq (a := 512) (b := 512) X _ _ _ ?_ ?_
  · show 0 + 1 * r.val = r.val; omega
  · show o + 1 * d.val = o + d.val; omega

variable (f : BufTy.Contents (Elt Ideal) S.view.ty)

/-- A head's block of a running buffer, at an element. -/
theorem ldS_apply (off : Fin 3 → ℕ) (inb) (hd : Fin 4) (hoff : off = ![hd.val, 0, 0]) (r : Fin 512) (l : Fin 128) :
    ldS S off inb f (ix3 0 r l) = S.view.read (Elt Ideal) f (ix3 hd r l) := by
  subst hoff
  show S.view.read (Elt Ideal) f _ = _
  congr 1
  refine funext (forall_axes ⟨?_, ?_, ?_⟩)
  · exact Fin.ext (by show hd.val + 1 * 0 = hd.val; omega)
  · exact Fin.ext (by show 0 + 1 * r.val = r.val; omega)
  · exact Fin.ext (by show 0 + 1 * l.val = l.val; omega)

/-- The head a store wrote last reads the store's payload. -/
theorem read_same (off : Fin 3 → ℕ) (inb : ∀ a, off a + S1x512x128.size a ≤ S4x512x128.size a) (w : Vec Ideal S1x512x128 .f32) (L : List (View.Piece (Elt Ideal) S4x512x128 .f32))
    (hd : Fin 4) (hoff : off = ![hd.val, 0, 0]) (r : Fin 512) (l : Fin 128) :
    S.view.read (Elt Ideal) (S.view.writes (Elt Ideal) f (⟨Rect.unit (s := S4x512x128) off S1x512x128.size inb, w⟩ :: L)) (ix3 hd r l) = w (ix3 0 r l) :=
  View.read_writes_cons_unit_of_mem S.view f inb w L (ix3 hd r l) (ix3 0 r l) hoff (forall_axes ⟨by
      show hd.val = hd.val + 0; omega, by
      show r.val = 0 + r.val; omega, by
      show l.val = 0 + l.val; omega⟩)

/-- Another head reads what the earlier stores left. -/
theorem read_other (off : Fin 3 → ℕ) (inb : ∀ a, off a + S1x512x128.size a ≤ S4x512x128.size a) (w : Vec Ideal S1x512x128 .f32) (L : List (View.Piece (Elt Ideal) S4x512x128 .f32))
    (hd hd' : Fin 4) (hoff : off = ![hd.val, 0, 0]) (hne : hd'.val ≠ hd.val) (r : Fin 512) (l : Fin 128) :
    S.view.read (Elt Ideal) (S.view.writes (Elt Ideal) f (⟨Rect.unit (s := S4x512x128) off S1x512x128.size inb, w⟩ :: L)) (ix3 hd' r l)
      = S.view.read (Elt Ideal) (S.view.writes (Elt Ideal) f L) (ix3 hd' r l) :=
  View.read_writes_cons_unit_of_not_mem S.view f inb w L (ix3 hd' r l) hoff 0 (by
    show hd'.val < hd.val ∨ hd.val + 1 ≤ hd'.val
    omega)

/-- A fill of the whole buffer. -/
theorem read_fill (off : Fin 3 → ℕ) (inb : ∀ a, off a + S4x512x128.size a ≤ S4x512x128.size a) (w : Vec Ideal S4x512x128 .f32) (hoff : off = ![0, 0, 0])
    (y : S4x512x128.Idx) :
    S.view.read (Elt Ideal) (S.view.writes (Elt Ideal) f [⟨Rect.unit (s := S4x512x128) off S4x512x128.size inb, w⟩]) y = w y :=
  View.read_writes_cons_unit_of_mem S.view f inb w [] y y hoff (forall_axes ⟨(Nat.zero_add _).symm, (Nat.zero_add _).symm, (Nat.zero_add _).symm⟩)

end Load

end Cert.KernelIdeal.Flash
-- ==== Proof.FlashLast.lean ====
module

public import proofs.«01_k».proof.Proof.FlashTrip

@[expose] public section

set_option maxRecDepth 16384

noncomputable section

/- What a grid point stores: the running buffers after the loop, the four heads' updates on the diagonal block, and the four
   heads' blocks of the result. -/
namespace Cert.KernelIdeal.Flash

open Idealize.ShloMosaic Idealize.ShloMosaic.TcCoe Cert.KernelIdeal Cert.KernelIdeal.Gen

section Last

variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x512x512 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
  (x0 : Vec Ideal S1x512x512 .bf16) (x1 : Vec Ideal S1x4096x512 .bf16) (x2 : Vec Ideal S1x4096x512 .bf16)

/-- The stores into the running maximum, sum and weighted sum. -/
abbrev Stores : Type := List (View.Piece (Elt Ideal) S4x512x128 .f32)

/-- The fills before the loop. -/
def fill7 : Stores := [⟨Rect.unit ![0, 0, 0] S4x512x128.size inb_S4x512x128_S4x512x128_0_0_0, k0_pay85 (F := Ideal)⟩]
def fill8 : Stores := [⟨Rect.unit ![0, 0, 0] S4x512x128.size inb_S4x512x128_S4x512x128_0_0_0, k0_pay86 (F := Ideal)⟩]
def fill9 : Stores := [⟨Rect.unit ![0, 0, 0] S4x512x128.size inb_S4x512x128_S4x512x128_0_0_0, k0_pay87 (F := Ideal)⟩]

/-- The stores of the first `k` trips of the loop over the key blocks before the diagonal. -/
def trips1 (k : ℕ) : Stores × Stores × Stores :=
  pb_k0_t1 (F := Ideal) Variants.none c none i arg3 harg3 arg4 harg4 arg5 harg5 arg6 harg6 arg7 harg7 arg8 harg8 arg9 harg9 (harg3.unread x0) (harg4.unread x1) (harg5.unread x2)
    (arg7.view.writes (Elt Ideal) arg7.view.junk fill7) (arg8.view.writes (Elt Ideal) arg8.view.junk fill8)
    (arg9.view.writes (Elt Ideal) arg9.view.junk fill9) k

/-- The bound at which that loop ends. -/
def endWord : BitVec 32 :=
  Scalar.addi 0#32 (Scalar.muli (Scalar.divsi (Scalar.subi (BitVec.ofNat 32 (i 2).val) 0#32) 1#32) 1#32)

/-- The stores of the loop after it, which makes no trip. -/
def trips2 : Stores × Stores × Stores :=
  pb_k0_t2 (F := Ideal) Variants.none c none i arg3 harg3 arg4 harg4 arg5 harg5 arg6 harg6 arg7 harg7 arg8 harg8 arg9 harg9 (endWord i) (harg3.unread x0) (harg4.unread x1) (harg5.unread x2)
    (arg7.view.writes (Elt Ideal) arg7.view.junk ((trips1 c i arg3 harg3 arg4 harg4 arg5 harg5 arg6 harg6 arg7 harg7 arg8 harg8 arg9 harg9 x0 x1 x2 (k0_t1_loop i).trips).1 ++ fill7))
    (arg8.view.writes (Elt Ideal) arg8.view.junk ((trips1 c i arg3 harg3 arg4 harg4 arg5 harg5 arg6 harg6 arg7 harg7 arg8 harg8 arg9 harg9 x0 x1 x2 (k0_t1_loop i).trips).2.1 ++ fill8))
    (arg9.view.writes (Elt Ideal) arg9.view.junk ((trips1 c i arg3 harg3 arg4 harg4 arg5 harg5 arg6 harg6 arg7 harg7 arg8 harg8 arg9 harg9 x0 x1 x2 (k0_t1_loop i).trips).2.2 ++ fill9))
    (k0_t2_loop i).trips

/-- The stores before the diagonal block. -/
def base7 : Stores := (trips2 c i arg3 harg3 arg4 harg4 arg5 harg5 arg6 harg6 arg7 harg7 arg8 harg8 arg9 harg9 x0 x1 x2).1 ++ ((trips1 c i arg3 harg3 arg4 harg4 arg5 harg5 arg6 harg6 arg7 harg7 arg8 harg8 arg9 harg9 x0 x1 x2 (k0_t1_loop i).trips).1 ++ fill7)
def base8 : Stores := (trips2 c i arg3 harg3 arg4 harg4 arg5 harg5 arg6 harg6 arg7 harg7 arg8 harg8 arg9 harg9 x0 x1 x2).2.1 ++ ((trips1 c i arg3 harg3 arg4 harg4 arg5 harg5 arg6 harg6 arg7 harg7 arg8 harg8 arg9 harg9 x0 x1 x2 (k0_t1_loop i).trips).2.1 ++ fill8)
def base9 : Stores := (trips2 c i arg3 harg3 arg4 harg4 arg5 harg5 arg6 harg6 arg7 harg7 arg8 harg8 arg9 harg9 x0 x1 x2).2.2 ++ ((trips1 c i arg3 harg3 arg4 harg4 arg5 harg5 arg6 harg6 arg7 harg7 arg8 harg8 arg9 harg9 x0 x1 x2 (k0_t1_loop i).trips).2.2 ++ fill9)

variable (M L A : Stores)

/-- The stores after head 0's update on the diagonal block. -/
def d7_1 : Stores := ⟨Rect.unit ![0, 0, 0] S1x512x128.size inb_S4x512x128_S1x512x128_0_0_0, gM (ldK arg4 (k0_off9 i) (k0_off9_inb i) (harg4.unread x1)) (ldQ arg3 ![0, 0, 0] inb_S1x512x512_S1x512x128_0_0_0 (harg3.unread x0)) (ldS arg7 ![0, 0, 0] inb_S4x512x128_S1x512x128_0_0_0 (arg7.view.writes (Elt Ideal) arg7.view.junk M))⟩ :: M
def d8_1 : Stores := ⟨Rect.unit ![0, 0, 0] S1x512x128.size inb_S4x512x128_S1x512x128_0_0_0, gL (ldK arg4 (k0_off9 i) (k0_off9_inb i) (harg4.unread x1)) (ldQ arg3 ![0, 0, 0] inb_S1x512x512_S1x512x128_0_0_0 (harg3.unread x0)) (ldS arg7 ![0, 0, 0] inb_S4x512x128_S1x512x128_0_0_0 (arg7.view.writes (Elt Ideal) arg7.view.junk M)) (ldS arg8 ![0, 0, 0] inb_S4x512x128_S1x512x128_0_0_0 (arg8.view.writes (Elt Ideal) arg8.view.junk L))⟩ :: L
def d9_1 : Stores := ⟨Rect.unit ![0, 0, 0] S1x512x128.size inb_S4x512x128_S1x512x128_0_0_0, gA (ldK arg4 (k0_off9 i) (k0_off9_inb i) (harg4.unread x1)) (ldQ arg3 ![0, 0, 0] inb_S1x512x512_S1x512x128_0_0_0 (harg3.unread x0)) (ldK arg5 (k0_off9 i) (k0_off9_inb i) (harg5.unread x2)) (ldS arg7 ![0, 0, 0] inb_S4x512x128_S1x512x128_0_0_0 (arg7.view.writes (Elt Ideal) arg7.view.junk M)) (ldS arg9 ![0, 0, 0] inb_S4x512x128_S1x512x128_0_0_0 (arg9.view.writes (Elt Ideal) arg9.view.junk A))⟩ :: A

/-- The stores after head 1's update on the diagonal block. -/
def d7_2 : Stores := ⟨Rect.unit ![1, 0, 0] S1x512x128.size inb_S4x512x128_S1x512x128_1_0_0, gM (ldK arg4 (k0_off10 i) (k0_off10_inb i) (harg4.unread x1)) (ldQ arg3 ![0, 0, 128] inb_S1x512x512_S1x512x128_0_0_128 (harg3.unread x0)) (ldS arg7 ![1, 0, 0] inb_S4x512x128_S1x512x128_1_0_0 (arg7.view.writes (Elt Ideal) arg7.view.junk (d7_1 i arg3 harg3 arg4 harg4 arg7 x0 x1 M)))⟩ :: (d7_1 i arg3 harg3 arg4 harg4 arg7 x0 x1 M)
def d8_2 : Stores := ⟨Rect.unit ![1, 0, 0] S1x512x128.size inb_S4x512x128_S1x512x128_1_0_0, gL (ldK arg4 (k0_off10 i) (k0_off10_inb i) (harg4.unread x1)) (ldQ arg3 ![0, 0, 128] inb_S1x512x512_S1x512x128_0_0_128 (harg3.unread x0)) (ldS arg7 ![1, 0, 0] inb_S4x512x128_S1x512x128_1_0_0 (arg7.view.writes (Elt Ideal) arg7.view.junk (d7_1 i arg3 harg3 arg4 harg4 arg7 x0 x1 M))) (ldS arg8 ![1, 0, 0] inb_S4x512x128_S1x512x128_1_0_0 (arg8.view.writes (Elt Ideal) arg8.view.junk (d8_1 i arg3 harg3 arg4 harg4 arg7 arg8 x0 x1 M L)))⟩ :: (d8_1 i arg3 harg3 arg4 harg4 arg7 arg8 x0 x1 M L)
def d9_2 : Stores := ⟨Rect.unit ![1, 0, 0] S1x512x128.size inb_S4x512x128_S1x512x128_1_0_0, gA (ldK arg4 (k0_off10 i) (k0_off10_inb i) (harg4.unread x1)) (ldQ arg3 ![0, 0, 128] inb_S1x512x512_S1x512x128_0_0_128 (harg3.unread x0)) (ldK arg5 (k0_off10 i) (k0_off10_inb i) (harg5.unread x2)) (ldS arg7 ![1, 0, 0] inb_S4x512x128_S1x512x128_1_0_0 (arg7.view.writes (Elt Ideal) arg7.view.junk (d7_1 i arg3 harg3 arg4 harg4 arg7 x0 x1 M))) (ldS arg9 ![1, 0, 0] inb_S4x512x128_S1x512x128_1_0_0 (arg9.view.writes (Elt Ideal) arg9.view.junk (d9_1 i arg3 harg3 arg4 harg4 arg5 harg5 arg7 arg9 x0 x1 x2 M A)))⟩ :: (d9_1 i arg3 harg3 arg4 harg4 arg5 harg5 arg7 arg9 x0 x1 x2 M A)

/-- The stores after head 2's update on the diagonal block. -/
def d7_3 : Stores := ⟨Rect.unit ![2, 0, 0] S1x512x128.size inb_S4x512x128_S1x512x128_2_0_0, gM (ldK arg4 (k0_off11 i) (k0_off11_inb i) (harg4.unread x1)) (ldQ arg3 ![0, 0, 256] inb_S1x512x512_S1x512x128_0_0_256 (harg3.unread x0)) (ldS arg7 ![2, 0, 0] inb_S4x512x128_S1x512x128_2_0_0 (arg7.view.writes (Elt Ideal) arg7.view.junk (d7_2 i arg3 harg3 arg4 harg4 arg7 x0 x1 M)))⟩ :: (d7_2 i arg3 harg3 arg4 harg4 arg7 x0 x1 M)
def d8_3 : Stores := ⟨Rect.unit ![2, 0, 0] S1x512x128.size inb_S4x512x128_S1x512x128_2_0_0, gL (ldK arg4 (k0_off11 i) (k0_off11_inb i) (harg4.unread x1)) (ldQ arg3 ![0, 0, 256] inb_S1x512x512_S1x512x128_0_0_256 (harg3.unread x0)) (ldS arg7 ![2, 0, 0] inb_S4x512x128_S1x512x128_2_0_0 (arg7.view.writes (Elt Ideal) arg7.view.junk (d7_2 i arg3 harg3 arg4 harg4 arg7 x0 x1 M))) (ldS arg8 ![2, 0, 0] inb_S4x512x128_S1x512x128_2_0_0 (arg8.view.writes (Elt Ideal) arg8.view.junk (d8_2 i arg3 harg3 arg4 harg4 arg7 arg8 x0 x1 M L)))⟩ :: (d8_2 i arg3 harg3 arg4 harg4 arg7 arg8 x0 x1 M L)
def d9_3 : Stores := ⟨Rect.unit ![2, 0, 0] S1x512x128.size inb_S4x512x128_S1x512x128_2_0_0, gA (ldK arg4 (k0_off11 i) (k0_off11_inb i) (harg4.unread x1)) (ldQ arg3 ![0, 0, 256] inb_S1x512x512_S1x512x128_0_0_256 (harg3.unread x0)) (ldK arg5 (k0_off11 i) (k0_off11_inb i) (harg5.unread x2)) (ldS arg7 ![2, 0, 0] inb_S4x512x128_S1x512x128_2_0_0 (arg7.view.writes (Elt Ideal) arg7.view.junk (d7_2 i arg3 harg3 arg4 harg4 arg7 x0 x1 M))) (ldS arg9 ![2, 0, 0] inb_S4x512x128_S1x512x128_2_0_0 (arg9.view.writes (Elt Ideal) arg9.view.junk (d9_2 i arg3 harg3 arg4 harg4 arg5 harg5 arg7 arg9 x0 x1 x2 M A)))⟩ :: (d9_2 i arg3 harg3 arg4 harg4 arg5 harg5 arg7 arg9 x0 x1 x2 M A)

/-- The stores after head 3's update on the diagonal block. -/
def d7_4 : Stores := ⟨Rect.unit ![3, 0, 0] S1x512x128.size inb_S4x512x128_S1x512x128_3_0_0, gM (ldK arg4 (k0_off12 i) (k0_off12_inb i) (harg4.unread x1)) (ldQ arg3 ![0, 0, 384] inb_S1x512x512_S1x512x128_0_0_384 (harg3.unread x0)) (ldS arg7 ![3, 0, 0] inb_S4x512x128_S1x512x128_3_0_0 (arg7.view.writes (Elt Ideal) arg7.view.junk (d7_3 i arg3 harg3 arg4 harg4 arg7 x0 x1 M)))⟩ :: (d7_3 i arg3 harg3 arg4 harg4 arg7 x0 x1 M)
def d8_4 : Stores := ⟨Rect.unit ![3, 0, 0] S1x512x128.size inb_S4x512x128_S1x512x128_3_0_0, gL (ldK arg4 (k0_off12 i) (k0_off12_inb i) (harg4.unread x1)) (ldQ arg3 ![0, 0, 384] inb_S1x512x512_S1x512x128_0_0_384 (harg3.unread x0)) (ldS arg7 ![3, 0, 0] inb_S4x512x128_S1x512x128_3_0_0 (arg7.view.writes (Elt Ideal) arg7.view.junk (d7_3 i arg3 harg3 arg4 harg4 arg7 x0 x1 M))) (ldS arg8 ![3, 0, 0] inb_S4x512x128_S1x512x128_3_0_0 (arg8.view.writes (Elt Ideal) arg8.view.junk (d8_3 i arg3 harg3 arg4 harg4 arg7 arg8 x0 x1 M L)))⟩ :: (d8_3 i arg3 harg3 arg4 harg4 arg7 arg8 x0 x1 M L)
def d9_4 : Stores := ⟨Rect.unit ![3, 0, 0] S1x512x128.size inb_S4x512x128_S1x512x128_3_0_0, gA (ldK arg4 (k0_off12 i) (k0_off12_inb i) (harg4.unread x1)) (ldQ arg3 ![0, 0, 384] inb_S1x512x512_S1x512x128_0_0_384 (harg3.unread x0)) (ldK arg5 (k0_off12 i) (k0_off12_inb i) (harg5.unread x2)) (ldS arg7 ![3, 0, 0] inb_S4x512x128_S1x512x128_3_0_0 (arg7.view.writes (Elt Ideal) arg7.view.junk (d7_3 i arg3 harg3 arg4 harg4 arg7 x0 x1 M))) (ldS arg9 ![3, 0, 0] inb_S4x512x128_S1x512x128_3_0_0 (arg9.view.writes (Elt Ideal) arg9.view.junk (d9_3 i arg3 harg3 arg4 harg4 arg5 harg5 arg7 arg9 x0 x1 x2 M A)))⟩ :: (d9_3 i arg3 harg3 arg4 harg4 arg5 harg5 arg7 arg9 x0 x1 x2 M A)

/-- What a grid point stores into the block of the result: each head's weighted sum over its sum. -/
theorem run_out : (kernelRun0_A (F := Ideal) c i arg3 harg3 arg4 harg4 arg5 harg5 arg6 harg6 arg7 harg7 arg8 harg8 arg9 harg9 x0 x1 x2).1
    = [⟨Rect.unit ![0, 0, 384] S1x512x128.size inb_S1x512x512_S1x512x128_0_0_384, k0_pay128 (ldS arg9 ![3, 0, 0] inb_S4x512x128_S1x512x128_3_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![3, 0, 0] inb_S4x512x128_S1x512x128_3_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))⟩,
       ⟨Rect.unit ![0, 0, 256] S1x512x128.size inb_S1x512x512_S1x512x128_0_0_256, k0_pay128 (ldS arg9 ![2, 0, 0] inb_S4x512x128_S1x512x128_2_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![2, 0, 0] inb_S4x512x128_S1x512x128_2_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))⟩,
       ⟨Rect.unit ![0, 0, 128] S1x512x128.size inb_S1x512x512_S1x512x128_0_0_128, k0_pay128 (ldS arg9 ![1, 0, 0] inb_S4x512x128_S1x512x128_1_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![1, 0, 0] inb_S4x512x128_S1x512x128_1_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))⟩,
       ⟨Rect.unit ![0, 0, 0] S1x512x128.size inb_S1x512x512_S1x512x128_0_0_0, k0_pay128 (ldS arg9 ![0, 0, 0] inb_S4x512x128_S1x512x128_0_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![0, 0, 0] inb_S4x512x128_S1x512x128_0_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))⟩] := by
  unfold kernelRun0_A
  rfl

end Last

end Cert.KernelIdeal.Flash
-- ==== Proof.FlashValue.lean ====
module

public import proofs.«01_k».proof.Proof.FlashStep
public import proofs.«01_k».proof.Proof.FlashLast

@[expose] public section

set_option maxRecDepth 16384

noncomputable section

/- The block of the result a grid point computes: the loop keeps the online softmax of the keys gone by, the diagonal block ends
   it, and the quotient of the weighted sum by the sum is stored. -/
namespace Cert.KernelIdeal.Flash

open Idealize.ShloMosaic Idealize.ShloMosaic.TcCoe Cert.KernelIdeal Cert.KernelIdeal.Gen Cert.OnlineSoftmax

/-! ## The heads of a running buffer -/

section Slab

variable {S : Memref sig .tc .vmem S4x512x128 .f32} (f : BufTy.Contents (Elt Ideal) S.view.ty)

/-- A head's block of a running buffer's contents. -/
def slab (S : Memref sig .tc .vmem S4x512x128 .f32) (f : BufTy.Contents (Elt Ideal) S.view.ty) (hd : Fin 4) : Vec Ideal S1x512x128 .f32 :=
  fun y => S.view.read (Elt Ideal) f (ix3 hd (y 1) (y 2))

/-- An index of a one-head block begins with zero. -/
theorem eta_head (y : S1x512x128.Idx) : (ix3 0 (y 1) (y 2) : S1x512x128.Idx) = y :=
  funext (forall_axes ⟨Fin.ext (by have h0 : (y 0).val < 1 := (y 0).isLt; show 0 = (y 0).val; omega), rfl, rfl⟩)

theorem ldS_eq (off : Fin 3 → ℕ) (inb) (hd : Fin 4) (hoff : off = ![hd.val, 0, 0]) : ldS S off inb f = slab S f hd := by
  funext y
  exact (congrArg (ldS S off inb f) (eta_head y).symm).trans (ldS_apply f off inb hd hoff (y 1) (y 2))

theorem slab_same (off : Fin 3 → ℕ) (inb : ∀ a, off a + S1x512x128.size a ≤ S4x512x128.size a) (w : Vec Ideal S1x512x128 .f32) (L : Stores)
    (hd : Fin 4) (hoff : off = ![hd.val, 0, 0]) :
    slab S (S.view.writes (Elt Ideal) f (⟨Rect.unit (s := S4x512x128) off S1x512x128.size inb, w⟩ :: L)) hd = w := by
  funext y
  exact (read_same f off inb w L hd hoff (y 1) (y 2)).trans (congrArg w (eta_head y))

theorem slab_other (off : Fin 3 → ℕ) (inb : ∀ a, off a + S1x512x128.size a ≤ S4x512x128.size a) (w : Vec Ideal S1x512x128 .f32) (L : Stores)
    (hd hd' : Fin 4) (hoff : off = ![hd.val, 0, 0]) (hne : hd'.val ≠ hd.val) :
    slab S (S.view.writes (Elt Ideal) f (⟨Rect.unit (s := S4x512x128) off S1x512x128.size inb, w⟩ :: L)) hd'
      = slab S (S.view.writes (Elt Ideal) f L) hd' := by
  funext y
  exact read_other f off inb w L hd hd' hoff hne (y 1) (y 2)

variable (i0 : ∀ a, (![0, 0, 0] : Fin 3 → ℕ) a + S1x512x128.size a ≤ S4x512x128.size a)
  (i1 : ∀ a, (![1, 0, 0] : Fin 3 → ℕ) a + S1x512x128.size a ≤ S4x512x128.size a)
  (i2 : ∀ a, (![2, 0, 0] : Fin 3 → ℕ) a + S1x512x128.size a ≤ S4x512x128.size a)
  (i3 : ∀ a, (![3, 0, 0] : Fin 3 → ℕ) a + S1x512x128.size a ≤ S4x512x128.size a)
  (w0 w1 w2 w3 : Vec Ideal S1x512x128 .f32) (L : Stores)

/-- The four heads' stores, in order, over any earlier ones. -/
def four : Stores :=
  ⟨Rect.unit (s := S4x512x128) ![3, 0, 0] S1x512x128.size i3, w3⟩ :: ⟨Rect.unit (s := S4x512x128) ![2, 0, 0] S1x512x128.size i2, w2⟩
    :: ⟨Rect.unit (s := S4x512x128) ![1, 0, 0] S1x512x128.size i1, w1⟩ :: ⟨Rect.unit (s := S4x512x128) ![0, 0, 0] S1x512x128.size i0, w0⟩ :: L

/-- After them each head holds its own store. -/
theorem slab_four :
    slab S (S.view.writes (Elt Ideal) f (four i0 i1 i2 i3 w0 w1 w2 w3 L)) 0 = w0
    ∧ slab S (S.view.writes (Elt Ideal) f (four i0 i1 i2 i3 w0 w1 w2 w3 L)) 1 = w1
    ∧ slab S (S.view.writes (Elt Ideal) f (four i0 i1 i2 i3 w0 w1 w2 w3 L)) 2 = w2
    ∧ slab S (S.view.writes (Elt Ideal) f (four i0 i1 i2 i3 w0 w1 w2 w3 L)) 3 = w3 := by
  unfold four
  refine ⟨?_, ?_, ?_, ?_⟩
  · exact (slab_other f _ i3 w3 _ 3 0 rfl (by decide)).trans ((slab_other f _ i2 w2 _ 2 0 rfl (by decide)).trans
      ((slab_other f _ i1 w1 _ 1 0 rfl (by decide)).trans (slab_same f _ i0 w0 _ 0 rfl)))
  · exact (slab_other f _ i3 w3 _ 3 1 rfl (by decide)).trans ((slab_other f _ i2 w2 _ 2 1 rfl (by decide)).trans (slab_same f _ i1 w1 _ 1 rfl))
  · exact (slab_other f _ i3 w3 _ 3 2 rfl (by decide)).trans (slab_same f _ i2 w2 _ 2 rfl)
  · exact slab_same f _ i3 w3 _ 3 rfl

end Slab

/-! ## Scores and values by natural numbers -/

/-- The score of query row `r` of a block against key `n`, for head `hd`. -/
def raw (x0 : Vec Ideal S1x512x512 .bf16) (x1 : Vec Ideal S1x4096x512 .bf16) (hd r n : ℕ) : EReal :=
  ∑ d : Fin 128, at3 (a := 512) (b := 512) x0 r (128 * hd + d) * at3 (a := 4096) (b := 512) x1 n (128 * hd + d)

/-- The causal score: a key after the query's row (row `r` of block `qi`) is masked. -/
def sc (x0 : Vec Ideal S1x512x512 .bf16) (x1 : Vec Ideal S1x4096x512 .bf16) (qi hd r n : ℕ) : EReal :=
  if n ≤ 512 * qi + r then raw x0 x1 hd r n else ⊥

/-- Element `d` of key `n`'s value, for head `hd`. -/
def vl (x2 : Vec Ideal S1x4096x512 .bf16) (hd d n : ℕ) : EReal := at3 (a := 4096) (b := 512) x2 n (128 * hd + d)

section Blocks

variable {M : Memref sig .tc .vmem S1x4096x512 .bf16} {Q : Memref sig .tc .vmem S1x512x512 .bf16} (hM' : M.IsWhole) (hQ : Q.IsWhole)
  (x0 : Vec Ideal S1x512x512 .bf16) (x1 : Vec Ideal S1x4096x512 .bf16) (off off' : Fin 3 → ℕ) (inb) (inb') (hd p : ℕ)
  (hoff : off = ![0, p, 128 * hd]) (hoff' : off' = ![0, 0, 128 * hd])
include hoff hoff'

theorem score_blocks (r κ : Fin 512) :
    score (ldK M off inb (hM'.unread x1)) (ldQ Q off' inb' (hQ.unread x0)) r κ = raw x0 x1 hd r (p + κ) := by
  unfold score raw
  refine Finset.sum_congr rfl fun d _ => ?_
  rw [ldQ_apply hQ x0 off' inb' _ hoff', ldK_apply hM' x1 off inb _ _ hoff]

/-- Before the diagonal no score is masked. -/
theorem score_plain (qi k : ℕ) (hp : p = 512 * k) (hk : k < qi) (r κ : Fin 512) :
    score (ldK M off inb (hM'.unread x1)) (ldQ Q off' inb' (hQ.unread x0)) r κ = sc x0 x1 qi hd r (512 * k + κ) := by
  rw [score_blocks hM' hQ x0 x1 off off' inb inb' hd p hoff hoff', hp]
  unfold sc
  rw [if_pos (by omega)]

/-- On the diagonal the mask is the causal one. -/
theorem score_masked (qi : ℕ) (hp : p = 512 * qi) (r κ : Fin 512) :
    mscore (ldK M off inb (hM'.unread x1)) (ldQ Q off' inb' (hQ.unread x0)) r κ = sc x0 x1 qi hd r (512 * qi + κ) := by
  unfold mscore sc
  rw [score_blocks hM' hQ x0 x1 off off' inb inb' hd p hoff hoff', hp]
  by_cases h : κ.val ≤ r.val
  · rw [if_pos h, if_pos (by omega)]
  · rw [if_neg h, if_neg (by omega)]

end Blocks

theorem trips1_eq : ∀ i : grid0.Coords, (k0_t1_loop i).trips = (i 2).val := by decide +kernel
theorem trips2_eq : ∀ i : grid0.Coords, (k0_t2_loop i).trips = 0 := by decide +kernel

section Value

variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x512x512 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
  (x0 : Vec Ideal S1x512x512 .bf16) (x1 : Vec Ideal S1x4096x512 .bf16) (x2 : Vec Ideal S1x4096x512 .bf16)

/-- The running buffers hold each head's online softmax of the first `n` keys. -/
def State (i : grid0.Coords) (arg7 arg8 arg9 : Memref sig .tc .vmem S4x512x128 .f32) (x0 : Vec Ideal S1x512x512 .bf16) (x1 x2 : Vec Ideal S1x4096x512 .bf16) (n : ℕ)
    (f7 : BufTy.Contents (Elt Ideal) arg7.view.ty) (f8 : BufTy.Contents (Elt Ideal) arg8.view.ty) (f9 : BufTy.Contents (Elt Ideal) arg9.view.ty) : Prop :=
  ∀ hd : Fin 4, Run (sc x0 x1 (i 2).val hd) (vl x2 hd) n (slab arg7 f7 hd) (slab arg8 f8 hd) (slab arg9 f9 hd)

/-- A trip takes the state from its block's first key to the next block's. -/
theorem trip_state (𝒱 : Variants) (bd : Option 𝒱.V) (k : Fin (k0_t1_loop i).trips)
    (f7 : BufTy.Contents (Elt Ideal) arg7.view.ty) (f8 : BufTy.Contents (Elt Ideal) arg8.view.ty) (f9 : BufTy.Contents (Elt Ideal) arg9.view.ty)
    (h : State i arg7 arg8 arg9 x0 x1 x2 (512 * k.val) f7 f8 f9) :
    State i arg7 arg8 arg9 x0 x1 x2 (512 * k.val + 512)
      (arg7.view.writes (Elt Ideal) f7 ((trip_k0_t1 (F := Ideal) 𝒱 c bd i arg3 harg3 arg4 harg4 arg5 harg5 arg6 harg6 arg7 harg7 arg8 harg8 arg9 harg9 (harg3.unread x0) (harg4.unread x1) (harg5.unread x2) k).1 f7 f8 f9))
      (arg8.view.writes (Elt Ideal) f8 ((trip_k0_t1 (F := Ideal) 𝒱 c bd i arg3 harg3 arg4 harg4 arg5 harg5 arg6 harg6 arg7 harg7 arg8 harg8 arg9 harg9 (harg3.unread x0) (harg4.unread x1) (harg5.unread x2) k).2.1 f7 f8 f9))
      (arg9.view.writes (Elt Ideal) f9 ((trip_k0_t1 (F := Ideal) 𝒱 c bd i arg3 harg3 arg4 harg4 arg5 harg5 arg6 harg6 arg7 harg7 arg8 harg8 arg9 harg9 (harg3.unread x0) (harg4.unread x1) (harg5.unread x2) k).2.2.1 f7 f8 f9)) := by
  have hk : k.val < (i 2).val := lt_of_lt_of_eq k.isLt (trips1_eq i)
  rw [trip_m, trip_l, trip_a]
  obtain ⟨m0, m1, m2, m3⟩ := slab_four (S := arg7) f7 _ _ _ _
    _ _ _ _ []
  obtain ⟨l0, l1, l2, l3⟩ := slab_four (S := arg8) f8 _ _ _ _
    _ _ _ _ []
  obtain ⟨a0, a1, a2, a3⟩ := slab_four (S := arg9) f9 _ _ _ _
    _ _ _ _ []
  intro hd
  match hd with
  | ⟨0, _⟩ =>
    have g := h 0
    rw [← ldS_eq f7 ![0, 0, 0] inb_S4x512x128_S1x512x128_0_0_0 0 rfl, ← ldS_eq f8 ![0, 0, 0] inb_S4x512x128_S1x512x128_0_0_0 0 rfl, ← ldS_eq f9 ![0, 0, 0] inb_S4x512x128_S1x512x128_0_0_0 0 rfl] at g
    have g' := Run.plain g
      (score_plain harg4 harg3 x0 x1 (k0_off1 i k) ![0, 0, 0] (k0_off1_inb i k) inb_S1x512x512_S1x512x128_0_0_0 0 _ (k0_off1_eq i k) rfl (i 2).val k.val rfl hk)
      (fun κ d => ldK_apply harg5 x2 (k0_off1 i k) (k0_off1_inb i k) _ _ (k0_off1_eq i k) κ d)
    exact cast (congr (congr (congrArg (Run _ _ _) m0.symm) l0.symm) a0.symm) g'
  | ⟨1, _⟩ =>
    have g := h 1
    rw [← ldS_eq f7 ![1, 0, 0] inb_S4x512x128_S1x512x128_1_0_0 1 rfl, ← ldS_eq f8 ![1, 0, 0] inb_S4x512x128_S1x512x128_1_0_0 1 rfl, ← ldS_eq f9 ![1, 0, 0] inb_S4x512x128_S1x512x128_1_0_0 1 rfl] at g
    have g' := Run.plain g
      (score_plain harg4 harg3 x0 x1 (k0_off2 i k) ![0, 0, 128] (k0_off2_inb i k) inb_S1x512x512_S1x512x128_0_0_128 1 _ (k0_off2_eq i k) rfl (i 2).val k.val rfl hk)
      (fun κ d => ldK_apply harg5 x2 (k0_off2 i k) (k0_off2_inb i k) _ _ (k0_off2_eq i k) κ d)
    exact cast (congr (congr (congrArg (Run _ _ _) m1.symm) l1.symm) a1.symm) g'
  | ⟨2, _⟩ =>
    have g := h 2
    rw [← ldS_eq f7 ![2, 0, 0] inb_S4x512x128_S1x512x128_2_0_0 2 rfl, ← ldS_eq f8 ![2, 0, 0] inb_S4x512x128_S1x512x128_2_0_0 2 rfl, ← ldS_eq f9 ![2, 0, 0] inb_S4x512x128_S1x512x128_2_0_0 2 rfl] at g
    have g' := Run.plain g
      (score_plain harg4 harg3 x0 x1 (k0_off3 i k) ![0, 0, 256] (k0_off3_inb i k) inb_S1x512x512_S1x512x128_0_0_256 2 _ (k0_off3_eq i k) rfl (i 2).val k.val rfl hk)
      (fun κ d => ldK_apply harg5 x2 (k0_off3 i k) (k0_off3_inb i k) _ _ (k0_off3_eq i k) κ d)
    exact cast (congr (congr (congrArg (Run _ _ _) m2.symm) l2.symm) a2.symm) g'
  | ⟨3, _⟩ =>
    have g := h 3
    rw [← ldS_eq f7 ![3, 0, 0] inb_S4x512x128_S1x512x128_3_0_0 3 rfl, ← ldS_eq f8 ![3, 0, 0] inb_S4x512x128_S1x512x128_3_0_0 3 rfl, ← ldS_eq f9 ![3, 0, 0] inb_S4x512x128_S1x512x128_3_0_0 3 rfl] at g
    have g' := Run.plain g
      (score_plain harg4 harg3 x0 x1 (k0_off4 i k) ![0, 0, 384] (k0_off4_inb i k) inb_S1x512x512_S1x512x128_0_0_384 3 _ (k0_off4_eq i k) rfl (i 2).val k.val rfl hk)
      (fun κ d => ldK_apply harg5 x2 (k0_off4 i k) (k0_off4_inb i k) _ _ (k0_off4_eq i k) κ d)
    exact cast (congr (congr (congrArg (Run _ _ _) m3.symm) l3.symm) a3.symm) g'

/-- Before the loop no key has gone by. -/
theorem fill_state : State i arg7 arg8 arg9 x0 x1 x2 0 (arg7.view.writes (Elt Ideal) arg7.view.junk fill7)
    (arg8.view.writes (Elt Ideal) arg8.view.junk fill8) (arg9.view.writes (Elt Ideal) arg9.view.junk fill9) := fun hd => {
  m := fun r l => ((read_fill _ _ _ _ rfl _).trans (pay85_apply _)).trans (top_zero _).symm
  l := fun r l => ((read_fill _ _ _ _ rfl _).trans (pay86_apply _)).trans (mass_zero _).symm
  a := fun r l => ((read_fill _ _ _ _ rfl _).trans (pay87_apply _)).trans (mix_zero _ _).symm }

/-- After `k` trips the first `512 k` keys have gone by. -/
theorem loop_state (k : ℕ) (hk : k ≤ (k0_t1_loop i).trips) : State i arg7 arg8 arg9 x0 x1 x2 (512 * k)
    (arg7.view.writes (Elt Ideal) (arg7.view.writes (Elt Ideal) arg7.view.junk fill7) (trips1 c i arg3 harg3 arg4 harg4 arg5 harg5 arg6 harg6 arg7 harg7 arg8 harg8 arg9 harg9 x0 x1 x2 k).1)
    (arg8.view.writes (Elt Ideal) (arg8.view.writes (Elt Ideal) arg8.view.junk fill8) (trips1 c i arg3 harg3 arg4 harg4 arg5 harg5 arg6 harg6 arg7 harg7 arg8 harg8 arg9 harg9 x0 x1 x2 k).2.1)
    (arg9.view.writes (Elt Ideal) (arg9.view.writes (Elt Ideal) arg9.view.junk fill9) (trips1 c i arg3 harg3 arg4 harg4 arg5 harg5 arg6 harg6 arg7 harg7 arg8 harg8 arg9 harg9 x0 x1 x2 k).2.2) := by
  induction k with
  | zero => exact fill_state i arg7 arg8 arg9 x0 x1 x2
  | succ k ih =>
    have e : trips1 c i arg3 harg3 arg4 harg4 arg5 harg5 arg6 harg6 arg7 harg7 arg8 harg8 arg9 harg9 x0 x1 x2 (k + 1) = _ :=
      pb_k0_t1_succ (F := Ideal) Variants.none c none i arg3 harg3 arg4 harg4 arg5 harg5 arg6 harg6 arg7 harg7 arg8 harg8 arg9 harg9 (harg3.unread x0) (harg4.unread x1) (harg5.unread x2) _ _ _ ⟨k, hk⟩
    rw [e, View.writes_append, View.writes_append, View.writes_append]
    exact trip_state c i arg3 harg3 arg4 harg4 arg5 harg5 arg6 harg6 arg7 harg7 arg8 harg8 arg9 harg9 x0 x1 x2 Variants.none none ⟨k, hk⟩ _ _ _ (ih (Nat.le_of_succ_le hk))

/-- The contents of the running buffers before the diagonal block. -/
theorem base_state : State i arg7 arg8 arg9 x0 x1 x2 (512 * (i 2).val)
    (arg7.view.writes (Elt Ideal) arg7.view.junk (base7 c i arg3 harg3 arg4 harg4 arg5 harg5 arg6 harg6 arg7 harg7 arg8 harg8 arg9 harg9 x0 x1 x2))
    (arg8.view.writes (Elt Ideal) arg8.view.junk (base8 c i arg3 harg3 arg4 harg4 arg5 harg5 arg6 harg6 arg7 harg7 arg8 harg8 arg9 harg9 x0 x1 x2))
    (arg9.view.writes (Elt Ideal) arg9.view.junk (base9 c i arg3 harg3 arg4 harg4 arg5 harg5 arg6 harg6 arg7 harg7 arg8 harg8 arg9 harg9 x0 x1 x2)) := by
  have h := loop_state c i arg3 harg3 arg4 harg4 arg5 harg5 arg6 harg6 arg7 harg7 arg8 harg8 arg9 harg9 x0 x1 x2 _ (le_refl _)
  rw [← View.writes_append, ← View.writes_append, ← View.writes_append] at h
  have e : trips2 c i arg3 harg3 arg4 harg4 arg5 harg5 arg6 harg6 arg7 harg7 arg8 harg8 arg9 harg9 x0 x1 x2 = ([], [], []) := by
    unfold trips2
    rw [trips2_eq]
    rfl
  unfold base7 base8 base9
  rw [e]
  rw [trips1_eq] at h ⊢
  exact h

/-- The contents of the running buffers after the diagonal block: every key up to it has gone by. -/
theorem last_state (M L A : Stores)
    (h : State i arg7 arg8 arg9 x0 x1 x2 (512 * (i 2).val) (arg7.view.writes (Elt Ideal) arg7.view.junk M)
      (arg8.view.writes (Elt Ideal) arg8.view.junk L) (arg9.view.writes (Elt Ideal) arg9.view.junk A)) :
    State i arg7 arg8 arg9 x0 x1 x2 (512 * (i 2).val + 512)
      (arg7.view.writes (Elt Ideal) arg7.view.junk (d7_4 i arg3 harg3 arg4 harg4 arg7 x0 x1 M))
      (arg8.view.writes (Elt Ideal) arg8.view.junk (d8_4 i arg3 harg3 arg4 harg4 arg7 arg8 x0 x1 M L))
      (arg9.view.writes (Elt Ideal) arg9.view.junk (d9_4 i arg3 harg3 arg4 harg4 arg5 harg5 arg7 arg9 x0 x1 x2 M A)) := by
  have q7_0 : ldS arg7 ![0, 0, 0] inb_S4x512x128_S1x512x128_0_0_0 (arg7.view.writes (Elt Ideal) arg7.view.junk M) = slab arg7 (arg7.view.writes (Elt Ideal) arg7.view.junk M) 0 :=
    ldS_eq _ ![0, 0, 0] inb_S4x512x128_S1x512x128_0_0_0 0 rfl
  have q7_1 : ldS arg7 ![1, 0, 0] inb_S4x512x128_S1x512x128_1_0_0 (arg7.view.writes (Elt Ideal) arg7.view.junk (d7_1 i arg3 harg3 arg4 harg4 arg7 x0 x1 M)) = slab arg7 (arg7.view.writes (Elt Ideal) arg7.view.junk M) 1 :=
    (ldS_eq _ ![1, 0, 0] inb_S4x512x128_S1x512x128_1_0_0 1 rfl).trans (slab_other _ _ inb_S4x512x128_S1x512x128_0_0_0 _ _ 0 1 rfl (by decide))
  have q7_2 : ldS arg7 ![2, 0, 0] inb_S4x512x128_S1x512x128_2_0_0 (arg7.view.writes (Elt Ideal) arg7.view.junk (d7_2 i arg3 harg3 arg4 harg4 arg7 x0 x1 M)) = slab arg7 (arg7.view.writes (Elt Ideal) arg7.view.junk M) 2 :=
    ((ldS_eq _ ![2, 0, 0] inb_S4x512x128_S1x512x128_2_0_0 2 rfl).trans (slab_other _ _ inb_S4x512x128_S1x512x128_1_0_0 _ _ 1 2 rfl (by decide))).trans (slab_other _ _ inb_S4x512x128_S1x512x128_0_0_0 _ _ 0 2 rfl (by decide))
  have q7_3 : ldS arg7 ![3, 0, 0] inb_S4x512x128_S1x512x128_3_0_0 (arg7.view.writes (Elt Ideal) arg7.view.junk (d7_3 i arg3 harg3 arg4 harg4 arg7 x0 x1 M)) = slab arg7 (arg7.view.writes (Elt Ideal) arg7.view.junk M) 3 :=
    (((ldS_eq _ ![3, 0, 0] inb_S4x512x128_S1x512x128_3_0_0 3 rfl).trans (slab_other _ _ inb_S4x512x128_S1x512x128_2_0_0 _ _ 2 3 rfl (by decide))).trans (slab_other _ _ inb_S4x512x128_S1x512x128_1_0_0 _ _ 1 3 rfl (by decide))).trans (slab_other _ _ inb_S4x512x128_S1x512x128_0_0_0 _ _ 0 3 rfl (by decide))
  have q8_0 : ldS arg8 ![0, 0, 0] inb_S4x512x128_S1x512x128_0_0_0 (arg8.view.writes (Elt Ideal) arg8.view.junk L) = slab arg8 (arg8.view.writes (Elt Ideal) arg8.view.junk L) 0 :=
    ldS_eq _ ![0, 0, 0] inb_S4x512x128_S1x512x128_0_0_0 0 rfl
  have q8_1 : ldS arg8 ![1, 0, 0] inb_S4x512x128_S1x512x128_1_0_0 (arg8.view.writes (Elt Ideal) arg8.view.junk (d8_1 i arg3 harg3 arg4 harg4 arg7 arg8 x0 x1 M L)) = slab arg8 (arg8.view.writes (Elt Ideal) arg8.view.junk L) 1 :=
    (ldS_eq _ ![1, 0, 0] inb_S4x512x128_S1x512x128_1_0_0 1 rfl).trans (slab_other _ _ inb_S4x512x128_S1x512x128_0_0_0 _ _ 0 1 rfl (by decide))
  have q8_2 : ldS arg8 ![2, 0, 0] inb_S4x512x128_S1x512x128_2_0_0 (arg8.view.writes (Elt Ideal) arg8.view.junk (d8_2 i arg3 harg3 arg4 harg4 arg7 arg8 x0 x1 M L)) = slab arg8 (arg8.view.writes (Elt Ideal) arg8.view.junk L) 2 :=
    ((ldS_eq _ ![2, 0, 0] inb_S4x512x128_S1x512x128_2_0_0 2 rfl).trans (slab_other _ _ inb_S4x512x128_S1x512x128_1_0_0 _ _ 1 2 rfl (by decide))).trans (slab_other _ _ inb_S4x512x128_S1x512x128_0_0_0 _ _ 0 2 rfl (by decide))
  have q8_3 : ldS arg8 ![3, 0, 0] inb_S4x512x128_S1x512x128_3_0_0 (arg8.view.writes (Elt Ideal) arg8.view.junk (d8_3 i arg3 harg3 arg4 harg4 arg7 arg8 x0 x1 M L)) = slab arg8 (arg8.view.writes (Elt Ideal) arg8.view.junk L) 3 :=
    (((ldS_eq _ ![3, 0, 0] inb_S4x512x128_S1x512x128_3_0_0 3 rfl).trans (slab_other _ _ inb_S4x512x128_S1x512x128_2_0_0 _ _ 2 3 rfl (by decide))).trans (slab_other _ _ inb_S4x512x128_S1x512x128_1_0_0 _ _ 1 3 rfl (by decide))).trans (slab_other _ _ inb_S4x512x128_S1x512x128_0_0_0 _ _ 0 3 rfl (by decide))
  have q9_0 : ldS arg9 ![0, 0, 0] inb_S4x512x128_S1x512x128_0_0_0 (arg9.view.writes (Elt Ideal) arg9.view.junk A) = slab arg9 (arg9.view.writes (Elt Ideal) arg9.view.junk A) 0 :=
    ldS_eq _ ![0, 0, 0] inb_S4x512x128_S1x512x128_0_0_0 0 rfl
  have q9_1 : ldS arg9 ![1, 0, 0] inb_S4x512x128_S1x512x128_1_0_0 (arg9.view.writes (Elt Ideal) arg9.view.junk (d9_1 i arg3 harg3 arg4 harg4 arg5 harg5 arg7 arg9 x0 x1 x2 M A)) = slab arg9 (arg9.view.writes (Elt Ideal) arg9.view.junk A) 1 :=
    (ldS_eq _ ![1, 0, 0] inb_S4x512x128_S1x512x128_1_0_0 1 rfl).trans (slab_other _ _ inb_S4x512x128_S1x512x128_0_0_0 _ _ 0 1 rfl (by decide))
  have q9_2 : ldS arg9 ![2, 0, 0] inb_S4x512x128_S1x512x128_2_0_0 (arg9.view.writes (Elt Ideal) arg9.view.junk (d9_2 i arg3 harg3 arg4 harg4 arg5 harg5 arg7 arg9 x0 x1 x2 M A)) = slab arg9 (arg9.view.writes (Elt Ideal) arg9.view.junk A) 2 :=
    ((ldS_eq _ ![2, 0, 0] inb_S4x512x128_S1x512x128_2_0_0 2 rfl).trans (slab_other _ _ inb_S4x512x128_S1x512x128_1_0_0 _ _ 1 2 rfl (by decide))).trans (slab_other _ _ inb_S4x512x128_S1x512x128_0_0_0 _ _ 0 2 rfl (by decide))
  have q9_3 : ldS arg9 ![3, 0, 0] inb_S4x512x128_S1x512x128_3_0_0 (arg9.view.writes (Elt Ideal) arg9.view.junk (d9_3 i arg3 harg3 arg4 harg4 arg5 harg5 arg7 arg9 x0 x1 x2 M A)) = slab arg9 (arg9.view.writes (Elt Ideal) arg9.view.junk A) 3 :=
    (((ldS_eq _ ![3, 0, 0] inb_S4x512x128_S1x512x128_3_0_0 3 rfl).trans (slab_other _ _ inb_S4x512x128_S1x512x128_2_0_0 _ _ 2 3 rfl (by decide))).trans (slab_other _ _ inb_S4x512x128_S1x512x128_1_0_0 _ _ 1 3 rfl (by decide))).trans (slab_other _ _ inb_S4x512x128_S1x512x128_0_0_0 _ _ 0 3 rfl (by decide))
  obtain ⟨m0, m1, m2, m3⟩ := slab_four (S := arg7) arg7.view.junk _ _ _ _ _ _ _ _ M
  obtain ⟨l0, l1, l2, l3⟩ := slab_four (S := arg8) arg8.view.junk _ _ _ _ _ _ _ _ L
  obtain ⟨a0, a1, a2, a3⟩ := slab_four (S := arg9) arg9.view.junk _ _ _ _ _ _ _ _ A
  intro hd
  match hd with
  | ⟨0, _⟩ =>
    have g := h 0
    have g' := Run.masked g
      (score_masked harg4 harg3 x0 x1 (k0_off9 i) ![0, 0, 0] (k0_off9_inb i) inb_S1x512x512_S1x512x128_0_0_0 0 _ (k0_off9_eq i) rfl (i 2).val rfl)
      (fun κ d => ldK_apply harg5 x2 (k0_off9 i) (k0_off9_inb i) _ _ (k0_off9_eq i) κ d)
    rw [← q7_0, ← q8_0, ← q9_0] at g'
    exact cast (congr (congr (congrArg (Run _ _ _) m0.symm) l0.symm) a0.symm) g'
  | ⟨1, _⟩ =>
    have g := h 1
    have g' := Run.masked g
      (score_masked harg4 harg3 x0 x1 (k0_off10 i) ![0, 0, 128] (k0_off10_inb i) inb_S1x512x512_S1x512x128_0_0_128 1 _ (k0_off10_eq i) rfl (i 2).val rfl)
      (fun κ d => ldK_apply harg5 x2 (k0_off10 i) (k0_off10_inb i) _ _ (k0_off10_eq i) κ d)
    rw [← q7_1, ← q8_1, ← q9_1] at g'
    exact cast (congr (congr (congrArg (Run _ _ _) m1.symm) l1.symm) a1.symm) g'
  | ⟨2, _⟩ =>
    have g := h 2
    have g' := Run.masked g
      (score_masked harg4 harg3 x0 x1 (k0_off11 i) ![0, 0, 256] (k0_off11_inb i) inb_S1x512x512_S1x512x128_0_0_256 2 _ (k0_off11_eq i) rfl (i 2).val rfl)
      (fun κ d => ldK_apply harg5 x2 (k0_off11 i) (k0_off11_inb i) _ _ (k0_off11_eq i) κ d)
    rw [← q7_2, ← q8_2, ← q9_2] at g'
    exact cast (congr (congr (congrArg (Run _ _ _) m2.symm) l2.symm) a2.symm) g'
  | ⟨3, _⟩ =>
    have g := h 3
    have g' := Run.masked g
      (score_masked harg4 harg3 x0 x1 (k0_off12 i) ![0, 0, 384] (k0_off12_inb i) inb_S1x512x512_S1x512x128_0_0_384 3 _ (k0_off12_eq i) rfl (i 2).val rfl)
      (fun κ d => ldK_apply harg5 x2 (k0_off12 i) (k0_off12_inb i) _ _ (k0_off12_eq i) κ d)
    rw [← q7_3, ← q8_3, ← q9_3] at g'
    exact cast (congr (congr (congrArg (Run _ _ _) m3.symm) l3.symm) a3.symm) g'

end Value

end Cert.KernelIdeal.Flash
-- ==== Proof.FlashSpec.lean ====
module

public import proofs.«01_k».proof.Proof.FlashMath
public import Idealize.ShloMosaic.Lib.Pointwise

@[expose] public section

noncomputable section

/- The causal attention of three arrays, as one formula: what both programs are shown to compute. -/
namespace Cert.OnlineSoftmax

open Idealize.ShloMosaic

/-- An array of queries, keys or values: 4 sequences of 4096 rows, 16 heads of 128 in the columns. -/
abbrev Arr : Type := (⟨3, ![4, 4096, 2048]⟩ : Shape).Idx → EReal

/-- An element of an array, by natural-number coordinates. -/
def g3 (x : Arr) (b p q : ℕ) : EReal :=
  if h : b < 4 ∧ p < 4096 ∧ q < 2048 then x (ix3 ⟨b, h.1⟩ ⟨p, h.2.1⟩ ⟨q, h.2.2⟩) else 0

theorem g3_eq (x : Arr) (y : (⟨3, ![4, 4096, 2048]⟩ : Shape).Idx) (b p q : ℕ) (hb : (y 0).val = b) (hp : (y 1).val = p) (hq : (y 2).val = q) :
    x y = g3 x b p q := by
  have h0 : (y 0).val < 4 := (y 0).isLt
  have h1 : (y 1).val < 4096 := (y 1).isLt
  have h2 : (y 2).val < 2048 := (y 2).isLt
  unfold g3
  rw [dif_pos (by omega)]
  congr 1
  funext j
  match j with
  | ⟨0, _⟩ => exact Fin.ext hb
  | ⟨1, _⟩ => exact Fin.ext hp
  | ⟨2, _⟩ => exact Fin.ext hq

/-- Every element of an array is a real number. -/
def AllReal (x : Arr) : Prop := ∀ y, ∃ r : ℝ, x y = r

theorem g3_real (x : Arr) (h : AllReal x) (b p q : ℕ) : ∃ r : ℝ, g3 x b p q = r := by
  unfold g3
  split
  · exact h _
  · exact ⟨0, EReal.coe_zero.symm⟩

/-- The causal score of query row `R` against key `n`, in sequence `b` and head `h`: the product of the two rows, a later key
    masked. -/
def causal (q k : Arr) (b h R n : ℕ) : EReal :=
  if n ≤ R then ∑ d : Fin 128, g3 q b R (128 * h + d) * g3 k b n (128 * h + d) else ⊥

theorem causal_bot (q k : Arr) (b h R n : ℕ) (hn : R < n) : causal q k b h R n = ⊥ := if_neg (by omega)

theorem causal_real (q k : Arr) (hq : AllReal q) (hk : AllReal k) (b h R n : ℕ) (hn : n ≤ R) :
    ∃ x : ℝ, causal q k b h R n = x := by
  unfold causal
  rw [if_pos hn]
  refine Finset.sum_induction _ (fun x : EReal => ∃ r : ℝ, x = r) ?_ ⟨0, EReal.coe_zero.symm⟩ fun d _ => ?_
  · rintro _ _ ⟨x, rfl⟩ ⟨y, rfl⟩
    exact ⟨x + y, (EReal.coe_add x y).symm⟩
  · obtain ⟨x, hx⟩ := g3_real q hq b R (128 * h + d)
    obtain ⟨y, hy⟩ := g3_real k hk b n (128 * h + d)
    exact ⟨x * y, by rw [hx, hy, EReal.coe_mul]⟩

/-- The softmax of a row of scores (scaled by log 2), times a column of values. -/
def attendRow (s v : ℕ → EReal) : EReal :=
  ∑ c : Fin 4096, v c * Ideal.div (Ideal.exp (s c * ln2 - Finset.univ.sup fun c' : Fin 4096 => s c' * ln2))
    (∑ c' : Fin 4096, Ideal.exp (s c' * ln2 - Finset.univ.sup fun c'' : Fin 4096 => s c'' * ln2))

/-- The causal attention of three arrays. -/
def attend (q k v : Arr) : Arr := fun z =>
  attendRow (causal q k (z 0).val ((z 2).val / 128) (z 1).val) (fun n => g3 v (z 0).val n (z 2).val)

end Cert.OnlineSoftmax
-- ==== Proof.FlashOut.lean ====
module

public import proofs.«01_k».proof.Proof.FlashValue
public import proofs.«01_k».proof.Proof.FlashSpec
public import proofs.«01_k».proof.Proof.Gen.KernelIdeal.Value
public import Idealize.ShloMosaic.Lib.Pipeline.ValueKit

@[expose] public section

set_option maxRecDepth 16384

noncomputable section

/- The kernel's result array, element by element: the softmax of the element's row of causal scores, times its column of values. -/
namespace Cert.KernelIdeal.Flash

open Idealize.ShloMosaic Idealize.ShloMosaic.TcCoe Idealize.SL.Sem Cert.KernelIdeal Cert.KernelIdeal.Gen Cert.OnlineSoftmax
open Idealize.ShloMosaic.Pipeline (Dat)

/-! ## The four heads' blocks of the result -/

section Four

variable {κ : Kind} {sp : Space} (v : View sig κ sp S1x512x512 .bf16) (f : v.ty.Contents (Elt Ideal))
  (i0 : ∀ a, (![0, 0, 0] : Fin 3 → ℕ) a + S1x512x128.size a ≤ S1x512x512.size a)
  (i1 : ∀ a, (![0, 0, 128] : Fin 3 → ℕ) a + S1x512x128.size a ≤ S1x512x512.size a)
  (i2 : ∀ a, (![0, 0, 256] : Fin 3 → ℕ) a + S1x512x128.size a ≤ S1x512x512.size a)
  (i3 : ∀ a, (![0, 0, 384] : Fin 3 → ℕ) a + S1x512x128.size a ≤ S1x512x512.size a)
  (w : Fin 4 → Vec Ideal S1x512x128 .bf16)

theorem out_same (off : Fin 3 → ℕ) (inb : ∀ a, off a + S1x512x128.size a ≤ S1x512x512.size a) (u : Vec Ideal S1x512x128 .bf16)
    (L : List (View.Piece (Elt Ideal) S1x512x512 .bf16)) (hd : ℕ) (hoff : off = ![0, 0, 128 * hd]) (y : S1x512x512.Idx) (d : Fin 128)
    (hy : (y 2).val = 128 * hd + d.val) :
    v.read (Elt Ideal) (v.writes (Elt Ideal) f (⟨Rect.unit (s := S1x512x512) off S1x512x128.size inb, u⟩ :: L)) y = u (ix3 0 (y 1) d) :=
  View.read_writes_cons_unit_of_mem v f inb u L y (ix3 0 (y 1) d) hoff (forall_axes ⟨by
    have h0 : (y 0).val < 1 := (y 0).isLt
    show (y 0).val = 0 + 0; omega, (Nat.zero_add _).symm, hy⟩)

theorem out_other (off : Fin 3 → ℕ) (inb : ∀ a, off a + S1x512x128.size a ≤ S1x512x512.size a) (u : Vec Ideal S1x512x128 .bf16)
    (L : List (View.Piece (Elt Ideal) S1x512x512 .bf16)) (hd hd' : ℕ) (hoff : off = ![0, 0, 128 * hd]) (hne : hd' ≠ hd) (y : S1x512x512.Idx) (d : Fin 128)
    (hy : (y 2).val = 128 * hd' + d.val) :
    v.read (Elt Ideal) (v.writes (Elt Ideal) f (⟨Rect.unit (s := S1x512x512) off S1x512x128.size inb, u⟩ :: L)) y
      = v.read (Elt Ideal) (v.writes (Elt Ideal) f L) y :=
  View.read_writes_cons_unit_of_not_mem v f inb u L y hoff 2 (by
    have := d.isLt
    show (y 2).val < 128 * hd ∨ 128 * hd + 128 ≤ (y 2).val
    omega)

/-- A column of the block reads its head's store. -/
theorem out_four (y : S1x512x512.Idx) (hd : Fin 4) (d : Fin 128) (hy : (y 2).val = 128 * hd.val + d.val) :
    v.read (Elt Ideal) (v.writes (Elt Ideal) f [⟨Rect.unit (s := S1x512x512) ![0, 0, 384] S1x512x128.size i3, w 3⟩,
      ⟨Rect.unit (s := S1x512x512) ![0, 0, 256] S1x512x128.size i2, w 2⟩, ⟨Rect.unit (s := S1x512x512) ![0, 0, 128] S1x512x128.size i1, w 1⟩,
      ⟨Rect.unit (s := S1x512x512) ![0, 0, 0] S1x512x128.size i0, w 0⟩]) y = w hd (ix3 0 (y 1) d) := by
  match hd, hy with
  | ⟨0, _⟩, hy => exact (out_other v f _ i3 (w 3) _ 3 0 rfl (by decide) y d hy).trans ((out_other v f _ i2 (w 2) _ 2 0 rfl (by decide) y d hy).trans
      ((out_other v f _ i1 (w 1) _ 1 0 rfl (by decide) y d hy).trans (out_same v f _ i0 (w 0) _ 0 rfl y d hy)))
  | ⟨1, _⟩, hy => exact (out_other v f _ i3 (w 3) _ 3 1 rfl (by decide) y d hy).trans ((out_other v f _ i2 (w 2) _ 2 1 rfl (by decide) y d hy).trans
      (out_same v f _ i1 (w 1) _ 1 rfl y d hy))
  | ⟨2, _⟩, hy => exact (out_other v f _ i3 (w 3) _ 3 2 rfl (by decide) y d hy).trans (out_same v f _ i2 (w 2) _ 2 rfl y d hy)
  | ⟨3, _⟩, hy => exact out_same v f _ i3 (w 3) _ 3 rfl y d hy

end Four

section Point

variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x512x512 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole)
  (x0 : Vec Ideal S1x512x512 .bf16) (x1 : Vec Ideal S1x4096x512 .bf16) (x2 : Vec Ideal S1x4096x512 .bf16)

/-- An element of a point's block of the result: the weighted sum over the sum, of the online softmax of every key up to the
    block's last row. -/
theorem point_value (y : S1x512x512.Idx) (hd : Fin 4) (d : Fin 128) (hy : (y 2).val = 128 * hd.val + d.val) :
    out0_A_3 (F := Ideal) c i arg3 harg3 arg4 harg4 arg5 harg5 arg6 harg6 arg7 harg7 arg8 harg8 arg9 harg9 x0 x1 x2 y
      = Ideal.div (mix (sc x0 x1 (i 2).val hd (y 1).val) (vl x2 hd d) (512 * (i 2).val + 512))
          (mass (sc x0 x1 (i 2).val hd (y 1).val) (512 * (i 2).val + 512)) := by
  have st := last_state i arg3 harg3 arg4 harg4 arg5 harg5 arg7 arg8 arg9 x0 x1 x2 _ _ _ (base_state c i arg3 harg3 arg4 harg4 arg5 harg5 arg6 harg6 arg7 harg7 arg8 harg8 arg9 harg9 x0 x1 x2)
  unfold out0_A_3
  rw [run_out]
  refine (out_four VO0_3 _ _ _ _ _ (fun h => match h with
    | 0 => k0_pay128 (ldS arg9 ![0, 0, 0] inb_S4x512x128_S1x512x128_0_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![0, 0, 0] inb_S4x512x128_S1x512x128_0_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))
    | 1 => k0_pay128 (ldS arg9 ![1, 0, 0] inb_S4x512x128_S1x512x128_1_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![1, 0, 0] inb_S4x512x128_S1x512x128_1_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))
    | 2 => k0_pay128 (ldS arg9 ![2, 0, 0] inb_S4x512x128_S1x512x128_2_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![2, 0, 0] inb_S4x512x128_S1x512x128_2_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))
    | 3 => k0_pay128 (ldS arg9 ![3, 0, 0] inb_S4x512x128_S1x512x128_3_0_0 (arg9.view.writes (Elt Ideal) arg9.view.junk (d9_4 i arg3 harg3 arg4 harg4 arg5 harg5 arg7 arg9 x0 x1 x2 (base7 c i arg3 harg3 arg4 harg4 arg5 harg5 arg6 harg6 arg7 harg7 arg8 harg8 arg9 harg9 x0 x1 x2) (base9 c i arg3 harg3 arg4 harg4 arg5 harg5 arg6 harg6 arg7 harg7 arg8 harg8 arg9 harg9 x0 x1 x2)))) (ldS arg8 ![3, 0, 0] inb_S4x512x128_S1x512x128_3_0_0 (arg8.view.writes (Elt Ideal) arg8.view.junk (d8_4 i arg3 harg3 arg4 harg4 arg7 arg8 x0 x1 (base7 c i arg3 harg3 arg4 harg4 arg5 harg5 arg6 harg6 arg7 harg7 arg8 harg8 arg9 harg9 x0 x1 x2) (base8 c i arg3 harg3 arg4 harg4 arg5 harg5 arg6 harg6 arg7 harg7 arg8 harg8 arg9 harg9 x0 x1 x2))))) y hd d hy).trans ?_
  have g := st hd
  match hd with
  | ⟨0, _⟩ => exact (pay128_apply _ _ (y 1) d).trans (congr (congrArg Ideal.div ((congrFun (ldS_eq _ ![0, 0, 0] _ 0 rfl) _).trans (g.a (y 1) d)))
      ((congrFun (ldS_eq _ ![0, 0, 0] _ 0 rfl) _).trans (g.l (y 1) d)))
  | ⟨1, _⟩ => exact (pay128_apply _ _ (y 1) d).trans (congr (congrArg Ideal.div ((congrFun (ldS_eq _ ![1, 0, 0] _ 1 rfl) _).trans (g.a (y 1) d)))
      ((congrFun (ldS_eq _ ![1, 0, 0] _ 1 rfl) _).trans (g.l (y 1) d)))
  | ⟨2, _⟩ => exact (pay128_apply _ _ (y 1) d).trans (congr (congrArg Ideal.div ((congrFun (ldS_eq _ ![2, 0, 0] _ 2 rfl) _).trans (g.a (y 1) d)))
      ((congrFun (ldS_eq _ ![2, 0, 0] _ 2 rfl) _).trans (g.l (y 1) d)))
  | ⟨3, _⟩ => exact (pay128_apply _ _ (y 1) d).trans (congr (congrArg Ideal.div ((congrFun (ldS_eq _ ![3, 0, 0] _ 3 rfl) _).trans (g.a (y 1) d)))
      ((congrFun (ldS_eq _ ![3, 0, 0] _ 3 rfl) _).trans (g.l (y 1) d)))

end Point

/-! ## The blocks of the arrays -/

theorem idx_q : ∀ t : Fin cfg0.N, win0_0.index t = ![(grid0.coords t 0).val, (grid0.coords t 2).val, (grid0.coords t 1).val] :=
  (by decide +kernel : ∀ t : Fin grid0.N, _)
theorem idx_k : ∀ t : Fin cfg0.N, win0_1.index t = ![(grid0.coords t 0).val, 0, (grid0.coords t 1).val] :=
  (by decide +kernel : ∀ t : Fin grid0.N, _)
theorem idx_v : ∀ t : Fin cfg0.N, win0_2.index t = ![(grid0.coords t 0).val, 0, (grid0.coords t 1).val] :=
  (by decide +kernel : ∀ t : Fin grid0.N, _)
theorem idx_o : ∀ t : Fin cfg0.N, win0_3.index t = ![(grid0.coords t 0).val, (grid0.coords t 2).val, (grid0.coords t 1).val] :=
  (by decide +kernel : ∀ t : Fin grid0.N, _)

section Array

variable (m : (ℓ : Loc nD τ sig) → Buf (Elt Ideal) ℓ) (c : Dev nD) (t : Fin cfg0.N)

/-- The block of the queries at a point. -/
theorem block_q (p q : ℕ) (hp : p < 512) (hq : q < 512) :
    at3 (a := 512) (b := 512) (iblk m c 0 t) p q
      = g3 (m ((c.tc : Thread nD τ).loc main_arg0)) (grid0.coords t 0).val (512 * (grid0.coords t 2).val + p) (512 * (grid0.coords t 1).val + q) := by
  unfold at3
  rw [dif_pos ⟨hp, hq⟩]
  blk_simp [iblk, V]
  refine g3_eq _ _ _ _ _ ?_ ?_ ?_
  · blk_simp [idx_q]
    omega
  · blk_simp [idx_q]
    show (grid0.coords t 2).val * 512 + p = _
    omega
  · blk_simp [idx_q]
    show (grid0.coords t 1).val * 512 + q = _
    omega

/-- The block of the keys at a point. -/
theorem block_k (p q : ℕ) (hp : p < 4096) (hq : q < 512) :
    at3 (a := 4096) (b := 512) (iblk m c 1 t) p q
      = g3 (m ((c.tc : Thread nD τ).loc main_arg1)) (grid0.coords t 0).val p (512 * (grid0.coords t 1).val + q) := by
  unfold at3
  rw [dif_pos ⟨hp, hq⟩]
  blk_simp [iblk, V]
  refine g3_eq _ _ _ _ _ ?_ ?_ ?_
  · blk_simp [idx_k]
    omega
  · blk_simp [idx_k]
  · blk_simp [idx_k]
    show (grid0.coords t 1).val * 512 + q = _
    omega

/-- The block of the values at a point. -/
theorem block_v (p q : ℕ) (hp : p < 4096) (hq : q < 512) :
    at3 (a := 4096) (b := 512) (iblk m c 2 t) p q
      = g3 (m ((c.tc : Thread nD τ).loc main_arg2)) (grid0.coords t 0).val p (512 * (grid0.coords t 1).val + q) := by
  unfold at3
  rw [dif_pos ⟨hp, hq⟩]
  blk_simp [iblk, V]
  refine g3_eq _ _ _ _ _ ?_ ?_ ?_
  · blk_simp [idx_v]
    omega
  · blk_simp [idx_v]
  · blk_simp [idx_v]
    show (grid0.coords t 1).val * 512 + q = _
    omega

/-- The kernel's result array: the causal attention of its argument arrays, the queries and keys being real numbers. -/
theorem final_o (hq : AllReal (m ((c.tc : Thread nD τ).loc main_arg0))) (hk : AllReal (m ((c.tc : Thread nD τ).loc main_arg1))) :
    (dats m 0 c).arrAt 3 cfg0.N
      = attend (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have hb : (grid0.coords t 0).val < 4 := (grid0.coords t 0).isLt
  have hh : (grid0.coords t 1).val < 4 := (grid0.coords t 1).isLt
  have hi : (grid0.coords t 2).val < 8 := (grid0.coords t 2).isLt
  have hy1 : (y 1).val < 512 := (y 1).isLt
  have hy2 : (y 2).val < 512 := (y 2).isLt
  have hhd : (y 2).val / 128 < 4 := by omega
  have hd : (y 2).val % 128 < 128 := Nat.mod_lt _ (by decide)
  unfold outsAt0
  refine (point_value c (grid0.coords t) _ _ _ _ _ _ _ _ _ _ _ _ _ _ _ _ _ y ⟨(y 2).val / 128, hhd⟩ ⟨(y 2).val % 128, hd⟩ (Nat.div_add_mod _ _).symm).trans ?_
  have es : sc (iblk m c 0 t) (iblk m c 1 t) (grid0.coords t 2).val ((y 2).val / 128) (y 1).val
      = causal (m ((c.tc : Thread nD τ).loc main_arg0)) (m ((c.tc : Thread nD τ).loc main_arg1)) (grid0.coords t 0).val
          (4 * (grid0.coords t 1).val + (y 2).val / 128) (512 * (grid0.coords t 2).val + (y 1).val) := by
    funext n
    unfold sc causal raw
    by_cases h : n ≤ 512 * (grid0.coords t 2).val + (y 1).val
    · rw [if_pos h, if_pos h]
      refine Finset.sum_congr rfl fun d _ => ?_
      have hd' := d.isLt
      rw [block_q m c t _ _ hy1 (by omega), block_k m c t _ _ (by omega) (by omega)]
      have e : 512 * (grid0.coords t 1).val + (128 * ((y 2).val / 128) + d.val) = 128 * (4 * (grid0.coords t 1).val + (y 2).val / 128) + d.val := by omega
      rw [e]
    · rw [if_neg h, if_neg h]
  have ev : ∀ n : Fin 4096, vl (iblk m c 2 t) ((y 2).val / 128) ((y 2).val % 128) n
      = g3 (m ((c.tc : Thread nD τ).loc main_arg2)) (grid0.coords t 0).val n (512 * (grid0.coords t 1).val + (y 2).val) := by
    intro n
    unfold vl
    rw [block_v m c t _ _ n.isLt (by omega), Nat.div_add_mod]
  show Ideal.div (mix (sc (iblk m c 0 t) (iblk m c 1 t) (grid0.coords t 2).val ((y 2).val / 128) (y 1).val) _ _) (mass (sc (iblk m c 0 t) (iblk m c 1 t) (grid0.coords t 2).val ((y 2).val / 128) (y 1).val) _) = _
  rw [es]
  rw [softmax_eq _ _ (512 * (grid0.coords t 2).val + (y 1).val) _ 4096 (by omega) (by omega)
    (fun n hn => causal_real _ _ hq hk _ _ _ n hn) (fun n hn => causal_bot _ _ _ _ _ n hn)]
  unfold attend
  have z0 : ((win0_3.blk t).view.emb y 0).val = (grid0.coords t 0).val := by
    have h0 : (y 0).val < 1 := (y 0).isLt
    blk_simp [idx_o]
  have z1 : ((win0_3.blk t).view.emb y 1).val = 512 * (grid0.coords t 2).val + (y 1).val := by blk_simp [idx_o]; omega
  have z2 : ((win0_3.blk t).view.emb y 2).val = 512 * (grid0.coords t 1).val + (y 2).val := by blk_simp [idx_o]; omega
  have z3 : (512 * (grid0.coords t 1).val + (y 2).val) / 128 = 4 * (grid0.coords t 1).val + (y 2).val / 128 := by omega
  show _ = attendRow (causal _ _ ((win0_3.blk t).view.emb y 0).val (((win0_3.blk t).view.emb y 2).val / 128) ((win0_3.blk t).view.emb y 1).val)
    (fun n => g3 _ ((win0_3.blk t).view.emb y 0).val n ((win0_3.blk t).view.emb y 2).val)
  rw [z0, z1, z2, z3]
  unfold attendRow
  exact Finset.sum_congr rfl fun n _ => congrArg (· * _) (ev n)

end Array

end Cert.KernelIdeal.Flash
-- ==== Proof.FlashFold.lean ====
module

public import proofs.«01_k».proof.Proof.FlashMath
public import Idealize.ShloMosaic.Lib.Pointwise
public import Idealize.ShloMosaic.PureOps.Reduce

@[expose] public section

noncomputable section

/- A host reduction by the maximum at the extended reals, and the constants of the two programs. -/
namespace Cert.OnlineSoftmax

open Idealize.ShloMosaic

/-- A maximum over one axis, from minus infinity, is the supremum over that axis's coordinates. -/
theorem reduce_maximum {s t u : Shape} {a : Fin s.rank} (x : FVec Ideal s .f32) (init : FVec Ideal u .f32) (h' : s.ReducesTo [a] t)
    (h : s.Reduces [a] t) (hu : 0 < u.numel) (hi : init (Shape.Idx.first hu) = (⊥ : EReal)) (j : t.Idx) :
    Host.reduce FloatOps.maximumf x init h' hu j = (Finset.univ.sup (x ∘ h.lift j) : EReal) :=
  (Host.reduce_eq_fold_single (max : EReal → EReal → EReal) x init h' h hu j).trans (by rw [hi]; rfl)

/-- The larger of two vectors, of which the first is minus infinity at an index, is the second there. -/
theorem maximum_bot {s : Shape} (x y : FVec Ideal s .f32) (i : s.Idx) (hx : x i = (⊥ : EReal)) : maximumf x y i = y i := by
  show max (x i : EReal) (y i) = y i
  rw [hx]
  exact max_eq_right bot_le

theorem neg_inf : Ideal.ofBits FTy.f32 0xFF800000#32 = ⊥ := by
  simp [Ideal.ofBits, Ideal.ieee]

theorem inf_bits : Ideal.ofBits FTy.bf16 0x7F80#16 = ⊤ := by
  simp [Ideal.ofBits, Ideal.ieee]

theorem two_bits : Ideal.ofBits FTy.f32 0x40000000#32 = ((2 : ℝ) : EReal) := by
  simp [Ideal.ofBits, Ideal.ieee]
  rw [← EReal.coe_mul]
  norm_num

theorem log_two : Ideal.log ((2 : ℝ) : EReal) = ln2 := by
  show (if (2 : ℝ) ≤ 0 then ⊥ else ((Real.log 2 : ℝ) : EReal)) = ln2
  rw [if_neg (by norm_num)]
  rfl

/-- An extended real of which the absolute value is below plus infinity is a real number. -/
theorem real_of_abs_lt (x : EReal) (h : max x (-x) < ⊤) : ∃ r : ℝ, x = r := by
  induction x with
  | bot => simp at h
  | top => simp at h
  | coe r => exact ⟨r, rfl⟩

end Cert.OnlineSoftmax
-- ==== Proof.FlashRef.lean ====
module

public import proofs.«01_k».proof.Proof.FlashSpec
public import proofs.«01_k».proof.Proof.FlashFold
public import proofs.«01_k».proof.Proof.Gen.ReferenceIdeal.Run
public import Idealize.ShloMosaic.Lib.Pointwise

@[expose] public section

set_option maxRecDepth 16384

noncomputable section

/- The reference's result, read at an element step by step: the causal attention of its argument arrays. -/
namespace Cert.ReferenceIdeal.Flash

open Idealize.ShloMosaic Idealize.ShloMosaic.TcCoe Idealize.SL.Sem Cert.ReferenceIdeal Cert.ReferenceIdeal.Gen Cert.OnlineSoftmax

/-! ## The steps of the reference -/

/-- An argument by sequence, row, head and column of the head. -/
def heads (x : FVec Ideal S4x4096x2048 .bf16) : FVec Ideal S4x4096x16x128 .f32 :=
  shapeCast _ (extf .f32 x bitsLt_bf16_f32) shapeCasts_S4x4096x2048_S4x4096x16x128

/-- Every query against every key. -/
def products (q k : FVec Ideal S4x4096x16x128 .f32) : FVec Ideal S4x16x4096x4096 .f32 :=
  Host.dotGeneral dot_S4x4096x16x128_S4x4096x16x128_S4x16x4096x4096_3_3_1_1_02_02 none q k

/-- The scores, scaled by log 2, a key after the query masked. -/
def logits (s : FVec Ideal S4x16x4096x4096 .f32) : FVec Ideal S4x16x4096x4096 .f32 :=
  select (broadcastInDim S4x16x4096x4096 ![2, 3] bcast_S4096x4096_S4x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf s (broadcastInDim S4x16x4096x4096 ![] bcast_S_S4x16x4096x4096 (Host.log (constant S_ .f32 0x40000000#32))))
    (broadcastInDim S4x16x4096x4096 ![] bcast_S_S4x16x4096x4096 (id (constant S_ .f32 0xFF800000#32)))

/-- The greatest score of each query. -/
def greatest (s : FVec Ideal S4x16x4096x4096 .f32) : FVec Ideal S4x16x4096 .f32 :=
  maximumf (broadcastInDim S4x16x4096 ![] bcast_S_S4x16x4096 (constant S_ .f32 0xFF800000#32)) (Host.reduce FloatOps.maximumf s (constant S_ .f32 0xFF800000#32) reducesTo_S4x16x4096x4096_S4x16x4096_d3 h_S_)

/-- A number of each query, along its keys. -/
def along (g : FVec Ideal S4x16x4096 .f32) : FVec Ideal S4x16x4096x4096 .f32 :=
  broadcastInDim S4x16x4096x4096 ![0, 1, 2, 3] bcast_S4x16x4096x1_S4x16x4096x4096_0_1_2_3 (broadcastInDim S4x16x4096x1 ![0, 1, 2] bcast_S4x16x4096_S4x16x4096x1_0_1_2 g)

/-- The weights before they are normalized. -/
def weights (s g : FVec Ideal S4x16x4096x4096 .f32) : FVec Ideal S4x16x4096x4096 .f32 := Host.exp (subf s g)

/-- The sum of each query's weights. -/
def total (e : FVec Ideal S4x16x4096x4096 .f32) : FVec Ideal S4x16x4096 .f32 :=
  Host.reduceAdd e (constant S_ .f32 0x00000000#32) reducesTo_S4x16x4096x4096_S4x16x4096_d3 h_S_

/-- The values with the weights. -/
def mixed (v : FVec Ideal S4x4096x16x128 .f32) (p : FVec Ideal S4x16x4096x4096 .f32) : FVec Ideal S4x16x128x4096 .f32 :=
  Host.dotGeneral dot_S4x4096x16x128_S4x16x4096x4096_S4x16x128x4096_1_3_3_2_02_01 none v p

/-- The heads side by side again. -/
def joined (o : FVec Ideal S4x16x128x4096 .f32) : FVec Ideal S4x4096x2048 .bf16 :=
  truncf .bf16 (shapeCast _ (transpose S4x4096x16x128 [0, 3, 1, 2] o transposes_S4x16x128x4096_S4x4096x16x128_0_3_1_2) shapeCasts_S4x4096x16x128_S4x4096x2048) bitsLt_bf16_f32

/-- The reference is these steps. -/
theorem steps (m : (ℓ : Loc nD τ sig) → Buf (Elt Ideal) ℓ) (c : Dev nD) :
    Value.res_main_v31 (F := Ideal) m c
      = joined (mixed (heads (m ((c.tc : Thread nD τ).loc main_arg2)))
          (Host.divf
            (weights (logits (products (heads (m ((c.tc : Thread nD τ).loc main_arg0))) (heads (m ((c.tc : Thread nD τ).loc main_arg1)))))
              (along (greatest (logits (products (heads (m ((c.tc : Thread nD τ).loc main_arg0))) (heads (m ((c.tc : Thread nD τ).loc main_arg1))))))))
            (along (total (weights (logits (products (heads (m ((c.tc : Thread nD τ).loc main_arg0))) (heads (m ((c.tc : Thread nD τ).loc main_arg1)))))
              (along (greatest (logits (products (heads (m ((c.tc : Thread nD τ).loc main_arg0))) (heads (m ((c.tc : Thread nD τ).loc main_arg1))))))))))) ) := rfl

/-! ## The steps at an element -/

theorem heads_apply (x : FVec Ideal S4x4096x2048 .bf16) (b : Fin 4) (R : Fin 4096) (h : Fin 16) (d : Fin 128) :
    heads x (ix4 b R h d) = g3 x b R (128 * h + d) := by
  have hh := h.isLt
  have hd := d.isLt
  pointwise [heads]
  exact g3_eq x _ _ _ _ rfl rfl (by show h.val * 128 + d.val = _; omega)

theorem products_apply (q k : FVec Ideal S4x4096x16x128 .f32) (b : Fin 4) (h : Fin 16) (R n : Fin 4096) :
    products q k (ix4 b h R n) = ∑ d : Fin 128, q (ix4 b R h d) * k (ix4 b n h d) := by
  pointwise [products]

theorem along_apply (g : FVec Ideal S4x16x4096 .f32) (b : Fin 4) (h : Fin 16) (R n : Fin 4096) :
    along g (ix4 b h R n) = g (ix3 b h R) := by
  pointwise [along]

theorem weights_apply (s g : FVec Ideal S4x16x4096x4096 .f32) (y : S4x16x4096x4096.Idx) :
    weights s g y = Ideal.exp (s y - g y) := rfl

theorem total_apply (e : FVec Ideal S4x16x4096x4096 .f32) (b : Fin 4) (h : Fin 16) (R : Fin 4096) :
    total e (ix3 b h R) = ∑ n : Fin 4096, e (ix4 b h R n) := by
  pointwise [total]

/-- The last axis is the one that the greatest score is taken over. -/
theorem last_axis : S4x16x4096x4096.Reduces [3] S4x16x4096 := by decide

theorem lift_last (b : Fin 4) (h : Fin 16) (R n : Fin 4096) : last_axis.lift (ix3 b h R) n = ix4 b h R n := by
  funext c
  match c with
  | ⟨0, _⟩ => rfl
  | ⟨1, _⟩ => rfl
  | ⟨2, _⟩ => rfl
  | ⟨3, _⟩ => rfl

theorem greatest_apply (s : FVec Ideal S4x16x4096x4096 .f32) (b : Fin 4) (h : Fin 16) (R : Fin 4096) :
    greatest s (ix3 b h R) = Finset.univ.sup fun n : Fin 4096 => s (ix4 b h R n) :=
  (maximum_bot _ _ _ neg_inf).trans ((reduce_maximum s _ reducesTo_S4x16x4096x4096_S4x16x4096_d3 last_axis h_S_ neg_inf _).trans
    (congrArg _ (funext fun n => congrArg s (lift_last b h R n))))

theorem sle_coord (r n : Fin 4096) :
    IntOp.cmpi CmpIPredicate.sle (BitVec.ofNat 32 n.val) (BitVec.ofNat 32 r.val) = BitVec.ofBool (decide (n.val ≤ r.val)) := by
  have hk := n.isLt
  have hr := r.isLt
  show BitVec.ofBool ((BitVec.ofNat 32 n.val).sle (BitVec.ofNat 32 r.val)) = _
  congr 1
  have e : ∀ i : ℕ, i < 4096 → (BitVec.ofNat 32 i).toInt = i := fun i hi => by
    have hi' : (BitVec.ofNat 32 i).toNat = i := by rw [BitVec.toNat_ofNat]; exact Nat.mod_eq_of_lt (by omega)
    rw [BitVec.toInt_eq_toNat_of_lt (by rw [hi']; omega), hi']
  rw [BitVec.sle, e _ hk, e _ hr]
  simp

theorem logits_apply (s : FVec Ideal S4x16x4096x4096 .f32) (b : Fin 4) (h : Fin 16) (R n : Fin 4096) :
    logits s (ix4 b h R n) = if n.val ≤ R.val then s (ix4 b h R n) * ln2 else ⊥ := by
  pointwise [logits]
  rw [sle_coord, two_bits, log_two]
  by_cases hn : n.val ≤ R.val
  · rw [if_pos hn, decide_eq_true hn]; rfl
  · rw [if_neg hn, decide_eq_false hn]; exact neg_inf

theorem mixed_apply (v : FVec Ideal S4x4096x16x128 .f32) (p : FVec Ideal S4x16x4096x4096 .f32) (b : Fin 4) (h : Fin 16) (d : Fin 128) (R : Fin 4096) :
    mixed v p (ix4 b h d R) = ∑ n : Fin 4096, v (ix4 b n h d) * p (ix4 b h R n) := by
  pointwise [mixed]

theorem joined_apply (o : FVec Ideal S4x16x128x4096 .f32) (b : Fin 4) (R : Fin 4096) (C : Fin 2048) (h : Fin 16) (d : Fin 128)
    (hC : C.val = 128 * h.val + d.val) :
    joined o (ix3 b R C) = o (ix4 b h d R) := by
  have hd := d.isLt
  have e1 : C.val / 128 = h.val := by omega
  have e2 : C.val % 128 = d.val := by omega
  pointwise [joined]
  simp only [e1, e2, Fin.eta]

/-! ## The whole -/

/-- A score of the reference is the causal score, times log 2. -/
theorem logits_causal (q k : FVec Ideal S4x4096x2048 .bf16) (b : Fin 4) (h : Fin 16) (R n : Fin 4096) :
    logits (products (heads q) (heads k)) (ix4 b h R n) = causal q k b h R n * ln2 := by
  rw [logits_apply, products_apply]
  simp only [heads_apply]
  unfold causal
  split
  · rfl
  · exact bot_mul_ln2.symm

/-- The softmax weights of a row, before they are normalized. -/
theorem weights_causal (q k : FVec Ideal S4x4096x2048 .bf16) (b : Fin 4) (h : Fin 16) (R n : Fin 4096) :
    weights (logits (products (heads q) (heads k))) (along (greatest (logits (products (heads q) (heads k))))) (ix4 b h R n)
      = Ideal.exp (causal q k b h R n * ln2 - Finset.univ.sup fun c : Fin 4096 => causal q k b h R c * ln2) := by
  rw [weights_apply, along_apply, greatest_apply]
  simp only [logits_causal]

theorem normalized_apply (e : FVec Ideal S4x16x4096x4096 .f32) (b : Fin 4) (h : Fin 16) (R n : Fin 4096) :
    Host.divf e (along (total e)) (ix4 b h R n) = Ideal.div (e (ix4 b h R n)) (∑ c : Fin 4096, e (ix4 b h R c)) := by
  show Ideal.div (e (ix4 b h R n)) (along (total e) (ix4 b h R n)) = _
  rw [along_apply, total_apply]

/-- The reference computes the causal attention of its arguments. -/
theorem result (m : (ℓ : Loc nD τ sig) → Buf (Elt Ideal) ℓ) (c : Dev nD) :
    Value.res_main_v31 (F := Ideal) m c = attend (m ((c.tc : Thread nD τ).loc main_arg0)) (m ((c.tc : Thread nD τ).loc main_arg1))
      (m ((c.tc : Thread nD τ).loc main_arg2)) := by
  rw [steps]
  generalize m ((c.tc : Thread nD τ).loc main_arg0) = q
  generalize m ((c.tc : Thread nD τ).loc main_arg1) = k
  generalize m ((c.tc : Thread nD τ).loc main_arg2) = v
  funext z
  obtain ⟨b, R, C, rfl⟩ : ∃ (b : Fin 4) (R : Fin 4096) (C : Fin 2048), z = ix3 b R C :=
    ⟨z 0, z 1, z 2, by funext j; match j with | ⟨0, _⟩ => rfl | ⟨1, _⟩ => rfl | ⟨2, _⟩ => rfl⟩
  have hC := C.isLt
  have hd : C.val = 128 * (C.val / 128) + C.val % 128 := by omega
  refine (joined_apply _ b R C ⟨C.val / 128, by omega⟩ ⟨C.val % 128, by omega⟩ hd).trans ?_
  rw [mixed_apply]
  show _ = attendRow (causal q k b (C.val / 128) R) (fun n => g3 v b n C.val)
  unfold attendRow
  refine Finset.sum_congr rfl fun n _ => ?_
  rw [heads_apply, normalized_apply]
  simp only [weights_causal]
  rw [← hd]

end Cert.ReferenceIdeal.Flash
-- ==== Proof.FlashPre.lean ====
module

public import proofs.«01_k».proof.Proof.FlashFold
public import proofs.«01_k».proof.Proof.FlashSpec
public import proofs.«01_k».proof.Proof.Gen.Pre_finite
public import Idealize.ShloMosaic.Lib.ReduceAll

@[expose] public section

noncomputable section

/- The precondition read back: the queries and the keys are real numbers. -/
namespace Cert.Pre_finite.Flash

open Idealize.ShloMosaic Cert.Pre_finite Cert.Pre_finite.Gen Cert.OnlineSoftmax

/-- Two bits whose conjunction is 1 are both 1. -/
theorem both_one (a b : BitVec 1) (h : a &&& b = 1#1) : a = 1#1 ∧ b = 1#1 := by
  revert a b
  decide

/-- The comparison of an array's absolute values with plus infinity. -/
def below (x : FVec Ideal S4x4096x2048 .bf16) : IVec S4x4096x2048 1 :=
  cmpf .olt (Host.absf x) (broadcastInDim S4x4096x2048 ![] bcast_S_S4x4096x2048 (constant S_ .bf16 0x7F80#16))

/-- An array of which every absolute value compares as smaller than plus infinity is real. -/
theorem real_of_all (x : FVec Ideal S4x4096x2048 .bf16)
    (h : Host.reduce IntOp.andi (below x) (constantI S_ 1 1#1) reducesTo_S4x4096x2048_S_d0_1_2 h_S_ (Shape.Idx.first h_S_) = 1#1) :
    AllReal x := fun y => by
  haveI : Subsingleton S_.Idx := ⟨fun a b => funext fun j => j.elim0⟩
  have e := Host.reduce_andi_all (below x) _ reducesTo_S4x4096x2048_S_d0_1_2 h_S_ _ h y
  refine real_of_abs_lt (x y) ?_
  have e' : BitVec.ofBool (decide (max (x y : EReal) (-(x y : EReal)) < Ideal.ofBits FTy.bf16 0x7F80#16)) = 1#1 := e
  rw [inf_bits] at e'
  by_contra hn
  rw [decide_eq_false hn] at e'
  exact absurd e' (by decide)

/-- The precondition says that every query and every key is a real number. -/
theorem real (q k v : FVec Ideal S4x4096x2048 .bf16) (h : fn (F := Ideal) q k v = fun _ => 1#1) : AllReal q ∧ AllReal k := by
  have e : Host.reduce IntOp.andi (below q) (constantI S_ 1 1#1) reducesTo_S4x4096x2048_S_d0_1_2 h_S_ (Shape.Idx.first h_S_)
      &&& Host.reduce IntOp.andi (below k) (constantI S_ 1 1#1) reducesTo_S4x4096x2048_S_d0_1_2 h_S_ (Shape.Idx.first h_S_) = 1#1 :=
    congrFun h (Shape.Idx.first h_S_)
  have b := both_one _ _ e
  exact ⟨real_of_all q b.1, real_of_all k b.2⟩

end Cert.Pre_finite.Flash
-- ==== Proof.Glu.lean ====
module

public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

/- The gated linear unit with its residual: the kernel's result array and the reference's are one function of the argument arrays. -/
namespace Cert.Kernel2Ideal.Glu

open Idealize.ShloMosaic Idealize.ShloMosaic.TcCoe Idealize.SL.Sem Cert.Kernel2Ideal Cert.Kernel2Ideal.Gen
open Idealize.ShloMosaic.Pipeline (Dat)

/-- A row of the states with a column of the weights. -/
def prod (z : FVec Ideal S4x4096x1024 .f32) (w : FVec Ideal S1024x2048 .f32) (b : Fin 4) (R : Fin 4096) (C : Fin 2048) : EReal :=
  ∑ k : Fin 1024, z (ix3 b R k) * w (ix2 k C)

/-- The residual plus the gated product, at an element. -/
def gated (z : FVec Ideal S4x4096x1024 .f32) (w : FVec Ideal S1024x2048 .f32) (x : FVec Ideal S4x4096x1024 .f32) (ga : FVec Ideal S4x1024 .f32)
    (b : Fin 4) (R : Fin 4096) (C : Fin 1024) : EReal :=
  x (ix3 b R C) + ga (ix2 b C) * (prod z w b R ⟨C.val, by omega⟩ * Ideal.div 1 (1 + Ideal.exp (-prod z w b R ⟨1024 + C.val, by omega⟩)))

theorem idx_z : ∀ t : Fin cfg0.N, win0_0.index t = ![(grid0.coords t 0).val, (grid0.coords t 1).val, 0] :=
  (by decide +kernel : ∀ t : Fin grid0.N, _)
theorem idx_w : ∀ t : Fin cfg0.N, win0_1.index t = ![0, 0] :=
  (by decide +kernel : ∀ t : Fin grid0.N, _)
theorem idx_x : ∀ t : Fin cfg0.N, win0_2.index t = ![(grid0.coords t 0).val, (grid0.coords t 1).val, 0] :=
  (by decide +kernel : ∀ t : Fin grid0.N, _)
theorem idx_g : ∀ t : Fin cfg0.N, win0_3.index t = ![(grid0.coords t 0).val, 0, 0] :=
  (by decide +kernel : ∀ t : Fin grid0.N, _)
theorem idx_o : ∀ t : Fin cfg0.N, win0_4.index t = ![(grid0.coords t 0).val, (grid0.coords t 1).val, 0] :=
  (by decide +kernel : ∀ t : Fin grid0.N, _)

/-- The body's value at an element of its block. -/
theorem pay_apply (z : Vec Ideal S1x512x1024 .f32) (w : Vec Ideal S1024x2048 .bf16) (x : Vec Ideal S1x512x1024 .f32) (g : Vec Ideal S1x1x1024 .f32)
    (r : Fin 512) (C : Fin 1024) :
    k0_pay1 z w x g (ix3 0 r C) = x (ix3 0 r C) + g (ix3 0 0 C) * ((∑ k : Fin 1024, z (ix3 0 r k) * w (ix2 k ⟨C.val, by omega⟩))
      * Ideal.div 1 (1 + Ideal.exp (-∑ k : Fin 1024, z (ix3 0 r k) * w (ix2 k ⟨1024 + C.val, by omega⟩)))) := by
  pointwise [k0_pay1]
  rw [zero_sub]

section Array

variable (m : (ℓ : Loc nD τ sig) → Buf (Elt Ideal) ℓ) (c : Dev nD)

/-- The residual's weights as the region finds them. -/
theorem entry_g (b : Fin 4) (C : Fin 1024) : (V m c main_v1 : FVec Ideal S4x1x1024 .f32) (ix3 b 0 C) = m ((c.tc : Thread nD τ).loc main_arg3) (ix2 b C) := by
  entry_read
  pointwise

/-- Row `r` of the grid's point is this row of the array. -/
def row (t : Fin cfg0.N) (r : Fin 512) : Fin 4096 :=
  ⟨(grid0.coords t 1).val * 512 + r.val, by have h1 : (grid0.coords t 1).val < 8 := (grid0.coords t 1).isLt; omega⟩

/-- The block of the residual's weights. -/
theorem block_g (t : Fin cfg0.N) (C : Fin 1024) :
    View.ld (iblk m c 3 t) r0_2 (ix3 0 0 C) = m ((c.tc : Thread nD τ).loc main_arg3) (ix2 (grid0.coords t 0) C) := by
  refine Eq.trans ?_ (entry_g m c (grid0.coords t 0) C)
  show V m c main_v1 ((win0_3.blk t).view.emb (r0_2.idx (ix3 0 0 C))) = _
  refine congrArg (V m c main_v1) (funext fun a => Fin.ext ?_)
  match a with
  | ⟨0, _⟩ => blk_simp [idx_g]
  | ⟨1, _⟩ => blk_simp [idx_g]; rfl
  | ⟨2, _⟩ => blk_simp [idx_g]; show 0 + 1 * C.val = C.val; omega

/-- A point's block of the result. -/
theorem point (t : Fin cfg0.N) (r : Fin 512) (C : Fin 1024) :
    out0_4 (iblk m c 0 t) (iblk m c 1 t) (iblk m c 2 t) (iblk m c 3 t) (ix3 0 r C)
      = gated (m ((c.tc : Thread nD τ).loc main_arg0)) (m ((c.tc : Thread nD τ).loc main_arg1))
          (m ((c.tc : Thread nD τ).loc main_arg2)) (m ((c.tc : Thread nD τ).loc main_arg3)) (grid0.coords t 0) (row t r) C := by
  unfold out0_4
  refine (View.canon_apply_of_pieces (k0_pay1 (View.ld (iblk m c 0 t) r0_0) (View.ld (iblk m c 1 t) r0_1) (View.ld (iblk m c 2 t) r0_0)
    (View.ld (iblk m c 3 t) r0_2)) _ ?_ _ (cover0_4 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine (pay_apply _ _ _ _ r C).trans ?_
    rw [block_g]
    unfold gated prod row
    blk_point [iblk, V, idx_z t, idx_w t, idx_x t]

/-- The result array of the kernel. -/
theorem final : (dats m 0 c).arrAt 4 cfg0.N = fun i => gated (m ((c.tc : Thread nD τ).loc main_arg0)) (m ((c.tc : Thread nD τ).loc main_arg1))
    (m ((c.tc : Thread nD τ).loc main_arg2)) (m ((c.tc : Thread nD τ).loc main_arg3)) (i 0) (i 1) (i 2) := by
  refine (dats m 0 c).arrAt_eq_of_covers 4 _ (by decide +kernel) fun t hf y => ?_
  blk_simp
  rw [after0_4]
  obtain ⟨p, r, C, rfl⟩ : ∃ (p : Fin 1) (r : Fin 512) (C : Fin 1024), y = ix3 p r C := ⟨y 0, y 1, y 2, by ext a; fin_cases a <;> rfl⟩
  obtain rfl : p = 0 := Subsingleton.elim _ _
  refine (point m c t r C).trans ?_
  have z0 : grid0.coords t 0 = (win0_4.blk t).view.emb (ix3 0 r C) 0 := Fin.ext (by blk_simp [idx_o]; rfl)
  have z1 : row t r = (win0_4.blk t).view.emb (ix3 0 r C) 1 := Fin.ext (by unfold row; blk_simp [idx_o])
  have z2 : C = (win0_4.blk t).view.emb (ix3 0 r C) 2 := Fin.ext (by blk_simp [idx_o])
  exact congr (congr (congrArg _ z0) z1) z2

end Array

end Cert.Kernel2Ideal.Glu

namespace Cert.Reference2Ideal.Glu

open Idealize.ShloMosaic Idealize.ShloMosaic.TcCoe Idealize.SL.Sem Cert.Reference2Ideal Cert.Reference2Ideal.Gen

/-- The reference's operations on its arguments. -/
def term (z : FVec Ideal S4x4096x1024 .f32) (w : FVec Ideal S1024x2048 .f32) (x : FVec Ideal S4x4096x1024 .f32) (ga : FVec Ideal S4x1024 .f32) :
    FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 ga)) (mulf (extractStridedSlice S4x4096x1024 ![0, 0, 0] (Host.dotGeneral dot_S4x4096x1024_S1024x2048_S4x4096x2048_2_0_01_1_n_n none z w) slices_S4x4096x2048_S4x4096x1024_0_0_0) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (Host.dotGeneral dot_S4x4096x1024_S1024x2048_S4x4096x2048_2_0_01_1_n_n none z w) slices_S4x4096x2048_S4x4096x1024_0_0_1024)))))))

/-- They compute the gated product with its residual. -/
theorem term_eq (z : FVec Ideal S4x4096x1024 .f32) (w : FVec Ideal S1024x2048 .f32) (x : FVec Ideal S4x4096x1024 .f32) (ga : FVec Ideal S4x1024 .f32) :
    term z w x ga = fun i => Cert.Kernel2Ideal.Glu.gated z w x ga (i 0) (i 1) (i 2) := by
  funext i
  obtain ⟨b, R, C, rfl⟩ : ∃ (b : Fin 4) (R : Fin 4096) (C : Fin 1024), i = ix3 b R C := ⟨i 0, i 1, i 2, by ext a; fin_cases a <;> rfl⟩
  pointwise [term, Cert.Kernel2Ideal.Glu.gated, Cert.Kernel2Ideal.Glu.prod]

end Cert.Reference2Ideal.Glu
end
-- ==== Proof.Out.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.KernelVsHost

@[expose] public section

set_option maxRecDepth 16384

noncomputable section

/- The projection of the heads with its residual: the kernel's result array and the reference's are one function of the argument arrays. -/
namespace Cert.Kernel3Ideal.Out

open Idealize.ShloMosaic Idealize.ShloMosaic.TcCoe Idealize.SL.Sem Cert.Kernel3Ideal Cert.Kernel3Ideal.Gen
open Idealize.ShloMosaic.Pipeline (Dat)

/-- The residual plus the weighted projection of the heads' first 64 columns, at an element. -/
def projected (o : FVec Ideal S4x4096x2048 .bf16) (w : FVec Ideal S1024x1024 .f32) (x : FVec Ideal S4x4096x1024 .f32) (ga : FVec Ideal S4x1024 .f32)
    (b : Fin 4) (R : Fin 4096) (C : Fin 1024) : EReal :=
  x (ix3 b R C) + ga (ix2 b C) * ∑ k : Fin 1024, o (ix3 b R ⟨k.val / 64 * 128 + k.val % 64, by omega⟩) * w (ix2 k C)

theorem idx_h : ∀ t : Fin cfg0.N, win0_0.index t = ![(grid0.coords t 0).val, (grid0.coords t 1).val, 0] :=
  (by decide +kernel : ∀ t : Fin grid0.N, _)
theorem idx_w : ∀ t : Fin cfg0.N, win0_1.index t = ![0, 0] :=
  (by decide +kernel : ∀ t : Fin grid0.N, _)
theorem idx_x : ∀ t : Fin cfg0.N, win0_2.index t = ![(grid0.coords t 0).val, (grid0.coords t 1).val, 0] :=
  (by decide +kernel : ∀ t : Fin grid0.N, _)
theorem idx_g : ∀ t : Fin cfg0.N, win0_3.index t = ![(grid0.coords t 0).val, 0, 0] :=
  (by decide +kernel : ∀ t : Fin grid0.N, _)
theorem idx_o : ∀ t : Fin cfg0.N, win0_4.index t = ![(grid0.coords t 0).val, (grid0.coords t 1).val, 0] :=
  (by decide +kernel : ∀ t : Fin grid0.N, _)

/-- The body's value at an element of its block. -/
theorem pay_apply (x : Vec Ideal S1x512x1024 .f32) (g : Vec Ideal S1x1x1024 .f32) (o : Vec Ideal S1x512x2048 .bf16) (w : Vec Ideal S2048x1024 .bf16)
    (r : Fin 512) (C : Fin 1024) :
    k0_pay1 x g o w (ix3 0 r C) = x (ix3 0 r C) + g (ix3 0 0 C) * ∑ k : Fin 2048, o (ix3 0 r k) * w (ix2 k C) := by
  pointwise [k0_pay1]

/-- A sum over heads of 128 columns, the last 64 of each zero, is the sum over heads of 64 columns. -/
theorem sum_heads (f : Fin 2048 → EReal) (z : ∀ k : Fin 2048, 64 ≤ k.val % 128 → f k = 0) :
    ∑ k : Fin 2048, f k = ∑ k : Fin 1024, f ⟨k.val / 64 * 128 + k.val % 64, by omega⟩ := by
  refine (Finset.sum_of_injOn (fun k : Fin 1024 => (⟨k.val / 64 * 128 + k.val % 64, by omega⟩ : Fin 2048)) ?_ (fun _ _ => Finset.mem_coe.mpr (Finset.mem_univ _)) ?_
    (fun _ _ => rfl)).symm
  · intro a _ b _ e
    have e' := congrArg Fin.val e
    simp only at e'
    exact Fin.ext (by omega)
  · intro k _ hk
    refine z k (not_lt.mp fun h => hk ⟨⟨k.val / 128 * 64 + k.val % 128, by omega⟩, Finset.mem_coe.mpr (Finset.mem_univ _), Fin.ext ?_⟩)
    show (k.val / 128 * 64 + k.val % 128) / 64 * 128 + (k.val / 128 * 64 + k.val % 128) % 64 = k.val
    omega

/-- Rows of 64 padded to rows of 128. -/
def padded (w : FVec Ideal S1024x1024 .f32) : FVec Ideal S16x128x1024 .f32 :=
  pad S16x128x1024 ![0, 0, 0] ![0, 64, 0] ![0, 0, 0] (shapeCast S16x64x1024 w shapeCasts_S1024x1024_S16x64x1024)
    (sitofp (F := Ideal) .f32 (constantI S_ 32 0#32)) pads_S16x64x1024_S16x128x1024_000_0640_000 h_S_

theorem padded_apply (w : FVec Ideal S1024x1024 .f32) (h : Fin 16) (d : Fin 128) (C : Fin 1024) :
    padded w (ix3 h d C) = (if hd : d.val < 64 then w (ix2 ⟨h.val * 64 + d.val, by omega⟩ C) else (0 : EReal) : EReal) := by
  by_cases hd : d.val < 64
  · rw [dif_pos hd]
    refine (pad_apply_of_inside _ _ _ _ _ _ _ _ (ix3 h ⟨d.val, hd⟩ C) (fun a => ?_)).trans ?_
    · match a with
      | ⟨0, _⟩ => show h.val = 0 + h.val * (0 + 1); omega
      | ⟨1, _⟩ => show d.val = 0 + d.val * (0 + 1); omega
      | ⟨2, _⟩ => show C.val = 0 + C.val * (0 + 1); omega
    · pointwise
  · rw [dif_neg hd]
    refine (pad_apply_of_not_inside _ _ _ _ _ _ _ _ 1 (fun e => hd ?_)).trans ?_
    · have e2 : (d.val - 0) / (0 + 1) < 64 := e.2.2
      omega
    · pointwise
      show (((0#32 : BitVec 32).toInt : ℝ) : EReal) = 0
      simp

section Array

variable (m : (ℓ : Loc nD τ sig) → Buf (Elt Ideal) ℓ) (c : Dev nD)

/-- The residual's weights as the region finds them. -/
theorem entry_g (b : Fin 4) (C : Fin 1024) : (V m c main_v4 : FVec Ideal S4x1x1024 .f32) (ix3 b 0 C) = m ((c.tc : Thread nD τ).loc main_arg3) (ix2 b C) := by
  have e : (V m c main_v4 : FVec Ideal S4x1x1024 .f32) = broadcastInDim S4x1x1024 ![0, 2] bcast_S4x1024_S4x1x1024_0_2 (m ((c.tc : Thread nD τ).loc main_arg3)) := by
    simp only [V, hostOps0, hostOps0_1, hostOps0_2, List.flatten_cons, List.flatten_nil, List.append_nil, List.cons_append, List.nil_append]
    after_results <;> rfl
  rw [e]
  pointwise

/-- The padded weights as the region finds them. -/
theorem entry_w (k : Fin 2048) (C : Fin 1024) : (V m c main_v3 : FVec Ideal S2048x1024 .bf16) (ix2 k C)
    = (if h : k.val % 128 < 64 then (m ((c.tc : Thread nD τ).loc main_arg1) : FVec Ideal S1024x1024 .f32) (ix2 ⟨k.val / 128 * 64 + k.val % 128, by omega⟩ C) else (0 : EReal) : EReal) := by
  have e : (V m c main_v3 : FVec Ideal S2048x1024 .bf16)
      = truncf (F := Ideal) .bf16 (shapeCast S2048x1024 (padded (m ((c.tc : Thread nD τ).loc main_arg1))) shapeCasts_S16x128x1024_S2048x1024) bitsLt_bf16_f32 := by
    unfold padded
    simp only [V, hostOps0, hostOps0_1, hostOps0_2, List.flatten_cons, List.flatten_nil, List.append_nil, List.cons_append, List.nil_append]
    after_results <;> rfl
  rw [e]
  pointwise
  exact padded_apply _ _ _ _

/-- Row `r` of the grid's point is this row of the array. -/
def row (t : Fin cfg0.N) (r : Fin 512) : Fin 4096 :=
  ⟨(grid0.coords t 1).val * 512 + r.val, by have h1 : (grid0.coords t 1).val < 8 := (grid0.coords t 1).isLt; omega⟩

/-- The block of the residual's weights. -/
theorem block_g (t : Fin cfg0.N) (C : Fin 1024) :
    View.ld (iblk m c 3 t) r0_1 (ix3 0 0 C) = m ((c.tc : Thread nD τ).loc main_arg3) (ix2 (grid0.coords t 0) C) := by
  refine Eq.trans ?_ (entry_g m c (grid0.coords t 0) C)
  show V m c main_v4 ((win0_3.blk t).view.emb (r0_1.idx (ix3 0 0 C))) = _
  refine congrArg (V m c main_v4) (funext fun a => Fin.ext ?_)
  match a with
  | ⟨0, _⟩ => blk_simp [idx_g]
  | ⟨1, _⟩ => blk_simp [idx_g]; rfl
  | ⟨2, _⟩ => blk_simp [idx_g]; show 0 + 1 * C.val = C.val; omega

/-- The block of the padded weights. -/
theorem block_w (t : Fin cfg0.N) (k : Fin 2048) (C : Fin 1024) :
    View.ld (iblk m c 1 t) r0_3 (ix2 k C)
      = (if h : k.val % 128 < 64 then (m ((c.tc : Thread nD τ).loc main_arg1) : FVec Ideal S1024x1024 .f32) (ix2 ⟨k.val / 128 * 64 + k.val % 128, by omega⟩ C) else (0 : EReal) : EReal) := by
  refine Eq.trans ?_ (entry_w m c k C)
  show V m c main_v3 ((win0_1.blk t).view.emb (r0_3.idx (ix2 k C))) = _
  refine congrArg (V m c main_v3) (funext fun a => Fin.ext ?_)
  match a with
  | ⟨0, _⟩ => blk_simp [idx_w]; show 0 + 1 * k.val = k.val; omega
  | ⟨1, _⟩ => blk_simp [idx_w]; show 0 + 1 * C.val = C.val; omega

/-- A point's block of the result. -/
theorem point (t : Fin cfg0.N) (r : Fin 512) (C : Fin 1024) :
    out0_4 (iblk m c 0 t) (iblk m c 1 t) (iblk m c 2 t) (iblk m c 3 t) (ix3 0 r C)
      = projected (m ((c.tc : Thread nD τ).loc main_arg0)) (m ((c.tc : Thread nD τ).loc main_arg1))
          (m ((c.tc : Thread nD τ).loc main_arg2)) (m ((c.tc : Thread nD τ).loc main_arg3)) (grid0.coords t 0) (row t r) C := by
  unfold out0_4
  refine (View.canon_apply_of_pieces (k0_pay1 (View.ld (iblk m c 2 t) r0_0) (View.ld (iblk m c 3 t) r0_1) (View.ld (iblk m c 0 t) r0_2)
    (View.ld (iblk m c 1 t) r0_3)) _ ?_ _ (cover0_4 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine (pay_apply _ _ _ _ r C).trans ?_
    rw [block_g, sum_heads]
    · unfold projected row
      have ew : ∀ k : Fin 1024, View.ld (iblk m c 1 t) r0_3 (ix2 ⟨k.val / 64 * 128 + k.val % 64, by omega⟩ C) = m ((c.tc : Thread nD τ).loc main_arg1) (ix2 k C) := by
        intro k
        rw [block_w, dif_pos (by show (k.val / 64 * 128 + k.val % 64) % 128 < 64; omega)]
        congr 2
        refine Fin.ext ?_
        show (k.val / 64 * 128 + k.val % 64) / 128 * 64 + (k.val / 64 * 128 + k.val % 64) % 128 = k.val
        omega
      simp only [ew]
      blk_point [iblk, V, idx_h t, idx_x t]
    · intro k hk
      rw [block_w, dif_neg (by omega), mul_zero]

/-- The result array of the kernel. -/
theorem final : (dats m 0 c).arrAt 4 cfg0.N = fun i => projected (m ((c.tc : Thread nD τ).loc main_arg0)) (m ((c.tc : Thread nD τ).loc main_arg1))
    (m ((c.tc : Thread nD τ).loc main_arg2)) (m ((c.tc : Thread nD τ).loc main_arg3)) (i 0) (i 1) (i 2) := by
  refine (dats m 0 c).arrAt_eq_of_covers 4 _ (by decide +kernel) fun t hf y => ?_
  blk_simp
  rw [after0_4]
  obtain ⟨p, r, C, rfl⟩ : ∃ (p : Fin 1) (r : Fin 512) (C : Fin 1024), y = ix3 p r C := ⟨y 0, y 1, y 2, by ext a; fin_cases a <;> rfl⟩
  obtain rfl : p = 0 := Subsingleton.elim _ _
  refine (point m c t r C).trans ?_
  have z0 : grid0.coords t 0 = (win0_4.blk t).view.emb (ix3 0 r C) 0 := Fin.ext (by blk_simp [idx_o]; rfl)
  have z1 : row t r = (win0_4.blk t).view.emb (ix3 0 r C) 1 := Fin.ext (by unfold row; blk_simp [idx_o])
  have z2 : C = (win0_4.blk t).view.emb (ix3 0 r C) 2 := Fin.ext (by blk_simp [idx_o])
  exact congr (congr (congrArg _ z0) z1) z2

end Array

end Cert.Kernel3Ideal.Out

namespace Cert.Reference3Ideal.Out

open Idealize.ShloMosaic Idealize.ShloMosaic.TcCoe Idealize.SL.Sem Cert.Reference3Ideal Cert.Reference3Ideal.Gen

/-- The reference's operations on its arguments. -/
def term (o : FVec Ideal S4x4096x2048 .bf16) (w : FVec Ideal S1024x1024 .f32) (x : FVec Ideal S4x4096x1024 .f32) (ga : FVec Ideal S4x1024 .f32) :
    FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 ga)) (Host.dotGeneral dot_S4x4096x1024_S1024x1024_S4x4096x1024_2_0_01_1_n_n none (shapeCast _ (extractStridedSlice S4x4096x16x64 ![0, 0, 0, 0] (shapeCast _ (extf .f32 o bitsLt_bf16_f32) shapeCasts_S4x4096x2048_S4x4096x16x128) slices_S4x4096x16x128_S4x4096x16x64_0_0_0_0) shapeCasts_S4x4096x16x64_S4x4096x1024) w))

/-- They compute the projection of the heads with its residual. -/
theorem term_eq (o : FVec Ideal S4x4096x2048 .bf16) (w : FVec Ideal S1024x1024 .f32) (x : FVec Ideal S4x4096x1024 .f32) (ga : FVec Ideal S4x1024 .f32) :
    term o w x ga = fun i => Cert.Kernel3Ideal.Out.projected o w x ga (i 0) (i 1) (i 2) := by
  funext i
  obtain ⟨b, R, C, rfl⟩ : ∃ (b : Fin 4) (R : Fin 4096) (C : Fin 1024), i = ix3 b R C := ⟨i 0, i 1, i 2, by ext a; fin_cases a <;> rfl⟩
  pointwise [term, Cert.Kernel3Ideal.Out.projected]

end Cert.Reference3Ideal.Out
end
-- ==== Proof.Norm.lean ====
module

public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

/- The last normalization and its modulation: the kernel's result array and the reference's are one function of the argument arrays. -/
namespace Cert.Kernel4Ideal.Norm

open Idealize.ShloMosaic Idealize.ShloMosaic.TcCoe Idealize.SL.Sem Cert.Kernel4Ideal Cert.Kernel4Ideal.Gen
open Idealize.ShloMosaic.Pipeline (Dat)

/-- The normalized, modulated row, at an element. -/
def normed (x : FVec Ideal S4x4096x1024 .f32) (g : FVec Ideal S1024 .f32) (sh sc : FVec Ideal S4x1024 .f32) (b : Fin 4) (R : Fin 4096) (C : Fin 1024) : EReal :=
  x (ix3 b R C) * Ideal.rsqrt (Ideal.div (∑ k : Fin 1024, x (ix3 b R k) * x (ix3 b R k)) (Ideal.ofBits .f32 1149239296#32) + Ideal.ofBits .f32 897988541#32)
    * g (ix1 C) * (1 + sc (ix2 b C)) + sh (ix2 b C)

theorem idx_x : ∀ t : Fin cfg0.N, win0_0.index t = ![(grid0.coords t 0).val, (grid0.coords t 1).val, 0] :=
  (by decide +kernel : ∀ t : Fin grid0.N, _)
theorem idx_g : ∀ t : Fin cfg0.N, win0_1.index t = ![0, 0] :=
  (by decide +kernel : ∀ t : Fin grid0.N, _)
theorem idx_sh : ∀ t : Fin cfg0.N, win0_2.index t = ![(grid0.coords t 0).val, 0, 0] :=
  (by decide +kernel : ∀ t : Fin grid0.N, _)
theorem idx_sc : ∀ t : Fin cfg0.N, win0_3.index t = ![(grid0.coords t 0).val, 0, 0] :=
  (by decide +kernel : ∀ t : Fin grid0.N, _)
theorem idx_o : ∀ t : Fin cfg0.N, win0_4.index t = ![(grid0.coords t 0).val, (grid0.coords t 1).val, 0] :=
  (by decide +kernel : ∀ t : Fin grid0.N, _)

/-- The body's value at an element of its block. -/
theorem pay_apply (x : Vec Ideal S1x512x1024 .f32) (g : Vec Ideal S1x1024 .f32) (sh : Vec Ideal S1x1x1024 .f32) (sc : Vec Ideal S1x1x1024 .f32)
    (r : Fin 512) (C : Fin 1024) :
    k0_pay1 x g sh sc (ix3 0 r C) = x (ix3 0 r C)
      * Ideal.rsqrt (Ideal.div (∑ k : Fin 1024, x (ix3 0 r k) * x (ix3 0 r k)) (Ideal.ofBits .f32 1149239296#32) + Ideal.ofBits .f32 897988541#32)
      * g (ix2 0 C) * (1 + sc (ix3 0 0 C)) + sh (ix3 0 0 C) := by
  pointwise [k0_pay1]

section Array

variable (m : (ℓ : Loc nD τ sig) → Buf (Elt Ideal) ℓ) (c : Dev nD)

/-- The gains as the region finds them. -/
theorem entry_g (C : Fin 1024) : (V m c main_v0 : FVec Ideal S1x1024 .f32) (ix2 0 C) = m ((c.tc : Thread nD τ).loc main_arg1) (ix1 C) := by
  entry_read
  pointwise

/-- The shifts as the region finds them. -/
theorem entry_sh (b : Fin 4) (C : Fin 1024) : (V m c main_v1 : FVec Ideal S4x1x1024 .f32) (ix3 b 0 C) = m ((c.tc : Thread nD τ).loc main_arg2) (ix2 b C) := by
  entry_read
  pointwise

/-- The scales as the region finds them. -/
theorem entry_sc (b : Fin 4) (C : Fin 1024) : (V m c main_v2 : FVec Ideal S4x1x1024 .f32) (ix3 b 0 C) = m ((c.tc : Thread nD τ).loc main_arg3) (ix2 b C) := by
  entry_read
  pointwise

/-- Row `r` of the grid's point is this row of the array. -/
def row (t : Fin cfg0.N) (r : Fin 512) : Fin 4096 :=
  ⟨(grid0.coords t 1).val * 512 + r.val, by have h1 : (grid0.coords t 1).val < 8 := (grid0.coords t 1).isLt; omega⟩

/-- The block of the gains. -/
theorem block_g (t : Fin cfg0.N) (C : Fin 1024) :
    View.ld (iblk m c 1 t) r0_1 (ix2 0 C) = m ((c.tc : Thread nD τ).loc main_arg1) (ix1 C) := by
  refine Eq.trans ?_ (entry_g m c C)
  show V m c main_v0 ((win0_1.blk t).view.emb (r0_1.idx (ix2 0 C))) = _
  refine congrArg (V m c main_v0) (funext fun a => Fin.ext ?_)
  match a with
  | ⟨0, _⟩ => blk_simp [idx_g]; rfl
  | ⟨1, _⟩ => blk_simp [idx_g]; show 0 + 1 * C.val = C.val; omega

/-- The block of the shifts. -/
theorem block_sh (t : Fin cfg0.N) (C : Fin 1024) :
    View.ld (iblk m c 2 t) r0_2 (ix3 0 0 C) = m ((c.tc : Thread nD τ).loc main_arg2) (ix2 (grid0.coords t 0) C) := by
  refine Eq.trans ?_ (entry_sh m c (grid0.coords t 0) C)
  show V m c main_v1 ((win0_2.blk t).view.emb (r0_2.idx (ix3 0 0 C))) = _
  refine congrArg (V m c main_v1) (funext fun a => Fin.ext ?_)
  match a with
  | ⟨0, _⟩ => blk_simp [idx_sh]
  | ⟨1, _⟩ => blk_simp [idx_sh]; rfl
  | ⟨2, _⟩ => blk_simp [idx_sh]; show 0 + 1 * C.val = C.val; omega

/-- The block of the scales. -/
theorem block_sc (t : Fin cfg0.N) (C : Fin 1024) :
    View.ld (iblk m c 3 t) r0_2 (ix3 0 0 C) = m ((c.tc : Thread nD τ).loc main_arg3) (ix2 (grid0.coords t 0) C) := by
  refine Eq.trans ?_ (entry_sc m c (grid0.coords t 0) C)
  show V m c main_v2 ((win0_3.blk t).view.emb (r0_2.idx (ix3 0 0 C))) = _
  refine congrArg (V m c main_v2) (funext fun a => Fin.ext ?_)
  match a with
  | ⟨0, _⟩ => blk_simp [idx_sc]
  | ⟨1, _⟩ => blk_simp [idx_sc]; rfl
  | ⟨2, _⟩ => blk_simp [idx_sc]; show 0 + 1 * C.val = C.val; omega

/-- A point's block of the result. -/
theorem point (t : Fin cfg0.N) (r : Fin 512) (C : Fin 1024) :
    out0_4 (iblk m c 0 t) (iblk m c 1 t) (iblk m c 2 t) (iblk m c 3 t) (ix3 0 r C)
      = normed (m ((c.tc : Thread nD τ).loc main_arg0)) (m ((c.tc : Thread nD τ).loc main_arg1))
          (m ((c.tc : Thread nD τ).loc main_arg2)) (m ((c.tc : Thread nD τ).loc main_arg3)) (grid0.coords t 0) (row t r) C := by
  unfold out0_4
  refine (View.canon_apply_of_pieces (k0_pay1 (View.ld (iblk m c 0 t) r0_0) (View.ld (iblk m c 1 t) r0_1) (View.ld (iblk m c 2 t) r0_2)
    (View.ld (iblk m c 3 t) r0_2)) _ ?_ _ (cover0_4 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine (pay_apply _ _ _ _ r C).trans ?_
    rw [block_g, block_sh, block_sc]
    unfold normed row
    blk_point [iblk, V, idx_x t]

/-- The result array of the kernel. -/
theorem final : (dats m 0 c).arrAt 4 cfg0.N = fun i => normed (m ((c.tc : Thread nD τ).loc main_arg0)) (m ((c.tc : Thread nD τ).loc main_arg1))
    (m ((c.tc : Thread nD τ).loc main_arg2)) (m ((c.tc : Thread nD τ).loc main_arg3)) (i 0) (i 1) (i 2) := by
  refine (dats m 0 c).arrAt_eq_of_covers 4 _ (by decide +kernel) fun t hf y => ?_
  blk_simp
  rw [after0_4]
  obtain ⟨p, r, C, rfl⟩ : ∃ (p : Fin 1) (r : Fin 512) (C : Fin 1024), y = ix3 p r C := ⟨y 0, y 1, y 2, by ext a; fin_cases a <;> rfl⟩
  obtain rfl : p = 0 := Subsingleton.elim _ _
  refine (point m c t r C).trans ?_
  have z0 : grid0.coords t 0 = (win0_4.blk t).view.emb (ix3 0 r C) 0 := Fin.ext (by blk_simp [idx_o]; rfl)
  have z1 : row t r = (win0_4.blk t).view.emb (ix3 0 r C) 1 := Fin.ext (by unfold row; blk_simp [idx_o])
  have z2 : C = (win0_4.blk t).view.emb (ix3 0 r C) 2 := Fin.ext (by blk_simp [idx_o])
  exact congr (congr (congrArg _ z0) z1) z2

end Array

end Cert.Kernel4Ideal.Norm

namespace Cert.Reference4Ideal.Norm

open Idealize.ShloMosaic Idealize.ShloMosaic.TcCoe Idealize.SL.Sem Cert.Reference4Ideal Cert.Reference4Ideal.Gen

/-- The reference's operations on its arguments. -/
def term (x : FVec Ideal S4x4096x1024 .f32) (g : FVec Ideal S1024 .f32) (sh sc : FVec Ideal S4x1024 .f32) :
    FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x4096x1024 ![0, 1, 2] bcast_S4x1x1024_S4x4096x1024_0_1_2 (broadcastInDim S4x1x1024 ![0, 2] bcast_S4x1024_S4x1x1024_0_2 sh))

/-- They compute the normalized, modulated rows. -/
theorem term_eq (x : FVec Ideal S4x4096x1024 .f32) (g : FVec Ideal S1024 .f32) (sh sc : FVec Ideal S4x1024 .f32) :
    term x g sh sc = fun i => Cert.Kernel4Ideal.Norm.normed x g sh sc (i 0) (i 1) (i 2) := by
  funext i
  obtain ⟨b, R, C, rfl⟩ : ∃ (b : Fin 4) (R : Fin 4096) (C : Fin 1024), i = ix3 b R C := ⟨i 0, i 1, i 2, by ext a; fin_cases a <;> rfl⟩
  pointwise [term, Cert.Kernel4Ideal.Norm.normed]

end Cert.Reference4Ideal.Norm
end
-- ==== Proof.Proj.lean ====
module

public import Idealize.ShloMosaic.Lib.Pipeline.ValueKit
public import Idealize.ShloMosaic.Lib.ReduceAll

@[expose] public section

noncomputable section

/- The rows that the projections compute, as functions of the rows they read, and the facts on real numbers that join
   the kernels' forms of them to the reference's. -/
namespace Cert.Proj

open Idealize.ShloMosaic

/-- The normalized, modulated row. -/
def hid (x g sh sc : Fin 1024 → EReal) (k : Fin 1024) : EReal :=
  x k * Ideal.rsqrt (Ideal.div (∑ j : Fin 1024, x j * x j) (Ideal.ofBits .f32 1149239296#32) + Ideal.ofBits .f32 897988541#32) * g k * (1 + sc k) + sh k

/-- The normalized row of 256 columns. -/
def nrm (y g : Fin 256 → EReal) (C : Fin 256) : EReal :=
  y C * Ideal.rsqrt (Ideal.div (∑ j : Fin 256, y j * y j) (Ideal.ofBits .f32 1132462080#32) + Ideal.ofBits .f32 897988541#32) * g C

/-- The two halves of a row of 32 columns, turned by the angles whose cosines and sines are given. -/
def rot (p : Fin 32 → EReal) (co si : Fin 16 → EReal) (C : Fin 32) : EReal :=
  if h : C.val < 16 then p C * co ⟨C.val, h⟩ - p ⟨C.val + 16, by omega⟩ * si ⟨C.val, h⟩
  else p ⟨C.val - 16, by omega⟩ * si ⟨C.val - 16, by omega⟩ + p C * co ⟨C.val - 16, by omega⟩

/-- The weights whose halves are exchanged, the first with its sign changed. -/
def turned {n : ℕ} (w : Fin n → Fin 32 → EReal) (k : Fin n) (C : Fin 32) : EReal :=
  if h : C.val < 16 then -w k ⟨C.val + 16, by omega⟩ else w k ⟨C.val - 16, by omega⟩

/-- A table of 16 columns, twice. -/
def twice (f : Fin 16 → EReal) (C : Fin 32) : EReal :=
  if h : C.val < 16 then f ⟨C.val, h⟩ else f ⟨C.val - 16, by omega⟩

/-- A number that is neither infinity. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub_self {x : EReal} (hx : IsReal x) : x - x = 0 := by
  obtain ⟨a, rfl⟩ := hx
  rw [← EReal.coe_sub, _root_.sub_self, EReal.coe_zero]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} {s : Finset ι} {f : ι → EReal} (hf : ∀ k, IsReal (f k)) : IsReal (∑ k ∈ s, f k) := by
  choose r hr using hf
  exact ⟨∑ k ∈ s, r k, by rw [coe_sum]; exact Finset.sum_congr rfl fun k _ => hr k⟩

/-- The value of the literal 1. -/
theorem one_bits : Ideal.ofBits .f32 0x3F800000#32 = 1 := by
  simp [Ideal.ofBits, Ideal.ieee]
  rw [← EReal.coe_mul]
  norm_num

theorem one_real : IsReal 1 := ⟨1, EReal.coe_one.symm⟩

/-- The value of the literal 1024. -/
theorem width_bits : Ideal.ofBits .f32 1149239296#32 = ((1024 : ℝ) : EReal) := by
  simp [Ideal.ofBits, Ideal.ieee]
  rw [← EReal.coe_mul]
  norm_num

/-- The small literal of the normalizations is a positive real number. -/
theorem eps_bits : ∃ e : ℝ, 0 < e ∧ Ideal.ofBits .f32 897988541#32 = (e : EReal) := by
  refine ⟨_, ?_, by simp [Ideal.ofBits, Ideal.ieee]; rw [← EReal.coe_mul]⟩
  positivity

/-- The factor of a normalization of real numbers is real. -/
theorem factor_real {n : ℕ} (x : Fin n → EReal) (hx : ∀ k, IsReal (x k)) (d : ℝ) (hd : 0 < d) :
    IsReal (Ideal.rsqrt (Ideal.div (∑ j : Fin n, x j * x j) (d : EReal) + Ideal.ofBits .f32 897988541#32)) := by
  obtain ⟨e, he, eb⟩ := eps_bits
  choose r hr using hx
  have s : ∑ j : Fin n, x j * x j = ((∑ j : Fin n, r j * r j : ℝ) : EReal) := by
    rw [coe_sum]
    exact Finset.sum_congr rfl fun k _ => by rw [hr k, EReal.coe_mul]
  have p : 0 ≤ ∑ j : Fin n, r j * r j := Finset.sum_nonneg fun k _ => mul_self_nonneg _
  have q : 0 < (∑ j : Fin n, r j * r j) * d⁻¹ + e := by positivity
  rw [s, eb]
  unfold Ideal.div
  rw [if_neg (by simpa using hd.ne'), ← EReal.coe_inv, ← EReal.coe_mul, ← EReal.coe_add, Ideal.rsqrt_coe, if_neg (not_lt.mpr q.le), if_neg q.ne']
  exact ⟨_, rfl⟩

theorem hid_real {x g sh sc : Fin 1024 → EReal} (hx : ∀ k, IsReal (x k)) (hg : ∀ k, IsReal (g k)) (hh : ∀ k, IsReal (sh k))
    (hc : ∀ k, IsReal (sc k)) (k : Fin 1024) : IsReal (hid x g sh sc k) := by
  unfold hid
  rw [width_bits]
  exact ((((hx k).mul (factor_real x hx 1024 (by norm_num))).mul (hg k)).mul (one_real.add (hc k))).add (hh k)

/-- A product of sums of a large and a small part, of real numbers that have no small part. -/
theorem three {n : ℕ} (h w : Fin n → EReal) (hh : ∀ k, IsReal (h k)) (hw : ∀ k, IsReal (w k)) :
    (∑ k, h k * w k) + ((∑ k, h k * (w k - w k)) + ∑ k, (h k - h k) * w k) = ∑ k, h k * w k := by
  have a : ∑ k, h k * (w k - w k) = 0 := Finset.sum_eq_zero fun k _ => by rw [(hw k).sub_self, mul_zero]
  have b : ∑ k, (h k - h k) * w k = 0 := Finset.sum_eq_zero fun k _ => by rw [(hh k).sub_self, zero_mul]
  rw [a, b, add_zero, add_zero]

/-- The sign of one factor of every product, taken out of a sum of real numbers. -/
theorem sum_neg {n : ℕ} (h w : Fin n → EReal) (hh : ∀ k, IsReal (h k)) (hw : ∀ k, IsReal (w k)) :
    ∑ k, h k * -w k = -∑ k, h k * w k := by
  choose a ha using hh
  choose b hb using hw
  have e : ∑ k, h k * -w k = ((∑ k, a k * -b k : ℝ) : EReal) := by
    rw [coe_sum]
    exact Finset.sum_congr rfl fun k _ => by rw [ha k, hb k, EReal.coe_mul, EReal.coe_neg]
  have e' : ∑ k, h k * w k = ((∑ k, a k * b k : ℝ) : EReal) := by
    rw [coe_sum]
    exact Finset.sum_congr rfl fun k _ => by rw [ha k, hb k, EReal.coe_mul]
  rw [e, e', ← EReal.coe_neg, ← Finset.sum_neg_distrib]
  simp only [mul_neg]

theorem turned_real {n : ℕ} {w : Fin n → Fin 32 → EReal} (hw : ∀ k C, IsReal (w k C)) (k : Fin n) (C : Fin 32) : IsReal (turned w k C) := by
  unfold turned
  split
  · exact (hw _ _).neg
  · exact hw _ _

/-- Two projections, one of them with the turned weights, times the cosines and the sines: the turned projection. -/
theorem two_products {n : ℕ} (h : Fin n → EReal) (w : Fin n → Fin 32 → EReal) (co si : Fin 16 → EReal) (hh : ∀ k, IsReal (h k))
    (hw : ∀ k C, IsReal (w k C)) (C : Fin 32) :
    (∑ k, h k * w k C) * twice co C + (∑ k, h k * turned w k C) * twice si C = rot (fun C => ∑ k, h k * w k C) co si C := by
  unfold rot twice turned
  by_cases hC : C.val < 16
  · simp only [dif_pos hC]
    rw [sum_neg h (fun k => w k ⟨C.val + 16, by omega⟩) hh (fun k => hw _ _), EReal.neg_mul, sub_eq_add_neg]
  · simp only [dif_neg hC]
    rw [add_comm]

/-- A number whose absolute value is below plus infinity is real. -/
theorem real_of_lt (v : EReal) (lt : max v (-v) < ⊤) : IsReal v := by
  induction v with
  | bot => simp at lt
  | top => simp at lt
  | coe r => exact ⟨r, rfl⟩

/-- An array of which every absolute value compares as smaller than plus infinity is real. -/
theorem real_of_all {s t u z : Shape} {axes : List (Fin s.rank)} [Subsingleton t.Idx] (x : FVec Ideal s .f32) {dims : Fin z.rank → Fin s.rank}
    (hb : z.BroadcastsInDim s dims) (hr : s.ReducesTo axes t) (hu : 0 < u.numel) (j : t.Idx)
    (h : Host.reduce IntOp.andi (cmpf .olt (Host.absf x) (broadcastInDim s dims hb (constant z .f32 0x7F800000#32))) (constantI u 1 1#1) hr hu j = 1#1)
    (y : s.Idx) : IsReal (x y) := by
  have e := Host.reduce_andi_all _ _ hr hu _ h y
  have e' : BitVec.ofBool (decide (max (x y : EReal) (-(x y : EReal)) < Ideal.ofBits FTy.f32 0x7F800000#32)) = 1#1 := e
  have top : Ideal.ofBits FTy.f32 0x7F800000#32 = ⊤ := by simp [Ideal.ofBits, Ideal.ieee]
  rw [top] at e'
  have lt : max (x y : EReal) (-(x y : EReal)) < ⊤ := by
    by_contra hn
    rw [decide_eq_false hn] at e'
    exact absurd e' (by decide)
  exact real_of_lt _ lt

/-- Two bits whose conjunction is 1 are both 1. -/
theorem both_one (a b : BitVec 1) (h : a &&& b = 1#1) : a = 1#1 ∧ b = 1#1 := by
  revert a b
  decide

end Cert.Proj
end
-- ==== Proof.KvBlock.lean ====
module

public import proofs.«01_k».proof.Proof.Proj
public import proofs.«01_k».proof.Proof.Gen.Kernel5Ideal.Value

@[expose] public section

set_option maxRecDepth 16384

noncomputable section

/- What the key-and-value kernel's body computes on blocks of real numbers, at an element of each result block. -/
namespace Cert.Kernel5Ideal.Kv

open Idealize.ShloMosaic Idealize.ShloMosaic.TcCoe Idealize.SL.Sem Cert.Kernel5Ideal Cert.Kernel5Ideal.Gen Cert.Proj

variable (x : Vec Ideal S1x512x1024 .f32) (g : Vec Ideal S1x1024 .f32) (sh sc : Vec Ideal S1x1x1024 .f32) (wd : Vec Ideal S1024x256 .f32)
  (gc : Vec Ideal S1x256 .f32) (wr wt : Vec Ideal S1024x32 .f32) (co si : Vec Ideal S512x32 .f32)
  (wk : Vec Ideal S256x2048 .bf16) (pk : Vec Ideal S32x2048 .bf16) (wv : Vec Ideal S256x2048 .bf16)

/-- Row `r` of the normalized block. -/
def hidB (r : Fin 512) (k : Fin 1024) : EReal :=
  hid (fun k => x (ix3 0 r k)) (fun k => g (ix2 0 k)) (fun k => sh (ix3 0 0 k)) (fun k => sc (ix3 0 0 k)) k

theorem pay2_apply (r : Fin 512) (k : Fin 1024) : k0_pay2 x g sh sc (ix2 r k) = hidB x g sh sc r k := by
  pointwise [k0_pay2, hidB, hid]

theorem pay5_apply (r : Fin 512) (C : Fin 256) :
    k0_pay5 x g sh sc wd (ix2 r C) = ∑ k : Fin 1024, hidB x g sh sc r k * wd (ix2 k C) := by
  simp only [← pay2_apply]
  pointwise [k0_pay5, k0_pay3, k0_pay4]

theorem pay6_apply (r : Fin 512) (C : Fin 256) :
    k0_pay6 x g sh sc wd (ix2 r C) = ∑ k : Fin 1024, hidB x g sh sc r k * (wd (ix2 k C) - wd (ix2 k C)) := by
  simp only [← pay2_apply]
  pointwise [k0_pay6, k0_pay3, k0_pay4]

theorem pay7_apply (r : Fin 512) (C : Fin 256) :
    k0_pay7 x g sh sc wd (ix2 r C) = ∑ k : Fin 1024, (hidB x g sh sc r k - hidB x g sh sc r k) * wd (ix2 k C) := by
  simp only [← pay2_apply]
  pointwise [k0_pay7, k0_pay3, k0_pay4]

theorem pay8_apply (a b d : FVec Ideal S512x256 .f32) (r : Fin 512) (C : Fin 256) :
    k0_pay8 a b d gc (ix2 r C) = nrm (fun C => a (ix2 r C) + (b (ix2 r C) + d (ix2 r C))) (fun C => gc (ix2 0 C)) C := by
  pointwise [k0_pay8, nrm]

/-- Row `r` of the latent block. -/
def latB (r : Fin 512) (C : Fin 256) : EReal :=
  nrm (fun C => ∑ k : Fin 1024, hidB x g sh sc r k * wd (ix2 k C)) (fun C => gc (ix2 0 C)) C

/-- The latent block of real numbers. -/
theorem lat_apply (r : Fin 512) (hh : ∀ k, IsReal (hidB x g sh sc r k)) (hw : ∀ k C, IsReal (wd (ix2 k C))) (C : Fin 256) :
    k0_pay8 (k0_pay5 x g sh sc wd) (k0_pay6 x g sh sc wd) (k0_pay7 x g sh sc wd) gc (ix2 r C) = latB x g sh sc wd gc r C := by
  rw [pay8_apply]
  unfold latB
  congr 1
  funext C
  rw [pay5_apply, pay6_apply, pay7_apply]
  exact three _ _ hh fun k => hw k C

theorem pay9_apply (h : FVec Ideal S512x1024 .f32) (r : Fin 512) (C : Fin 32) :
    k0_pay9 h wr co (ix2 r C) = ((∑ k : Fin 1024, h (ix2 r k) * wr (ix2 k C)) + ((∑ k : Fin 1024, h (ix2 r k) * (wr (ix2 k C) - wr (ix2 k C)))
      + ∑ k : Fin 1024, (h (ix2 r k) - h (ix2 r k)) * wr (ix2 k C))) * co (ix2 r C) := by
  pointwise [k0_pay9]

theorem pay16_apply (h : FVec Ideal S512x1024 .f32) (p : FVec Ideal S512x32 .f32) (r : Fin 512) (C : Fin 32) :
    k0_pay16 p (k0_pay11 h) (k0_pay12 h) (k0_pay13 wt) (k0_pay14 wt) (k0_pay15 h wt) (constant S512x32 .f32 0x00000000#32) si (ix2 r C)
      = p (ix2 r C) + ((∑ k : Fin 1024, h (ix2 r k) * wt (ix2 k C)) + ((∑ k : Fin 1024, h (ix2 r k) * (wt (ix2 k C) - wt (ix2 k C)))
      + ∑ k : Fin 1024, (h (ix2 r k) - h (ix2 r k)) * wt (ix2 k C))) * si (ix2 r C) := by
  pointwise [k0_pay16, k0_pay11, k0_pay12, k0_pay13, k0_pay14, k0_pay10, k0_pay15]

/-- The block of the turned projection. -/
def rotV : FVec Ideal S512x32 .f32 :=
  k0_pay16 (k0_pay9 (k0_pay2 x g sh sc) wr co) (k0_pay11 (k0_pay2 x g sh sc)) (k0_pay12 (k0_pay2 x g sh sc)) (k0_pay13 wt) (k0_pay14 wt)
    (k0_pay15 (k0_pay2 x g sh sc) wt) (constant S512x32 .f32 0x00000000#32) si

/-- The turned block of real numbers. -/
theorem rot_apply (r : Fin 512) (hh : ∀ k, IsReal (hidB x g sh sc r k)) (w : Fin 1024 → Fin 32 → EReal) (cs sn : Fin 16 → EReal)
    (hr : ∀ k C, wr (ix2 k C) = w k C) (ht : ∀ k C, wt (ix2 k C) = turned w k C) (hc : ∀ C, co (ix2 r C) = twice cs C)
    (hs : ∀ C, si (ix2 r C) = twice sn C) (hw : ∀ k C, IsReal (w k C)) (C : Fin 32) :
    rotV x g sh sc wr wt co si (ix2 r C) = rot (fun C => ∑ k : Fin 1024, hidB x g sh sc r k * w k C) cs sn C := by
  unfold rotV
  rw [pay16_apply, pay9_apply]
  simp only [pay2_apply, hr, ht, hc, hs]
  rw [three _ _ hh fun k => hw k C, three _ _ hh fun k => turned_real hw k C]
  exact two_products _ w cs sn hh hw C

theorem pay18_apply (l : FVec Ideal S512x256 .f32) (r : Fin 512) (J : Fin 2048) :
    k0_pay18 l (k0_pay9 (k0_pay2 x g sh sc) wr co) (k0_pay11 (k0_pay2 x g sh sc)) (k0_pay12 (k0_pay2 x g sh sc)) (k0_pay13 wt) (k0_pay14 wt)
      (k0_pay15 (k0_pay2 x g sh sc) wt) (constant S512x32 .f32 0x00000000#32) si wk pk (ix3 0 r J)
      = (∑ c : Fin 256, l (ix2 r c) * wk (ix2 c J)) + ∑ q : Fin 32, rotV x g sh sc wr wt co si (ix2 r q) * pk (ix2 q J) := by
  unfold rotV
  pointwise [k0_pay18, k0_pay17]

theorem pay19_apply (l : FVec Ideal S512x256 .f32) (r : Fin 512) (J : Fin 2048) :
    k0_pay19 l wv (ix3 0 r J) = ∑ c : Fin 256, l (ix2 r c) * wv (ix2 c J) := by
  pointwise [k0_pay19, k0_pay17]

theorem pay20_apply (l : FVec Ideal S512x256 .f32) (r : Fin 512) (C : Fin 256) : k0_pay20 l (ix3 0 r C) = l (ix2 r C) := by
  pointwise [k0_pay20]

theorem pay1_apply (p : FVec Ideal S512x32 .f32) (r : Fin 512) (C : Fin 32) : k0_pay1 p (ix3 0 r C) = p (ix2 r C) := by
  pointwise [k0_pay1]

end Cert.Kernel5Ideal.Kv
end
-- ==== Proof.KvHost.lean ====
module

public import proofs.«01_k».proof.Proof.KvBlock
public import Idealize.ShloMosaic.Lib.KernelVsHost

@[expose] public section

set_option maxRecDepth 16384

noncomputable section

/- The arrays that the host code makes for the key-and-value kernel, element by element. -/
namespace Cert.Kernel5Ideal.Kv

open Idealize.ShloMosaic Idealize.ShloMosaic.TcCoe Idealize.SL.Sem Cert.Kernel5Ideal Cert.Kernel5Ideal.Gen Cert.Proj

/-- The angles of the rotary embedding: each position times each frequency. -/
def angles : FVec Ideal S4096x16 .f32 :=
  mulf (broadcastInDim S4096x16 ![0, 1] bcast_S4096x1_S4096x16_0_1 (broadcastInDim S4096x1 ![0] bcast_S4096_S4096x1_0 (sitofp (F := Ideal) .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp (F := Ideal) .f32 (iotaInDim S16 32 0)))))
          (broadcastInDim S16 ![] bcast_S_S16 (constant S_ .f32 0x42000000#32))))))

/-- The cosines and the sines of the angles. -/
def cosines : FVec Ideal S4096x16 .f32 := Host.cos angles
def sines : FVec Ideal S4096x16 .f32 := Host.sin angles

/-- A table set beside itself. -/
def beside (f : FVec Ideal S4096x16 .f32) : FVec Ideal S4096x32 .f32 :=
  concatenate S4096x32 1 [⟨S4096x16, f⟩, ⟨S4096x16, f⟩] concatenates_S4096x16_S4096x16_S4096x32_d1

theorem beside_apply (f : FVec Ideal S4096x16 .f32) (R : Fin 4096) (C : Fin 32) : beside f (ix2 R C) = twice (fun c => f (ix2 R c)) C := by
  unfold twice
  by_cases h : C.val < 16
  · rw [dif_pos h]
    exact concatenate_pair_apply_left 1 f f _ (ix2 R C) rfl (ix2 R ⟨C.val, h⟩) (fun a => match a with | ⟨0, _⟩ => rfl | ⟨1, _⟩ => rfl)
  · rw [dif_neg h]
    refine concatenate_pair_apply_right 1 f f _ (ix2 R C) rfl rfl (ix2 R ⟨C.val - 16, by omega⟩) (fun b hb => ?_) (by show C.val - 16 + 16 = C.val; omega)
    match b with
    | ⟨0, _⟩ => rfl
    | ⟨1, _⟩ => exact absurd rfl hb

/-- The key weights with their halves exchanged, one of them with its sign changed. -/
def exchanged (w : FVec Ideal S1024x32 .f32) : FVec Ideal S1024x32 .f32 :=
  concatenate S1024x32 1 [⟨S1024x16, Host.negf (extractStridedSlice S1024x16 ![0, 16] w slices_S1024x32_S1024x16_0_16)⟩,
    ⟨S1024x16, extractStridedSlice S1024x16 ![0, 0] w slices_S1024x32_S1024x16_0_0⟩] concatenates_S1024x16_S1024x16_S1024x32_d1

theorem exchanged_apply (w : FVec Ideal S1024x32 .f32) (k : Fin 1024) (C : Fin 32) :
    exchanged w (ix2 k C) = turned (fun k C => w (ix2 k C)) k C := by
  unfold turned
  by_cases h : C.val < 16
  · rw [dif_pos h]
    refine (concatenate_pair_apply_left (s₁ := S1024x16) (s₂ := S1024x16) 1 _ _ _ (ix2 k C) rfl (ix2 k ⟨C.val, h⟩) (fun a => match a with | ⟨0, _⟩ => rfl | ⟨1, _⟩ => rfl)).trans ?_
    pointwise
    congr 3
    exact Fin.ext (Nat.add_comm _ _)
  · rw [dif_neg h]
    refine (concatenate_pair_apply_right (s₁ := S1024x16) (s₂ := S1024x16) 1 _ _ _ (ix2 k C) rfl rfl (ix2 k ⟨C.val - 16, by omega⟩) (fun b hb => ?_) (by show C.val - 16 + 16 = C.val; omega)).trans ?_
    · match b with
      | ⟨0, _⟩ => rfl
      | ⟨1, _⟩ => exact absurd rfl hb
    · pointwise

/-- The identity matrix. -/
def unit : FVec Ideal S32x32 .f32 :=
  uitofp (F := Ideal) .f32 (cmpi .eq (addi (iotaInDim S32x32 32 0) (broadcastInDim S32x32 ![] bcast_S_S32x32 (constantI S_ 32 0#32))) (iotaInDim S32x32 32 1))

theorem unit_apply (q d : Fin 32) : unit (ix2 q d) = (if q = d then 1 else 0 : EReal) := by
  have e : ∀ q d : Fin 32, (BitVec.ofBool (decide (BitVec.ofNat 32 q.val + 0#32 = BitVec.ofNat 32 d.val))).toNat = if q = d then 1 else 0 := by decide +kernel
  have e' : unit (ix2 q d) = (((BitVec.ofBool (decide (BitVec.ofNat 32 q.val + 0#32 = BitVec.ofNat 32 d.val))).toNat : ℝ) : EReal) := rfl
  rw [e', e]
  split <;> simp

/-- The identity matrix with 64 zero columns before it and 32 after it. -/
def spread : FVec Ideal S32x128 .f32 :=
  pad S32x128 ![0, 64] ![0, 32] ![0, 0] unit (sitofp (F := Ideal) .f32 (constantI S_ 32 0#32)) pads_S32x32_S32x128_000_64320 h_S_

theorem zero_word : FloatOps.sitofp (F := Ideal) .f32 (0#32) = (0 : EReal) := by
  show (((0#32 : BitVec 32).toInt : ℝ) : EReal) = 0
  simp

theorem spread_apply (q : Fin 32) (d : Fin 128) : spread (ix2 q d) = (if q.val + 64 = d.val then 1 else 0 : EReal) := by
  by_cases h : 64 ≤ d.val ∧ d.val < 96
  · refine (pad_apply_of_inside _ _ _ _ _ _ _ _ (ix2 q ⟨d.val - 64, by omega⟩) (fun a => ?_)).trans ?_
    · match a with
      | ⟨0, _⟩ => show q.val = 0 + q.val * (0 + 1); omega
      | ⟨1, _⟩ => show d.val = 64 + (d.val - 64) * (0 + 1); omega
    · rw [unit_apply]
      congr 1
      refine propext ⟨fun e => ?_, fun e => Fin.ext ?_⟩
      · have := congrArg Fin.val e
        simp only at this
        omega
      · show q.val = d.val - 64
        omega
  · rw [if_neg (by omega)]
    refine (pad_apply_of_not_inside _ _ _ _ _ _ _ _ 1 (fun e => h ?_)).trans ?_
    · have e1 : 64 ≤ d.val := e.1
      have e2 : (d.val - 64) / (0 + 1) < 32 := e.2.2
      omega
    · exact zero_word

/-- The matrix that sets a row of 32 columns at its place in each head. -/
def places : FVec Ideal S32x2048 .bf16 :=
  truncf (F := Ideal) .bf16 (shapeCast S32x2048 (broadcastInDim S1x32x16x128 ![0, 1, 2, 3] bcast_S1x32x1x128_S1x32x16x128_0_1_2_3
    (shapeCast S1x32x1x128 spread shapeCasts_S32x128_S1x32x1x128)) shapeCasts_S1x32x16x128_S32x2048) bitsLt_bf16_f32

theorem places_apply (q : Fin 32) (J : Fin 2048) : places (ix2 q J) = (if q.val + 64 = J.val % 128 then 1 else 0 : EReal) := by
  refine Eq.trans ?_ (spread_apply q ⟨J.val % 128, by omega⟩)
  pointwise [places]

/-- Half of each head's columns, with 64 zero columns after them. -/
def widened (w : FVec Ideal S256x16x64 .f32) : FVec Ideal S256x16x128 .f32 :=
  pad S256x16x128 ![0, 0, 0] ![0, 0, 64] ![0, 0, 0] w (sitofp (F := Ideal) .f32 (constantI S_ 32 0#32)) pads_S256x16x64_S256x16x128_000_000_0640 h_S_

theorem widened_apply (w : FVec Ideal S256x16x64 .f32) (c : Fin 256) (h : Fin 16) (d : Fin 128) :
    widened w (ix3 c h d) = (if hd : d.val < 64 then w (ix3 c h ⟨d.val, hd⟩) else (0 : EReal) : EReal) := by
  by_cases hd : d.val < 64
  · rw [dif_pos hd]
    refine pad_apply_of_inside _ _ _ _ _ _ _ _ (ix3 c h ⟨d.val, hd⟩) (fun a => ?_)
    match a with
    | ⟨0, _⟩ => show c.val = 0 + c.val * (0 + 1); omega
    | ⟨1, _⟩ => show h.val = 0 + h.val * (0 + 1); omega
    | ⟨2, _⟩ => show d.val = 0 + d.val * (0 + 1); omega
  · rw [dif_neg hd]
    refine (pad_apply_of_not_inside _ _ _ _ _ _ _ _ 2 (fun e => hd ?_)).trans ?_
    · have e2 : (d.val - 0) / (0 + 1) < 64 := e.2.2
      omega
    · exact zero_word

/-- The weights of the keys' and of the values' columns. -/
def keyW (w : FVec Ideal S256x16x128 .f32) : FVec Ideal S256x2048 .bf16 :=
  truncf (F := Ideal) .bf16 (shapeCast S256x2048 (widened (extractStridedSlice S256x16x64 ![0, 0, 0] w slices_S256x16x128_S256x16x64_0_0_0)) shapeCasts_S256x16x128_S256x2048) bitsLt_bf16_f32
def valW (w : FVec Ideal S256x16x128 .f32) : FVec Ideal S256x2048 .bf16 :=
  truncf (F := Ideal) .bf16 (shapeCast S256x2048 (widened (extractStridedSlice S256x16x64 ![0, 0, 64] w slices_S256x16x128_S256x16x64_0_0_64)) shapeCasts_S256x16x128_S256x2048) bitsLt_bf16_f32

theorem keyW_apply (w : FVec Ideal S256x16x128 .f32) (c : Fin 256) (J : Fin 2048) :
    keyW w (ix2 c J) = (if J.val % 128 < 64 then w (ix3 c ⟨J.val / 128, by omega⟩ ⟨J.val % 128, by omega⟩) else (0 : EReal) : EReal) := by
  have e : keyW w (ix2 c J) = widened (extractStridedSlice S256x16x64 ![0, 0, 0] w slices_S256x16x128_S256x16x64_0_0_0) (ix3 c ⟨J.val / 128, by omega⟩ ⟨J.val % 128, by omega⟩) := by
    pointwise [keyW]
  rw [e, widened_apply]
  split
  · pointwise
  · rfl

theorem valW_apply (w : FVec Ideal S256x16x128 .f32) (c : Fin 256) (J : Fin 2048) :
    valW w (ix2 c J) = (if h : J.val % 128 < 64 then w (ix3 c ⟨J.val / 128, by omega⟩ ⟨64 + J.val % 128, by omega⟩) else (0 : EReal) : EReal) := by
  have e : valW w (ix2 c J) = widened (extractStridedSlice S256x16x64 ![0, 0, 64] w slices_S256x16x128_S256x16x64_0_0_64) (ix3 c ⟨J.val / 128, by omega⟩ ⟨J.val % 128, by omega⟩) := by
    pointwise [valW]
  rw [e, widened_apply]
  split
  · pointwise
  · rfl

section Array

variable (m : (ℓ : Loc nD τ sig) → Buf (Elt Ideal) ℓ) (c : Dev nD)

theorem host_g : (V m c main_v49 : FVec Ideal S1x1024 .f32) = shapeCast S1x1024 (m ((c.tc : Thread nD τ).loc main_arg3)) shapeCasts_S1024_S1x1024 := by
  simp only [V, hostOps0, hostOps0_1, hostOps0_2, hostOps0_3, hostOps0_4, hostOps0_5, hostOps0_6, List.flatten_cons, List.flatten_nil, List.append_nil, List.cons_append, List.nil_append]
  after_results <;> rfl

theorem host_sh : (V m c main_v50 : FVec Ideal S4x1x1024 .f32) = broadcastInDim S4x1x1024 ![0, 2] bcast_S4x1024_S4x1x1024_0_2 (m ((c.tc : Thread nD τ).loc main_arg1)) := by
  simp only [V, hostOps0, hostOps0_1, hostOps0_2, hostOps0_3, hostOps0_4, hostOps0_5, hostOps0_6, List.flatten_cons, List.flatten_nil, List.append_nil, List.cons_append, List.nil_append]
  after_results <;> rfl

theorem host_sc : (V m c main_v51 : FVec Ideal S4x1x1024 .f32) = broadcastInDim S4x1x1024 ![0, 2] bcast_S4x1024_S4x1x1024_0_2 (m ((c.tc : Thread nD τ).loc main_arg2)) := by
  simp only [V, hostOps0, hostOps0_1, hostOps0_2, hostOps0_3, hostOps0_4, hostOps0_5, hostOps0_6, List.flatten_cons, List.flatten_nil, List.append_nil, List.cons_append, List.nil_append]
  after_results <;> rfl

theorem host_gc : (V m c main_v10 : FVec Ideal S1x256 .f32) = shapeCast S1x256 (m ((c.tc : Thread nD τ).loc main_arg5)) shapeCasts_S256_S1x256 := by
  simp only [V, hostOps0, hostOps0_1, hostOps0_2, hostOps0_3, hostOps0_4, hostOps0_5, hostOps0_6, List.flatten_cons, List.flatten_nil, List.append_nil, List.cons_append, List.nil_append]
  after_results <;> rfl

theorem host_wt : (V m c main_v14 : FVec Ideal S1024x32 .f32) = exchanged (m ((c.tc : Thread nD τ).loc main_arg6)) := by
  unfold exchanged
  simp only [V, hostOps0, hostOps0_1, hostOps0_2, hostOps0_3, hostOps0_4, hostOps0_5, hostOps0_6, List.flatten_cons, List.flatten_nil, List.append_nil, List.cons_append, List.nil_append]
  after_results <;> rfl

theorem host_co : (V m c main_v45 : FVec Ideal S4096x32 .f32) = mulf (beside cosines) (broadcastInDim S4096x32 ![] bcast_S_S4096x32 (constant S_ .f32 0x3F800000#32)) := by
  unfold beside cosines angles
  simp only [V, hostOps0, hostOps0_1, hostOps0_2, hostOps0_3, hostOps0_4, hostOps0_5, hostOps0_6, List.flatten_cons, List.flatten_nil, List.append_nil, List.cons_append, List.nil_append]
  after_results <;> rfl

theorem host_si : (V m c main_v48 : FVec Ideal S4096x32 .f32) = mulf (beside sines) (broadcastInDim S4096x32 ![] bcast_S_S4096x32 (constant S_ .f32 0x3F800000#32)) := by
  unfold beside sines angles
  simp only [V, hostOps0, hostOps0_1, hostOps0_2, hostOps0_3, hostOps0_4, hostOps0_5, hostOps0_6, List.flatten_cons, List.flatten_nil, List.append_nil, List.cons_append, List.nil_append]
  after_results <;> rfl

theorem host_wk : (V m c main_v18 : FVec Ideal S256x2048 .bf16) = keyW (m ((c.tc : Thread nD τ).loc main_arg7)) := by
  unfold keyW widened
  simp only [V, hostOps0, hostOps0_1, hostOps0_2, hostOps0_3, hostOps0_4, hostOps0_5, hostOps0_6, List.flatten_cons, List.flatten_nil, List.append_nil, List.cons_append, List.nil_append]
  after_results <;> rfl

theorem host_wv : (V m c main_v22 : FVec Ideal S256x2048 .bf16) = valW (m ((c.tc : Thread nD τ).loc main_arg7)) := by
  unfold valW widened
  simp only [V, hostOps0, hostOps0_1, hostOps0_2, hostOps0_3, hostOps0_4, hostOps0_5, hostOps0_6, List.flatten_cons, List.flatten_nil, List.append_nil, List.cons_append, List.nil_append]
  after_results <;> rfl

theorem host_pk : (V m c main_v23 : FVec Ideal S32x2048 .bf16) = places := by
  unfold places spread unit
  simp only [V, hostOps0, hostOps0_1, hostOps0_2, hostOps0_3, hostOps0_4, hostOps0_5, hostOps0_6, List.flatten_cons, List.flatten_nil, List.append_nil, List.cons_append, List.nil_append]
  after_results <;> rfl

end Array

end Cert.Kernel5Ideal.Kv
end
-- ==== Proof.KvOut.lean ====
module

public import proofs.«01_k».proof.Proof.KvHost

@[expose] public section

set_option maxRecDepth 16384

noncomputable section

/- The result arrays of the key-and-value kernel: the latents, the turned keys, and each head's keys and values. -/
namespace Cert.Kernel5Ideal.Kv

open Idealize.ShloMosaic Idealize.ShloMosaic.TcCoe Idealize.SL.Sem Cert.Kernel5Ideal Cert.Kernel5Ideal.Gen Cert.Proj
open Idealize.ShloMosaic.Pipeline (Dat)

section Spec

variable (x : FVec Ideal S4x4096x1024 .f32) (sh sc : FVec Ideal S4x1024 .f32) (g : FVec Ideal S1024 .f32) (wd : FVec Ideal S1024x256 .f32)
  (gc : FVec Ideal S256 .f32) (wr : FVec Ideal S1024x32 .f32) (wu : FVec Ideal S256x16x128 .f32) (b : Fin 4) (R : Fin 4096)

/-- The normalized, modulated row. -/
def hidden (k : Fin 1024) : EReal :=
  hid (fun k => x (ix3 b R k)) (fun k => g (ix1 k)) (fun k => sh (ix2 b k)) (fun k => sc (ix2 b k)) k

/-- The latent row. -/
def latent (C : Fin 256) : EReal :=
  nrm (fun C => ∑ k : Fin 1024, hidden x sh sc g b R k * wd (ix2 k C)) (fun C => gc (ix1 C)) C

/-- The key row that all heads share, turned by its position. -/
def shared (C : Fin 32) : EReal :=
  rot (fun C => ∑ k : Fin 1024, hidden x sh sc g b R k * wr (ix2 k C)) (fun c => cosines (ix2 R c)) (fun c => sines (ix2 R c)) C

/-- The key rows of all heads, of 128 columns each. -/
def keys (J : Fin 2048) : EReal :=
  if J.val % 128 < 64 then ∑ c : Fin 256, latent x sh sc g wd gc b R c * wu (ix3 c ⟨J.val / 128, by omega⟩ ⟨J.val % 128, by omega⟩)
  else if J.val % 128 < 96 then shared x sh sc g wr b R ⟨(J.val % 128 - 64) % 32, by omega⟩ else 0

/-- The value rows of all heads, of 128 columns each. -/
def values (J : Fin 2048) : EReal :=
  if h : J.val % 128 < 64 then ∑ c : Fin 256, latent x sh sc g wd gc b R c * wu (ix3 c ⟨J.val / 128, by omega⟩ ⟨64 + J.val % 128, by omega⟩)
  else 0

end Spec

theorem idx_x : ∀ t : Fin cfg0.N, win0_0.index t = ![(grid0.coords t 0).val, (grid0.coords t 1).val, 0] :=
  (by decide +kernel : ∀ t : Fin grid0.N, _)
theorem idx_g : ∀ t : Fin cfg0.N, win0_1.index t = ![0, 0] :=
  (by decide +kernel : ∀ t : Fin grid0.N, _)
theorem idx_sh : ∀ t : Fin cfg0.N, win0_2.index t = ![(grid0.coords t 0).val, 0, 0] :=
  (by decide +kernel : ∀ t : Fin grid0.N, _)
theorem idx_sc : ∀ t : Fin cfg0.N, win0_3.index t = ![(grid0.coords t 0).val, 0, 0] :=
  (by decide +kernel : ∀ t : Fin grid0.N, _)
theorem idx_wd : ∀ t : Fin cfg0.N, win0_4.index t = ![0, 0] :=
  (by decide +kernel : ∀ t : Fin grid0.N, _)
theorem idx_gc : ∀ t : Fin cfg0.N, win0_5.index t = ![0, 0] :=
  (by decide +kernel : ∀ t : Fin grid0.N, _)
theorem idx_wr : ∀ t : Fin cfg0.N, win0_6.index t = ![0, 0] :=
  (by decide +kernel : ∀ t : Fin grid0.N, _)
theorem idx_wt : ∀ t : Fin cfg0.N, win0_7.index t = ![0, 0] :=
  (by decide +kernel : ∀ t : Fin grid0.N, _)
theorem idx_co : ∀ t : Fin cfg0.N, win0_8.index t = ![(grid0.coords t 1).val, 0] :=
  (by decide +kernel : ∀ t : Fin grid0.N, _)
theorem idx_si : ∀ t : Fin cfg0.N, win0_9.index t = ![(grid0.coords t 1).val, 0] :=
  (by decide +kernel : ∀ t : Fin grid0.N, _)
theorem idx_wk : ∀ t : Fin cfg0.N, win0_10.index t = ![0, 0] :=
  (by decide +kernel : ∀ t : Fin grid0.N, _)
theorem idx_pk : ∀ t : Fin cfg0.N, win0_11.index t = ![0, 0] :=
  (by decide +kernel : ∀ t : Fin grid0.N, _)
theorem idx_wv : ∀ t : Fin cfg0.N, win0_12.index t = ![0, 0] :=
  (by decide +kernel : ∀ t : Fin grid0.N, _)
theorem idx_ol : ∀ t : Fin cfg0.N, win0_13.index t = ![(grid0.coords t 0).val, (grid0.coords t 1).val, 0] :=
  (by decide +kernel : ∀ t : Fin grid0.N, _)
theorem idx_os : ∀ t : Fin cfg0.N, win0_14.index t = ![(grid0.coords t 0).val, (grid0.coords t 1).val, 0] :=
  (by decide +kernel : ∀ t : Fin grid0.N, _)
theorem idx_ok : ∀ t : Fin cfg0.N, win0_15.index t = ![(grid0.coords t 0).val, (grid0.coords t 1).val, 0] :=
  (by decide +kernel : ∀ t : Fin grid0.N, _)
theorem idx_ov : ∀ t : Fin cfg0.N, win0_16.index t = ![(grid0.coords t 0).val, (grid0.coords t 1).val, 0] :=
  (by decide +kernel : ∀ t : Fin grid0.N, _)

section Array

variable (m : (ℓ : Loc nD τ sig) → Buf (Elt Ideal) ℓ) (c : Dev nD)

/-- The arguments. -/
abbrev X : FVec Ideal S4x4096x1024 .f32 := m ((c.tc : Thread nD τ).loc main_arg0)
abbrev Sh : FVec Ideal S4x1024 .f32 := m ((c.tc : Thread nD τ).loc main_arg1)
abbrev Sc : FVec Ideal S4x1024 .f32 := m ((c.tc : Thread nD τ).loc main_arg2)
abbrev G : FVec Ideal S1024 .f32 := m ((c.tc : Thread nD τ).loc main_arg3)
abbrev Wd : FVec Ideal S1024x256 .f32 := m ((c.tc : Thread nD τ).loc main_arg4)
abbrev Gc : FVec Ideal S256 .f32 := m ((c.tc : Thread nD τ).loc main_arg5)
abbrev Wr : FVec Ideal S1024x32 .f32 := m ((c.tc : Thread nD τ).loc main_arg6)
abbrev Wu : FVec Ideal S256x16x128 .f32 := m ((c.tc : Thread nD τ).loc main_arg7)

theorem host_x : V m c main_arg0 = m ((c.tc : Thread nD τ).loc main_arg0) := by
  simp only [V, hostOps0, hostOps0_1, hostOps0_2, hostOps0_3, hostOps0_4, hostOps0_5, hostOps0_6, List.flatten_cons, List.flatten_nil, List.append_nil, List.cons_append, List.nil_append]
  after_results <;> rfl

theorem host_wd : V m c main_arg4 = m ((c.tc : Thread nD τ).loc main_arg4) := by
  simp only [V, hostOps0, hostOps0_1, hostOps0_2, hostOps0_3, hostOps0_4, hostOps0_5, hostOps0_6, List.flatten_cons, List.flatten_nil, List.append_nil, List.cons_append, List.nil_append]
  after_results <;> rfl

theorem host_wr : V m c main_arg6 = m ((c.tc : Thread nD τ).loc main_arg6) := by
  simp only [V, hostOps0, hostOps0_1, hostOps0_2, hostOps0_3, hostOps0_4, hostOps0_5, hostOps0_6, List.flatten_cons, List.flatten_nil, List.append_nil, List.cons_append, List.nil_append]
  after_results <;> rfl

/-- Row `r` of the grid's point is this row of the array. -/
def row (t : Fin cfg0.N) (r : Fin 512) : Fin 4096 :=
  ⟨(grid0.coords t 1).val * 512 + r.val, by have h1 : (grid0.coords t 1).val < 8 := (grid0.coords t 1).isLt; omega⟩

/-- The block of the rows. -/
theorem block_x (t : Fin cfg0.N) (r : Fin 512) (k : Fin 1024) : View.ld (iblk m c 0 t) r0_0 (ix3 0 r k) = X m c (ix3 (grid0.coords t 0) (row t r) k) := by
  have e : View.ld (iblk m c 0 t) r0_0 (ix3 0 r k) = V m c main_arg0 (ix3 (grid0.coords t 0) (row t r) k) := by
    show V m c main_arg0 ((win0_0.blk t).view.emb (r0_0.idx (ix3 0 r k))) = _
    refine congrArg (V m c main_arg0) (funext fun a => Fin.ext ?_)
    match a with
    | ⟨0, _⟩ => blk_simp [idx_x]
    | ⟨1, _⟩ => blk_simp [idx_x]; show (grid0.coords t 1).val * 512 + (0 + 1 * r.val) = (grid0.coords t 1).val * 512 + r.val; omega
    | ⟨2, _⟩ => blk_simp [idx_x]; show 0 + 1 * k.val = k.val; omega
  rw [e, host_x]

/-- The block of the gains. -/
theorem block_g (t : Fin cfg0.N) (k : Fin 1024) : View.ld (iblk m c 1 t) r0_1 (ix2 0 k) = G m c (ix1 k) := by
  have e : View.ld (iblk m c 1 t) r0_1 (ix2 0 k) = V m c main_v49 (ix2 0 k) := by
    show V m c main_v49 ((win0_1.blk t).view.emb (r0_1.idx (ix2 0 k))) = _
    refine congrArg (V m c main_v49) (funext fun a => Fin.ext ?_)
    match a with
    | ⟨0, _⟩ => blk_simp [idx_g]; rfl
    | ⟨1, _⟩ => blk_simp [idx_g]; show 0 + 1 * k.val = k.val; omega
  rw [e, host_g]
  pointwise

/-- The block of the shifts. -/
theorem block_sh (t : Fin cfg0.N) (k : Fin 1024) : View.ld (iblk m c 2 t) r0_2 (ix3 0 0 k) = Sh m c (ix2 (grid0.coords t 0) k) := by
  have e : View.ld (iblk m c 2 t) r0_2 (ix3 0 0 k) = V m c main_v50 (ix3 (grid0.coords t 0) 0 k) := by
    show V m c main_v50 ((win0_2.blk t).view.emb (r0_2.idx (ix3 0 0 k))) = _
    refine congrArg (V m c main_v50) (funext fun a => Fin.ext ?_)
    match a with
    | ⟨0, _⟩ => blk_simp [idx_sh]
    | ⟨1, _⟩ => blk_simp [idx_sh]; rfl
    | ⟨2, _⟩ => blk_simp [idx_sh]; show 0 + 1 * k.val = k.val; omega
  rw [e, host_sh]
  pointwise

/-- The block of the scales. -/
theorem block_sc (t : Fin cfg0.N) (k : Fin 1024) : View.ld (iblk m c 3 t) r0_2 (ix3 0 0 k) = Sc m c (ix2 (grid0.coords t 0) k) := by
  have e : View.ld (iblk m c 3 t) r0_2 (ix3 0 0 k) = V m c main_v51 (ix3 (grid0.coords t 0) 0 k) := by
    show V m c main_v51 ((win0_3.blk t).view.emb (r0_2.idx (ix3 0 0 k))) = _
    refine congrArg (V m c main_v51) (funext fun a => Fin.ext ?_)
    match a with
    | ⟨0, _⟩ => blk_simp [idx_sc]
    | ⟨1, _⟩ => blk_simp [idx_sc]; rfl
    | ⟨2, _⟩ => blk_simp [idx_sc]; show 0 + 1 * k.val = k.val; omega
  rw [e, host_sc]
  pointwise

/-- The block of the latents' weights. -/
theorem block_wd (t : Fin cfg0.N) (k : Fin 1024) (C : Fin 256) : View.ld (iblk m c 4 t) r0_3 (ix2 k C) = Wd m c (ix2 k C) := by
  have e : View.ld (iblk m c 4 t) r0_3 (ix2 k C) = V m c main_arg4 (ix2 k C) := by
    show V m c main_arg4 ((win0_4.blk t).view.emb (r0_3.idx (ix2 k C))) = _
    refine congrArg (V m c main_arg4) (funext fun a => Fin.ext ?_)
    match a with
    | ⟨0, _⟩ => blk_simp [idx_wd]; show 0 + 1 * k.val = k.val; omega
    | ⟨1, _⟩ => blk_simp [idx_wd]; show 0 + 1 * C.val = C.val; omega
  rw [e, host_wd]

/-- The block of the latents' gains. -/
theorem block_gc (t : Fin cfg0.N) (C : Fin 256) : View.ld (iblk m c 5 t) r0_4 (ix2 0 C) = Gc m c (ix1 C) := by
  have e : View.ld (iblk m c 5 t) r0_4 (ix2 0 C) = V m c main_v10 (ix2 0 C) := by
    show V m c main_v10 ((win0_5.blk t).view.emb (r0_4.idx (ix2 0 C))) = _
    refine congrArg (V m c main_v10) (funext fun a => Fin.ext ?_)
    match a with
    | ⟨0, _⟩ => blk_simp [idx_gc]; rfl
    | ⟨1, _⟩ => blk_simp [idx_gc]; show 0 + 1 * C.val = C.val; omega
  rw [e, host_gc]
  pointwise

/-- The block of the shared key's weights. -/
theorem block_wr (t : Fin cfg0.N) (k : Fin 1024) (C : Fin 32) : View.ld (iblk m c 6 t) r0_5 (ix2 k C) = Wr m c (ix2 k C) := by
  have e : View.ld (iblk m c 6 t) r0_5 (ix2 k C) = V m c main_arg6 (ix2 k C) := by
    show V m c main_arg6 ((win0_6.blk t).view.emb (r0_5.idx (ix2 k C))) = _
    refine congrArg (V m c main_arg6) (funext fun a => Fin.ext ?_)
    match a with
    | ⟨0, _⟩ => blk_simp [idx_wr]; show 0 + 1 * k.val = k.val; omega
    | ⟨1, _⟩ => blk_simp [idx_wr]; show 0 + 1 * C.val = C.val; omega
  rw [e, host_wr]

/-- The block of the exchanged weights. -/
theorem block_wt (t : Fin cfg0.N) (k : Fin 1024) (C : Fin 32) : View.ld (iblk m c 7 t) r0_5 (ix2 k C) = turned (fun k C => Wr m c (ix2 k C)) k C := by
  have e : View.ld (iblk m c 7 t) r0_5 (ix2 k C) = V m c main_v14 (ix2 k C) := by
    show V m c main_v14 ((win0_7.blk t).view.emb (r0_5.idx (ix2 k C))) = _
    refine congrArg (V m c main_v14) (funext fun a => Fin.ext ?_)
    match a with
    | ⟨0, _⟩ => blk_simp [idx_wt]; show 0 + 1 * k.val = k.val; omega
    | ⟨1, _⟩ => blk_simp [idx_wt]; show 0 + 1 * C.val = C.val; omega
  rw [e, host_wt]
  exact exchanged_apply _ k C

/-- The block of the cosines. -/
theorem block_co (t : Fin cfg0.N) (r : Fin 512) (C : Fin 32) : View.ld (iblk m c 8 t) r0_6 (ix2 r C) = twice (fun c => cosines (ix2 (row t r) c)) C := by
  have e : View.ld (iblk m c 8 t) r0_6 (ix2 r C) = V m c main_v45 (ix2 (row t r) C) := by
    show V m c main_v45 ((win0_8.blk t).view.emb (r0_6.idx (ix2 r C))) = _
    refine congrArg (V m c main_v45) (funext fun a => Fin.ext ?_)
    match a with
    | ⟨0, _⟩ => blk_simp [idx_co]; show (grid0.coords t 1).val * 512 + (0 + 1 * r.val) = (grid0.coords t 1).val * 512 + r.val; omega
    | ⟨1, _⟩ => blk_simp [idx_co]; show 0 + 1 * C.val = C.val; omega
  rw [e, host_co]
  refine (show mulf (beside cosines) (broadcastInDim S4096x32 ![] bcast_S_S4096x32 (constant S_ .f32 0x3F800000#32)) (ix2 (row t r) C)
    = beside cosines (ix2 (row t r) C) * Ideal.ofBits .f32 0x3F800000#32 from rfl).trans ?_
  rw [beside_apply, one_bits, mul_one]

/-- The block of the sines. -/
theorem block_si (t : Fin cfg0.N) (r : Fin 512) (C : Fin 32) : View.ld (iblk m c 9 t) r0_6 (ix2 r C) = twice (fun c => sines (ix2 (row t r) c)) C := by
  have e : View.ld (iblk m c 9 t) r0_6 (ix2 r C) = V m c main_v48 (ix2 (row t r) C) := by
    show V m c main_v48 ((win0_9.blk t).view.emb (r0_6.idx (ix2 r C))) = _
    refine congrArg (V m c main_v48) (funext fun a => Fin.ext ?_)
    match a with
    | ⟨0, _⟩ => blk_simp [idx_si]; show (grid0.coords t 1).val * 512 + (0 + 1 * r.val) = (grid0.coords t 1).val * 512 + r.val; omega
    | ⟨1, _⟩ => blk_simp [idx_si]; show 0 + 1 * C.val = C.val; omega
  rw [e, host_si]
  refine (show mulf (beside sines) (broadcastInDim S4096x32 ![] bcast_S_S4096x32 (constant S_ .f32 0x3F800000#32)) (ix2 (row t r) C)
    = beside sines (ix2 (row t r) C) * Ideal.ofBits .f32 0x3F800000#32 from rfl).trans ?_
  rw [beside_apply, one_bits, mul_one]

/-- The block of the keys' weights. -/
theorem block_wk (t : Fin cfg0.N) (q : Fin 256) (J : Fin 2048) : View.ld (iblk m c 10 t) r0_7 (ix2 q J) = (if J.val % 128 < 64 then Wu m c (ix3 q ⟨J.val / 128, by omega⟩ ⟨J.val % 128, by omega⟩) else (0 : EReal) : EReal) := by
  have e : View.ld (iblk m c 10 t) r0_7 (ix2 q J) = V m c main_v18 (ix2 q J) := by
    show V m c main_v18 ((win0_10.blk t).view.emb (r0_7.idx (ix2 q J))) = _
    refine congrArg (V m c main_v18) (funext fun a => Fin.ext ?_)
    match a with
    | ⟨0, _⟩ => blk_simp [idx_wk]; show 0 + 1 * q.val = q.val; omega
    | ⟨1, _⟩ => blk_simp [idx_wk]; show 0 + 1 * J.val = J.val; omega
  rw [e, host_wk]
  exact keyW_apply _ q J

/-- The block of the places. -/
theorem block_pk (t : Fin cfg0.N) (q : Fin 32) (J : Fin 2048) : View.ld (iblk m c 11 t) r0_8 (ix2 q J) = (if q.val + 64 = J.val % 128 then 1 else 0 : EReal) := by
  have e : View.ld (iblk m c 11 t) r0_8 (ix2 q J) = V m c main_v23 (ix2 q J) := by
    show V m c main_v23 ((win0_11.blk t).view.emb (r0_8.idx (ix2 q J))) = _
    refine congrArg (V m c main_v23) (funext fun a => Fin.ext ?_)
    match a with
    | ⟨0, _⟩ => blk_simp [idx_pk]; show 0 + 1 * q.val = q.val; omega
    | ⟨1, _⟩ => blk_simp [idx_pk]; show 0 + 1 * J.val = J.val; omega
  rw [e, host_pk]
  exact places_apply q J

/-- The block of the values' weights. -/
theorem block_wv (t : Fin cfg0.N) (q : Fin 256) (J : Fin 2048) : View.ld (iblk m c 12 t) r0_7 (ix2 q J) = (if h : J.val % 128 < 64 then Wu m c (ix3 q ⟨J.val / 128, by omega⟩ ⟨64 + J.val % 128, by omega⟩) else (0 : EReal) : EReal) := by
  have e : View.ld (iblk m c 12 t) r0_7 (ix2 q J) = V m c main_v22 (ix2 q J) := by
    show V m c main_v22 ((win0_12.blk t).view.emb (r0_7.idx (ix2 q J))) = _
    refine congrArg (V m c main_v22) (funext fun a => Fin.ext ?_)
    match a with
    | ⟨0, _⟩ => blk_simp [idx_wv]; show 0 + 1 * q.val = q.val; omega
    | ⟨1, _⟩ => blk_simp [idx_wv]; show 0 + 1 * J.val = J.val; omega
  rw [e, host_wv]
  exact valW_apply _ q J

/-- The arguments that must be real. -/
def Reals : Prop :=
  (∀ y, IsReal (X m c y)) ∧ (∀ y, IsReal (Sh m c y)) ∧ (∀ y, IsReal (Sc m c y)) ∧ (∀ y, IsReal (G m c y)) ∧ (∀ y, IsReal (Wd m c y)) ∧ ∀ y, IsReal (Wr m c y)

/-- A row of the normalized block. -/
theorem block_hid (t : Fin cfg0.N) (r : Fin 512) (k : Fin 1024) :
    hidB (View.ld (iblk m c 0 t) r0_0) (View.ld (iblk m c 1 t) r0_1) (View.ld (iblk m c 2 t) r0_2) (View.ld (iblk m c 3 t) r0_2) r k
      = hidden (X m c) (Sh m c) (Sc m c) (G m c) (grid0.coords t 0) (row t r) k := by
  unfold hidB hidden
  simp only [block_x, block_g, block_sh, block_sc]

theorem hidden_real (fin : Reals m c) (b : Fin 4) (R : Fin 4096) (k : Fin 1024) : IsReal (hidden (X m c) (Sh m c) (Sc m c) (G m c) b R k) :=
  hid_real (fun _ => fin.1 _) (fun _ => fin.2.2.2.1 _) (fun _ => fin.2.1 _) (fun _ => fin.2.2.1 _) k

/-- A row of the latent block. -/
theorem block_lat (fin : Reals m c) (t : Fin cfg0.N) (r : Fin 512) (C : Fin 256) :
    k0_pay8 (k0_pay5 (View.ld (iblk m c 0 t) r0_0) (View.ld (iblk m c 1 t) r0_1) (View.ld (iblk m c 2 t) r0_2) (View.ld (iblk m c 3 t) r0_2) (View.ld (iblk m c 4 t) r0_3))
      (k0_pay6 (View.ld (iblk m c 0 t) r0_0) (View.ld (iblk m c 1 t) r0_1) (View.ld (iblk m c 2 t) r0_2) (View.ld (iblk m c 3 t) r0_2) (View.ld (iblk m c 4 t) r0_3))
      (k0_pay7 (View.ld (iblk m c 0 t) r0_0) (View.ld (iblk m c 1 t) r0_1) (View.ld (iblk m c 2 t) r0_2) (View.ld (iblk m c 3 t) r0_2) (View.ld (iblk m c 4 t) r0_3))
      (View.ld (iblk m c 5 t) r0_4) (ix2 r C)
      = latent (X m c) (Sh m c) (Sc m c) (G m c) (Wd m c) (Gc m c) (grid0.coords t 0) (row t r) C := by
  rw [lat_apply _ _ _ _ _ _ r (fun k => by rw [block_hid]; exact hidden_real m c fin _ _ k) (fun k C => by rw [block_wd]; exact fin.2.2.2.2.1 _)]
  unfold latB latent
  simp only [block_hid, block_wd, block_gc]

/-- A row of the turned block. -/
theorem block_rot (fin : Reals m c) (t : Fin cfg0.N) (r : Fin 512) (C : Fin 32) :
    rotV (View.ld (iblk m c 0 t) r0_0) (View.ld (iblk m c 1 t) r0_1) (View.ld (iblk m c 2 t) r0_2) (View.ld (iblk m c 3 t) r0_2) (View.ld (iblk m c 6 t) r0_5)
      (View.ld (iblk m c 7 t) r0_5) (View.ld (iblk m c 8 t) r0_6) (View.ld (iblk m c 9 t) r0_6) (ix2 r C)
      = shared (X m c) (Sh m c) (Sc m c) (G m c) (Wr m c) (grid0.coords t 0) (row t r) C := by
  rw [rot_apply _ _ _ _ _ _ _ _ r (fun k => by rw [block_hid]; exact hidden_real m c fin _ _ k) (fun k C => Wr m c (ix2 k C))
    (fun q => cosines (ix2 (row t r) q)) (fun q => sines (ix2 (row t r) q)) (fun k C => block_wr m c t k C) (fun k C => block_wt m c t k C)
    (fun C => block_co m c t r C) (fun C => block_si m c t r C) (fun k C => fin.2.2.2.2.2 _)]
  unfold shared
  simp only [block_hid]

/-- A point's block of the latents. -/
theorem point13 (fin : Reals m c) (t : Fin cfg0.N) (r : Fin 512) (C : Fin 256) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r C) = latent (X m c) (Sh m c) (Sc m c) (G m c) (Wd m c) (Gc m c) (grid0.coords t 0) (row t r) C := by
  unfold out0_13
  refine (View.canon_apply_of_pieces (k0_pay20 (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))) _ ?_ _ (cover0_13 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · rw [pay20_apply]
    exact block_lat m c fin t r C

/-- The array of the latents. -/
theorem final13 (fin : Reals m c) : (dats m 0 c).arrAt 13 cfg0.N = fun i => latent (X m c) (Sh m c) (Sc m c) (G m c) (Wd m c) (Gc m c) (i 0) (i 1) (i 2) := by
  refine (dats m 0 c).arrAt_eq_of_covers 13 _ (by decide +kernel) fun t hf y => ?_
  blk_simp
  rw [after0_13]
  obtain ⟨p, r, C, rfl⟩ : ∃ (p : Fin 1) (r : Fin 512) (C : Fin 256), y = ix3 p r C := ⟨y 0, y 1, y 2, by ext a; fin_cases a <;> rfl⟩
  obtain rfl : p = 0 := Subsingleton.elim _ _
  refine (point13 m c fin t r C).trans ?_
  have z0 : grid0.coords t 0 = (win0_13.blk t).view.emb (ix3 0 r C) 0 := Fin.ext (by blk_simp [idx_ol]; rfl)
  have z1 : row t r = (win0_13.blk t).view.emb (ix3 0 r C) 1 := Fin.ext (by unfold row; blk_simp [idx_ol])
  have z2 : C = (win0_13.blk t).view.emb (ix3 0 r C) 2 := Fin.ext (by blk_simp [idx_ol])
  exact congr (congr (congrArg _ z0) z1) z2

/-- A point's block of the turned keys. -/
theorem point14 (fin : Reals m c) (t : Fin cfg0.N) (r : Fin 512) (C : Fin 32) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r C) = shared (X m c) (Sh m c) (Sc m c) (G m c) (Wr m c) (grid0.coords t 0) (row t r) C := by
  unfold out0_14
  refine (View.canon_apply_of_pieces (k0_pay1 (k0_pay16 (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_6))) _ ?_ _ (cover0_14 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · rw [pay1_apply]
    exact block_rot m c fin t r C

/-- The array of the turned keys. -/
theorem final14 (fin : Reals m c) : (dats m 0 c).arrAt 14 cfg0.N = fun i => shared (X m c) (Sh m c) (Sc m c) (G m c) (Wr m c) (i 0) (i 1) (i 2) := by
  refine (dats m 0 c).arrAt_eq_of_covers 14 _ (by decide +kernel) fun t hf y => ?_
  blk_simp
  rw [after0_14]
  obtain ⟨p, r, C, rfl⟩ : ∃ (p : Fin 1) (r : Fin 512) (C : Fin 32), y = ix3 p r C := ⟨y 0, y 1, y 2, by ext a; fin_cases a <;> rfl⟩
  obtain rfl : p = 0 := Subsingleton.elim _ _
  refine (point14 m c fin t r C).trans ?_
  have z0 : grid0.coords t 0 = (win0_14.blk t).view.emb (ix3 0 r C) 0 := Fin.ext (by blk_simp [idx_os]; rfl)
  have z1 : row t r = (win0_14.blk t).view.emb (ix3 0 r C) 1 := Fin.ext (by unfold row; blk_simp [idx_os])
  have z2 : C = (win0_14.blk t).view.emb (ix3 0 r C) 2 := Fin.ext (by blk_simp [idx_os])
  exact congr (congr (congrArg _ z0) z1) z2

/-- A point's block of the heads' keys. -/
theorem point15 (fin : Reals m c) (t : Fin cfg0.N) (r : Fin 512) (C : Fin 2048) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r C) = keys (X m c) (Sh m c) (Sc m c) (G m c) (Wd m c) (Gc m c) (Wr m c) (Wu m c) (grid0.coords t 0) (row t r) C := by
  unfold out0_15
  refine (View.canon_apply_of_pieces (k0_pay18 (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 9 t) r0_6) (View.ld (iblk m c 10 t) r0_7) (View.ld (iblk m c 11 t) r0_8)) _ ?_ _ (cover0_15 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine (pay18_apply _ _ _ _ _ _ _ _ _ _ _ r C).trans ?_
    simp only [block_wk, block_pk]
    have el : ∀ q : Fin 256, k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r q) = latent (X m c) (Sh m c) (Sc m c) (G m c) (Wd m c) (Gc m c) (grid0.coords t 0) (row t r) q := fun q => block_lat m c fin t r q
    simp only [el]
    unfold keys
    by_cases h : C.val % 128 < 64
    · simp only [if_pos h]
      refine (congrArg (_ + ·) (Finset.sum_eq_zero fun q _ => ?_)).trans (add_zero _)
      rw [if_neg (by omega), mul_zero]
    · simp only [if_neg h, mul_zero, Finset.sum_const_zero, zero_add]
      by_cases h' : C.val % 128 < 96
      · rw [if_pos h', Finset.sum_eq_single ⟨(C.val % 128 - 64) % 32, by omega⟩]
        · rw [if_pos (by show (C.val % 128 - 64) % 32 + 64 = C.val % 128; omega), mul_one]
          exact block_rot m c fin t r _
        · intro q _ hq
          rw [if_neg (fun e => hq (Fin.ext (by show q.val = (C.val % 128 - 64) % 32; omega))), mul_zero]
        · intro hq
          exact absurd (Finset.mem_univ _) hq
      · rw [if_neg h']
        refine Finset.sum_eq_zero fun q _ => ?_
        rw [if_neg (by omega), mul_zero]

/-- The array of the heads' keys. -/
theorem final15 (fin : Reals m c) : (dats m 0 c).arrAt 15 cfg0.N = fun i => keys (X m c) (Sh m c) (Sc m c) (G m c) (Wd m c) (Gc m c) (Wr m c) (Wu m c) (i 0) (i 1) (i 2) := by
  refine (dats m 0 c).arrAt_eq_of_covers 15 _ (by decide +kernel) fun t hf y => ?_
  blk_simp
  rw [after0_15]
  obtain ⟨p, r, C, rfl⟩ : ∃ (p : Fin 1) (r : Fin 512) (C : Fin 2048), y = ix3 p r C := ⟨y 0, y 1, y 2, by ext a; fin_cases a <;> rfl⟩
  obtain rfl : p = 0 := Subsingleton.elim _ _
  refine (point15 m c fin t r C).trans ?_
  have z0 : grid0.coords t 0 = (win0_15.blk t).view.emb (ix3 0 r C) 0 := Fin.ext (by blk_simp [idx_ok]; rfl)
  have z1 : row t r = (win0_15.blk t).view.emb (ix3 0 r C) 1 := Fin.ext (by unfold row; blk_simp [idx_ok])
  have z2 : C = (win0_15.blk t).view.emb (ix3 0 r C) 2 := Fin.ext (by blk_simp [idx_ok])
  exact congr (congr (congrArg _ z0) z1) z2

/-- A point's block of the heads' values. -/
theorem point16 (fin : Reals m c) (t : Fin cfg0.N) (r : Fin 512) (C : Fin 2048) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r C) = values (X m c) (Sh m c) (Sc m c) (G m c) (Wd m c) (Gc m c) (Wu m c) (grid0.coords t 0) (row t r) C := by
  unfold out0_16
  refine (View.canon_apply_of_pieces (k0_pay19 (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (iblk m c 12 t) r0_7)) _ ?_ _ (cover0_16 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine (pay19_apply _ _ r C).trans ?_
    simp only [block_wv]
    have el : ∀ q : Fin 256, k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r q) = latent (X m c) (Sh m c) (Sc m c) (G m c) (Wd m c) (Gc m c) (grid0.coords t 0) (row t r) q := fun q => block_lat m c fin t r q
    simp only [el]
    unfold values
    by_cases h : C.val % 128 < 64
    · simp only [dif_pos h]
    · simp only [dif_neg h, mul_zero, Finset.sum_const_zero]

/-- The array of the heads' values. -/
theorem final16 (fin : Reals m c) : (dats m 0 c).arrAt 16 cfg0.N = fun i => values (X m c) (Sh m c) (Sc m c) (G m c) (Wd m c) (Gc m c) (Wu m c) (i 0) (i 1) (i 2) := by
  refine (dats m 0 c).arrAt_eq_of_covers 16 _ (by decide +kernel) fun t hf y => ?_
  blk_simp
  rw [after0_16]
  obtain ⟨p, r, C, rfl⟩ : ∃ (p : Fin 1) (r : Fin 512) (C : Fin 2048), y = ix3 p r C := ⟨y 0, y 1, y 2, by ext a; fin_cases a <;> rfl⟩
  obtain rfl : p = 0 := Subsingleton.elim _ _
  refine (point16 m c fin t r C).trans ?_
  have z0 : grid0.coords t 0 = (win0_16.blk t).view.emb (ix3 0 r C) 0 := Fin.ext (by blk_simp [idx_ov]; rfl)
  have z1 : row t r = (win0_16.blk t).view.emb (ix3 0 r C) 1 := Fin.ext (by unfold row; blk_simp [idx_ov])
  have z2 : C = (win0_16.blk t).view.emb (ix3 0 r C) 2 := Fin.ext (by blk_simp [idx_ov])
  exact congr (congr (congrArg _ z0) z1) z2

end Array

end Cert.Kernel5Ideal.Kv
end
-- ==== Proof.KvRef.lean ====
module

public import proofs.«01_k».proof.Proof.KvOut
public import proofs.«01_k».proof.Proof.Gen.Reference5Ideal.Run
public import proofs.«01_k».proof.Proof.Gen.Pre_finite_kv

@[expose] public section

set_option maxRecDepth 16384

noncomputable section

/- The reference of the key-and-value projections computes the same four functions of the arguments. -/
namespace Cert.Reference5Ideal.Kv

open Idealize.ShloMosaic Idealize.ShloMosaic.TcCoe Idealize.SL.Sem Cert.Reference5Ideal Cert.Reference5Ideal.Gen Cert.Proj

section Terms

variable (x : FVec Ideal S4x4096x1024 .f32) (sh sc : FVec Ideal S4x1024 .f32) (g : FVec Ideal S1024 .f32) (wd : FVec Ideal S1024x256 .f32)
  (gc : FVec Ideal S256 .f32) (wr : FVec Ideal S1024x32 .f32) (wu : FVec Ideal S256x16x128 .f32)

/-- The normalized, modulated rows. -/
def hiddenT : FVec Ideal S4x4096x1024 .f32 :=
  addf (mulf (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 sc)))) (broadcastInDim S4x4096x1024 ![0, 1, 2] bcast_S4x1x1024_S4x4096x1024_0_1_2 (broadcastInDim S4x1x1024 ![0, 2] bcast_S4x1024_S4x1x1024_0_2 sh))

theorem hiddenT_apply (b : Fin 4) (R : Fin 4096) (k : Fin 1024) :
    hiddenT x sh sc g (ix3 b R k) = Cert.Kernel5Ideal.Kv.hidden x sh sc g b R k := by
  pointwise [hiddenT, Cert.Kernel5Ideal.Kv.hidden, hid]

/-- The down projection, before its normalization. -/
def downT : FVec Ideal S4x4096x256 .f32 :=
  Host.dotGeneral dot_S4x4096x1024_S1024x256_S4x4096x256_2_0_01_1_n_n none (hiddenT x sh sc g) wd

theorem downT_apply (b : Fin 4) (R : Fin 4096) (C : Fin 256) :
    downT x sh sc g wd (ix3 b R C) = ∑ k : Fin 1024, Cert.Kernel5Ideal.Kv.hidden x sh sc g b R k * wd (ix2 k C) := by
  simp only [← hiddenT_apply]
  pointwise [downT]

/-- Rows of 256 columns, normalized. -/
def normT (y : FVec Ideal S4x4096x256 .f32) : FVec Ideal S4x4096x256 .f32 :=
  mulf (mulf y (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf y y) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 gc))

theorem normT_apply (y : FVec Ideal S4x4096x256 .f32) (b : Fin 4) (R : Fin 4096) (C : Fin 256) :
    normT gc y (ix3 b R C) = nrm (fun C => y (ix3 b R C)) (fun C => gc (ix1 C)) C := by
  pointwise [normT, nrm]

/-- The latents. -/
def latentT : FVec Ideal S4x4096x256 .f32 := normT gc (downT x sh sc g wd)

theorem latentT_apply (b : Fin 4) (R : Fin 4096) (C : Fin 256) :
    latentT x sh sc g wd gc (ix3 b R C) = Cert.Kernel5Ideal.Kv.latent x sh sc g wd gc b R C := by
  unfold latentT Cert.Kernel5Ideal.Kv.latent
  rw [normT_apply]
  simp only [downT_apply]

/-- The shared key, before it is turned. -/
def keyT : FVec Ideal S4x4096x32 .f32 :=
  Host.dotGeneral dot_S4x4096x1024_S1024x32_S4x4096x32_2_0_01_1_n_n none (hiddenT x sh sc g) wr

theorem keyT_apply (b : Fin 4) (R : Fin 4096) (C : Fin 32) :
    keyT x sh sc g wr (ix3 b R C) = ∑ k : Fin 1024, Cert.Kernel5Ideal.Kv.hidden x sh sc g b R k * wr (ix2 k C) := by
  simp only [← hiddenT_apply]
  pointwise [keyT]

/-- A table on every sequence. -/
def eachT (f : FVec Ideal S4096x16 .f32) : FVec Ideal S4x4096x16 .f32 :=
  broadcastInDim S4x4096x16 ![0, 1, 2] bcast_S1x4096x16_S4x4096x16_0_1_2 (broadcastInDim S1x4096x16 ![1, 2] bcast_S4096x16_S1x4096x16_1_2 f)

/-- Rows of 32 columns, turned. -/
def turnT (p : FVec Ideal S4x4096x32 .f32) (co si : FVec Ideal S4096x16 .f32) : FVec Ideal S4x4096x32 .f32 :=
  concatenate S4x4096x32 2 [⟨S4x4096x16, subf (mulf (extractStridedSlice S4x4096x16 ![0, 0, 0] p slices_S4x4096x32_S4x4096x16_0_0_0) (eachT co))
      (mulf (extractStridedSlice S4x4096x16 ![0, 0, 16] p slices_S4x4096x32_S4x4096x16_0_0_16) (eachT si))⟩,
    ⟨S4x4096x16, addf (mulf (extractStridedSlice S4x4096x16 ![0, 0, 0] p slices_S4x4096x32_S4x4096x16_0_0_0) (eachT si))
      (mulf (extractStridedSlice S4x4096x16 ![0, 0, 16] p slices_S4x4096x32_S4x4096x16_0_0_16) (eachT co))⟩] concatenates_S4x4096x16_S4x4096x16_S4x4096x32_d2

theorem turnT_apply (p : FVec Ideal S4x4096x32 .f32) (co si : FVec Ideal S4096x16 .f32) (b : Fin 4) (R : Fin 4096) (C : Fin 32) :
    turnT p co si (ix3 b R C) = rot (fun C => p (ix3 b R C)) (fun q => co (ix2 R q)) (fun q => si (ix2 R q)) C := by
  unfold rot
  by_cases h : C.val < 16
  · rw [dif_pos h]
    refine (concatenate_pair_apply_left (s₁ := S4x4096x16) (s₂ := S4x4096x16) 2 _ _ _ (ix3 b R C) rfl (ix3 b R ⟨C.val, h⟩)
      (fun a => match a with | ⟨0, _⟩ => rfl | ⟨1, _⟩ => rfl | ⟨2, _⟩ => rfl)).trans ?_
    have e : (⟨C.val + 16, by omega⟩ : Fin 32) = ⟨16 + C.val, by omega⟩ := Fin.ext (Nat.add_comm _ _)
    rw [e]
    pointwise [eachT]
  · rw [dif_neg h]
    refine (concatenate_pair_apply_right (s₁ := S4x4096x16) (s₂ := S4x4096x16) 2 _ _ _ (ix3 b R C) rfl rfl (ix3 b R ⟨C.val - 16, by omega⟩)
      (fun a ha => ?_) (by show C.val - 16 + 16 = C.val; omega)).trans ?_
    · match a with
      | ⟨0, _⟩ => rfl
      | ⟨1, _⟩ => rfl
      | ⟨2, _⟩ => exact absurd rfl ha
    · have e : (C : Fin 32) = ⟨16 + (C.val - 16), by omega⟩ := Fin.ext (by show C.val = 16 + (C.val - 16); omega)
      have e' : p (ix3 b R C) = p (ix3 b R ⟨16 + (C.val - 16), by omega⟩) := congrArg (fun z => p (ix3 b R z)) e
      simp only [e']
      pointwise [eachT]

/-- The shared keys. -/
def sharedT : FVec Ideal S4x4096x32 .f32 := turnT (keyT x sh sc g wr) Cert.Kernel5Ideal.Kv.cosines Cert.Kernel5Ideal.Kv.sines

theorem sharedT_apply (b : Fin 4) (R : Fin 4096) (C : Fin 32) :
    sharedT x sh sc g wr (ix3 b R C) = Cert.Kernel5Ideal.Kv.shared x sh sc g wr b R C := by
  unfold sharedT Cert.Kernel5Ideal.Kv.shared
  rw [turnT_apply]
  simp only [keyT_apply]

/-- The up projection of the latents. -/
def upT : FVec Ideal S4x4096x16x128 .f32 :=
  Host.dotGeneral dot_S4x4096x256_S256x16x128_S4x4096x16x128_2_0_01_12_n_n none (latentT x sh sc g wd gc) wu

theorem upT_apply (b : Fin 4) (R : Fin 4096) (h : Fin 16) (d : Fin 128) :
    upT x sh sc g wd gc wu (ix4 b R h d) = ∑ c : Fin 256, Cert.Kernel5Ideal.Kv.latent x sh sc g wd gc b R c * wu (ix3 c h d) := by
  simp only [← latentT_apply]
  pointwise [upT]

/-- Each head's key: 64 columns of its own, the 32 shared ones, 32 zeros. -/
def headT (u : FVec Ideal S4x4096x16x128 .f32) (k : FVec Ideal S4x4096x32 .f32) : FVec Ideal S4x4096x16x128 .f32 :=
  concatenate S4x4096x16x128 3 [⟨S4x4096x16x64, extractStridedSlice S4x4096x16x64 ![0, 0, 0, 0] u slices_S4x4096x16x128_S4x4096x16x64_0_0_0_0⟩,
    ⟨S4x4096x16x32, broadcastInDim S4x4096x16x32 ![0, 1, 2, 3] bcast_S4x4096x1x32_S4x4096x16x32_0_1_2_3 (broadcastInDim S4x4096x1x32 ![0, 1, 3] bcast_S4x4096x32_S4x4096x1x32_0_1_3 k)⟩,
    ⟨S4x4096x16x32, broadcastInDim S4x4096x16x32 ![] bcast_S_S4x4096x16x32 (constant S_ .f32 0x00000000#32)⟩]
    concatenates_S4x4096x16x64_S4x4096x16x32_S4x4096x16x32_S4x4096x16x128_d3

theorem headT_apply (u : FVec Ideal S4x4096x16x128 .f32) (k : FVec Ideal S4x4096x32 .f32) (b : Fin 4) (R : Fin 4096) (h : Fin 16) (d : Fin 128) :
    headT u k (ix4 b R h d) = (if d.val < 64 then u (ix4 b R h d) else if d.val < 96 then k (ix3 b R ⟨(d.val - 64) % 32, by omega⟩) else (0 : EReal) : EReal) := by
  unfold headT
  by_cases h1 : d.val < 64
  · rw [if_pos h1]
    refine (concatenate_apply_piece 3 _ _ (ix4 b R h d) 0 (by simp) S4x4096x16x64 _ rfl rfl 0 rfl (ix4 b R h ⟨d.val, h1⟩)
      (fun a ha => ?_) (by show 0 + d.val = d.val; omega)).trans ?_
    · match a with
      | ⟨0, _⟩ => rfl
      | ⟨1, _⟩ => rfl
      | ⟨2, _⟩ => rfl
      | ⟨3, _⟩ => exact absurd rfl ha
    · pointwise
  · rw [if_neg h1]
    by_cases h2 : d.val < 96
    · rw [if_pos h2]
      refine (concatenate_apply_piece 3 _ _ (ix4 b R h d) 1 (by simp) S4x4096x16x32 _ rfl rfl 64 rfl (ix4 b R h ⟨(d.val - 64) % 32, by omega⟩)
        (fun a ha => ?_) (by show 64 + (d.val - 64) % 32 = d.val; omega)).trans ?_
      · match a with
        | ⟨0, _⟩ => rfl
        | ⟨1, _⟩ => rfl
        | ⟨2, _⟩ => rfl
        | ⟨3, _⟩ => exact absurd rfl ha
      · pointwise
    · rw [if_neg h2]
      refine (concatenate_apply_piece 3 _ _ (ix4 b R h d) 2 (by simp) S4x4096x16x32 _ rfl rfl 96 rfl (ix4 b R h ⟨d.val - 96, by omega⟩)
        (fun a ha => ?_) (by show 96 + (d.val - 96) = d.val; omega)).trans ?_
      · match a with
        | ⟨0, _⟩ => rfl
        | ⟨1, _⟩ => rfl
        | ⟨2, _⟩ => rfl
        | ⟨3, _⟩ => exact absurd rfl ha
      · pointwise

/-- Each head's value: 64 columns of its own, 64 zeros. -/
def valueT (u : FVec Ideal S4x4096x16x128 .f32) : FVec Ideal S4x4096x16x128 .f32 :=
  concatenate S4x4096x16x128 3 [⟨S4x4096x16x64, extractStridedSlice S4x4096x16x64 ![0, 0, 0, 64] u slices_S4x4096x16x128_S4x4096x16x64_0_0_0_64⟩,
    ⟨S4x4096x16x64, broadcastInDim S4x4096x16x64 ![] bcast_S_S4x4096x16x64 (constant S_ .f32 0x00000000#32)⟩]
    concatenates_S4x4096x16x64_S4x4096x16x64_S4x4096x16x128_d3

theorem valueT_apply (u : FVec Ideal S4x4096x16x128 .f32) (b : Fin 4) (R : Fin 4096) (h : Fin 16) (d : Fin 128) :
    valueT u (ix4 b R h d) = (if h1 : d.val < 64 then u (ix4 b R h ⟨64 + d.val, by omega⟩) else (0 : EReal) : EReal) := by
  unfold valueT
  by_cases h1 : d.val < 64
  · rw [dif_pos h1]
    refine (concatenate_apply_piece 3 _ _ (ix4 b R h d) 0 (by simp) S4x4096x16x64 _ rfl rfl 0 rfl (ix4 b R h ⟨d.val, h1⟩)
      (fun a ha => ?_) (by show 0 + d.val = d.val; omega)).trans ?_
    · match a with
      | ⟨0, _⟩ => rfl
      | ⟨1, _⟩ => rfl
      | ⟨2, _⟩ => rfl
      | ⟨3, _⟩ => exact absurd rfl ha
    · pointwise
  · rw [dif_neg h1]
    refine (concatenate_apply_piece 3 _ _ (ix4 b R h d) 1 (by simp) S4x4096x16x64 _ rfl rfl 64 rfl (ix4 b R h ⟨d.val - 64, by omega⟩)
      (fun a ha => ?_) (by show 64 + (d.val - 64) = d.val; omega)).trans ?_
    · match a with
      | ⟨0, _⟩ => rfl
      | ⟨1, _⟩ => rfl
      | ⟨2, _⟩ => rfl
      | ⟨3, _⟩ => exact absurd rfl ha
    · pointwise

/-- Heads of 128 columns, set beside one another. -/
def flatT (u : FVec Ideal S4x4096x16x128 .f32) : FVec Ideal S4x4096x2048 .bf16 :=
  truncf (F := Ideal) .bf16 (shapeCast S4x4096x2048 u shapeCasts_S4x4096x16x128_S4x4096x2048) bitsLt_bf16_f32

theorem flatT_apply (u : FVec Ideal S4x4096x16x128 .f32) (b : Fin 4) (R : Fin 4096) (J : Fin 2048) :
    flatT u (ix3 b R J) = u (ix4 b R ⟨J.val / 128, by omega⟩ ⟨J.val % 128, by omega⟩) := by
  pointwise [flatT]

/-- The four results are the kernel's four functions of the arguments. -/
theorem latents_eq : latentT x sh sc g wd gc = fun i => Cert.Kernel5Ideal.Kv.latent x sh sc g wd gc (i 0) (i 1) (i 2) := by
  funext i
  obtain ⟨b, R, C, rfl⟩ : ∃ (b : Fin 4) (R : Fin 4096) (C : Fin 256), i = ix3 b R C := ⟨i 0, i 1, i 2, by ext a; fin_cases a <;> rfl⟩
  exact latentT_apply x sh sc g wd gc b R C

theorem shareds_eq : sharedT x sh sc g wr = fun i => Cert.Kernel5Ideal.Kv.shared x sh sc g wr (i 0) (i 1) (i 2) := by
  funext i
  obtain ⟨b, R, C, rfl⟩ : ∃ (b : Fin 4) (R : Fin 4096) (C : Fin 32), i = ix3 b R C := ⟨i 0, i 1, i 2, by ext a; fin_cases a <;> rfl⟩
  exact sharedT_apply x sh sc g wr b R C

theorem keys_eq : flatT (headT (upT x sh sc g wd gc wu) (sharedT x sh sc g wr))
    = fun i => Cert.Kernel5Ideal.Kv.keys x sh sc g wd gc wr wu (i 0) (i 1) (i 2) := by
  funext i
  obtain ⟨b, R, J, rfl⟩ : ∃ (b : Fin 4) (R : Fin 4096) (J : Fin 2048), i = ix3 b R J := ⟨i 0, i 1, i 2, by ext a; fin_cases a <;> rfl⟩
  show _ = Cert.Kernel5Ideal.Kv.keys x sh sc g wd gc wr wu b R J
  unfold Cert.Kernel5Ideal.Kv.keys
  rw [flatT_apply, headT_apply, upT_apply, sharedT_apply]

theorem values_eq : flatT (valueT (upT x sh sc g wd gc wu))
    = fun i => Cert.Kernel5Ideal.Kv.values x sh sc g wd gc wu (i 0) (i 1) (i 2) := by
  funext i
  obtain ⟨b, R, J, rfl⟩ : ∃ (b : Fin 4) (R : Fin 4096) (J : Fin 2048), i = ix3 b R J := ⟨i 0, i 1, i 2, by ext a; fin_cases a <;> rfl⟩
  show _ = Cert.Kernel5Ideal.Kv.values x sh sc g wd gc wu b R J
  unfold Cert.Kernel5Ideal.Kv.values
  rw [flatT_apply, valueT_apply]
  simp only [upT_apply]

end Terms

section Results

variable (m : (ℓ : Loc nD τ sig) → Buf (Elt Ideal) ℓ) (c : Dev nD)

/-- The results that the run names are these functions of the arguments. -/
theorem out0 (x : FVec Ideal S4x4096x1024 .f32) (sh : FVec Ideal S4x1024 .f32) (sc : FVec Ideal S4x1024 .f32) (g : FVec Ideal S1024 .f32) (wd : FVec Ideal S1024x256 .f32) (gc : FVec Ideal S256 .f32)
    (h0 : m ((c.tc : Thread nD τ).loc main_arg0) = x) (h1 : m ((c.tc : Thread nD τ).loc main_arg1) = sh) (h2 : m ((c.tc : Thread nD τ).loc main_arg2) = sc) (h3 : m ((c.tc : Thread nD τ).loc main_arg3) = g) (h4 : m ((c.tc : Thread nD τ).loc main_arg4) = wd) (h5 : m ((c.tc : Thread nD τ).loc main_arg5) = gc) :
    Cert.Reference5Ideal.Value.res_main_v35 (F := Ideal) m c = fun i => Cert.Kernel5Ideal.Kv.latent x sh sc g wd gc (i 0) (i 1) (i 2) := by
  subst h0 h1 h2 h3 h4 h5
  exact latents_eq _ _ _ _ _ _

theorem out1 (x : FVec Ideal S4x4096x1024 .f32) (sh : FVec Ideal S4x1024 .f32) (sc : FVec Ideal S4x1024 .f32) (g : FVec Ideal S1024 .f32) (wr : FVec Ideal S1024x32 .f32)
    (h0 : m ((c.tc : Thread nD τ).loc main_arg0) = x) (h1 : m ((c.tc : Thread nD τ).loc main_arg1) = sh) (h2 : m ((c.tc : Thread nD τ).loc main_arg2) = sc) (h3 : m ((c.tc : Thread nD τ).loc main_arg3) = g) (h6 : m ((c.tc : Thread nD τ).loc main_arg6) = wr) :
    Cert.Reference5Ideal.Value.res_main_v71 (F := Ideal) m c = fun i => Cert.Kernel5Ideal.Kv.shared x sh sc g wr (i 0) (i 1) (i 2) := by
  subst h0 h1 h2 h3 h6
  exact shareds_eq _ _ _ _ _

theorem out2 (x : FVec Ideal S4x4096x1024 .f32) (sh : FVec Ideal S4x1024 .f32) (sc : FVec Ideal S4x1024 .f32) (g : FVec Ideal S1024 .f32) (wd : FVec Ideal S1024x256 .f32) (gc : FVec Ideal S256 .f32) (wr : FVec Ideal S1024x32 .f32) (wu : FVec Ideal S256x16x128 .f32)
    (h0 : m ((c.tc : Thread nD τ).loc main_arg0) = x) (h1 : m ((c.tc : Thread nD τ).loc main_arg1) = sh) (h2 : m ((c.tc : Thread nD τ).loc main_arg2) = sc) (h3 : m ((c.tc : Thread nD τ).loc main_arg3) = g) (h4 : m ((c.tc : Thread nD τ).loc main_arg4) = wd) (h5 : m ((c.tc : Thread nD τ).loc main_arg5) = gc) (h6 : m ((c.tc : Thread nD τ).loc main_arg6) = wr) (h7 : m ((c.tc : Thread nD τ).loc main_arg7) = wu) :
    Cert.Reference5Ideal.Value.res_main_v82 (F := Ideal) m c = fun i => Cert.Kernel5Ideal.Kv.keys x sh sc g wd gc wr wu (i 0) (i 1) (i 2) := by
  subst h0 h1 h2 h3 h4 h5 h6 h7
  exact keys_eq _ _ _ _ _ _ _ _

theorem out3 (x : FVec Ideal S4x4096x1024 .f32) (sh : FVec Ideal S4x1024 .f32) (sc : FVec Ideal S4x1024 .f32) (g : FVec Ideal S1024 .f32) (wd : FVec Ideal S1024x256 .f32) (gc : FVec Ideal S256 .f32) (wu : FVec Ideal S256x16x128 .f32)
    (h0 : m ((c.tc : Thread nD τ).loc main_arg0) = x) (h1 : m ((c.tc : Thread nD τ).loc main_arg1) = sh) (h2 : m ((c.tc : Thread nD τ).loc main_arg2) = sc) (h3 : m ((c.tc : Thread nD τ).loc main_arg3) = g) (h4 : m ((c.tc : Thread nD τ).loc main_arg4) = wd) (h5 : m ((c.tc : Thread nD τ).loc main_arg5) = gc) (h7 : m ((c.tc : Thread nD τ).loc main_arg7) = wu) :
    Cert.Reference5Ideal.Value.res_main_v84 (F := Ideal) m c = fun i => Cert.Kernel5Ideal.Kv.values x sh sc g wd gc wu (i 0) (i 1) (i 2) := by
  subst h0 h1 h2 h3 h4 h5 h7
  exact values_eq _ _ _ _ _ _ _

end Results

end Cert.Reference5Ideal.Kv

/- The precondition read back: the arguments that it names are real numbers. -/
namespace Cert.Pre_finite_kv.Kv

open Idealize.ShloMosaic Cert.Pre_finite_kv Cert.Pre_finite_kv.Gen Cert.Proj

theorem real (x : FVec Ideal S4x4096x1024 .f32) (sh sc : FVec Ideal S4x1024 .f32) (g : FVec Ideal S1024 .f32) (wd : FVec Ideal S1024x256 .f32)
    (gc : FVec Ideal S256 .f32) (wr : FVec Ideal S1024x32 .f32) (wu : FVec Ideal S256x16x128 .f32)
    (h : fn (F := Ideal) x sh sc g wd gc wr wu = fun _ => 1#1) :
    (∀ y, IsReal (x y)) ∧ (∀ y, IsReal (sh y)) ∧ (∀ y, IsReal (sc y)) ∧ (∀ y, IsReal (g y)) ∧ (∀ y, IsReal (wd y)) ∧ ∀ y, IsReal (wr y) := by
  haveI : Subsingleton S_.Idx := ⟨fun a b => funext fun j => j.elim0⟩
  have e := congrFun h (Shape.Idx.first h_S_)
  obtain ⟨e, e5⟩ := both_one _ _ e
  obtain ⟨e, e4⟩ := both_one _ _ e
  obtain ⟨e, e3⟩ := both_one _ _ e
  obtain ⟨e, e2⟩ := both_one _ _ e
  obtain ⟨e0, e1⟩ := both_one _ _ e
  exact ⟨real_of_all x _ _ _ _ e0, real_of_all sh _ _ _ _ e1, real_of_all sc _ _ _ _ e2, real_of_all g _ _ _ _ e3, real_of_all wd _ _ _ _ e4, real_of_all wr _ _ _ _ e5⟩

end Cert.Pre_finite_kv.Kv
end
-- ==== Proof.QBlock.lean ====
module

public import proofs.«01_k».proof.Proof.Proj
public import proofs.«01_k».proof.Proof.Gen.Kernel6Ideal.Value

@[expose] public section

set_option maxRecDepth 16384

noncomputable section

/- What the query kernel's body computes on blocks of numbers, at an element of its result block. -/
namespace Cert.Kernel6Ideal.Q

open Idealize.ShloMosaic Idealize.ShloMosaic.TcCoe Idealize.SL.Sem Cert.Kernel6Ideal Cert.Kernel6Ideal.Gen Cert.Proj

/-- The literal that the queries are scaled by is a nonnegative real number. -/
theorem scale_bits : ∃ e : ℝ, 0 ≤ e ∧ Ideal.ofBits .f32 1041680192#32 = (e : EReal) := by
  refine ⟨_, ?_, by simp [Ideal.ofBits, Ideal.ieee]; rw [← EReal.coe_mul]⟩
  positivity

/-- The value of the literal 512. -/
theorem rank_bits : Ideal.ofBits .f32 1140850688#32 = ((512 : ℝ) : EReal) := by
  simp [Ideal.ofBits, Ideal.ieee]
  rw [← EReal.coe_mul]
  norm_num

/-- The normalized row of 512 columns. -/
def nrmQ (y g : Fin 512 → EReal) (C : Fin 512) : EReal :=
  y C * Ideal.rsqrt (Ideal.div (∑ j : Fin 512, y j * y j) (Ideal.ofBits .f32 1140850688#32) + Ideal.ofBits .f32 897988541#32) * g C

theorem square_nonneg (v : EReal) : 0 ≤ v * v := by
  induction v with
  | bot => simp
  | top => simp
  | coe r => rw [← EReal.coe_mul]; exact EReal.coe_nonneg.mpr (mul_self_nonneg r)

theorem square_top (v : EReal) (h : ¬IsReal v) : v * v = ⊤ := by
  induction v with
  | bot => simp
  | top => simp
  | coe r => exact absurd ⟨r, rfl⟩ h

/-- An entry times the factor of its row's normalization is real, whatever the row: one infinity in it makes the factor zero. -/
theorem scaled_real {n : ℕ} (y : Fin n → EReal) (d : ℝ) (hd : 0 < d) (C : Fin n) :
    IsReal (y C * Ideal.rsqrt (Ideal.div (∑ j : Fin n, y j * y j) (d : EReal) + Ideal.ofBits .f32 897988541#32)) := by
  by_cases h : ∀ k, IsReal (y k)
  · exact (h C).mul (factor_real y h d hd)
  · obtain ⟨k, hk⟩ := not_forall.mp h
    have s : ∑ j : Fin n, y j * y j = ⊤ := by
      refine top_le_iff.mp ?_
      rw [← square_top (y k) hk]
      exact Finset.single_le_sum (f := fun j => y j * y j) (fun j _ => square_nonneg (y j)) (Finset.mem_univ k)
    obtain ⟨e, he, eb⟩ := eps_bits
    have q : Ideal.div ⊤ (d : EReal) = ⊤ := by
      unfold Ideal.div
      rw [if_neg (by simpa using hd.ne'), ← EReal.coe_inv]
      exact EReal.top_mul_coe_of_pos (inv_pos.mpr hd)
    rw [s, q, eb, EReal.top_add_coe, Ideal.rsqrt_top, mul_zero]
    exact ⟨0, EReal.coe_zero.symm⟩

theorem nrmQ_real (y g : Fin 512 → EReal) (hg : ∀ C, IsReal (g C)) (C : Fin 512) : IsReal (nrmQ y g C) := by
  unfold nrmQ
  rw [rank_bits]
  exact (scaled_real y 512 (by norm_num) C).mul (hg C)

/-- Two projections, one of them with the turned weights, times the scaled cosines and sines: the turned projection, scaled. -/
theorem scaled_products (h : Fin 512 → EReal) (w : Fin 512 → Fin 32 → EReal) (co si : Fin 16 → EReal) (hh : ∀ k, IsReal (h k))
    (hw : ∀ k C, IsReal (w k C)) (C : Fin 32) :
    (∑ k, h k * w k C) * (twice co C * Ideal.ofBits .f32 1041680192#32) + (∑ k, h k * turned w k C) * (twice si C * Ideal.ofBits .f32 1041680192#32)
      = rot (fun C => ∑ k, h k * w k C) co si C * Ideal.ofBits .f32 1041680192#32 := by
  obtain ⟨e, he, eb⟩ := scale_bits
  rw [eb, ← mul_assoc, ← mul_assoc, ← EReal.right_distrib_of_nonneg_of_ne_top (EReal.coe_nonneg.mpr he) (EReal.coe_ne_top e), two_products h w co si hh hw C]

section Block

variable (x : Vec Ideal S1x512x1024 .f32) (g : Vec Ideal S1x1024 .f32) (sh sc : Vec Ideal S1x1x1024 .f32) (wd : Vec Ideal S1024x512 .bf16)
  (gc : Vec Ideal S1x512 .f32) (wa wb : Vec Ideal S512x2048 .bf16) (co si : Vec Ideal S512x128 .f32)

/-- Row `r` of the normalized block. -/
def hidB (r : Fin 512) (k : Fin 1024) : EReal :=
  hid (fun k => x (ix3 0 r k)) (fun k => g (ix2 0 k)) (fun k => sh (ix3 0 0 k)) (fun k => sc (ix3 0 0 k)) k

/-- Row `r` of the block projected down. -/
def downB (r C : Fin 512) : EReal := ∑ k : Fin 1024, hidB x g sh sc r k * wd (ix2 k C)

theorem pay2_apply (r C : Fin 512) : k0_pay2 x g sh sc wd (ix2 r C) = downB x g sh sc wd r C := by
  pointwise [k0_pay2, downB, hidB, hid]

theorem pay4_apply (r : Fin 512) : k0_pay4 x g sh sc wd (ix2 r 0) = ∑ j : Fin 512, downB x g sh sc wd r j * downB x g sh sc wd r j := by
  simp only [← pay2_apply]
  pointwise [k0_pay4]

theorem pay3_apply (C : Fin 512) : k0_pay3 gc (ix2 0 C) = gc (ix2 0 C) := by
  pointwise [k0_pay3]

theorem pay5_apply (r : Fin 512) : k0_pay5 (F := Ideal) (ix2 r 0) = Ideal.ofBits .f32 1140850688#32 := by
  pointwise [k0_pay5]

theorem pay6_apply (y : FVec Ideal S512x512 .f32) (gc : FVec Ideal S1x512 .f32) (s d : FVec Ideal S512x1 .f32) (r C : Fin 512) :
    k0_pay6 y gc s d (ix2 r C) = y (ix2 r C) * Ideal.rsqrt (Ideal.div (s (ix2 r 0)) (d (ix2 r 0)) + Ideal.ofBits .f32 897988541#32) * gc (ix2 0 C) := by
  pointwise [k0_pay6]

/-- The normalized row of the block. -/
theorem norm_apply (r C : Fin 512) : k0_pay6 (k0_pay2 x g sh sc wd) (k0_pay3 gc) (k0_pay4 x g sh sc wd) k0_pay5 (ix2 r C)
    = nrmQ (downB x g sh sc wd r) (fun C => gc (ix2 0 C)) C := by
  rw [pay6_apply, pay2_apply, pay3_apply, pay4_apply, pay5_apply]
  rfl

theorem pay7_apply (y : FVec Ideal S512x512 .f32) (gc : FVec Ideal S1x512 .f32) (s d : FVec Ideal S512x1 .f32) (r : Fin 512) (J : Fin 2048) :
    k0_pay7 y gc s d wa (ix2 r J) = ∑ j : Fin 512, k0_pay6 y gc s d (ix2 r j) * wa (ix2 j J) := by
  pointwise [k0_pay7]

theorem pay8_apply (y : FVec Ideal S512x512 .f32) (gc : FVec Ideal S1x512 .f32) (s d : FVec Ideal S512x1 .f32) (r : Fin 512) (J : Fin 2048) :
    k0_pay8 y gc s d wb (ix2 r J) = ∑ j : Fin 512, k0_pay6 y gc s d (ix2 r j) * wb (ix2 j J) := by
  pointwise [k0_pay8]

theorem pay9_apply (r : Fin 512) (d : Fin 128) : k0_pay9 co (ix2 r d) = co (ix2 r d) := by
  pointwise [k0_pay9]

theorem pay10_apply (r : Fin 512) (d : Fin 128) : k0_pay10 si (ix2 r d) = si (ix2 r d) := by
  pointwise [k0_pay10]

end Block

section Heads

variable (y : FVec Ideal S512x512 .f32) (gc : FVec Ideal S1x512 .f32) (s d : FVec Ideal S512x1 .f32) (wa wb : Vec Ideal S512x2048 .bf16)
  (co si : Vec Ideal S512x128 .f32) (A B : FVec Ideal S512x2048 .f32) (K L : FVec Ideal S512x128 .f32)

/-- The two products of a row, each times its table: column `J` of the result block. -/
def comb (r : Fin 512) (J : Fin 2048) : EReal :=
  A (ix2 r J) * K (ix2 r ⟨J.val % 128, by omega⟩) + B (ix2 r J) * L (ix2 r ⟨J.val % 128, by omega⟩)

theorem comb_at (r : Fin 512) (C : Fin 128) (n : ℕ) (hn : n + C.val < 2048) (h : n % 128 = 0) :
    comb A B K L r ⟨n + C.val, hn⟩ = A (ix2 r ⟨n + C.val, hn⟩) * K (ix2 r C) + B (ix2 r ⟨n + C.val, hn⟩) * L (ix2 r C) := by
  unfold comb
  have e : (⟨(n + C.val) % 128, by omega⟩ : Fin 128) = C := Fin.ext (by show (n + C.val) % 128 = C.val; have := C.isLt; omega)
  rw [e]

theorem head0 (r : Fin 512) (C : Fin 128) : k0_pay11 y gc s d wa wb co si (ix3 0 r C) = comb (k0_pay7 y gc s d wa) (k0_pay8 y gc s d wb) (k0_pay9 co) (k0_pay10 si) r ⟨0 + C.val, by omega⟩ := by
  rw [comb_at _ _ _ _ r C 0 (by omega) (by norm_num)]
  pointwise [k0_pay11]

theorem head1 (r : Fin 512) (C : Fin 128) : k0_pay12 y gc s d wa wb co si (ix3 0 r C) = comb (k0_pay7 y gc s d wa) (k0_pay8 y gc s d wb) (k0_pay9 co) (k0_pay10 si) r ⟨128 + C.val, by omega⟩ := by
  rw [comb_at _ _ _ _ r C 128 (by omega) (by norm_num)]
  pointwise [k0_pay12]

theorem head2 (r : Fin 512) (C : Fin 128) : k0_pay15 (k0_pay13 y gc s d wa co) (k0_pay14 y gc s d wb si) (ix3 0 r C) = comb (k0_pay7 y gc s d wa) (k0_pay8 y gc s d wb) (k0_pay9 co) (k0_pay10 si) r ⟨256 + C.val, by omega⟩ := by
  rw [comb_at _ _ _ _ r C 256 (by omega) (by norm_num)]
  pointwise [k0_pay15, k0_pay13, k0_pay14]

theorem head3 (r : Fin 512) (C : Fin 128) : k0_pay16 A B K L (ix3 0 r C) = comb A B K L r ⟨384 + C.val, by omega⟩ := by
  rw [comb_at _ _ _ _ r C 384 (by omega) (by norm_num)]
  pointwise [k0_pay16]

theorem head4 (r : Fin 512) (C : Fin 128) : k0_pay17 A B K L (ix3 0 r C) = comb A B K L r ⟨512 + C.val, by omega⟩ := by
  rw [comb_at _ _ _ _ r C 512 (by omega) (by norm_num)]
  pointwise [k0_pay17]

theorem head5 (r : Fin 512) (C : Fin 128) : k0_pay18 A B K L (ix3 0 r C) = comb A B K L r ⟨640 + C.val, by omega⟩ := by
  rw [comb_at _ _ _ _ r C 640 (by omega) (by norm_num)]
  pointwise [k0_pay18]

theorem head6 (r : Fin 512) (C : Fin 128) : k0_pay19 A B K L (ix3 0 r C) = comb A B K L r ⟨768 + C.val, by omega⟩ := by
  rw [comb_at _ _ _ _ r C 768 (by omega) (by norm_num)]
  pointwise [k0_pay19]

theorem head7 (r : Fin 512) (C : Fin 128) : k0_pay20 A B K L (ix3 0 r C) = comb A B K L r ⟨896 + C.val, by omega⟩ := by
  rw [comb_at _ _ _ _ r C 896 (by omega) (by norm_num)]
  pointwise [k0_pay20]

theorem head8 (r : Fin 512) (C : Fin 128) : k0_pay21 A B K L (ix3 0 r C) = comb A B K L r ⟨1024 + C.val, by omega⟩ := by
  rw [comb_at _ _ _ _ r C 1024 (by omega) (by norm_num)]
  pointwise [k0_pay21]

theorem head9 (r : Fin 512) (C : Fin 128) : k0_pay22 A B K L (ix3 0 r C) = comb A B K L r ⟨1152 + C.val, by omega⟩ := by
  rw [comb_at _ _ _ _ r C 1152 (by omega) (by norm_num)]
  pointwise [k0_pay22]

theorem head10 (r : Fin 512) (C : Fin 128) : k0_pay23 A B K L (ix3 0 r C) = comb A B K L r ⟨1280 + C.val, by omega⟩ := by
  rw [comb_at _ _ _ _ r C 1280 (by omega) (by norm_num)]
  pointwise [k0_pay23]

theorem head11 (r : Fin 512) (C : Fin 128) : k0_pay25 (k0_pay24 A B K L) (ix3 0 r C) = comb A B K L r ⟨1408 + C.val, by omega⟩ := by
  rw [comb_at _ _ _ _ r C 1408 (by omega) (by norm_num)]
  pointwise [k0_pay25, k0_pay24]

theorem head12 (r : Fin 512) (C : Fin 128) : k0_pay26 A B K L (ix3 0 r C) = comb A B K L r ⟨1536 + C.val, by omega⟩ := by
  rw [comb_at _ _ _ _ r C 1536 (by omega) (by norm_num)]
  pointwise [k0_pay26]

theorem head13 (r : Fin 512) (C : Fin 128) : k0_pay27 A B K L (ix3 0 r C) = comb A B K L r ⟨1664 + C.val, by omega⟩ := by
  rw [comb_at _ _ _ _ r C 1664 (by omega) (by norm_num)]
  pointwise [k0_pay27]

theorem head14 (r : Fin 512) (C : Fin 128) : k0_pay28 A B K L (ix3 0 r C) = comb A B K L r ⟨1792 + C.val, by omega⟩ := by
  rw [comb_at _ _ _ _ r C 1792 (by omega) (by norm_num)]
  pointwise [k0_pay28]

theorem head15 (r : Fin 512) (C : Fin 128) : k0_pay1 (k0_pay29 A B K L) (ix3 0 r C) = comb A B K L r ⟨1920 + C.val, by omega⟩ := by
  rw [comb_at _ _ _ _ r C 1920 (by omega) (by norm_num)]
  pointwise [k0_pay1, k0_pay29]

end Heads

end Cert.Kernel6Ideal.Q
end
-- ==== Proof.QHost.lean ====
module

public import proofs.«01_k».proof.Proof.QBlock
public import proofs.«01_k».proof.Proof.KvHost

@[expose] public section

set_option maxRecDepth 16384

noncomputable section

/- The arrays that the host code makes for the query kernel, element by element. -/
namespace Cert.Kernel6Ideal.Q

open Idealize.ShloMosaic Idealize.ShloMosaic.TcCoe Idealize.SL.Sem Cert.Kernel6Ideal Cert.Kernel6Ideal.Gen Cert.Proj

/-- The weights of the queries, head by head. -/
def split (w : FVec Ideal S512x1536 .f32) : FVec Ideal S512x16x96 .f32 := shapeCast S512x16x96 w shapeCasts_S512x1536_S512x16x96

theorem split_apply (w : FVec Ideal S512x1536 .f32) (j : Fin 512) (h : Fin 16) (d : Fin 96) :
    split w (ix3 j h d) = w (ix2 j ⟨h.val * 96 + d.val, by omega⟩) := by
  pointwise [split]

/-- Each head's columns, with 32 zero columns after them. -/
def widened (w : FVec Ideal S512x16x96 .f32) : FVec Ideal S512x16x128 .f32 :=
  pad S512x16x128 ![0, 0, 0] ![0, 0, 32] ![0, 0, 0] w (sitofp (F := Ideal) .f32 (constantI S_ 32 0#32)) pads_S512x16x96_S512x16x128_000_000_0320 h_S_

theorem widened_apply (w : FVec Ideal S512x16x96 .f32) (c : Fin 512) (h : Fin 16) (d : Fin 128) :
    widened w (ix3 c h d) = (if hd : d.val < 96 then w (ix3 c h ⟨d.val, hd⟩) else (0 : EReal) : EReal) := by
  by_cases hd : d.val < 96
  · rw [dif_pos hd]
    refine pad_apply_of_inside _ _ _ _ _ _ _ _ (ix3 c h ⟨d.val, hd⟩) (fun a => ?_)
    match a with
    | ⟨0, _⟩ => show c.val = 0 + c.val * (0 + 1); omega
    | ⟨1, _⟩ => show h.val = 0 + h.val * (0 + 1); omega
    | ⟨2, _⟩ => show d.val = 0 + d.val * (0 + 1); omega
  · rw [dif_neg hd]
    refine (pad_apply_of_not_inside _ _ _ _ _ _ _ _ 2 (fun e => hd ?_)).trans ?_
    · have e2 : (d.val - 0) / (0 + 1) < 96 := e.2.2
      omega
    · exact Cert.Kernel5Ideal.Kv.zero_word

/-- The last 32 columns of each head. -/
def last (w : FVec Ideal S512x16x96 .f32) : FVec Ideal S512x16x32 .f32 := extractStridedSlice S512x16x32 ![0, 0, 64] w slices_S512x16x96_S512x16x32_0_0_64

theorem last_apply (w : FVec Ideal S512x16x96 .f32) (c : Fin 512) (h : Fin 16) (C : Fin 32) : last w (ix3 c h C) = w (ix3 c h ⟨64 + C.val, by omega⟩) := by
  pointwise [last]

/-- The two halves of every 32 columns exchanged, the first with its sign changed. -/
def exchanged (w : FVec Ideal S512x16x32 .f32) : FVec Ideal S512x16x32 .f32 :=
  concatenate S512x16x32 2 [⟨S512x16x16, Host.negf (extractStridedSlice S512x16x16 ![0, 0, 16] w slices_S512x16x32_S512x16x16_0_0_16)⟩,
    ⟨S512x16x16, extractStridedSlice S512x16x16 ![0, 0, 0] w slices_S512x16x32_S512x16x16_0_0_0⟩] concatenates_S512x16x16_S512x16x16_S512x16x32_d2

theorem exchanged_apply (w : FVec Ideal S512x16x32 .f32) (k : Fin 512) (h : Fin 16) (C : Fin 32) :
    exchanged w (ix3 k h C) = turned (fun k C => w (ix3 k h C)) k C := by
  unfold turned
  by_cases hC : C.val < 16
  · rw [dif_pos hC]
    refine (concatenate_pair_apply_left (s₁ := S512x16x16) (s₂ := S512x16x16) 2 _ _ _ (ix3 k h C) rfl (ix3 k h ⟨C.val, hC⟩)
      (fun a => match a with | ⟨0, _⟩ => rfl | ⟨1, _⟩ => rfl | ⟨2, _⟩ => rfl)).trans ?_
    have e : (⟨C.val + 16, by omega⟩ : Fin 32) = ⟨16 + C.val, by omega⟩ := Fin.ext (Nat.add_comm _ _)
    rw [e]
    pointwise
  · rw [dif_neg hC]
    refine (concatenate_pair_apply_right (s₁ := S512x16x16) (s₂ := S512x16x16) 2 _ _ _ (ix3 k h C) rfl rfl (ix3 k h ⟨C.val - 16, by omega⟩)
      (fun b hb => ?_) (by show C.val - 16 + 16 = C.val; omega)).trans ?_
    · match b with
      | ⟨0, _⟩ => rfl
      | ⟨1, _⟩ => rfl
      | ⟨2, _⟩ => exact absurd rfl hb
    · pointwise

/-- Every 32 columns with 64 zero columns before them and 32 after them. -/
def placed (w : FVec Ideal S512x16x32 .f32) : FVec Ideal S512x16x128 .f32 :=
  pad S512x16x128 ![0, 0, 64] ![0, 0, 32] ![0, 0, 0] w (sitofp (F := Ideal) .f32 (constantI S_ 32 0#32)) pads_S512x16x32_S512x16x128_000_000_64320 h_S_

theorem placed_apply (w : FVec Ideal S512x16x32 .f32) (c : Fin 512) (h : Fin 16) (d : Fin 128) :
    placed w (ix3 c h d) = (if 64 ≤ d.val ∧ d.val < 96 then w (ix3 c h ⟨(d.val - 64) % 32, by omega⟩) else (0 : EReal) : EReal) := by
  by_cases hd : 64 ≤ d.val ∧ d.val < 96
  · rw [if_pos hd]
    refine pad_apply_of_inside _ _ _ _ _ _ _ _ (ix3 c h ⟨(d.val - 64) % 32, by omega⟩) (fun a => ?_)
    match a with
    | ⟨0, _⟩ => show c.val = 0 + c.val * (0 + 1); omega
    | ⟨1, _⟩ => show h.val = 0 + h.val * (0 + 1); omega
    | ⟨2, _⟩ => show d.val = 64 + (d.val - 64) % 32 * (0 + 1); omega
  · rw [if_neg hd]
    refine (pad_apply_of_not_inside _ _ _ _ _ _ _ _ 2 (fun e => hd ?_)).trans ?_
    · have e1 : 64 ≤ d.val := e.1
      have e2 : (d.val - 64) / (0 + 1) < 32 := e.2.2
      omega
    · exact Cert.Kernel5Ideal.Kv.zero_word

/-- The two matrices that the kernel multiplies by. -/
def flat (w : FVec Ideal S512x16x128 .f32) : FVec Ideal S512x2048 .bf16 :=
  truncf (F := Ideal) .bf16 (shapeCast S512x2048 w shapeCasts_S512x16x128_S512x2048) bitsLt_bf16_f32

theorem flat_apply (w : FVec Ideal S512x16x128 .f32) (j : Fin 512) (J : Fin 2048) :
    flat w (ix2 j J) = w (ix3 j ⟨J.val / 128, by omega⟩ ⟨J.val % 128, by omega⟩) := by
  pointwise [flat]

theorem plainW_apply (w : FVec Ideal S512x1536 .f32) (j : Fin 512) (J : Fin 2048) :
    flat (widened (split w)) (ix2 j J) = (if hd : J.val % 128 < 96 then w (ix2 j ⟨J.val / 128 * 96 + J.val % 128, by omega⟩) else (0 : EReal) : EReal) := by
  rw [flat_apply, widened_apply]
  simp only [split_apply]

theorem turnedW_apply (w : FVec Ideal S512x1536 .f32) (j : Fin 512) (J : Fin 2048) :
    flat (placed (exchanged (last (split w)))) (ix2 j J)
      = (if 64 ≤ J.val % 128 ∧ J.val % 128 < 96 then
          turned (fun j (C : Fin 32) => w (ix2 j ⟨J.val / 128 * 96 + (64 + C.val), by omega⟩)) j ⟨(J.val % 128 - 64) % 32, by omega⟩ else (0 : EReal) : EReal) := by
  rw [flat_apply, placed_apply]
  simp only [exchanged_apply, last_apply, split_apply]

/-- A table of 32 columns between 64 columns of one number and 32 zero columns. -/
def table (v : BitVec 32) (f : FVec Ideal S4096x32 .f32) : FVec Ideal S4096x128 .f32 :=
  concatenate S4096x128 1 [⟨S4096x64, broadcastInDim S4096x64 ![] bcast_S_S4096x64 (constant S_ .f32 v)⟩, ⟨S4096x32, f⟩,
    ⟨S4096x32, broadcastInDim S4096x32 ![] bcast_S_S4096x32 (constant S_ .f32 0x00000000#32)⟩] concatenates_S4096x64_S4096x32_S4096x32_S4096x128_d1

theorem table_apply (v : BitVec 32) (f : FVec Ideal S4096x32 .f32) (R : Fin 4096) (d : Fin 128) :
    table v f (ix2 R d) = (if d.val < 64 then Ideal.ofBits .f32 v else if d.val < 96 then f (ix2 R ⟨(d.val - 64) % 32, by omega⟩) else (0 : EReal) : EReal) := by
  unfold table
  by_cases h1 : d.val < 64
  · rw [if_pos h1]
    refine (concatenate_apply_piece 1 _ _ (ix2 R d) 0 (by simp) S4096x64 _ rfl rfl 0 rfl (ix2 R ⟨d.val, h1⟩)
      (fun a ha => ?_) (by show 0 + d.val = d.val; omega)).trans ?_
    · match a with
      | ⟨0, _⟩ => rfl
      | ⟨1, _⟩ => exact absurd rfl ha
    · pointwise
  · rw [if_neg h1]
    by_cases h2 : d.val < 96
    · rw [if_pos h2]
      exact concatenate_apply_piece 1 _ _ (ix2 R d) 1 (by simp) S4096x32 _ rfl rfl 64 rfl (ix2 R ⟨(d.val - 64) % 32, by omega⟩)
        (fun a ha => match a with | ⟨0, _⟩ => rfl | ⟨1, _⟩ => absurd rfl ha) (by show 64 + (d.val - 64) % 32 = d.val; omega)
    · rw [if_neg h2]
      refine (concatenate_apply_piece 1 _ _ (ix2 R d) 2 (by simp) S4096x32 _ rfl rfl 96 rfl (ix2 R ⟨d.val - 96, by omega⟩)
        (fun a ha => ?_) (by show 96 + (d.val - 96) = d.val; omega)).trans ?_
      · match a with
        | ⟨0, _⟩ => rfl
        | ⟨1, _⟩ => exact absurd rfl ha
      · pointwise

/-- A table set beside itself and scaled. -/
def scaled (f : FVec Ideal S4096x16 .f32) : FVec Ideal S4096x32 .f32 :=
  mulf (Cert.Kernel5Ideal.Kv.beside f) (broadcastInDim S4096x32 ![] bcast_S_S4096x32 (constant S_ .f32 0x3E16C740#32))

theorem scaled_apply (f : FVec Ideal S4096x16 .f32) (R : Fin 4096) (C : Fin 32) :
    scaled f (ix2 R C) = twice (fun c => f (ix2 R c)) C * Ideal.ofBits .f32 1041680192#32 := by
  refine (show scaled f (ix2 R C) = Cert.Kernel5Ideal.Kv.beside f (ix2 R C) * Ideal.ofBits .f32 1041680192#32 from rfl).trans ?_
  rw [Cert.Kernel5Ideal.Kv.beside_apply]

section Array

variable (m : (ℓ : Loc nD τ sig) → Buf (Elt Ideal) ℓ) (c : Dev nD)

theorem host_x : (V m c main_arg0 : FVec Ideal S4x4096x1024 .f32) = m ((c.tc : Thread nD τ).loc main_arg0) := by
  simp only [V, hostOps0, hostOps0_1, hostOps0_2, hostOps0_3, hostOps0_4, hostOps0_5, hostOps0_6, List.flatten_cons, List.flatten_nil, List.append_nil, List.cons_append, List.nil_append]
  after_results <;> rfl

theorem host_g : (V m c main_v49 : FVec Ideal S1x1024 .f32) = shapeCast S1x1024 (m ((c.tc : Thread nD τ).loc main_arg1)) shapeCasts_S1024_S1x1024 := by
  simp only [V, hostOps0, hostOps0_1, hostOps0_2, hostOps0_3, hostOps0_4, hostOps0_5, hostOps0_6, List.flatten_cons, List.flatten_nil, List.append_nil, List.cons_append, List.nil_append]
  after_results <;> rfl

theorem host_sh : (V m c main_v50 : FVec Ideal S4x1x1024 .f32) = broadcastInDim S4x1x1024 ![0, 2] bcast_S4x1024_S4x1x1024_0_2 (m ((c.tc : Thread nD τ).loc main_arg2)) := by
  simp only [V, hostOps0, hostOps0_1, hostOps0_2, hostOps0_3, hostOps0_4, hostOps0_5, hostOps0_6, List.flatten_cons, List.flatten_nil, List.append_nil, List.cons_append, List.nil_append]
  after_results <;> rfl

theorem host_sc : (V m c main_v51 : FVec Ideal S4x1x1024 .f32) = broadcastInDim S4x1x1024 ![0, 2] bcast_S4x1024_S4x1x1024_0_2 (m ((c.tc : Thread nD τ).loc main_arg3)) := by
  simp only [V, hostOps0, hostOps0_1, hostOps0_2, hostOps0_3, hostOps0_4, hostOps0_5, hostOps0_6, List.flatten_cons, List.flatten_nil, List.append_nil, List.cons_append, List.nil_append]
  after_results <;> rfl

theorem host_wd : (V m c main_v12 : FVec Ideal S1024x512 .bf16) = truncf (F := Ideal) .bf16 (m ((c.tc : Thread nD τ).loc main_arg4)) bitsLt_bf16_f32 := by
  simp only [V, hostOps0, hostOps0_1, hostOps0_2, hostOps0_3, hostOps0_4, hostOps0_5, hostOps0_6, List.flatten_cons, List.flatten_nil, List.append_nil, List.cons_append, List.nil_append]
  after_results <;> rfl

theorem host_gc : (V m c main_v13 : FVec Ideal S1x512 .f32) = shapeCast S1x512 (m ((c.tc : Thread nD τ).loc main_arg5)) shapeCasts_S512_S1x512 := by
  simp only [V, hostOps0, hostOps0_1, hostOps0_2, hostOps0_3, hostOps0_4, hostOps0_5, hostOps0_6, List.flatten_cons, List.flatten_nil, List.append_nil, List.cons_append, List.nil_append]
  after_results <;> rfl

theorem host_wa : (V m c main_v14 : FVec Ideal S512x2048 .bf16) = flat (widened (split (m ((c.tc : Thread nD τ).loc main_arg6)))) := by
  unfold flat widened split
  simp only [V, hostOps0, hostOps0_1, hostOps0_2, hostOps0_3, hostOps0_4, hostOps0_5, hostOps0_6, List.flatten_cons, List.flatten_nil, List.append_nil, List.cons_append, List.nil_append]
  after_results <;> rfl

theorem host_wb : (V m c main_v15 : FVec Ideal S512x2048 .bf16) = flat (placed (exchanged (last (split (m ((c.tc : Thread nD τ).loc main_arg6)))))) := by
  unfold flat placed exchanged last split
  simp only [V, hostOps0, hostOps0_1, hostOps0_2, hostOps0_3, hostOps0_4, hostOps0_5, hostOps0_6, List.flatten_cons, List.flatten_nil, List.append_nil, List.cons_append, List.nil_append]
  after_results <;> rfl

theorem host_co : (V m c main_v45 : FVec Ideal S4096x128 .f32) = table 0x3E16C740#32 (scaled Cert.Kernel5Ideal.Kv.cosines) := by
  unfold table scaled Cert.Kernel5Ideal.Kv.beside Cert.Kernel5Ideal.Kv.cosines Cert.Kernel5Ideal.Kv.angles
  simp only [V, hostOps0, hostOps0_1, hostOps0_2, hostOps0_3, hostOps0_4, hostOps0_5, hostOps0_6, List.flatten_cons, List.flatten_nil, List.append_nil, List.cons_append, List.nil_append]
  after_results <;> rfl

theorem host_si : (V m c main_v48 : FVec Ideal S4096x128 .f32) = table 0x00000000#32 (scaled Cert.Kernel5Ideal.Kv.sines) := by
  unfold table scaled Cert.Kernel5Ideal.Kv.beside Cert.Kernel5Ideal.Kv.sines Cert.Kernel5Ideal.Kv.angles
  simp only [V, hostOps0, hostOps0_1, hostOps0_2, hostOps0_3, hostOps0_4, hostOps0_5, hostOps0_6, List.flatten_cons, List.flatten_nil, List.append_nil, List.cons_append, List.nil_append]
  after_results <;> rfl

end Array

end Cert.Kernel6Ideal.Q
end
-- ==== Proof.QOut.lean ====
module

public import proofs.«01_k».proof.Proof.QHost

@[expose] public section

set_option maxRecDepth 16384

noncomputable section

/- The result array of the query kernel: each head's scaled queries. -/
namespace Cert.Kernel6Ideal.Q

open Idealize.ShloMosaic Idealize.ShloMosaic.TcCoe Idealize.SL.Sem Cert.Kernel6Ideal Cert.Kernel6Ideal.Gen Cert.Proj
open Idealize.ShloMosaic.Pipeline (Dat)
open Cert.Kernel5Ideal.Kv (cosines sines)

section Spec

variable (x : FVec Ideal S4x4096x1024 .f32) (g : FVec Ideal S1024 .f32) (sh sc : FVec Ideal S4x1024 .f32) (wd : FVec Ideal S1024x512 .f32)
  (gc : FVec Ideal S512 .f32) (wu : FVec Ideal S512x1536 .f32) (b : Fin 4) (R : Fin 4096)

/-- The normalized, modulated row. -/
def hidden (k : Fin 1024) : EReal :=
  hid (fun k => x (ix3 b R k)) (fun k => g (ix1 k)) (fun k => sh (ix2 b k)) (fun k => sc (ix2 b k)) k

/-- The row projected down to 512 columns and normalized. -/
def small (j : Fin 512) : EReal :=
  nrmQ (fun C => ∑ k : Fin 1024, hidden x g sh sc b R k * wd (ix2 k C)) (fun C => gc (ix1 C)) j

/-- The row projected up to 16 heads of 96 columns. -/
def up (n : Fin 1536) : EReal := ∑ j : Fin 512, small x g sh sc wd gc b R j * wu (ix2 j n)

/-- The query rows of all heads, of 128 columns each: 64 columns, 32 turned by the row's position, 32 zeros, all of them scaled. -/
def queries (J : Fin 2048) : EReal :=
  (if h : J.val % 128 < 64 then up x g sh sc wd gc wu b R ⟨J.val / 128 * 96 + J.val % 128, by omega⟩
    else if J.val % 128 < 96 then
      rot (fun C => up x g sh sc wd gc wu b R ⟨J.val / 128 * 96 + (64 + C.val), by omega⟩) (fun q => cosines (ix2 R q)) (fun q => sines (ix2 R q))
        ⟨(J.val % 128 - 64) % 32, by omega⟩
    else 0) * Ideal.ofBits .f32 1041680192#32

theorem zero_bits : Ideal.ofBits .f32 0x00000000#32 = 0 := by
  simp [Ideal.ofBits, Ideal.ieee]

/-- The two products times the two tables are the queries, where the second norm's gains and the up projection are real. -/
theorem combined (hg : ∀ y, IsReal (gc y)) (hw : ∀ y, IsReal (wu y)) (J : Fin 2048) :
    (∑ j : Fin 512, small x g sh sc wd gc b R j * flat (widened (split wu)) (ix2 j J)) * table 0x3E16C740#32 (scaled cosines) (ix2 R ⟨J.val % 128, by omega⟩)
      + (∑ j : Fin 512, small x g sh sc wd gc b R j * flat (placed (exchanged (last (split wu)))) (ix2 j J))
        * table 0x00000000#32 (scaled sines) (ix2 R ⟨J.val % 128, by omega⟩)
      = queries x g sh sc wd gc wu b R J := by
  simp only [plainW_apply, turnedW_apply, table_apply, scaled_apply]
  unfold queries
  by_cases h1 : J.val % 128 < 64
  · have h3 : J.val % 128 < 96 := by omega
    simp only [if_pos h1, dif_pos h1, dif_pos h3, zero_bits, mul_zero, add_zero]
    rfl
  · by_cases h2 : J.val % 128 < 96
    · have h3 : 64 ≤ J.val % 128 ∧ J.val % 128 < 96 := ⟨by omega, h2⟩
      have e : ∀ j : Fin 512, wu (ix2 j ⟨J.val / 128 * 96 + J.val % 128, by omega⟩)
          = wu (ix2 j ⟨J.val / 128 * 96 + (64 + (J.val % 128 - 64) % 32), by omega⟩) := fun j =>
        congrArg (fun z => wu (ix2 j z)) (Fin.ext (by show J.val / 128 * 96 + J.val % 128 = J.val / 128 * 96 + (64 + (J.val % 128 - 64) % 32); omega))
      simp only [if_neg h1, dif_neg h1, if_pos h2, dif_pos h2, if_pos h3, e]
      exact scaled_products (small x g sh sc wd gc b R) (fun j C => wu (ix2 j ⟨J.val / 128 * 96 + (64 + C.val), by omega⟩)) (fun q => cosines (ix2 R q))
        (fun q => sines (ix2 R q)) (fun j => nrmQ_real _ _ (fun C => hg _) j) (fun j C => hw _) ⟨(J.val % 128 - 64) % 32, by omega⟩
    · simp only [if_neg h1, dif_neg h1, if_neg h2, mul_zero, zero_mul, add_zero]

end Spec

theorem idx_x : ∀ t : Fin cfg0.N, win0_0.index t = ![(grid0.coords t 0).val, (grid0.coords t 1).val, 0] :=
  (by decide +kernel : ∀ t : Fin grid0.N, _)
theorem idx_g : ∀ t : Fin cfg0.N, win0_1.index t = ![0, 0] :=
  (by decide +kernel : ∀ t : Fin grid0.N, _)
theorem idx_sh : ∀ t : Fin cfg0.N, win0_2.index t = ![(grid0.coords t 0).val, 0, 0] :=
  (by decide +kernel : ∀ t : Fin grid0.N, _)
theorem idx_sc : ∀ t : Fin cfg0.N, win0_3.index t = ![(grid0.coords t 0).val, 0, 0] :=
  (by decide +kernel : ∀ t : Fin grid0.N, _)
theorem idx_wd : ∀ t : Fin cfg0.N, win0_4.index t = ![0, 0] :=
  (by decide +kernel : ∀ t : Fin grid0.N, _)
theorem idx_gc : ∀ t : Fin cfg0.N, win0_5.index t = ![0, 0] :=
  (by decide +kernel : ∀ t : Fin grid0.N, _)
theorem idx_wa : ∀ t : Fin cfg0.N, win0_6.index t = ![0, 0] :=
  (by decide +kernel : ∀ t : Fin grid0.N, _)
theorem idx_wb : ∀ t : Fin cfg0.N, win0_7.index t = ![0, 0] :=
  (by decide +kernel : ∀ t : Fin grid0.N, _)
theorem idx_co : ∀ t : Fin cfg0.N, win0_8.index t = ![(grid0.coords t 1).val, 0] :=
  (by decide +kernel : ∀ t : Fin grid0.N, _)
theorem idx_si : ∀ t : Fin cfg0.N, win0_9.index t = ![(grid0.coords t 1).val, 0] :=
  (by decide +kernel : ∀ t : Fin grid0.N, _)
theorem idx_o : ∀ t : Fin cfg0.N, win0_10.index t = ![(grid0.coords t 0).val, (grid0.coords t 1).val, 0] :=
  (by decide +kernel : ∀ t : Fin grid0.N, _)

section Array

variable (m : (ℓ : Loc nD τ sig) → Buf (Elt Ideal) ℓ) (c : Dev nD)

/-- The arguments. -/
abbrev X : FVec Ideal S4x4096x1024 .f32 := m ((c.tc : Thread nD τ).loc main_arg0)
abbrev G : FVec Ideal S1024 .f32 := m ((c.tc : Thread nD τ).loc main_arg1)
abbrev Sh : FVec Ideal S4x1024 .f32 := m ((c.tc : Thread nD τ).loc main_arg2)
abbrev Sc : FVec Ideal S4x1024 .f32 := m ((c.tc : Thread nD τ).loc main_arg3)
abbrev Wd : FVec Ideal S1024x512 .f32 := m ((c.tc : Thread nD τ).loc main_arg4)
abbrev Gc : FVec Ideal S512 .f32 := m ((c.tc : Thread nD τ).loc main_arg5)
abbrev Wu : FVec Ideal S512x1536 .f32 := m ((c.tc : Thread nD τ).loc main_arg6)

/-- Row `r` of the grid's point is this row of the array. -/
def row (t : Fin cfg0.N) (r : Fin 512) : Fin 4096 :=
  ⟨(grid0.coords t 1).val * 512 + r.val, by have h1 : (grid0.coords t 1).val < 8 := (grid0.coords t 1).isLt; omega⟩

/-- The block of the rows. -/
theorem block_x (t : Fin cfg0.N) (r : Fin 512) (k : Fin 1024) : View.ld (iblk m c 0 t) r0_0 (ix3 0 r k) = X m c (ix3 (grid0.coords t 0) (row t r) k) := by
  have e : View.ld (iblk m c 0 t) r0_0 (ix3 0 r k) = V m c main_arg0 (ix3 (grid0.coords t 0) (row t r) k) := by
    show V m c main_arg0 ((win0_0.blk t).view.emb (r0_0.idx (ix3 0 r k))) = _
    refine congrArg (V m c main_arg0) (funext fun a => Fin.ext ?_)
    match a with
    | ⟨0, _⟩ => blk_simp [idx_x]
    | ⟨1, _⟩ => blk_simp [idx_x]; show (grid0.coords t 1).val * 512 + (0 + 1 * r.val) = (grid0.coords t 1).val * 512 + r.val; omega
    | ⟨2, _⟩ => blk_simp [idx_x]; show 0 + 1 * k.val = k.val; omega
  rw [e, host_x]

/-- The block of the gains. -/
theorem block_g (t : Fin cfg0.N) (k : Fin 1024) : View.ld (iblk m c 1 t) r0_1 (ix2 0 k) = G m c (ix1 k) := by
  have e : View.ld (iblk m c 1 t) r0_1 (ix2 0 k) = V m c main_v49 (ix2 0 k) := by
    show V m c main_v49 ((win0_1.blk t).view.emb (r0_1.idx (ix2 0 k))) = _
    refine congrArg (V m c main_v49) (funext fun a => Fin.ext ?_)
    match a with
    | ⟨0, _⟩ => blk_simp [idx_g]; rfl
    | ⟨1, _⟩ => blk_simp [idx_g]; show 0 + 1 * k.val = k.val; omega
  rw [e, host_g]
  pointwise

/-- The block of the shifts. -/
theorem block_sh (t : Fin cfg0.N) (k : Fin 1024) : View.ld (iblk m c 2 t) r0_2 (ix3 0 0 k) = Sh m c (ix2 (grid0.coords t 0) k) := by
  have e : View.ld (iblk m c 2 t) r0_2 (ix3 0 0 k) = V m c main_v50 (ix3 (grid0.coords t 0) 0 k) := by
    show V m c main_v50 ((win0_2.blk t).view.emb (r0_2.idx (ix3 0 0 k))) = _
    refine congrArg (V m c main_v50) (funext fun a => Fin.ext ?_)
    match a with
    | ⟨0, _⟩ => blk_simp [idx_sh]
    | ⟨1, _⟩ => blk_simp [idx_sh]; rfl
    | ⟨2, _⟩ => blk_simp [idx_sh]; show 0 + 1 * k.val = k.val; omega
  rw [e, host_sh]
  pointwise

/-- The block of the scales. -/
theorem block_sc (t : Fin cfg0.N) (k : Fin 1024) : View.ld (iblk m c 3 t) r0_2 (ix3 0 0 k) = Sc m c (ix2 (grid0.coords t 0) k) := by
  have e : View.ld (iblk m c 3 t) r0_2 (ix3 0 0 k) = V m c main_v51 (ix3 (grid0.coords t 0) 0 k) := by
    show V m c main_v51 ((win0_3.blk t).view.emb (r0_2.idx (ix3 0 0 k))) = _
    refine congrArg (V m c main_v51) (funext fun a => Fin.ext ?_)
    match a with
    | ⟨0, _⟩ => blk_simp [idx_sc]
    | ⟨1, _⟩ => blk_simp [idx_sc]; rfl
    | ⟨2, _⟩ => blk_simp [idx_sc]; show 0 + 1 * k.val = k.val; omega
  rw [e, host_sc]
  pointwise

/-- The block of the down projection. -/
theorem block_wd (t : Fin cfg0.N) (k : Fin 1024) (C : Fin 512) : View.ld (iblk m c 4 t) r0_3 (ix2 k C) = Wd m c (ix2 k C) := by
  have e : View.ld (iblk m c 4 t) r0_3 (ix2 k C) = V m c main_v12 (ix2 k C) := by
    show V m c main_v12 ((win0_4.blk t).view.emb (r0_3.idx (ix2 k C))) = _
    refine congrArg (V m c main_v12) (funext fun a => Fin.ext ?_)
    match a with
    | ⟨0, _⟩ => blk_simp [idx_wd]; show 0 + 1 * k.val = k.val; omega
    | ⟨1, _⟩ => blk_simp [idx_wd]; show 0 + 1 * C.val = C.val; omega
  rw [e, host_wd]
  rfl

/-- The block of the second norm's gains. -/
theorem block_gc (t : Fin cfg0.N) (C : Fin 512) : View.ld (iblk m c 5 t) r0_4 (ix2 0 C) = Gc m c (ix1 C) := by
  have e : View.ld (iblk m c 5 t) r0_4 (ix2 0 C) = V m c main_v13 (ix2 0 C) := by
    show V m c main_v13 ((win0_5.blk t).view.emb (r0_4.idx (ix2 0 C))) = _
    refine congrArg (V m c main_v13) (funext fun a => Fin.ext ?_)
    match a with
    | ⟨0, _⟩ => blk_simp [idx_gc]; rfl
    | ⟨1, _⟩ => blk_simp [idx_gc]; show 0 + 1 * C.val = C.val; omega
  rw [e, host_gc]
  pointwise

/-- The block of the first matrix. -/
theorem block_wa (t : Fin cfg0.N) (j : Fin 512) (J : Fin 2048) : View.ld (iblk m c 6 t) r0_5 (ix2 j J) = flat (widened (split (Wu m c))) (ix2 j J) := by
  have e : View.ld (iblk m c 6 t) r0_5 (ix2 j J) = V m c main_v14 (ix2 j J) := by
    show V m c main_v14 ((win0_6.blk t).view.emb (r0_5.idx (ix2 j J))) = _
    refine congrArg (V m c main_v14) (funext fun a => Fin.ext ?_)
    match a with
    | ⟨0, _⟩ => blk_simp [idx_wa]; show 0 + 1 * j.val = j.val; omega
    | ⟨1, _⟩ => blk_simp [idx_wa]; show 0 + 1 * J.val = J.val; omega
  rw [e, host_wa]

/-- The block of the second matrix. -/
theorem block_wb (t : Fin cfg0.N) (j : Fin 512) (J : Fin 2048) : View.ld (iblk m c 7 t) r0_5 (ix2 j J) = flat (placed (exchanged (last (split (Wu m c))))) (ix2 j J) := by
  have e : View.ld (iblk m c 7 t) r0_5 (ix2 j J) = V m c main_v15 (ix2 j J) := by
    show V m c main_v15 ((win0_7.blk t).view.emb (r0_5.idx (ix2 j J))) = _
    refine congrArg (V m c main_v15) (funext fun a => Fin.ext ?_)
    match a with
    | ⟨0, _⟩ => blk_simp [idx_wb]; show 0 + 1 * j.val = j.val; omega
    | ⟨1, _⟩ => blk_simp [idx_wb]; show 0 + 1 * J.val = J.val; omega
  rw [e, host_wb]

/-- The block of the cosines. -/
theorem block_co (t : Fin cfg0.N) (r : Fin 512) (d : Fin 128) : View.ld (iblk m c 8 t) r0_6 (ix2 r d) = table 0x3E16C740#32 (scaled cosines) (ix2 (row t r) d) := by
  have e : View.ld (iblk m c 8 t) r0_6 (ix2 r d) = V m c main_v45 (ix2 (row t r) d) := by
    show V m c main_v45 ((win0_8.blk t).view.emb (r0_6.idx (ix2 r d))) = _
    refine congrArg (V m c main_v45) (funext fun a => Fin.ext ?_)
    match a with
    | ⟨0, _⟩ => blk_simp [idx_co]; show (grid0.coords t 1).val * 512 + (0 + 1 * r.val) = (grid0.coords t 1).val * 512 + r.val; omega
    | ⟨1, _⟩ => blk_simp [idx_co]; show 0 + 1 * d.val = d.val; omega
  rw [e, host_co]

/-- The block of the sines. -/
theorem block_si (t : Fin cfg0.N) (r : Fin 512) (d : Fin 128) : View.ld (iblk m c 9 t) r0_6 (ix2 r d) = table 0x00000000#32 (scaled sines) (ix2 (row t r) d) := by
  have e : View.ld (iblk m c 9 t) r0_6 (ix2 r d) = V m c main_v48 (ix2 (row t r) d) := by
    show V m c main_v48 ((win0_9.blk t).view.emb (r0_6.idx (ix2 r d))) = _
    refine congrArg (V m c main_v48) (funext fun a => Fin.ext ?_)
    match a with
    | ⟨0, _⟩ => blk_simp [idx_si]; show (grid0.coords t 1).val * 512 + (0 + 1 * r.val) = (grid0.coords t 1).val * 512 + r.val; omega
    | ⟨1, _⟩ => blk_simp [idx_si]; show 0 + 1 * d.val = d.val; omega
  rw [e, host_si]

/-- The normalized row of a point's block. -/
theorem block_small (t : Fin cfg0.N) (r j : Fin 512) : k0_pay6 (k0_pay30 (iblk m c 0 t) (iblk m c 1 t) (iblk m c 2 t) (iblk m c 3 t) (iblk m c 4 t) (iblk m c 5 t) (iblk m c 6 t) (iblk m c 7 t) (iblk m c 8 t) (iblk m c 9 t)) (k0_pay31 (iblk m c 0 t) (iblk m c 1 t) (iblk m c 2 t) (iblk m c 3 t) (iblk m c 4 t) (iblk m c 5 t) (iblk m c 6 t) (iblk m c 7 t) (iblk m c 8 t) (iblk m c 9 t)) (k0_pay32 (iblk m c 0 t) (iblk m c 1 t) (iblk m c 2 t) (iblk m c 3 t) (iblk m c 4 t) (iblk m c 5 t) (iblk m c 6 t) (iblk m c 7 t) (iblk m c 8 t) (iblk m c 9 t)) (k0_pay33 (iblk m c 0 t) (iblk m c 1 t) (iblk m c 2 t) (iblk m c 3 t) (iblk m c 4 t) (iblk m c 5 t) (iblk m c 6 t) (iblk m c 7 t) (iblk m c 8 t) (iblk m c 9 t)) (ix2 r j) = small (X m c) (G m c) (Sh m c) (Sc m c) (Wd m c) (Gc m c) (grid0.coords t 0) (row t r) j := by
  refine (norm_apply (View.ld (iblk m c 0 t) r0_0) (View.ld (iblk m c 1 t) r0_1) (View.ld (iblk m c 2 t) r0_2) (View.ld (iblk m c 3 t) r0_2)
    (View.ld (iblk m c 4 t) r0_3) (View.ld (iblk m c 5 t) r0_4) r j).trans ?_
  unfold small hidden downB hidB
  simp only [block_x, block_g, block_sh, block_sc, block_wd, block_gc]

/-- The two products of a point's block. -/
theorem block_plain (t : Fin cfg0.N) (r : Fin 512) (J : Fin 2048) :
    k0_pay34 (iblk m c 0 t) (iblk m c 1 t) (iblk m c 2 t) (iblk m c 3 t) (iblk m c 4 t) (iblk m c 5 t) (iblk m c 6 t) (iblk m c 7 t) (iblk m c 8 t) (iblk m c 9 t) (ix2 r J) = ∑ j : Fin 512, small (X m c) (G m c) (Sh m c) (Sc m c) (Wd m c) (Gc m c) (grid0.coords t 0) (row t r) j * flat (widened (split (Wu m c))) (ix2 j J) := by
  refine (pay7_apply (View.ld (iblk m c 6 t) r0_5) (k0_pay30 (iblk m c 0 t) (iblk m c 1 t) (iblk m c 2 t) (iblk m c 3 t) (iblk m c 4 t) (iblk m c 5 t) (iblk m c 6 t) (iblk m c 7 t) (iblk m c 8 t) (iblk m c 9 t)) (k0_pay31 (iblk m c 0 t) (iblk m c 1 t) (iblk m c 2 t) (iblk m c 3 t) (iblk m c 4 t) (iblk m c 5 t) (iblk m c 6 t) (iblk m c 7 t) (iblk m c 8 t) (iblk m c 9 t)) (k0_pay32 (iblk m c 0 t) (iblk m c 1 t) (iblk m c 2 t) (iblk m c 3 t) (iblk m c 4 t) (iblk m c 5 t) (iblk m c 6 t) (iblk m c 7 t) (iblk m c 8 t) (iblk m c 9 t)) (k0_pay33 (iblk m c 0 t) (iblk m c 1 t) (iblk m c 2 t) (iblk m c 3 t) (iblk m c 4 t) (iblk m c 5 t) (iblk m c 6 t) (iblk m c 7 t) (iblk m c 8 t) (iblk m c 9 t)) r J).trans ?_
  exact Finset.sum_congr rfl fun j _ => congr (congrArg _ (block_small m c t r j)) (block_wa m c t j J)

theorem block_turned (t : Fin cfg0.N) (r : Fin 512) (J : Fin 2048) :
    k0_pay35 (iblk m c 0 t) (iblk m c 1 t) (iblk m c 2 t) (iblk m c 3 t) (iblk m c 4 t) (iblk m c 5 t) (iblk m c 6 t) (iblk m c 7 t) (iblk m c 8 t) (iblk m c 9 t) (ix2 r J) = ∑ j : Fin 512, small (X m c) (G m c) (Sh m c) (Sc m c) (Wd m c) (Gc m c) (grid0.coords t 0) (row t r) j * flat (placed (exchanged (last (split (Wu m c))))) (ix2 j J) := by
  refine (pay8_apply (View.ld (iblk m c 7 t) r0_5) (k0_pay30 (iblk m c 0 t) (iblk m c 1 t) (iblk m c 2 t) (iblk m c 3 t) (iblk m c 4 t) (iblk m c 5 t) (iblk m c 6 t) (iblk m c 7 t) (iblk m c 8 t) (iblk m c 9 t)) (k0_pay31 (iblk m c 0 t) (iblk m c 1 t) (iblk m c 2 t) (iblk m c 3 t) (iblk m c 4 t) (iblk m c 5 t) (iblk m c 6 t) (iblk m c 7 t) (iblk m c 8 t) (iblk m c 9 t)) (k0_pay32 (iblk m c 0 t) (iblk m c 1 t) (iblk m c 2 t) (iblk m c 3 t) (iblk m c 4 t) (iblk m c 5 t) (iblk m c 6 t) (iblk m c 7 t) (iblk m c 8 t) (iblk m c 9 t)) (k0_pay33 (iblk m c 0 t) (iblk m c 1 t) (iblk m c 2 t) (iblk m c 3 t) (iblk m c 4 t) (iblk m c 5 t) (iblk m c 6 t) (iblk m c 7 t) (iblk m c 8 t) (iblk m c 9 t)) r J).trans ?_
  exact Finset.sum_congr rfl fun j _ => congr (congrArg _ (block_small m c t r j)) (block_wb m c t j J)

/-- Equal places have equal entries. -/
theorem comb_congr {A B : FVec Ideal S512x2048 .f32} {K L : FVec Ideal S512x128 .f32} {r r' : Fin 512} {J J' : Fin 2048} (h : r.val = r'.val)
    (h' : J.val = J'.val) : comb A B K L r J = comb A B K L r' J' := by
  rw [Fin.ext h, Fin.ext h']

/-- What the precondition says: the second norm's gains and the up projection are real. -/
abbrev Reals : Prop := (∀ y, IsReal (Gc m c y)) ∧ ∀ y, IsReal (Wu m c y)

/-- A point's block of the queries. -/
theorem point (fin : Reals m c) (t : Fin cfg0.N) (r : Fin 512) (J : Fin 2048) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r J) = queries (X m c) (G m c) (Sh m c) (Sc m c) (Wd m c) (Gc m c) (Wu m c) (grid0.coords t 0) (row t r) J := by
  unfold out0_10
  refine (View.canon_apply_of_pieces (fun y => comb (k0_pay34 (iblk m c 0 t) (iblk m c 1 t) (iblk m c 2 t) (iblk m c 3 t) (iblk m c 4 t) (iblk m c 5 t) (iblk m c 6 t) (iblk m c 7 t) (iblk m c 8 t) (iblk m c 9 t)) (k0_pay35 (iblk m c 0 t) (iblk m c 1 t) (iblk m c 2 t) (iblk m c 3 t) (iblk m c 4 t) (iblk m c 5 t) (iblk m c 6 t) (iblk m c 7 t) (iblk m c 8 t) (iblk m c 9 t)) (k0_pay36 (iblk m c 0 t) (iblk m c 1 t) (iblk m c 2 t) (iblk m c 3 t) (iblk m c 4 t) (iblk m c 5 t) (iblk m c 6 t) (iblk m c 7 t) (iblk m c 8 t) (iblk m c 9 t)) (k0_pay37 (iblk m c 0 t) (iblk m c 1 t) (iblk m c 2 t) (iblk m c 3 t) (iblk m c 4 t) (iblk m c 5 t) (iblk m c 6 t) (iblk m c 7 t) (iblk m c 8 t) (iblk m c 9 t)) (y 1) (y 2)) _ ?_ _
    (cover0_10 _ _ _ _ _ _ _ _ _ _ _ _ _ _ _ _ _)).trans ?_
  · intro pc hpc
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head15 _ _ _ _ r C).trans (comb_congr (by show r.val = 0 + 1 * r.val; omega) (by show 1920 + C.val = 1920 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head14 _ _ _ _ r C).trans (comb_congr (by show r.val = 0 + 1 * r.val; omega) (by show 1792 + C.val = 1792 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head13 _ _ _ _ r C).trans (comb_congr (by show r.val = 0 + 1 * r.val; omega) (by show 1664 + C.val = 1664 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head12 _ _ _ _ r C).trans (comb_congr (by show r.val = 0 + 1 * r.val; omega) (by show 1536 + C.val = 1536 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head11 _ _ _ _ r C).trans (comb_congr (by show r.val = 0 + 1 * r.val; omega) (by show 1408 + C.val = 1408 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head10 _ _ _ _ r C).trans (comb_congr (by show r.val = 0 + 1 * r.val; omega) (by show 1280 + C.val = 1280 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head9 _ _ _ _ r C).trans (comb_congr (by show r.val = 0 + 1 * r.val; omega) (by show 1152 + C.val = 1152 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head8 _ _ _ _ r C).trans (comb_congr (by show r.val = 0 + 1 * r.val; omega) (by show 1024 + C.val = 1024 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head7 _ _ _ _ r C).trans (comb_congr (by show r.val = 0 + 1 * r.val; omega) (by show 896 + C.val = 896 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head6 _ _ _ _ r C).trans (comb_congr (by show r.val = 0 + 1 * r.val; omega) (by show 768 + C.val = 768 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head5 _ _ _ _ r C).trans (comb_congr (by show r.val = 0 + 1 * r.val; omega) (by show 640 + C.val = 640 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head4 _ _ _ _ r C).trans (comb_congr (by show r.val = 0 + 1 * r.val; omega) (by show 512 + C.val = 512 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head3 _ _ _ _ r C).trans (comb_congr (by show r.val = 0 + 1 * r.val; omega) (by show 384 + C.val = 384 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head2 _ _ _ _ _ _ _ _ r C).trans (comb_congr (by show r.val = 0 + 1 * r.val; omega) (by show 256 + C.val = 256 + 1 * C.val; omega))
    rcases List.mem_cons.mp hpc with rfl | hpc
    · intro x
      obtain ⟨p, r, C, rfl⟩ : ∃ (p : Fin 1) (r : Fin 512) (C : Fin 128), x = ix3 p r C := ⟨x 0, x 1, x 2, by ext a; fin_cases a <;> rfl⟩
      obtain rfl : p = 0 := Subsingleton.elim _ _
      exact (head1 _ _ _ _ _ _ _ _ r C).trans (comb_congr (by show r.val = 0 + 1 * r.val; omega) (by show 128 + C.val = 128 + 1 * C.val; omega))
    obtain rfl := List.mem_singleton.mp hpc
    intro x
    obtain ⟨p, r, C, rfl⟩ : ∃ (p : Fin 1) (r : Fin 512) (C : Fin 128), x = ix3 p r C := ⟨x 0, x 1, x 2, by ext a; fin_cases a <;> rfl⟩
    obtain rfl : p = 0 := Subsingleton.elim _ _
    exact (head0 _ _ _ _ _ _ _ _ r C).trans (comb_congr (by show r.val = 0 + 1 * r.val; omega) (by show 0 + C.val = 0 + 1 * C.val; omega))
  · refine Eq.trans ?_ (combined (X m c) (G m c) (Sh m c) (Sc m c) (Wd m c) (Gc m c) (Wu m c) (grid0.coords t 0) (row t r) fin.1 fin.2 J)
    show comb (k0_pay34 (iblk m c 0 t) (iblk m c 1 t) (iblk m c 2 t) (iblk m c 3 t) (iblk m c 4 t) (iblk m c 5 t) (iblk m c 6 t) (iblk m c 7 t) (iblk m c 8 t) (iblk m c 9 t)) (k0_pay35 (iblk m c 0 t) (iblk m c 1 t) (iblk m c 2 t) (iblk m c 3 t) (iblk m c 4 t) (iblk m c 5 t) (iblk m c 6 t) (iblk m c 7 t) (iblk m c 8 t) (iblk m c 9 t)) (k0_pay36 (iblk m c 0 t) (iblk m c 1 t) (iblk m c 2 t) (iblk m c 3 t) (iblk m c 4 t) (iblk m c 5 t) (iblk m c 6 t) (iblk m c 7 t) (iblk m c 8 t) (iblk m c 9 t)) (k0_pay37 (iblk m c 0 t) (iblk m c 1 t) (iblk m c 2 t) (iblk m c 3 t) (iblk m c 4 t) (iblk m c 5 t) (iblk m c 6 t) (iblk m c 7 t) (iblk m c 8 t) (iblk m c 9 t)) r J = _
    unfold comb
    rw [block_plain, block_turned]
    have ek := (pay9_apply (View.ld (iblk m c 8 t) r0_6) r ⟨J.val % 128, by omega⟩).trans (block_co m c t r ⟨J.val % 128, by omega⟩)
    have el := (pay10_apply (View.ld (iblk m c 9 t) r0_6) r ⟨J.val % 128, by omega⟩).trans (block_si m c t r ⟨J.val % 128, by omega⟩)
    exact congr (congrArg _ (congrArg _ ek)) (congrArg _ el)

/-- The array of the queries. -/
theorem final (fin : Reals m c) : (dats m 0 c).arrAt 10 cfg0.N = fun i => queries (X m c) (G m c) (Sh m c) (Sc m c) (Wd m c) (Gc m c) (Wu m c) (i 0) (i 1) (i 2) := by
  refine (dats m 0 c).arrAt_eq_of_covers 10 _ (by decide +kernel) fun t hf y => ?_
  blk_simp
  rw [after0_10]
  obtain ⟨p, r, C, rfl⟩ : ∃ (p : Fin 1) (r : Fin 512) (C : Fin 2048), y = ix3 p r C := ⟨y 0, y 1, y 2, by ext a; fin_cases a <;> rfl⟩
  obtain rfl : p = 0 := Subsingleton.elim _ _
  refine (point m c fin t r C).trans ?_
  have z0 : grid0.coords t 0 = (win0_10.blk t).view.emb (ix3 0 r C) 0 := Fin.ext (by blk_simp [idx_o]; rfl)
  have z1 : row t r = (win0_10.blk t).view.emb (ix3 0 r C) 1 := Fin.ext (by unfold row; blk_simp [idx_o])
  have z2 : C = (win0_10.blk t).view.emb (ix3 0 r C) 2 := Fin.ext (by blk_simp [idx_o])
  exact congr (congr (congrArg _ z0) z1) z2

end Array

end Cert.Kernel6Ideal.Q
end
-- ==== Proof.QRef.lean ====
module

public import proofs.«01_k».proof.Proof.QOut
public import proofs.«01_k».proof.Proof.Gen.Reference6Ideal.Run
public import proofs.«01_k».proof.Proof.Gen.Pre_finite_q

@[expose] public section

set_option maxRecDepth 16384

noncomputable section

/- The reference of the query projection computes the same function of the arguments. -/
namespace Cert.Reference6Ideal.Q

open Idealize.ShloMosaic Idealize.ShloMosaic.TcCoe Idealize.SL.Sem Cert.Reference6Ideal Cert.Reference6Ideal.Gen Cert.Proj
open Cert.Kernel6Ideal.Q (small up queries nrmQ)
open Cert.Kernel5Ideal.Kv (cosines sines)

section Terms

variable (x : FVec Ideal S4x4096x1024 .f32) (g : FVec Ideal S1024 .f32) (sh sc : FVec Ideal S4x1024 .f32) (wd : FVec Ideal S1024x512 .f32)
  (gc : FVec Ideal S512 .f32) (wu : FVec Ideal S512x1536 .f32)

/-- The normalized, modulated rows. -/
def hiddenT : FVec Ideal S4x4096x1024 .f32 :=
  addf (mulf (mulf (mulf x (broadcastInDim S4x4096x1024 ![0, 1, 2] bcast_S4x4096x1_S4x4096x1024_0_1_2 (Host.rsqrt (addf (Host.divf (broadcastInDim
    S4x4096x1 ![0, 1] bcast_S4x4096_S4x4096x1_0_1 (Host.reduceAdd (mulf x x) (constant S_ .f32 0x00000000#32) reducesTo_S4x4096x1024_S4x4096_d2 h_S_))
    (broadcastInDim S4x4096x1 ![] bcast_S_S4x4096x1 (constant S_ .f32 0x44800000#32))) (broadcastInDim S4x4096x1 ![] bcast_S_S4x4096x1 (constant S_
    .f32 0x358637BD#32)))))) (broadcastInDim S4x4096x1024 ![0, 1, 2] bcast_S1x1x1024_S4x4096x1024_0_1_2 (broadcastInDim S1x1x1024 ![2]
    bcast_S1024_S1x1x1024_2 g))) (broadcastInDim S4x4096x1024 ![0, 1, 2] bcast_S4x1x1024_S4x4096x1024_0_1_2 (addf (broadcastInDim S4x1x1024 ![]
    bcast_S_S4x1x1024 (constant S_ .f32 0x3F800000#32)) (broadcastInDim S4x1x1024 ![0, 2] bcast_S4x1024_S4x1x1024_0_2 sc)))) (broadcastInDim
    S4x4096x1024 ![0, 1, 2] bcast_S4x1x1024_S4x4096x1024_0_1_2 (broadcastInDim S4x1x1024 ![0, 2] bcast_S4x1024_S4x1x1024_0_2 sh))

theorem hiddenT_apply (b : Fin 4) (R : Fin 4096) (k : Fin 1024) : hiddenT x g sh sc (ix3 b R k) = Cert.Kernel6Ideal.Q.hidden x g sh sc b R k := by
  pointwise [hiddenT, Cert.Kernel6Ideal.Q.hidden, hid]

/-- The down projection, before its normalization. -/
def downT : FVec Ideal S4x4096x512 .f32 :=
  Host.dotGeneral dot_S4x4096x1024_S1024x512_S4x4096x512_2_0_01_1_n_n none (hiddenT x g sh sc) wd

theorem downT_apply (b : Fin 4) (R : Fin 4096) (C : Fin 512) :
    downT x g sh sc wd (ix3 b R C) = ∑ k : Fin 1024, Cert.Kernel6Ideal.Q.hidden x g sh sc b R k * wd (ix2 k C) := by
  simp only [← hiddenT_apply]
  pointwise [downT]

/-- Rows of 512 columns, normalized. -/
def normT (y : FVec Ideal S4x4096x512 .f32) : FVec Ideal S4x4096x512 .f32 :=
  mulf (mulf y (broadcastInDim S4x4096x512 ![0, 1, 2] bcast_S4x4096x1_S4x4096x512_0_1_2 (Host.rsqrt (addf (Host.divf (broadcastInDim S4x4096x1 ![0, 1]
    bcast_S4x4096_S4x4096x1_0_1 (Host.reduceAdd (mulf y y) (constant S_ .f32 0x00000000#32) reducesTo_S4x4096x512_S4x4096_d2 h_S_)) (broadcastInDim
    S4x4096x1 ![] bcast_S_S4x4096x1 (constant S_ .f32 0x44000000#32))) (broadcastInDim S4x4096x1 ![] bcast_S_S4x4096x1 (constant S_ .f32
    0x358637BD#32)))))) (broadcastInDim S4x4096x512 ![0, 1, 2] bcast_S1x1x512_S4x4096x512_0_1_2 (broadcastInDim S1x1x512 ![2] bcast_S512_S1x1x512_2
    gc))

theorem normT_apply (y : FVec Ideal S4x4096x512 .f32) (b : Fin 4) (R : Fin 4096) (C : Fin 512) :
    normT gc y (ix3 b R C) = nrmQ (fun C => y (ix3 b R C)) (fun C => gc (ix1 C)) C := by
  pointwise [normT, nrmQ]

/-- The small rows. -/
def smallT : FVec Ideal S4x4096x512 .f32 := normT gc (downT x g sh sc wd)

theorem smallT_apply (b : Fin 4) (R : Fin 4096) (C : Fin 512) : smallT x g sh sc wd gc (ix3 b R C) = small x g sh sc wd gc b R C := by
  unfold smallT small
  rw [normT_apply]
  simp only [downT_apply]

/-- The rows projected up. -/
def upT : FVec Ideal S4x4096x1536 .f32 :=
  Host.dotGeneral dot_S4x4096x512_S512x1536_S4x4096x1536_2_0_01_1_n_n none (smallT x g sh sc wd gc) wu

theorem upT_apply (b : Fin 4) (R : Fin 4096) (n : Fin 1536) : upT x g sh sc wd gc wu (ix3 b R n) = up x g sh sc wd gc wu b R n := by
  unfold up
  simp only [← smallT_apply]
  pointwise [upT]

/-- Head by head. -/
def splitT (u : FVec Ideal S4x4096x1536 .f32) : FVec Ideal S4x4096x16x96 .f32 := shapeCast S4x4096x16x96 u shapeCasts_S4x4096x1536_S4x4096x16x96

theorem splitT_apply (u : FVec Ideal S4x4096x1536 .f32) (b : Fin 4) (R : Fin 4096) (h : Fin 16) (d : Fin 96) :
    splitT u (ix4 b R h d) = u (ix3 b R ⟨h.val * 96 + d.val, by omega⟩) := by
  pointwise [splitT]

/-- The last 32 columns of each head. -/
def lastT (u : FVec Ideal S4x4096x16x96 .f32) : FVec Ideal S4x4096x16x32 .f32 :=
  extractStridedSlice S4x4096x16x32 ![0, 0, 0, 64] u slices_S4x4096x16x96_S4x4096x16x32_0_0_0_64

theorem lastT_apply (u : FVec Ideal S4x4096x16x96 .f32) (b : Fin 4) (R : Fin 4096) (h : Fin 16) (C : Fin 32) :
    lastT u (ix4 b R h C) = u (ix4 b R h ⟨64 + C.val, by omega⟩) := by
  pointwise [lastT]

/-- The frequencies and the angles of the rotary embedding. -/
def freqT : FVec Ideal S16 .f32 :=
  Host.powf (broadcastInDim S16 ![] bcast_S_S16 (constant S_ .f32 0x461C4000#32)) (Host.divf (Host.negf (addf (broadcastInDim S16 ![] bcast_S_S16
    (constant S_ .f32 0x00000000#32)) (mulf (broadcastInDim S16 ![] bcast_S_S16 (constant S_ .f32 0x40000000#32)) (sitofp (F := Ideal) .f32 (iotaInDim
    S16 32 0))))) (broadcastInDim S16 ![] bcast_S_S16 (constant S_ .f32 0x42000000#32)))
def angleT (f : FVec Ideal S16 .f32) : FVec Ideal S4096x1x16 .f32 :=
  mulf (broadcastInDim S4096x1x16 ![0, 1, 2] bcast_S4096x1x1_S4096x1x16_0_1_2 (broadcastInDim S4096x1x1 ![0, 1] bcast_S4096x1_S4096x1x1_0_1 (sitofp (F
    := Ideal) .f32 (broadcastInDim S4096x1 ![0] bcast_S4096_S4096x1_0 (iotaInDim S4096 32 0))))) (broadcastInDim S4096x1x16 ![0, 1, 2]
    bcast_S1x1x16_S4096x1x16_0_1_2 (broadcastInDim S1x1x16 ![2] bcast_S16_S1x1x16_2 f))

/-- A table on every sequence and head. -/
def eachT (f : FVec Ideal S4096x1x16 .f32) : FVec Ideal S4x4096x16x16 .f32 :=
  broadcastInDim S4x4096x16x16 ![0, 1, 2, 3] bcast_S1x4096x1x16_S4x4096x16x16_0_1_2_3 (broadcastInDim S1x4096x1x16 ![1, 2, 3] bcast_S4096x1x16_S1x4096x1x16_1_2_3 f)

theorem eachT_apply (f : FVec Ideal S4096x1x16 .f32) (b : Fin 4) (R : Fin 4096) (h q : Fin 16) : eachT f (ix4 b R h q) = f (ix3 R 0 q) := by
  pointwise [eachT]

theorem angleT_apply (f : FVec Ideal S16 .f32) (R : Fin 4096) (q : Fin 16) :
    angleT f (ix3 R 0 q) = FloatOps.sitofp (F := Ideal) .f32 (BitVec.ofNat 32 R.val) * f (ix1 q) := by
  pointwise [angleT]

theorem angles_apply (R : Fin 4096) (q : Fin 16) :
    Cert.Kernel5Ideal.Kv.angles (ix2 R q) = FloatOps.sitofp (F := Ideal) .f32 (BitVec.ofNat 32 R.val) * freqT (ix1 q) := by
  unfold Cert.Kernel5Ideal.Kv.angles
  generalize e : (Host.powf _ _ : FVec Ideal S16 .f32) = f
  have e' : freqT = f := e
  rw [e']
  pointwise

theorem cosT_apply (R : Fin 4096) (q : Fin 16) : (Host.cos (angleT freqT) : FVec Ideal S4096x1x16 .f32) (ix3 R 0 q) = cosines (ix2 R q) :=
  congrArg Ideal.cos ((angleT_apply freqT R q).trans (angles_apply R q).symm)

theorem sinT_apply (R : Fin 4096) (q : Fin 16) : (Host.sin (angleT freqT) : FVec Ideal S4096x1x16 .f32) (ix3 R 0 q) = sines (ix2 R q) :=
  congrArg Ideal.sin ((angleT_apply freqT R q).trans (angles_apply R q).symm)

/-- Rows of 32 columns, turned. -/
def turnT (p : FVec Ideal S4x4096x16x32 .f32) (co si : FVec Ideal S4096x1x16 .f32) : FVec Ideal S4x4096x16x32 .f32 :=
  concatenate S4x4096x16x32 3 [⟨S4x4096x16x16, subf (mulf (extractStridedSlice S4x4096x16x16 ![0, 0, 0, 0] p slices_S4x4096x16x32_S4x4096x16x16_0_0_0_0) (eachT co))
      (mulf (extractStridedSlice S4x4096x16x16 ![0, 0, 0, 16] p slices_S4x4096x16x32_S4x4096x16x16_0_0_0_16) (eachT si))⟩,
    ⟨S4x4096x16x16, addf (mulf (extractStridedSlice S4x4096x16x16 ![0, 0, 0, 0] p slices_S4x4096x16x32_S4x4096x16x16_0_0_0_0) (eachT si))
      (mulf (extractStridedSlice S4x4096x16x16 ![0, 0, 0, 16] p slices_S4x4096x16x32_S4x4096x16x16_0_0_0_16) (eachT co))⟩]
    concatenates_S4x4096x16x16_S4x4096x16x16_S4x4096x16x32_d3

theorem turnT_apply (p : FVec Ideal S4x4096x16x32 .f32) (co si : FVec Ideal S4096x1x16 .f32) (b : Fin 4) (R : Fin 4096) (h : Fin 16) (C : Fin 32) :
    turnT p co si (ix4 b R h C) = rot (fun C => p (ix4 b R h C)) (fun q => co (ix3 R 0 q)) (fun q => si (ix3 R 0 q)) C := by
  unfold rot
  by_cases hC : C.val < 16
  · rw [dif_pos hC]
    refine (concatenate_pair_apply_left (s₁ := S4x4096x16x16) (s₂ := S4x4096x16x16) 3 _ _ _ (ix4 b R h C) rfl (ix4 b R h ⟨C.val, hC⟩)
      (fun a => match a with | ⟨0, _⟩ => rfl | ⟨1, _⟩ => rfl | ⟨2, _⟩ => rfl | ⟨3, _⟩ => rfl)).trans ?_
    have e : (⟨C.val + 16, by omega⟩ : Fin 32) = ⟨16 + C.val, by omega⟩ := Fin.ext (Nat.add_comm _ _)
    rw [e]
    pointwise [eachT]
  · rw [dif_neg hC]
    refine (concatenate_pair_apply_right (s₁ := S4x4096x16x16) (s₂ := S4x4096x16x16) 3 _ _ _ (ix4 b R h C) rfl rfl (ix4 b R h ⟨C.val - 16, by omega⟩)
      (fun a ha => ?_) (by show C.val - 16 + 16 = C.val; omega)).trans ?_
    · match a with
      | ⟨0, _⟩ => rfl
      | ⟨1, _⟩ => rfl
      | ⟨2, _⟩ => rfl
      | ⟨3, _⟩ => exact absurd rfl ha
    · have e : (C : Fin 32) = ⟨16 + (C.val - 16), by omega⟩ := Fin.ext (by show C.val = 16 + (C.val - 16); omega)
      have e' : p (ix4 b R h C) = p (ix4 b R h ⟨16 + (C.val - 16), by omega⟩) := congrArg (fun z => p (ix4 b R h z)) e
      simp only [e']
      pointwise [eachT]

/-- Each head's query: 64 columns of its own, the 32 turned ones, 32 zeros. -/
def headT (u : FVec Ideal S4x4096x16x96 .f32) (k : FVec Ideal S4x4096x16x32 .f32) : FVec Ideal S4x4096x16x128 .f32 :=
  concatenate S4x4096x16x128 3 [⟨S4x4096x16x64, extractStridedSlice S4x4096x16x64 ![0, 0, 0, 0] u slices_S4x4096x16x96_S4x4096x16x64_0_0_0_0⟩,
    ⟨S4x4096x16x32, k⟩, ⟨S4x4096x16x32, broadcastInDim S4x4096x16x32 ![] bcast_S_S4x4096x16x32 (constant S_ .f32 0x00000000#32)⟩]
    concatenates_S4x4096x16x64_S4x4096x16x32_S4x4096x16x32_S4x4096x16x128_d3

theorem headT_apply (u : FVec Ideal S4x4096x16x96 .f32) (k : FVec Ideal S4x4096x16x32 .f32) (b : Fin 4) (R : Fin 4096) (h : Fin 16) (d : Fin 128) :
    headT u k (ix4 b R h d) = (if hd : d.val < 64 then u (ix4 b R h ⟨d.val, by omega⟩)
      else if d.val < 96 then k (ix4 b R h ⟨(d.val - 64) % 32, by omega⟩) else (0 : EReal) : EReal) := by
  unfold headT
  by_cases h1 : d.val < 64
  · rw [dif_pos h1]
    refine (concatenate_apply_piece 3 _ _ (ix4 b R h d) 0 (by simp) S4x4096x16x64 _ rfl rfl 0 rfl (ix4 b R h ⟨d.val, h1⟩)
      (fun a ha => ?_) (by show 0 + d.val = d.val; omega)).trans ?_
    · match a with
      | ⟨0, _⟩ => rfl
      | ⟨1, _⟩ => rfl
      | ⟨2, _⟩ => rfl
      | ⟨3, _⟩ => exact absurd rfl ha
    · pointwise
  · rw [dif_neg h1]
    by_cases h2 : d.val < 96
    · rw [if_pos h2]
      refine concatenate_apply_piece 3 _ _ (ix4 b R h d) 1 (by simp) S4x4096x16x32 _ rfl rfl 64 rfl (ix4 b R h ⟨(d.val - 64) % 32, by omega⟩)
        (fun a ha => ?_) (by show 64 + (d.val - 64) % 32 = d.val; omega)
      match a with
      | ⟨0, _⟩ => rfl
      | ⟨1, _⟩ => rfl
      | ⟨2, _⟩ => rfl
      | ⟨3, _⟩ => exact absurd rfl ha
    · rw [if_neg h2]
      refine (concatenate_apply_piece 3 _ _ (ix4 b R h d) 2 (by simp) S4x4096x16x32 _ rfl rfl 96 rfl (ix4 b R h ⟨d.val - 96, by omega⟩)
        (fun a ha => ?_) (by show 96 + (d.val - 96) = d.val; omega)).trans ?_
      · match a with
        | ⟨0, _⟩ => rfl
        | ⟨1, _⟩ => rfl
        | ⟨2, _⟩ => rfl
        | ⟨3, _⟩ => exact absurd rfl ha
      · pointwise

/-- Heads of 128 columns, scaled and set beside one another. -/
def flatT (u : FVec Ideal S4x4096x16x128 .f32) : FVec Ideal S4x4096x2048 .bf16 :=
  truncf (F := Ideal) .bf16 (shapeCast S4x4096x2048 (mulf u (broadcastInDim S4x4096x16x128 ![] bcast_S_S4x4096x16x128 (constant S_ .f32 0x3E16C740#32)))
    shapeCasts_S4x4096x16x128_S4x4096x2048) bitsLt_bf16_f32

theorem flatT_apply (u : FVec Ideal S4x4096x16x128 .f32) (b : Fin 4) (R : Fin 4096) (J : Fin 2048) :
    flatT u (ix3 b R J) = u (ix4 b R ⟨J.val / 128, by omega⟩ ⟨J.val % 128, by omega⟩) * Ideal.ofBits .f32 1041680192#32 := by
  pointwise [flatT]

/-- The result is the kernel's function of the arguments. -/
theorem queries_eq : flatT (headT (splitT (upT x g sh sc wd gc wu)) (turnT (lastT (splitT (upT x g sh sc wd gc wu))) (Host.cos (angleT freqT)) (Host.sin (angleT freqT))))
    = fun i => queries x g sh sc wd gc wu (i 0) (i 1) (i 2) := by
  funext i
  obtain ⟨b, R, J, rfl⟩ : ∃ (b : Fin 4) (R : Fin 4096) (J : Fin 2048), i = ix3 b R J := ⟨i 0, i 1, i 2, by ext a; fin_cases a <;> rfl⟩
  show _ = queries x g sh sc wd gc wu b R J
  unfold queries
  rw [flatT_apply, headT_apply, turnT_apply]
  simp only [lastT_apply, splitT_apply, upT_apply, cosT_apply, sinT_apply]

end Terms

/-- The result that the run names is this function of the arguments. -/
theorem out (m : (ℓ : Loc nD τ sig) → Buf (Elt Ideal) ℓ) (c : Dev nD)
    (x : FVec Ideal S4x4096x1024 .f32) (g : FVec Ideal S1024 .f32) (sh sc : FVec Ideal S4x1024 .f32) (wd : FVec Ideal S1024x512 .f32)
    (gc : FVec Ideal S512 .f32) (wu : FVec Ideal S512x1536 .f32)
    (h0 : m ((c.tc : Thread nD τ).loc main_arg0) = x) (h1 : m ((c.tc : Thread nD τ).loc main_arg1) = g)
    (h2 : m ((c.tc : Thread nD τ).loc main_arg2) = sh) (h3 : m ((c.tc : Thread nD τ).loc main_arg3) = sc)
    (h4 : m ((c.tc : Thread nD τ).loc main_arg4) = wd) (h5 : m ((c.tc : Thread nD τ).loc main_arg5) = gc)
    (h6 : m ((c.tc : Thread nD τ).loc main_arg6) = wu) :
    Cert.Reference6Ideal.Value.res_main_v81 (F := Ideal) m c = fun i => queries x g sh sc wd gc wu (i 0) (i 1) (i 2) := by
  subst h0 h1 h2 h3 h4 h5 h6
  exact queries_eq _ _ _ _ _ _ _

end Cert.Reference6Ideal.Q

/- The precondition read back: the arguments that it names are real numbers. -/
namespace Cert.Pre_finite_q.Q

open Idealize.ShloMosaic Cert.Pre_finite_q Cert.Pre_finite_q.Gen Cert.Proj

theorem real (x : FVec Ideal S4x4096x1024 .f32) (g : FVec Ideal S1024 .f32) (sh sc : FVec Ideal S4x1024 .f32) (wd : FVec Ideal S1024x512 .f32)
    (gc : FVec Ideal S512 .f32) (wu : FVec Ideal S512x1536 .f32) (wo : FVec Ideal S1024x1024 .f32)
    (h : fn (F := Ideal) x g sh sc wd gc wu wo = fun _ => 1#1) : (∀ y, IsReal (gc y)) ∧ ∀ y, IsReal (wu y) := by
  haveI : Subsingleton S_.Idx := ⟨fun a b => funext fun j => j.elim0⟩
  obtain ⟨e0, e1⟩ := both_one _ _ (congrFun h (Shape.Idx.first h_S_))
  exact ⟨real_of_all gc _ _ _ _ e0, real_of_all wu _ _ _ _ e1⟩

end Cert.Pre_finite_q.Q
end
-- ==== Proof.Step.lean ====
module

public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

/- The last normalization on the sample's rows, each with a modulation of its own. -/
namespace Cert.Kernel7Ideal.Step

open Idealize.ShloMosaic Idealize.ShloMosaic.TcCoe Idealize.SL.Sem Cert.Kernel7Ideal Cert.Kernel7Ideal.Gen
open Idealize.ShloMosaic.Pipeline (Dat)

/-- The normalized, modulated row, at an element. -/
def normed (x : FVec Ideal S128x1x1024 .f32) (g : FVec Ideal S1024 .f32) (sh sc : FVec Ideal S128x1024 .f32) (R : Fin 128) (C : Fin 1024) : EReal :=
  x (ix3 R 0 C) * Ideal.rsqrt (Ideal.div (∑ k : Fin 1024, x (ix3 R 0 k) * x (ix3 R 0 k)) (Ideal.ofBits .f32 1149239296#32) + Ideal.ofBits .f32 897988541#32)
    * g (ix1 C) * (1 + sc (ix2 R C)) + sh (ix2 R C)

theorem idx_x : ∀ t : Fin cfg0.N, win0_0.index t = ![0, 0, 0] :=
  (by decide +kernel : ∀ t : Fin grid0.N, _)
theorem idx_g : ∀ t : Fin cfg0.N, win0_1.index t = ![0, 0] :=
  (by decide +kernel : ∀ t : Fin grid0.N, _)
theorem idx_sh : ∀ t : Fin cfg0.N, win0_2.index t = ![0, 0, 0] :=
  (by decide +kernel : ∀ t : Fin grid0.N, _)
theorem idx_sc : ∀ t : Fin cfg0.N, win0_3.index t = ![0, 0, 0] :=
  (by decide +kernel : ∀ t : Fin grid0.N, _)
theorem idx_o : ∀ t : Fin cfg0.N, win0_4.index t = ![0, 0, 0] :=
  (by decide +kernel : ∀ t : Fin grid0.N, _)

/-- The body's value at an element of its block. -/
theorem pay_apply (x : Vec Ideal S1x128x1024 .f32) (g : Vec Ideal S1x1024 .f32) (sh : Vec Ideal S1x128x1024 .f32) (sc : Vec Ideal S1x128x1024 .f32)
    (r : Fin 128) (C : Fin 1024) :
    k0_pay1 x g sh sc (ix3 0 r C) = x (ix3 0 r C)
      * Ideal.rsqrt (Ideal.div (∑ k : Fin 1024, x (ix3 0 r k) * x (ix3 0 r k)) (Ideal.ofBits .f32 1149239296#32) + Ideal.ofBits .f32 897988541#32)
      * g (ix2 0 C) * (1 + sc (ix3 0 r C)) + sh (ix3 0 r C) := by
  pointwise [k0_pay1]

section Array

variable (m : (ℓ : Loc nD τ sig) → Buf (Elt Ideal) ℓ) (c : Dev nD)

/-- The rows as the region finds them. -/
theorem entry_x (r : Fin 128) (C : Fin 1024) : (V m c main_v0 : FVec Ideal S1x128x1024 .f32) (ix3 0 r C) = m ((c.tc : Thread nD τ).loc main_arg0) (ix3 r 0 C) := by
  entry_read
  pointwise

/-- The gains as the region finds them. -/
theorem entry_g (C : Fin 1024) : (V m c main_v1 : FVec Ideal S1x1024 .f32) (ix2 0 C) = m ((c.tc : Thread nD τ).loc main_arg1) (ix1 C) := by
  entry_read
  pointwise

/-- The shifts as the region finds them. -/
theorem entry_sh (b : Fin 128) (C : Fin 1024) : (V m c main_v2 : FVec Ideal S1x128x1024 .f32) (ix3 0 b C) = m ((c.tc : Thread nD τ).loc main_arg2) (ix2 b C) := by
  entry_read
  pointwise

/-- The scales as the region finds them. -/
theorem entry_sc (b : Fin 128) (C : Fin 1024) : (V m c main_v3 : FVec Ideal S1x128x1024 .f32) (ix3 0 b C) = m ((c.tc : Thread nD τ).loc main_arg3) (ix2 b C) := by
  entry_read
  pointwise

/-- The block of the rows. -/
theorem block_x (t : Fin cfg0.N) (r : Fin 128) (C : Fin 1024) :
    View.ld (iblk m c 0 t) r0_0 (ix3 0 r C) = m ((c.tc : Thread nD τ).loc main_arg0) (ix3 r 0 C) := by
  refine Eq.trans ?_ (entry_x m c r C)
  show V m c main_v0 ((win0_0.blk t).view.emb (r0_0.idx (ix3 0 r C))) = _
  refine congrArg (V m c main_v0) (funext fun a => Fin.ext ?_)
  match a with
  | ⟨0, _⟩ => blk_simp [idx_x]; rfl
  | ⟨1, _⟩ => blk_simp [idx_x]; show 0 + 1 * r.val = r.val; omega
  | ⟨2, _⟩ => blk_simp [idx_x]; show 0 + 1 * C.val = C.val; omega

/-- The block of the gains. -/
theorem block_g (t : Fin cfg0.N) (C : Fin 1024) :
    View.ld (iblk m c 1 t) r0_1 (ix2 0 C) = m ((c.tc : Thread nD τ).loc main_arg1) (ix1 C) := by
  refine Eq.trans ?_ (entry_g m c C)
  show V m c main_v1 ((win0_1.blk t).view.emb (r0_1.idx (ix2 0 C))) = _
  refine congrArg (V m c main_v1) (funext fun a => Fin.ext ?_)
  match a with
  | ⟨0, _⟩ => blk_simp [idx_g]; rfl
  | ⟨1, _⟩ => blk_simp [idx_g]; show 0 + 1 * C.val = C.val; omega

/-- The block of the shifts. -/
theorem block_sh (t : Fin cfg0.N) (r : Fin 128) (C : Fin 1024) :
    View.ld (iblk m c 2 t) r0_0 (ix3 0 r C) = m ((c.tc : Thread nD τ).loc main_arg2) (ix2 r C) := by
  refine Eq.trans ?_ (entry_sh m c r C)
  show V m c main_v2 ((win0_2.blk t).view.emb (r0_0.idx (ix3 0 r C))) = _
  refine congrArg (V m c main_v2) (funext fun a => Fin.ext ?_)
  match a with
  | ⟨0, _⟩ => blk_simp [idx_sh]; rfl
  | ⟨1, _⟩ => blk_simp [idx_sh]; show 0 + 1 * r.val = r.val; omega
  | ⟨2, _⟩ => blk_simp [idx_sh]; show 0 + 1 * C.val = C.val; omega

/-- The block of the scales. -/
theorem block_sc (t : Fin cfg0.N) (r : Fin 128) (C : Fin 1024) :
    View.ld (iblk m c 3 t) r0_0 (ix3 0 r C) = m ((c.tc : Thread nD τ).loc main_arg3) (ix2 r C) := by
  refine Eq.trans ?_ (entry_sc m c r C)
  show V m c main_v3 ((win0_3.blk t).view.emb (r0_0.idx (ix3 0 r C))) = _
  refine congrArg (V m c main_v3) (funext fun a => Fin.ext ?_)
  match a with
  | ⟨0, _⟩ => blk_simp [idx_sc]; rfl
  | ⟨1, _⟩ => blk_simp [idx_sc]; show 0 + 1 * r.val = r.val; omega
  | ⟨2, _⟩ => blk_simp [idx_sc]; show 0 + 1 * C.val = C.val; omega

/-- A point's block of the result. -/
theorem point (t : Fin cfg0.N) (r : Fin 128) (C : Fin 1024) :
    out0_4 (iblk m c 0 t) (iblk m c 1 t) (iblk m c 2 t) (iblk m c 3 t) (ix3 0 r C)
      = normed (m ((c.tc : Thread nD τ).loc main_arg0)) (m ((c.tc : Thread nD τ).loc main_arg1))
          (m ((c.tc : Thread nD τ).loc main_arg2)) (m ((c.tc : Thread nD τ).loc main_arg3)) r C := by
  unfold out0_4
  refine (View.canon_apply_of_pieces (k0_pay1 (View.ld (iblk m c 0 t) r0_0) (View.ld (iblk m c 1 t) r0_1) (View.ld (iblk m c 2 t) r0_0)
    (View.ld (iblk m c 3 t) r0_0)) _ ?_ _ (cover0_4 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · refine (pay_apply _ _ _ _ r C).trans ?_
    simp only [block_x, block_g, block_sh, block_sc]
    rfl

/-- The result array of the kernel. -/
theorem final : (dats m 0 c).arrAt 4 cfg0.N = fun i => normed (m ((c.tc : Thread nD τ).loc main_arg0)) (m ((c.tc : Thread nD τ).loc main_arg1))
    (m ((c.tc : Thread nD τ).loc main_arg2)) (m ((c.tc : Thread nD τ).loc main_arg3)) (i 1) (i 2) := by
  refine (dats m 0 c).arrAt_eq_of_covers 4 _ (by decide +kernel) fun t hf y => ?_
  blk_simp
  rw [after0_4]
  obtain ⟨p, r, C, rfl⟩ : ∃ (p : Fin 1) (r : Fin 128) (C : Fin 1024), y = ix3 p r C := ⟨y 0, y 1, y 2, by ext a; fin_cases a <;> rfl⟩
  obtain rfl : p = 0 := Subsingleton.elim _ _
  refine (point m c t r C).trans ?_
  have z1 : r = (win0_4.blk t).view.emb (ix3 0 r C) 1 := Fin.ext (by blk_simp [idx_o])
  have z2 : C = (win0_4.blk t).view.emb (ix3 0 r C) 2 := Fin.ext (by blk_simp [idx_o])
  exact congr (congrArg _ z1) z2

end Array

end Cert.Kernel7Ideal.Step

namespace Cert.Reference7Ideal.Step

open Idealize.ShloMosaic Idealize.ShloMosaic.TcCoe Idealize.SL.Sem Cert.Reference7Ideal Cert.Reference7Ideal.Gen

/-- The reference's operations on its arguments. -/
def term (x : FVec Ideal S128x1x1024 .f32) (g : FVec Ideal S1024 .f32) (sh sc : FVec Ideal S128x1024 .f32) :
    FVec Ideal S1x128x1024 .f32 :=
  shapeCast _ (addf (mulf (mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))) (addf (broadcastInDim S128x1x1024 ![] bcast_S_S128x1x1024 (constant S_ .f32 0x3F800000#32)) (broadcastInDim S128x1x1024 ![0, 2] bcast_S128x1024_S128x1x1024_0_2 sc))) (broadcastInDim S128x1x1024 ![0, 2] bcast_S128x1024_S128x1x1024_0_2 sh)) shapeCasts_S128x1x1024_S1x128x1024

/-- They compute the normalized, modulated rows. -/
theorem term_eq (x : FVec Ideal S128x1x1024 .f32) (g : FVec Ideal S1024 .f32) (sh sc : FVec Ideal S128x1024 .f32) :
    term x g sh sc = fun i => Cert.Kernel7Ideal.Step.normed x g sh sc (i 1) (i 2) := by
  funext i
  obtain ⟨p, R, C, rfl⟩ : ∃ (p : Fin 1) (R : Fin 128) (C : Fin 1024), i = ix3 p R C := ⟨i 0, i 1, i 2, by ext a; fin_cases a <;> rfl⟩
  obtain rfl : p = 0 := Subsingleton.elim _ _
  pointwise [term, Cert.Kernel7Ideal.Step.normed]

end Cert.Reference7Ideal.Step
end
-- ==== Proof.KvStep.lean ====
module

public import proofs.«01_k».proof.Proof.Proj
public import proofs.«01_k».proof.Proof.Gen.Kernel8Ideal.Value

@[expose] public section

set_option maxRecDepth 16384

noncomputable section

/- The key-and-value kernel on the sample's rows, each with a modulation of its own: the latents and the turned keys. -/
namespace Cert.Kernel8Ideal.Kv

open Idealize.ShloMosaic Idealize.ShloMosaic.TcCoe Idealize.SL.Sem Cert.Kernel8Ideal Cert.Kernel8Ideal.Gen Cert.Proj
open Idealize.ShloMosaic.Pipeline (Dat)

section Block

variable (x : Vec Ideal S1x128x1024 .f32) (g : Vec Ideal S1x1024 .f32) (sh sc : Vec Ideal S1x128x1024 .f32) (wd : Vec Ideal S1024x256 .f32)
  (gc : Vec Ideal S1x256 .f32) (wr wt : Vec Ideal S1024x32 .f32) (co si : Vec Ideal S1x32 .f32)

/-- Row `r` of the normalized block. -/
def hidB (r : Fin 128) (k : Fin 1024) : EReal :=
  hid (fun k => x (ix3 0 r k)) (fun k => g (ix2 0 k)) (fun k => sh (ix3 0 r k)) (fun k => sc (ix3 0 r k)) k

theorem pay3_apply (r : Fin 128) (k : Fin 1024) : k0_pay3 x g sh sc (ix2 r k) = hidB x g sh sc r k := by
  pointwise [k0_pay3, hidB, hid]

theorem pay4_apply (r : Fin 128) (C : Fin 256) :
    k0_pay4 x g sh sc wd (ix2 r C) = (∑ k : Fin 1024, hidB x g sh sc r k * wd (ix2 k C))
      + ((∑ k : Fin 1024, hidB x g sh sc r k * (wd (ix2 k C) - wd (ix2 k C))) + ∑ k : Fin 1024, (hidB x g sh sc r k - hidB x g sh sc r k) * wd (ix2 k C)) := by
  simp only [← pay3_apply]
  pointwise [k0_pay4]

theorem pay5_apply (d : FVec Ideal S128x256 .f32) (r : Fin 128) (C : Fin 256) :
    k0_pay5 d gc (ix2 r C) = nrm (fun C => d (ix2 r C)) (fun C => gc (ix2 0 C)) C := by
  pointwise [k0_pay5, nrm]

/-- The latent block of real numbers. -/
theorem lat_apply (r : Fin 128) (hh : ∀ k, IsReal (hidB x g sh sc r k)) (hw : ∀ k C, IsReal (wd (ix2 k C))) (C : Fin 256) :
    k0_pay5 (k0_pay4 x g sh sc wd) gc (ix2 r C) = nrm (fun C => ∑ k : Fin 1024, hidB x g sh sc r k * wd (ix2 k C)) (fun C => gc (ix2 0 C)) C := by
  rw [pay5_apply]
  congr 1
  funext C
  rw [pay4_apply]
  exact three _ _ hh fun k => hw k C

theorem pay6_apply (h : FVec Ideal S128x1024 .f32) (r : Fin 128) (C : Fin 32) :
    k0_pay6 h wr co (ix2 r C) = ((∑ k : Fin 1024, h (ix2 r k) * wr (ix2 k C)) + ((∑ k : Fin 1024, h (ix2 r k) * (wr (ix2 k C) - wr (ix2 k C)))
      + ∑ k : Fin 1024, (h (ix2 r k) - h (ix2 r k)) * wr (ix2 k C))) * co (ix2 0 C) := by
  pointwise [k0_pay6]

theorem pay2_apply (h : FVec Ideal S128x1024 .f32) (p : FVec Ideal S128x32 .f32) (r : Fin 128) (C : Fin 32) :
    k0_pay2 p (k0_pay9 h) (k0_pay10 wt) (k0_pay11 h wt) (k0_pay12 h wt) si (ix3 0 r C)
      = p (ix2 r C) + ((∑ k : Fin 1024, h (ix2 r k) * wt (ix2 k C)) + ((∑ k : Fin 1024, h (ix2 r k) * (wt (ix2 k C) - wt (ix2 k C)))
      + ∑ k : Fin 1024, (h (ix2 r k) - h (ix2 r k)) * wt (ix2 k C))) * si (ix2 0 C) := by
  pointwise [k0_pay2, k0_pay9, k0_pay10, k0_pay11, k0_pay12, k0_pay7, k0_pay8]

/-- The turned block of real numbers. -/
theorem rot_apply (r : Fin 128) (hh : ∀ k, IsReal (hidB x g sh sc r k)) (w : Fin 1024 → Fin 32 → EReal) (cs sn : Fin 16 → EReal)
    (hr : ∀ k C, wr (ix2 k C) = w k C) (ht : ∀ k C, wt (ix2 k C) = turned w k C) (hc : ∀ C, co (ix2 0 C) = twice cs C)
    (hs : ∀ C, si (ix2 0 C) = twice sn C) (hw : ∀ k C, IsReal (w k C)) (C : Fin 32) :
    k0_pay2 (k0_pay6 (k0_pay3 x g sh sc) wr co) (k0_pay9 (k0_pay3 x g sh sc)) (k0_pay10 wt) (k0_pay11 (k0_pay3 x g sh sc) wt)
      (k0_pay12 (k0_pay3 x g sh sc) wt) si (ix3 0 r C) = rot (fun C => ∑ k : Fin 1024, hidB x g sh sc r k * w k C) cs sn C := by
  rw [pay2_apply, pay6_apply]
  simp only [pay3_apply, hr, ht, hc, hs]
  rw [three _ _ hh fun k => hw k C, three _ _ hh fun k => turned_real hw k C]
  exact two_products _ w cs sn hh hw C

theorem pay1_apply (l : FVec Ideal S128x256 .f32) (r : Fin 128) (C : Fin 256) : k0_pay1 l (ix3 0 r C) = l (ix2 r C) := by
  pointwise [k0_pay1]

end Block

/-- The angles of the rotary embedding at the step's position. -/
def angles : FVec Ideal S1x16 .f32 :=
  mulf (broadcastInDim S1x16 ![0, 1] bcast_S1x1_S1x16_0_1 (broadcastInDim S1x1 ![0] bcast_S1_S1x1_0 (sitofp (F := Ideal) .f32 (addi (broadcastInDim S1 ![] bcast_S_S1 (constantI S_ 32 16384#32)) (iotaInDim S1 32 0)))))
    (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp (F := Ideal) .f32 (iotaInDim S16 32 0)))))
          (broadcastInDim S16 ![] bcast_S_S16 (constant S_ .f32 0x42000000#32)))))

/-- The cosines and the sines of the angles. -/
def cosines : FVec Ideal S1x16 .f32 := Host.cos angles
def sines : FVec Ideal S1x16 .f32 := Host.sin angles

/-- A table set beside itself. -/
def beside (f : FVec Ideal S1x16 .f32) : FVec Ideal S1x32 .f32 :=
  concatenate S1x32 1 [⟨S1x16, f⟩, ⟨S1x16, f⟩] concatenates_S1x16_S1x16_S1x32_d1

theorem beside_apply (f : FVec Ideal S1x16 .f32) (C : Fin 32) : beside f (ix2 0 C) = twice (fun c => f (ix2 0 c)) C := by
  unfold twice
  by_cases h : C.val < 16
  · rw [dif_pos h]
    exact concatenate_pair_apply_left 1 f f _ (ix2 0 C) rfl (ix2 0 ⟨C.val, h⟩) (fun a => match a with | ⟨0, _⟩ => rfl | ⟨1, _⟩ => rfl)
  · rw [dif_neg h]
    refine concatenate_pair_apply_right 1 f f _ (ix2 0 C) rfl rfl (ix2 0 ⟨C.val - 16, by omega⟩) (fun b hb => ?_) (by show C.val - 16 + 16 = C.val; omega)
    match b with
    | ⟨0, _⟩ => rfl
    | ⟨1, _⟩ => exact absurd rfl hb

/-- The key weights with their halves exchanged, one of them with its sign changed. -/
def exchanged (w : FVec Ideal S1024x32 .f32) : FVec Ideal S1024x32 .f32 :=
  concatenate S1024x32 1 [⟨S1024x16, Host.negf (extractStridedSlice S1024x16 ![0, 16] w slices_S1024x32_S1024x16_0_16)⟩,
    ⟨S1024x16, extractStridedSlice S1024x16 ![0, 0] w slices_S1024x32_S1024x16_0_0⟩] concatenates_S1024x16_S1024x16_S1024x32_d1

theorem exchanged_apply (w : FVec Ideal S1024x32 .f32) (k : Fin 1024) (C : Fin 32) :
    exchanged w (ix2 k C) = turned (fun k C => w (ix2 k C)) k C := by
  unfold turned
  by_cases h : C.val < 16
  · rw [dif_pos h]
    refine (concatenate_pair_apply_left (s₁ := S1024x16) (s₂ := S1024x16) 1 _ _ _ (ix2 k C) rfl (ix2 k ⟨C.val, h⟩) (fun a => match a with | ⟨0, _⟩ => rfl | ⟨1, _⟩ => rfl)).trans ?_
    pointwise
    congr 3
    exact Fin.ext (Nat.add_comm _ _)
  · rw [dif_neg h]
    refine (concatenate_pair_apply_right (s₁ := S1024x16) (s₂ := S1024x16) 1 _ _ _ (ix2 k C) rfl rfl (ix2 k ⟨C.val - 16, by omega⟩) (fun b hb => ?_) (by show C.val - 16 + 16 = C.val; omega)).trans ?_
    · match b with
      | ⟨0, _⟩ => rfl
      | ⟨1, _⟩ => exact absurd rfl hb
    · pointwise

section Spec

variable (x : FVec Ideal S128x1x1024 .f32) (sh sc : FVec Ideal S128x1024 .f32) (g : FVec Ideal S1024 .f32) (wd : FVec Ideal S1024x256 .f32)
  (gc : FVec Ideal S256 .f32) (wr : FVec Ideal S1024x32 .f32) (R : Fin 128)

/-- The normalized, modulated row. -/
def hidden (k : Fin 1024) : EReal :=
  hid (fun k => x (ix3 R 0 k)) (fun k => g (ix1 k)) (fun k => sh (ix2 R k)) (fun k => sc (ix2 R k)) k

/-- The latent row. -/
def latent (C : Fin 256) : EReal :=
  nrm (fun C => ∑ k : Fin 1024, hidden x sh sc g R k * wd (ix2 k C)) (fun C => gc (ix1 C)) C

/-- The key row that all heads share, turned by the step's position. -/
def shared (C : Fin 32) : EReal :=
  rot (fun C => ∑ k : Fin 1024, hidden x sh sc g R k * wr (ix2 k C)) (fun c => cosines (ix2 0 c)) (fun c => sines (ix2 0 c)) C

end Spec

theorem idx_x : ∀ t : Fin cfg0.N, win0_0.index t = ![0, 0, 0] :=
  (by decide +kernel : ∀ t : Fin grid0.N, _)
theorem idx_g : ∀ t : Fin cfg0.N, win0_1.index t = ![0, 0] :=
  (by decide +kernel : ∀ t : Fin grid0.N, _)
theorem idx_sh : ∀ t : Fin cfg0.N, win0_2.index t = ![0, 0, 0] :=
  (by decide +kernel : ∀ t : Fin grid0.N, _)
theorem idx_sc : ∀ t : Fin cfg0.N, win0_3.index t = ![0, 0, 0] :=
  (by decide +kernel : ∀ t : Fin grid0.N, _)
theorem idx_wd : ∀ t : Fin cfg0.N, win0_4.index t = ![0, 0] :=
  (by decide +kernel : ∀ t : Fin grid0.N, _)
theorem idx_gc : ∀ t : Fin cfg0.N, win0_5.index t = ![0, 0] :=
  (by decide +kernel : ∀ t : Fin grid0.N, _)
theorem idx_wr : ∀ t : Fin cfg0.N, win0_6.index t = ![0, 0] :=
  (by decide +kernel : ∀ t : Fin grid0.N, _)
theorem idx_wt : ∀ t : Fin cfg0.N, win0_7.index t = ![0, 0] :=
  (by decide +kernel : ∀ t : Fin grid0.N, _)
theorem idx_co : ∀ t : Fin cfg0.N, win0_8.index t = ![0, 0] :=
  (by decide +kernel : ∀ t : Fin grid0.N, _)
theorem idx_si : ∀ t : Fin cfg0.N, win0_9.index t = ![0, 0] :=
  (by decide +kernel : ∀ t : Fin grid0.N, _)
theorem idx_ol : ∀ t : Fin cfg0.N, win0_10.index t = ![0, 0, 0] :=
  (by decide +kernel : ∀ t : Fin grid0.N, _)
theorem idx_os : ∀ t : Fin cfg0.N, win0_11.index t = ![0, 0, 0] :=
  (by decide +kernel : ∀ t : Fin grid0.N, _)

section Array

variable (m : (ℓ : Loc nD τ sig) → Buf (Elt Ideal) ℓ) (c : Dev nD)

/-- The arguments. -/
abbrev X : FVec Ideal S128x1x1024 .f32 := m ((c.tc : Thread nD τ).loc main_arg0)
abbrev Sh : FVec Ideal S128x1024 .f32 := m ((c.tc : Thread nD τ).loc main_arg1)
abbrev Sc : FVec Ideal S128x1024 .f32 := m ((c.tc : Thread nD τ).loc main_arg2)
abbrev G : FVec Ideal S1024 .f32 := m ((c.tc : Thread nD τ).loc main_arg3)
abbrev Wd : FVec Ideal S1024x256 .f32 := m ((c.tc : Thread nD τ).loc main_arg4)
abbrev Gc : FVec Ideal S256 .f32 := m ((c.tc : Thread nD τ).loc main_arg5)
abbrev Wr : FVec Ideal S1024x32 .f32 := m ((c.tc : Thread nD τ).loc main_arg6)

theorem host_x : (V m c main_v50 : FVec Ideal S1x128x1024 .f32) = shapeCast S1x128x1024 (m ((c.tc : Thread nD τ).loc main_arg0)) shapeCasts_S128x1x1024_S1x128x1024 := by
  simp only [V, hostOps0, hostOps0_1, hostOps0_2, hostOps0_3, hostOps0_4, hostOps0_5, hostOps0_6, List.flatten_cons, List.flatten_nil, List.append_nil, List.cons_append, List.nil_append]
  after_results <;> rfl

theorem host_g : (V m c main_v51 : FVec Ideal S1x1024 .f32) = shapeCast S1x1024 (m ((c.tc : Thread nD τ).loc main_arg3)) shapeCasts_S1024_S1x1024 := by
  simp only [V, hostOps0, hostOps0_1, hostOps0_2, hostOps0_3, hostOps0_4, hostOps0_5, hostOps0_6, List.flatten_cons, List.flatten_nil, List.append_nil, List.cons_append, List.nil_append]
  after_results <;> rfl

theorem host_sh : (V m c main_v52 : FVec Ideal S1x128x1024 .f32) = broadcastInDim S1x128x1024 ![1, 2] bcast_S128x1024_S1x128x1024_1_2 (m ((c.tc : Thread nD τ).loc main_arg1)) := by
  simp only [V, hostOps0, hostOps0_1, hostOps0_2, hostOps0_3, hostOps0_4, hostOps0_5, hostOps0_6, List.flatten_cons, List.flatten_nil, List.append_nil, List.cons_append, List.nil_append]
  after_results <;> rfl

theorem host_sc : (V m c main_v53 : FVec Ideal S1x128x1024 .f32) = broadcastInDim S1x128x1024 ![1, 2] bcast_S128x1024_S1x128x1024_1_2 (m ((c.tc : Thread nD τ).loc main_arg2)) := by
  simp only [V, hostOps0, hostOps0_1, hostOps0_2, hostOps0_3, hostOps0_4, hostOps0_5, hostOps0_6, List.flatten_cons, List.flatten_nil, List.append_nil, List.cons_append, List.nil_append]
  after_results <;> rfl

theorem host_gc : (V m c main_v10 : FVec Ideal S1x256 .f32) = shapeCast S1x256 (m ((c.tc : Thread nD τ).loc main_arg5)) shapeCasts_S256_S1x256 := by
  simp only [V, hostOps0, hostOps0_1, hostOps0_2, hostOps0_3, hostOps0_4, hostOps0_5, hostOps0_6, List.flatten_cons, List.flatten_nil, List.append_nil, List.cons_append, List.nil_append]
  after_results <;> rfl

theorem host_wt : (V m c main_v14 : FVec Ideal S1024x32 .f32) = exchanged (m ((c.tc : Thread nD τ).loc main_arg6)) := by
  unfold exchanged
  simp only [V, hostOps0, hostOps0_1, hostOps0_2, hostOps0_3, hostOps0_4, hostOps0_5, hostOps0_6, List.flatten_cons, List.flatten_nil, List.append_nil, List.cons_append, List.nil_append]
  after_results <;> rfl

theorem host_co : (V m c main_v46 : FVec Ideal S1x32 .f32) = mulf (beside cosines) (broadcastInDim S1x32 ![] bcast_S_S1x32 (constant S_ .f32 0x3F800000#32)) := by
  unfold beside cosines angles
  simp only [V, hostOps0, hostOps0_1, hostOps0_2, hostOps0_3, hostOps0_4, hostOps0_5, hostOps0_6, List.flatten_cons, List.flatten_nil, List.append_nil, List.cons_append, List.nil_append]
  after_results <;> rfl

theorem host_si : (V m c main_v49 : FVec Ideal S1x32 .f32) = mulf (beside sines) (broadcastInDim S1x32 ![] bcast_S_S1x32 (constant S_ .f32 0x3F800000#32)) := by
  unfold beside sines angles
  simp only [V, hostOps0, hostOps0_1, hostOps0_2, hostOps0_3, hostOps0_4, hostOps0_5, hostOps0_6, List.flatten_cons, List.flatten_nil, List.append_nil, List.cons_append, List.nil_append]
  after_results <;> rfl

theorem host_wd : V m c main_arg4 = m ((c.tc : Thread nD τ).loc main_arg4) := V_main_arg4 m c

theorem host_wr : V m c main_arg6 = m ((c.tc : Thread nD τ).loc main_arg6) := V_main_arg6 m c

/-- The rows, reshaped. -/
theorem swap_apply (x : FVec Ideal S128x1x1024 .f32) (r : Fin 128) (k : Fin 1024) :
    shapeCast S1x128x1024 x shapeCasts_S128x1x1024_S1x128x1024 (ix3 0 r k) = x (ix3 r 0 k) := by
  pointwise

/-- The block of the rows. -/
theorem block_x (t : Fin cfg0.N) (r : Fin 128) (k : Fin 1024) : View.ld (iblk m c 0 t) r0_0 (ix3 0 r k) = X m c (ix3 r 0 k) := by
  have e : View.ld (iblk m c 0 t) r0_0 (ix3 0 r k) = V m c main_v50 (ix3 0 r k) := by
    show V m c main_v50 ((win0_0.blk t).view.emb (r0_0.idx (ix3 0 r k))) = _
    refine congrArg (V m c main_v50) (funext fun a => Fin.ext ?_)
    match a with
    | ⟨0, _⟩ => blk_simp [idx_x]; rfl
    | ⟨1, _⟩ => blk_simp [idx_x]; show 0 + 1 * r.val = r.val; omega
    | ⟨2, _⟩ => blk_simp [idx_x]; show 0 + 1 * k.val = k.val; omega
  rw [e, host_x]
  exact swap_apply _ r k

/-- The block of the gains. -/
theorem block_g (t : Fin cfg0.N) (k : Fin 1024) : View.ld (iblk m c 1 t) r0_1 (ix2 0 k) = G m c (ix1 k) := by
  have e : View.ld (iblk m c 1 t) r0_1 (ix2 0 k) = V m c main_v51 (ix2 0 k) := by
    show V m c main_v51 ((win0_1.blk t).view.emb (r0_1.idx (ix2 0 k))) = _
    refine congrArg (V m c main_v51) (funext fun a => Fin.ext ?_)
    match a with
    | ⟨0, _⟩ => blk_simp [idx_g]; rfl
    | ⟨1, _⟩ => blk_simp [idx_g]; show 0 + 1 * k.val = k.val; omega
  rw [e, host_g]
  pointwise

/-- The block of the shifts. -/
theorem block_sh (t : Fin cfg0.N) (r : Fin 128) (k : Fin 1024) : View.ld (iblk m c 2 t) r0_0 (ix3 0 r k) = Sh m c (ix2 r k) := by
  have e : View.ld (iblk m c 2 t) r0_0 (ix3 0 r k) = V m c main_v52 (ix3 0 r k) := by
    show V m c main_v52 ((win0_2.blk t).view.emb (r0_0.idx (ix3 0 r k))) = _
    refine congrArg (V m c main_v52) (funext fun a => Fin.ext ?_)
    match a with
    | ⟨0, _⟩ => blk_simp [idx_sh]; rfl
    | ⟨1, _⟩ => blk_simp [idx_sh]; show 0 + 1 * r.val = r.val; omega
    | ⟨2, _⟩ => blk_simp [idx_sh]; show 0 + 1 * k.val = k.val; omega
  rw [e, host_sh]
  pointwise

/-- The block of the scales. -/
theorem block_sc (t : Fin cfg0.N) (r : Fin 128) (k : Fin 1024) : View.ld (iblk m c 3 t) r0_0 (ix3 0 r k) = Sc m c (ix2 r k) := by
  have e : View.ld (iblk m c 3 t) r0_0 (ix3 0 r k) = V m c main_v53 (ix3 0 r k) := by
    show V m c main_v53 ((win0_3.blk t).view.emb (r0_0.idx (ix3 0 r k))) = _
    refine congrArg (V m c main_v53) (funext fun a => Fin.ext ?_)
    match a with
    | ⟨0, _⟩ => blk_simp [idx_sc]; rfl
    | ⟨1, _⟩ => blk_simp [idx_sc]; show 0 + 1 * r.val = r.val; omega
    | ⟨2, _⟩ => blk_simp [idx_sc]; show 0 + 1 * k.val = k.val; omega
  rw [e, host_sc]
  pointwise

/-- The block of the latents' weights. -/
theorem block_wd (t : Fin cfg0.N) (k : Fin 1024) (C : Fin 256) : View.ld (iblk m c 4 t) r0_2 (ix2 k C) = Wd m c (ix2 k C) := by
  have e : View.ld (iblk m c 4 t) r0_2 (ix2 k C) = V m c main_arg4 (ix2 k C) := by
    show V m c main_arg4 ((win0_4.blk t).view.emb (r0_2.idx (ix2 k C))) = _
    refine congrArg (V m c main_arg4) (funext fun a => Fin.ext ?_)
    match a with
    | ⟨0, _⟩ => blk_simp [idx_wd]; show 0 + 1 * k.val = k.val; omega
    | ⟨1, _⟩ => blk_simp [idx_wd]; show 0 + 1 * C.val = C.val; omega
  rw [e, host_wd]

/-- The block of the latents' gains. -/
theorem block_gc (t : Fin cfg0.N) (C : Fin 256) : View.ld (iblk m c 5 t) r0_3 (ix2 0 C) = Gc m c (ix1 C) := by
  have e : View.ld (iblk m c 5 t) r0_3 (ix2 0 C) = V m c main_v10 (ix2 0 C) := by
    show V m c main_v10 ((win0_5.blk t).view.emb (r0_3.idx (ix2 0 C))) = _
    refine congrArg (V m c main_v10) (funext fun a => Fin.ext ?_)
    match a with
    | ⟨0, _⟩ => blk_simp [idx_gc]; rfl
    | ⟨1, _⟩ => blk_simp [idx_gc]; show 0 + 1 * C.val = C.val; omega
  rw [e, host_gc]
  pointwise

/-- The block of the shared key's weights. -/
theorem block_wr (t : Fin cfg0.N) (k : Fin 1024) (C : Fin 32) : View.ld (iblk m c 6 t) r0_4 (ix2 k C) = Wr m c (ix2 k C) := by
  have e : View.ld (iblk m c 6 t) r0_4 (ix2 k C) = V m c main_arg6 (ix2 k C) := by
    show V m c main_arg6 ((win0_6.blk t).view.emb (r0_4.idx (ix2 k C))) = _
    refine congrArg (V m c main_arg6) (funext fun a => Fin.ext ?_)
    match a with
    | ⟨0, _⟩ => blk_simp [idx_wr]; show 0 + 1 * k.val = k.val; omega
    | ⟨1, _⟩ => blk_simp [idx_wr]; show 0 + 1 * C.val = C.val; omega
  rw [e, host_wr]

/-- The block of the exchanged weights. -/
theorem block_wt (t : Fin cfg0.N) (k : Fin 1024) (C : Fin 32) : View.ld (iblk m c 7 t) r0_4 (ix2 k C) = turned (fun k C => Wr m c (ix2 k C)) k C := by
  have e : View.ld (iblk m c 7 t) r0_4 (ix2 k C) = V m c main_v14 (ix2 k C) := by
    show V m c main_v14 ((win0_7.blk t).view.emb (r0_4.idx (ix2 k C))) = _
    refine congrArg (V m c main_v14) (funext fun a => Fin.ext ?_)
    match a with
    | ⟨0, _⟩ => blk_simp [idx_wt]; show 0 + 1 * k.val = k.val; omega
    | ⟨1, _⟩ => blk_simp [idx_wt]; show 0 + 1 * C.val = C.val; omega
  rw [e, host_wt]
  exact exchanged_apply _ k C

/-- The block of the cosines. -/
theorem block_co (t : Fin cfg0.N) (C : Fin 32) : View.ld (iblk m c 8 t) r0_5 (ix2 0 C) = twice (fun c => cosines (ix2 0 c)) C := by
  have e : View.ld (iblk m c 8 t) r0_5 (ix2 0 C) = V m c main_v46 (ix2 0 C) := by
    show V m c main_v46 ((win0_8.blk t).view.emb (r0_5.idx (ix2 0 C))) = _
    refine congrArg (V m c main_v46) (funext fun a => Fin.ext ?_)
    match a with
    | ⟨0, _⟩ => blk_simp [idx_co]; rfl
    | ⟨1, _⟩ => blk_simp [idx_co]; show 0 + 1 * C.val = C.val; omega
  rw [e, host_co]
  refine (show mulf (beside cosines) (broadcastInDim S1x32 ![] bcast_S_S1x32 (constant S_ .f32 0x3F800000#32)) (ix2 0 C)
    = beside cosines (ix2 0 C) * Ideal.ofBits .f32 0x3F800000#32 from rfl).trans ?_
  rw [beside_apply, one_bits, mul_one]

/-- The block of the sines. -/
theorem block_si (t : Fin cfg0.N) (C : Fin 32) : View.ld (iblk m c 9 t) r0_5 (ix2 0 C) = twice (fun c => sines (ix2 0 c)) C := by
  have e : View.ld (iblk m c 9 t) r0_5 (ix2 0 C) = V m c main_v49 (ix2 0 C) := by
    show V m c main_v49 ((win0_9.blk t).view.emb (r0_5.idx (ix2 0 C))) = _
    refine congrArg (V m c main_v49) (funext fun a => Fin.ext ?_)
    match a with
    | ⟨0, _⟩ => blk_simp [idx_si]; rfl
    | ⟨1, _⟩ => blk_simp [idx_si]; show 0 + 1 * C.val = C.val; omega
  rw [e, host_si]
  refine (show mulf (beside sines) (broadcastInDim S1x32 ![] bcast_S_S1x32 (constant S_ .f32 0x3F800000#32)) (ix2 0 C)
    = beside sines (ix2 0 C) * Ideal.ofBits .f32 0x3F800000#32 from rfl).trans ?_
  rw [beside_apply, one_bits, mul_one]

/-- The arguments that must be real. -/
def Reals : Prop :=
  (∀ y, IsReal (X m c y)) ∧ (∀ y, IsReal (Sh m c y)) ∧ (∀ y, IsReal (Sc m c y)) ∧ (∀ y, IsReal (G m c y)) ∧ (∀ y, IsReal (Wd m c y)) ∧ ∀ y, IsReal (Wr m c y)

/-- A row of the normalized block. -/
theorem block_hid (t : Fin cfg0.N) (r : Fin 128) (k : Fin 1024) : hidB (View.ld (iblk m c 0 t) r0_0) (View.ld (iblk m c 1 t) r0_1) (View.ld (iblk m c 2 t) r0_0) (View.ld (iblk m c 3 t) r0_0) r k = hidden (X m c) (Sh m c) (Sc m c) (G m c) r k := by
  unfold hidB hidden
  simp only [block_x, block_g, block_sh, block_sc]

theorem hidden_real (fin : Reals m c) (R : Fin 128) (k : Fin 1024) : IsReal (hidden (X m c) (Sh m c) (Sc m c) (G m c) R k) :=
  hid_real (fun _ => fin.1 _) (fun _ => fin.2.2.2.1 _) (fun _ => fin.2.1 _) (fun _ => fin.2.2.1 _) k

/-- A point's block of the latents. -/
theorem point10 (fin : Reals m c) (t : Fin cfg0.N) (r : Fin 128) (C : Fin 256) :
    out0_10 (iblk m c 0 t) (iblk m c 1 t) (iblk m c 2 t) (iblk m c 3 t) (iblk m c 4 t) (iblk m c 5 t) (iblk m c 6 t) (iblk m c 7 t) (iblk m c 8 t) (iblk m c 9 t) (ix3 0 r C) = latent (X m c) (Sh m c) (Sc m c) (G m c) (Wd m c) (Gc m c) r C := by
  unfold out0_10
  refine (View.canon_apply_of_pieces (k0_pay1 (k0_pay5 (k0_pay4 (View.ld (iblk m c 0 t) r0_0) (View.ld (iblk m c 1 t) r0_1) (View.ld (iblk m c 2 t) r0_0) (View.ld (iblk m c 3 t) r0_0) (View.ld (iblk m c 4 t) r0_2)) (View.ld (iblk m c 5 t) r0_3))) _ ?_ _ (cover0_10 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · rw [pay1_apply, lat_apply _ _ _ _ _ _ r (fun k => by rw [block_hid]; exact hidden_real m c fin _ k) (fun k C => by rw [block_wd]; exact fin.2.2.2.2.1 _)]
    unfold latent
    simp only [block_hid, block_wd, block_gc]

/-- The array of the latents. -/
theorem final10 (fin : Reals m c) : (dats m 0 c).arrAt 10 cfg0.N = fun i => latent (X m c) (Sh m c) (Sc m c) (G m c) (Wd m c) (Gc m c) (i 1) (i 2) := by
  refine (dats m 0 c).arrAt_eq_of_covers 10 _ (by decide +kernel) fun t hf y => ?_
  blk_simp
  rw [after0_10]
  obtain ⟨p, r, C, rfl⟩ : ∃ (p : Fin 1) (r : Fin 128) (C : Fin 256), y = ix3 p r C := ⟨y 0, y 1, y 2, by ext a; fin_cases a <;> rfl⟩
  obtain rfl : p = 0 := Subsingleton.elim _ _
  refine (point10 m c fin t r C).trans ?_
  have z1 : r = (win0_10.blk t).view.emb (ix3 0 r C) 1 := Fin.ext (by blk_simp [idx_ol])
  have z2 : C = (win0_10.blk t).view.emb (ix3 0 r C) 2 := Fin.ext (by blk_simp [idx_ol])
  exact congr (congrArg _ z1) z2

/-- A row of the turned keys, from a point's blocks. -/
theorem block_rot (fin : Reals m c) (t : Fin cfg0.N) (r : Fin 128) (C : Fin 32) :
    k0_pay2 (k0_pay6 (k0_pay3 (View.ld (iblk m c 0 t) r0_0) (View.ld (iblk m c 1 t) r0_1) (View.ld (iblk m c 2 t) r0_0) (View.ld (iblk m c 3 t) r0_0)) (View.ld (iblk m c 6 t) r0_4) (View.ld (iblk m c 8 t) r0_5)) (k0_pay9 (k0_pay3 (View.ld (iblk m c 0 t) r0_0) (View.ld (iblk m c 1 t) r0_1) (View.ld (iblk m c 2 t) r0_0) (View.ld (iblk m c 3 t) r0_0))) (k0_pay10 (View.ld (iblk m c 7 t) r0_4)) (k0_pay11 (k0_pay3 (View.ld (iblk m c 0 t) r0_0) (View.ld (iblk m c 1 t) r0_1) (View.ld (iblk m c 2 t) r0_0) (View.ld (iblk m c 3 t) r0_0)) (View.ld (iblk m c 7 t) r0_4))
      (k0_pay12 (k0_pay3 (View.ld (iblk m c 0 t) r0_0) (View.ld (iblk m c 1 t) r0_1) (View.ld (iblk m c 2 t) r0_0) (View.ld (iblk m c 3 t) r0_0)) (View.ld (iblk m c 7 t) r0_4)) (View.ld (iblk m c 9 t) r0_5) (ix3 0 r C) = shared (X m c) (Sh m c) (Sc m c) (G m c) (Wr m c) r C := by
  rw [rot_apply _ _ _ _ _ _ _ _ r (fun k => by rw [block_hid]; exact hidden_real m c fin _ k) (fun k C => Wr m c (ix2 k C))
    (fun q => cosines (ix2 0 q)) (fun q => sines (ix2 0 q)) (fun k C => block_wr m c t k C) (fun k C => block_wt m c t k C)
    (fun C => block_co m c t C) (fun C => block_si m c t C) (fun k C => fin.2.2.2.2.2 _)]
  unfold shared
  simp only [block_hid]

/-- A point's block of the turned keys. -/
theorem point11 (fin : Reals m c) (t : Fin cfg0.N) (r : Fin 128) (C : Fin 32) :
    out0_11 (iblk m c 0 t) (iblk m c 1 t) (iblk m c 2 t) (iblk m c 3 t) (iblk m c 4 t) (iblk m c 5 t) (iblk m c 6 t) (iblk m c 7 t) (iblk m c 8 t) (iblk m c 9 t) (ix3 0 r C) = shared (X m c) (Sh m c) (Sc m c) (G m c) (Wr m c) r C := by
  unfold out0_11
  refine (View.canon_apply_of_pieces (k0_pay2 (k0_pay6 (k0_pay13 (iblk m c 0 t) (iblk m c 1 t) (iblk m c 2 t) (iblk m c 3 t) (iblk m c 4 t) (iblk m c 5 t) (iblk m c 6 t) (iblk m c 7 t) (iblk m c 8 t) (iblk m c 9 t)) (View.ld (iblk m c 6 t) r0_4) (View.ld (iblk m c 8 t) r0_5)) (k0_pay9 (k0_pay13 (iblk m c 0 t) (iblk m c 1 t) (iblk m c 2 t) (iblk m c 3 t) (iblk m c 4 t) (iblk m c 5 t) (iblk m c 6 t) (iblk m c 7 t) (iblk m c 8 t) (iblk m c 9 t))) (k0_pay10 (View.ld (iblk m c 7 t) r0_4)) (k0_pay11 (k0_pay13 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4)) (k0_pay12 (k0_pay13 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4)) (View.ld (iblk m c 9 t) r0_5)) _ ?_ _ (cover0_11 _ _)).trans ?_
  · intro pc hpc
    obtain rfl := List.mem_singleton.mp hpc
    intro x
    refine congrArg _ (funext fun a => Fin.ext ?_)
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
  · exact block_rot m c fin t r C

/-- The array of the turned keys. -/
theorem final11 (fin : Reals m c) : (dats m 0 c).arrAt 11 cfg0.N = fun i => shared (X m c) (Sh m c) (Sc m c) (G m c) (Wr m c) (i 1) (i 2) := by
  refine (dats m 0 c).arrAt_eq_of_covers 11 _ (by decide +kernel) fun t hf y => ?_
  blk_simp
  rw [after0_11]
  obtain ⟨p, r, C, rfl⟩ : ∃ (p : Fin 1) (r : Fin 128) (C : Fin 32), y = ix3 p r C := ⟨y 0, y 1, y 2, by ext a; fin_cases a <;> rfl⟩
  obtain rfl : p = 0 := Subsingleton.elim _ _
  refine (point11 m c fin t r C).trans ?_
  have z1 : r = (win0_11.blk t).view.emb (ix3 0 r C) 1 := Fin.ext (by blk_simp [idx_os])
  have z2 : C = (win0_11.blk t).view.emb (ix3 0 r C) 2 := Fin.ext (by blk_simp [idx_os])
  exact congr (congrArg _ z1) z2

end Array

end Cert.Kernel8Ideal.Kv
end
-- ==== Proof.KvStepRef.lean ====
module

public import proofs.«01_k».proof.Proof.KvStep
public import proofs.«01_k».proof.Proof.Gen.Reference8Ideal.Run
public import proofs.«01_k».proof.Proof.Gen.Pre_finite_kv_s

@[expose] public section

set_option maxRecDepth 16384

noncomputable section

/- The reference of the same projections on the sample computes the same two functions of the arguments. -/
namespace Cert.Reference8Ideal.Kv

open Idealize.ShloMosaic Idealize.ShloMosaic.TcCoe Idealize.SL.Sem Cert.Reference8Ideal Cert.Reference8Ideal.Gen Cert.Proj

section Terms

variable (x : FVec Ideal S128x1x1024 .f32) (sh sc : FVec Ideal S128x1024 .f32) (g : FVec Ideal S1024 .f32) (wd : FVec Ideal S1024x256 .f32)
  (gc : FVec Ideal S256 .f32) (wr : FVec Ideal S1024x32 .f32)

/-- The normalized, modulated rows. -/
def hiddenT : FVec Ideal S128x1x1024 .f32 :=
  addf (mulf (mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))) (addf (broadcastInDim S128x1x1024 ![] bcast_S_S128x1x1024 (constant S_ .f32 0x3F800000#32)) (broadcastInDim S128x1x1024 ![0, 2] bcast_S128x1024_S128x1x1024_0_2 sc))) (broadcastInDim S128x1x1024 ![0, 2] bcast_S128x1024_S128x1x1024_0_2 sh)

theorem hiddenT_apply (R : Fin 128) (k : Fin 1024) :
    hiddenT x sh sc g (ix3 R 0 k) = Cert.Kernel8Ideal.Kv.hidden x sh sc g R k := by
  pointwise [hiddenT, Cert.Kernel8Ideal.Kv.hidden, hid]

/-- The down projection, before its normalization. -/
def downT : FVec Ideal S128x1x256 .f32 :=
  Host.dotGeneral dot_S128x1x1024_S1024x256_S128x1x256_2_0_01_1_n_n none (hiddenT x sh sc g) wd

theorem downT_apply (R : Fin 128) (C : Fin 256) :
    downT x sh sc g wd (ix3 R 0 C) = ∑ k : Fin 1024, Cert.Kernel8Ideal.Kv.hidden x sh sc g R k * wd (ix2 k C) := by
  simp only [← hiddenT_apply]
  pointwise [downT]

/-- Rows of 256 columns, normalized. -/
def normT (y : FVec Ideal S128x1x256 .f32) : FVec Ideal S128x1x256 .f32 :=
  mulf (mulf y (broadcastInDim S128x1x256 ![0, 1, 2] bcast_S128x1x1_S128x1x256_0_1_2 (Host.rsqrt (addf (Host.divf (broadcastInDim S128x1x1 ![0, 1] bcast_S128x1_S128x1x1_0_1 (Host.reduceAdd (mulf y y) (constant S_ .f32 0x00000000#32) reducesTo_S128x1x256_S128x1_d2 h_S_)) (broadcastInDim S128x1x1 ![] bcast_S_S128x1x1 (constant S_ .f32 0x43800000#32))) (broadcastInDim S128x1x1 ![] bcast_S_S128x1x1 (constant S_ .f32 0x358637BD#32)))))) (broadcastInDim S128x1x256 ![0, 1, 2] bcast_S1x1x256_S128x1x256_0_1_2 (broadcastInDim S1x1x256 ![2] bcast_S256_S1x1x256_2 gc))

theorem normT_apply (y : FVec Ideal S128x1x256 .f32) (R : Fin 128) (C : Fin 256) :
    normT gc y (ix3 R 0 C) = nrm (fun C => y (ix3 R 0 C)) (fun C => gc (ix1 C)) C := by
  pointwise [normT, nrm]

/-- The latents. -/
def latentT : FVec Ideal S128x1x256 .f32 := normT gc (downT x sh sc g wd)

theorem latentT_apply (R : Fin 128) (C : Fin 256) :
    latentT x sh sc g wd gc (ix3 R 0 C) = Cert.Kernel8Ideal.Kv.latent x sh sc g wd gc R C := by
  unfold latentT Cert.Kernel8Ideal.Kv.latent
  rw [normT_apply]
  simp only [downT_apply]

/-- The shared key, before it is turned. -/
def keyT : FVec Ideal S128x1x32 .f32 :=
  Host.dotGeneral dot_S128x1x1024_S1024x32_S128x1x32_2_0_01_1_n_n none (hiddenT x sh sc g) wr

theorem keyT_apply (R : Fin 128) (C : Fin 32) :
    keyT x sh sc g wr (ix3 R 0 C) = ∑ k : Fin 1024, Cert.Kernel8Ideal.Kv.hidden x sh sc g R k * wr (ix2 k C) := by
  simp only [← hiddenT_apply]
  pointwise [keyT]

/-- A table on every sequence. -/
def eachT (f : FVec Ideal S1x16 .f32) : FVec Ideal S128x1x16 .f32 :=
  broadcastInDim S128x1x16 ![0, 1, 2] bcast_S1x1x16_S128x1x16_0_1_2 (broadcastInDim S1x1x16 ![1, 2] bcast_S1x16_S1x1x16_1_2 f)

/-- Rows of 32 columns, turned. -/
def turnT (p : FVec Ideal S128x1x32 .f32) (co si : FVec Ideal S1x16 .f32) : FVec Ideal S128x1x32 .f32 :=
  concatenate S128x1x32 2 [⟨S128x1x16, subf (mulf (extractStridedSlice S128x1x16 ![0, 0, 0] p slices_S128x1x32_S128x1x16_0_0_0) (eachT co))
      (mulf (extractStridedSlice S128x1x16 ![0, 0, 16] p slices_S128x1x32_S128x1x16_0_0_16) (eachT si))⟩,
    ⟨S128x1x16, addf (mulf (extractStridedSlice S128x1x16 ![0, 0, 0] p slices_S128x1x32_S128x1x16_0_0_0) (eachT si))
      (mulf (extractStridedSlice S128x1x16 ![0, 0, 16] p slices_S128x1x32_S128x1x16_0_0_16) (eachT co))⟩] concatenates_S128x1x16_S128x1x16_S128x1x32_d2

theorem turnT_apply (p : FVec Ideal S128x1x32 .f32) (co si : FVec Ideal S1x16 .f32) (R : Fin 128) (C : Fin 32) :
    turnT p co si (ix3 R 0 C) = rot (fun C => p (ix3 R 0 C)) (fun q => co (ix2 0 q)) (fun q => si (ix2 0 q)) C := by
  unfold rot
  by_cases h : C.val < 16
  · rw [dif_pos h]
    refine (concatenate_pair_apply_left (s₁ := S128x1x16) (s₂ := S128x1x16) 2 _ _ _ (ix3 R 0 C) rfl (ix3 R 0 ⟨C.val, h⟩)
      (fun a => match a with | ⟨0, _⟩ => rfl | ⟨1, _⟩ => rfl | ⟨2, _⟩ => rfl)).trans ?_
    have e : (⟨C.val + 16, by omega⟩ : Fin 32) = ⟨16 + C.val, by omega⟩ := Fin.ext (Nat.add_comm _ _)
    rw [e]
    pointwise [eachT]
  · rw [dif_neg h]
    refine (concatenate_pair_apply_right (s₁ := S128x1x16) (s₂ := S128x1x16) 2 _ _ _ (ix3 R 0 C) rfl rfl (ix3 R 0 ⟨C.val - 16, by omega⟩)
      (fun a ha => ?_) (by show C.val - 16 + 16 = C.val; omega)).trans ?_
    · match a with
      | ⟨0, _⟩ => rfl
      | ⟨1, _⟩ => rfl
      | ⟨2, _⟩ => exact absurd rfl ha
    · have e : (C : Fin 32) = ⟨16 + (C.val - 16), by omega⟩ := Fin.ext (by show C.val = 16 + (C.val - 16); omega)
      have e' : p (ix3 R 0 C) = p (ix3 R 0 ⟨16 + (C.val - 16), by omega⟩) := congrArg (fun z => p (ix3 R 0 z)) e
      simp only [e']
      pointwise [eachT]

/-- The shared keys. -/
def sharedT : FVec Ideal S128x1x32 .f32 := turnT (keyT x sh sc g wr) Cert.Kernel8Ideal.Kv.cosines Cert.Kernel8Ideal.Kv.sines

theorem sharedT_apply (R : Fin 128) (C : Fin 32) :
    sharedT x sh sc g wr (ix3 R 0 C) = Cert.Kernel8Ideal.Kv.shared x sh sc g wr R C := by
  unfold sharedT Cert.Kernel8Ideal.Kv.shared
  rw [turnT_apply]
  simp only [keyT_apply]

/-- The rows, reshaped. -/
theorem wide_apply (y : FVec Ideal S128x1x256 .f32) (R : Fin 128) (C : Fin 256) :
    shapeCast S1x128x256 y shapeCasts_S128x1x256_S1x128x256 (ix3 0 R C) = y (ix3 R 0 C) := by
  pointwise

theorem narrow_apply (y : FVec Ideal S128x1x32 .f32) (R : Fin 128) (C : Fin 32) :
    shapeCast S1x128x32 y shapeCasts_S128x1x32_S1x128x32 (ix3 0 R C) = y (ix3 R 0 C) := by
  pointwise

/-- The two results are the kernel's two functions of the arguments. -/
theorem latents_eq : shapeCast S1x128x256 (latentT x sh sc g wd gc) shapeCasts_S128x1x256_S1x128x256 = fun i => Cert.Kernel8Ideal.Kv.latent x sh sc g wd gc (i 1) (i 2) := by
  funext i
  obtain ⟨p, R, C, rfl⟩ : ∃ (p : Fin 1) (R : Fin 128) (C : Fin 256), i = ix3 p R C := ⟨i 0, i 1, i 2, by ext a; fin_cases a <;> rfl⟩
  obtain rfl : p = 0 := Subsingleton.elim _ _
  rw [wide_apply]
  exact latentT_apply x sh sc g wd gc R C

theorem shareds_eq : shapeCast S1x128x32 (sharedT x sh sc g wr) shapeCasts_S128x1x32_S1x128x32 = fun i => Cert.Kernel8Ideal.Kv.shared x sh sc g wr (i 1) (i 2) := by
  funext i
  obtain ⟨p, R, C, rfl⟩ : ∃ (p : Fin 1) (R : Fin 128) (C : Fin 32), i = ix3 p R C := ⟨i 0, i 1, i 2, by ext a; fin_cases a <;> rfl⟩
  obtain rfl : p = 0 := Subsingleton.elim _ _
  rw [narrow_apply]
  exact sharedT_apply x sh sc g wr R C

end Terms

section Results

variable (m : (ℓ : Loc nD τ sig) → Buf (Elt Ideal) ℓ) (c : Dev nD)

/-- The results that the run names are these functions of the arguments. -/
theorem out0 (x : FVec Ideal S128x1x1024 .f32) (sh : FVec Ideal S128x1024 .f32) (sc : FVec Ideal S128x1024 .f32) (g : FVec Ideal S1024 .f32) (wd : FVec Ideal S1024x256 .f32) (gc : FVec Ideal S256 .f32)
    (h0 : m ((c.tc : Thread nD τ).loc main_arg0) = x) (h1 : m ((c.tc : Thread nD τ).loc main_arg1) = sh) (h2 : m ((c.tc : Thread nD τ).loc main_arg2) = sc) (h3 : m ((c.tc : Thread nD τ).loc main_arg3) = g) (h4 : m ((c.tc : Thread nD τ).loc main_arg4) = wd) (h5 : m ((c.tc : Thread nD τ).loc main_arg5) = gc) :
    Cert.Reference8Ideal.Value.res_main_v71 (F := Ideal) m c = fun i => Cert.Kernel8Ideal.Kv.latent x sh sc g wd gc (i 1) (i 2) := by
  subst h0 h1 h2 h3 h4 h5
  exact latents_eq _ _ _ _ _ _

theorem out1 (x : FVec Ideal S128x1x1024 .f32) (sh : FVec Ideal S128x1024 .f32) (sc : FVec Ideal S128x1024 .f32) (g : FVec Ideal S1024 .f32) (wr : FVec Ideal S1024x32 .f32)
    (h0 : m ((c.tc : Thread nD τ).loc main_arg0) = x) (h1 : m ((c.tc : Thread nD τ).loc main_arg1) = sh) (h2 : m ((c.tc : Thread nD τ).loc main_arg2) = sc) (h3 : m ((c.tc : Thread nD τ).loc main_arg3) = g) (h6 : m ((c.tc : Thread nD τ).loc main_arg6) = wr) :
    Cert.Reference8Ideal.Value.res_main_v72 (F := Ideal) m c = fun i => Cert.Kernel8Ideal.Kv.shared x sh sc g wr (i 1) (i 2) := by
  subst h0 h1 h2 h3 h6
  exact shareds_eq _ _ _ _ _

end Results

end Cert.Reference8Ideal.Kv

/- The precondition read back: the arguments that it names are real numbers. -/
namespace Cert.Pre_finite_kv_s.Kv

open Idealize.ShloMosaic Cert.Pre_finite_kv_s Cert.Pre_finite_kv_s.Gen Cert.Proj

theorem real (x : FVec Ideal S128x1x1024 .f32) (sh sc : FVec Ideal S128x1024 .f32) (g : FVec Ideal S1024 .f32) (wd : FVec Ideal S1024x256 .f32)
    (gc : FVec Ideal S256 .f32) (wr : FVec Ideal S1024x32 .f32) (wu : FVec Ideal S256x16x128 .f32)
    (h : fn (F := Ideal) x sh sc g wd gc wr wu = fun _ => 1#1) :
    (∀ y, IsReal (x y)) ∧ (∀ y, IsReal (sh y)) ∧ (∀ y, IsReal (sc y)) ∧ (∀ y, IsReal (g y)) ∧ (∀ y, IsReal (wd y)) ∧ ∀ y, IsReal (wr y) := by
  haveI : Subsingleton S_.Idx := ⟨fun a b => funext fun j => j.elim0⟩
  have e := congrFun h (Shape.Idx.first h_S_)
  obtain ⟨e, e5⟩ := both_one _ _ e
  obtain ⟨e, e4⟩ := both_one _ _ e
  obtain ⟨e, e3⟩ := both_one _ _ e
  obtain ⟨e, e2⟩ := both_one _ _ e
  obtain ⟨e0, e1⟩ := both_one _ _ e
  exact ⟨real_of_all x _ _ _ _ e0, real_of_all sh _ _ _ _ e1, real_of_all sc _ _ _ _ e2, real_of_all g _ _ _ _ e3, real_of_all wd _ _ _ _ e4, real_of_all wr _ _ _ _ e5⟩

end Cert.Pre_finite_kv_s.Kv
end
-- ==== Proof.S5Terms.lean ====
module

public import proofs.«01_k».proof.Proof.Proj
public import proofs.«01_k».proof.Proof.Gen.Kernel9Ideal.Value

@[expose] public section

set_option maxRecDepth 16384

noncomputable section

/- The coefficients of the discretized recurrence as functions of the arguments, the block matrices that the kernel
   multiplies by, and the next state. -/
namespace Cert.Kernel9Ideal.S5

open Idealize.ShloMosaic Idealize.ShloMosaic.TcCoe Idealize.SL.Sem Cert.Kernel9Ideal Cert.Kernel9Ideal.Gen Cert.Proj

section Coefficients

variable (are aim : FVec Ideal S64x64 .f32) (ldt : FVec Ideal S64 .f32) (bre bim : FVec Ideal S64x64x16 .f32)

/-- The step's length on every state of a group. -/
def dtT : FVec Ideal S64x64 .f32 :=
  broadcastInDim S64x64 ![0, 1] bcast_S64x1_S64x64_0_1 (broadcastInDim S64x1 ![0] bcast_S64_S64x1_0 (Host.exp ldt))

/-- The real and the imaginary parts of the discretized pole. -/
def lrT : FVec Ideal S64x64 .f32 := mulf (Host.exp (mulf are (dtT ldt))) (Host.cos (mulf aim (dtT ldt)))
def liT : FVec Ideal S64x64 .f32 := mulf (Host.exp (mulf are (dtT ldt))) (Host.sin (mulf aim (dtT ldt)))

/-- The squared length of the pole. -/
def denT : FVec Ideal S64x64 .f32 := addf (mulf are are) (mulf aim aim)

/-- The pole's discretization less one. -/
def numT : FVec Ideal S64x64 .f32 := subf (lrT are aim ldt) (broadcastInDim S64x64 ![] bcast_S_S64x64 (constant S_ .f32 0x3F800000#32))

/-- The real and the imaginary parts of the input's factor. -/
def krT : FVec Ideal S64x64 .f32 := Host.divf (addf (mulf (numT are aim ldt) are) (mulf (liT are aim ldt) aim)) (denT are aim)
def kiT : FVec Ideal S64x64 .f32 := Host.divf (subf (mulf (liT are aim ldt) are) (mulf (numT are aim ldt) aim)) (denT are aim)

/-- A factor on every channel of a group. -/
def eachT (k : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 k)

/-- The real and the imaginary parts of the discretized input matrices. -/
def bbrT : FVec Ideal S64x64x16 .f32 := subf (mulf (eachT (krT are aim ldt)) bre) (mulf (eachT (kiT are aim ldt)) bim)
def bbiT : FVec Ideal S64x64x16 .f32 := addf (mulf (eachT (krT are aim ldt)) bim) (mulf (eachT (kiT are aim ldt)) bre)

theorem exp_real {x : EReal} (h : IsReal x) : IsReal (Ideal.exp x) := by
  obtain ⟨a, rfl⟩ := h
  exact ⟨_, Ideal.exp_coe a⟩

theorem cos_real {x : EReal} (h : IsReal x) : IsReal (Ideal.cos x) := by
  obtain ⟨a, rfl⟩ := h
  exact ⟨_, Ideal.cos_coe a⟩

theorem sin_real {x : EReal} (h : IsReal x) : IsReal (Ideal.sin x) := by
  obtain ⟨a, rfl⟩ := h
  exact ⟨_, Ideal.sin_coe a⟩

theorem sub_real {x y : EReal} (hx : IsReal x) (hy : IsReal y) : IsReal (x - y) := by
  rw [sub_eq_add_neg]
  exact hx.add hy.neg

theorem div_real {x y : EReal} (hx : IsReal x) (hy : IsReal y) (p : 0 < y) : IsReal (Ideal.div x y) := by
  obtain ⟨b, rfl⟩ := hy
  have n : b ≠ 0 := fun e => by simp [e] at p
  rw [Ideal.div_coe n]
  exact hx.mul ⟨_, rfl⟩

theorem dtT_apply (G n : Fin 64) : dtT ldt (ix2 G n) = Ideal.exp (ldt (ix1 G)) := by
  pointwise [dtT]

theorem lrT_apply (G n : Fin 64) :
    lrT are aim ldt (ix2 G n) = Ideal.exp (are (ix2 G n) * dtT ldt (ix2 G n)) * Ideal.cos (aim (ix2 G n) * dtT ldt (ix2 G n)) := rfl

theorem liT_apply (G n : Fin 64) :
    liT are aim ldt (ix2 G n) = Ideal.exp (are (ix2 G n) * dtT ldt (ix2 G n)) * Ideal.sin (aim (ix2 G n) * dtT ldt (ix2 G n)) := rfl

theorem denT_apply (G n : Fin 64) : denT are aim (ix2 G n) = are (ix2 G n) * are (ix2 G n) + aim (ix2 G n) * aim (ix2 G n) := rfl

theorem numT_apply (G n : Fin 64) : numT are aim ldt (ix2 G n) = lrT are aim ldt (ix2 G n) - 1 := by
  pointwise [numT]

theorem krT_apply (G n : Fin 64) : krT are aim ldt (ix2 G n)
    = Ideal.div (numT are aim ldt (ix2 G n) * are (ix2 G n) + liT are aim ldt (ix2 G n) * aim (ix2 G n)) (denT are aim (ix2 G n)) := rfl

theorem kiT_apply (G n : Fin 64) : kiT are aim ldt (ix2 G n)
    = Ideal.div (liT are aim ldt (ix2 G n) * are (ix2 G n) - numT are aim ldt (ix2 G n) * aim (ix2 G n)) (denT are aim (ix2 G n)) := rfl

theorem eachT_apply (k : FVec Ideal S64x64 .f32) (G n : Fin 64) (p : Fin 16) : eachT k (ix3 G n p) = k (ix2 G n) := by
  pointwise [eachT]

theorem bbrT_apply (G n : Fin 64) (p : Fin 16) : bbrT are aim ldt bre bim (ix3 G n p)
    = krT are aim ldt (ix2 G n) * bre (ix3 G n p) - kiT are aim ldt (ix2 G n) * bim (ix3 G n p) := by
  refine (show _ = eachT (krT are aim ldt) (ix3 G n p) * bre (ix3 G n p) - eachT (kiT are aim ldt) (ix3 G n p) * bim (ix3 G n p) from rfl).trans ?_
  rw [eachT_apply, eachT_apply]

theorem bbiT_apply (G n : Fin 64) (p : Fin 16) : bbiT are aim ldt bre bim (ix3 G n p)
    = krT are aim ldt (ix2 G n) * bim (ix3 G n p) + kiT are aim ldt (ix2 G n) * bre (ix3 G n p) := by
  refine (show _ = eachT (krT are aim ldt) (ix3 G n p) * bim (ix3 G n p) + eachT (kiT are aim ldt) (ix3 G n p) * bre (ix3 G n p) from rfl).trans ?_
  rw [eachT_apply, eachT_apply]

/-- The system's coefficients are real numbers, and no pole is zero. -/
def Poles : Prop :=
  (∀ G n, IsReal (are (ix2 G n))) ∧ (∀ G n, IsReal (aim (ix2 G n))) ∧ (∀ G, IsReal (ldt (ix1 G))) ∧ (∀ G n p, IsReal (bre (ix3 G n p)))
    ∧ (∀ G n p, IsReal (bim (ix3 G n p))) ∧ ∀ G n, 0 < denT are aim (ix2 G n)

section Real

variable {are aim ldt bre bim} (h : Poles are aim ldt bre bim)
include h

theorem dt_real (G n : Fin 64) : IsReal (dtT ldt (ix2 G n)) := by
  rw [dtT_apply]
  exact exp_real (h.2.2.1 G)

theorem lr_real (G n : Fin 64) : IsReal (lrT are aim ldt (ix2 G n)) := by
  rw [lrT_apply]
  exact (exp_real ((h.1 G n).mul (dt_real h G n))).mul (cos_real ((h.2.1 G n).mul (dt_real h G n)))

theorem li_real (G n : Fin 64) : IsReal (liT are aim ldt (ix2 G n)) := by
  rw [liT_apply]
  exact (exp_real ((h.1 G n).mul (dt_real h G n))).mul (sin_real ((h.2.1 G n).mul (dt_real h G n)))

theorem num_real (G n : Fin 64) : IsReal (numT are aim ldt (ix2 G n)) := by
  rw [numT_apply]
  exact sub_real (lr_real h G n) one_real

theorem den_real (G n : Fin 64) : IsReal (denT are aim (ix2 G n)) := by
  rw [denT_apply]
  exact ((h.1 G n).mul (h.1 G n)).add ((h.2.1 G n).mul (h.2.1 G n))

theorem kr_real (G n : Fin 64) : IsReal (krT are aim ldt (ix2 G n)) := by
  rw [krT_apply]
  exact div_real (((num_real h G n).mul (h.1 G n)).add ((li_real h G n).mul (h.2.1 G n))) (den_real h G n) (h.2.2.2.2.2 G n)

theorem ki_real (G n : Fin 64) : IsReal (kiT are aim ldt (ix2 G n)) := by
  rw [kiT_apply]
  exact div_real (sub_real ((li_real h G n).mul (h.1 G n)) ((num_real h G n).mul (h.2.1 G n))) (den_real h G n) (h.2.2.2.2.2 G n)

theorem bbr_real (G n : Fin 64) (p : Fin 16) : IsReal (bbrT are aim ldt bre bim (ix3 G n p)) := by
  rw [bbrT_apply]
  exact sub_real ((kr_real h G n).mul (h.2.2.2.1 G n p)) ((ki_real h G n).mul (h.2.2.2.2.1 G n p))

theorem bbi_real (G n : Fin 64) (p : Fin 16) : IsReal (bbiT are aim ldt bre bim (ix3 G n p)) := by
  rw [bbiT_apply]
  exact ((kr_real h G n).mul (h.2.2.2.2.1 G n p)).add ((ki_real h G n).mul (h.2.2.2.1 G n p))

end Real

end Coefficients

section Matrices

/-- Whether two groups are one, as a bit. -/
def sameT : IVec S16x16 1 :=
  cmpi .eq (addi (iotaInDim S16x16 32 0) (broadcastInDim S16x16 ![] bcast_S_S16x16 (constantI S_ 32 0#32))) (iotaInDim S16x16 32 1)

theorem sameT_apply : ∀ a b : Fin 16, sameT (ix2 a b) = if a = b then 1#1 else 0#1 := by
  decide +kernel

/-- The unit matrix. -/
def eyeT : FVec Ideal S16x16 .f32 := uitofp .f32 sameT

theorem eyeT_apply (a b : Fin 16) : eyeT (ix2 a b) = (if a = b then 1 else 0 : EReal) := by
  show (((sameT (ix2 a b)).toNat : ℝ) : EReal) = _
  rw [sameT_apply]
  by_cases e : a = b
  · rw [if_pos e, if_pos e]
    simp
  · rw [if_neg e, if_neg e]
    simp

variable (b b' : FVec Ideal S64x64x16 .f32)

/-- The matrices of the groups as blocks of four larger matrices. -/
def blkT : FVec Ideal S4x256x1024 .f32 :=
  shapeCast S4x256x1024 (mulf (broadcastInDim S4x16x16x16x64 ![0, 1, 2, 3, 4] bcast_S4x16x16x1x64_S4x16x16x16x64_0_1_2_3_4
      (broadcastInDim S4x16x16x1x64 ![0, 1, 2, 4] bcast_S4x16x16x64_S4x16x16x1x64_0_1_2_4
        (transpose S4x16x16x64 [0, 1, 3, 2] (shapeCast S4x16x64x16 b shapeCasts_S64x64x16_S4x16x64x16) transposes_S4x16x64x16_S4x16x16x64_0_1_3_2)))
    (broadcastInDim S4x16x16x16x64 ![0, 1, 2, 3, 4] bcast_S1x16x1x16x1_S4x16x16x16x64_0_1_2_3_4
      (broadcastInDim S1x16x1x16x1 ![1, 3] bcast_S16x16_S1x16x1x16x1_1_3 eyeT))) shapeCasts_S4x16x16x16x64_S4x256x1024

theorem blkT_apply (k : Fin 4) (j : Fin 256) (C : Fin 1024) :
    blkT b (ix3 k j C) = b (ix3 ⟨16 * k.val + j.val / 16, by omega⟩ ⟨C.val % 64, by omega⟩ ⟨j.val % 16, by omega⟩)
      * (if (⟨j.val / 16, by omega⟩ : Fin 16) = ⟨C.val / 64, by omega⟩ then 1 else 0) := by
  rw [← eyeT_apply]
  simp only [Nat.mul_comm 16 k.val]
  pointwise [blkT]

/-- The two parts side by side. -/
def allT : FVec Ideal S4x256x2048 .f32 :=
  concatenate S4x256x2048 2 [⟨S4x256x1024, blkT b⟩, ⟨S4x256x1024, blkT b'⟩] concatenates_S4x256x1024_S4x256x1024_S4x256x2048_d2

theorem allT_left (k : Fin 4) (j : Fin 256) (C : Fin 1024) : allT b b' (ix3 k j (⟨C.val, by omega⟩ : Fin 2048)) = blkT b (ix3 k j C) := by
  unfold allT
  exact concatenate_pair_apply_left (s₁ := S4x256x1024) (s₂ := S4x256x1024) 2 _ _ _ (ix3 k j (⟨C.val, by omega⟩ : Fin 2048)) rfl (ix3 k j C)
    (fun a => match a with | ⟨0, _⟩ => rfl | ⟨1, _⟩ => rfl | ⟨2, _⟩ => rfl)

theorem allT_right (k : Fin 4) (j : Fin 256) (C : Fin 1024) : allT b b' (ix3 k j (⟨1024 + C.val, by omega⟩ : Fin 2048)) = blkT b' (ix3 k j C) := by
  unfold allT
  refine concatenate_pair_apply_right (s₁ := S4x256x1024) (s₂ := S4x256x1024) 2 _ _ _ (ix3 k j (⟨1024 + C.val, by omega⟩ : Fin 2048)) rfl rfl (ix3 k j C)
    (fun a ha => ?_) (by show C.val + 1024 = 1024 + C.val; omega)
  match a with
  | ⟨0, _⟩ => rfl
  | ⟨1, _⟩ => rfl
  | ⟨2, _⟩ => exact absurd rfl ha

variable {b b'}

theorem blkT_real (h : ∀ G n p, IsReal (b (ix3 G n p))) (k : Fin 4) (j : Fin 256) (C : Fin 1024) : IsReal (blkT b (ix3 k j C)) := by
  rw [blkT_apply]
  refine (h _ _ _).mul ?_
  split
  · exact one_real
  · exact ⟨0, EReal.coe_zero.symm⟩

/-- A product with a block matrix reads the columns of one group alone. -/
theorem group (b : FVec Ideal S64x64x16 .f32) (f : Fin 1024 → EReal) (k : Fin 4) (C : Fin 1024) :
    ∑ j : Fin 256, f ⟨256 * k.val + j.val, by omega⟩ * blkT b (ix3 k j C)
      = ∑ p : Fin 16, f ⟨16 * (16 * k.val + C.val / 64) + p.val, by omega⟩ * b (ix3 ⟨16 * k.val + C.val / 64, by omega⟩ ⟨C.val % 64, by omega⟩ p) := by
  rw [← (finProdFinEquiv (m := 16) (n := 16)).sum_comp (fun j : Fin 256 => f ⟨256 * k.val + j.val, by omega⟩ * blkT b (ix3 k j C)), Fintype.sum_prod_type,
    Finset.sum_eq_single (⟨C.val / 64, by omega⟩ : Fin 16)]
  · refine Finset.sum_congr rfl fun p _ => ?_
    rw [blkT_apply]
    have q : (finProdFinEquiv ((⟨C.val / 64, by omega⟩ : Fin 16), p)).val = p.val + 16 * (C.val / 64) := rfl
    have d : (p.val + 16 * (C.val / 64)) / 16 = C.val / 64 := by omega
    have r : (p.val + 16 * (C.val / 64)) % 16 = p.val := by omega
    simp only [q, d, r, if_true, mul_one]
    refine congrArg (· * _) (congrArg f (Fin.ext ?_))
    show 256 * k.val + (p.val + 16 * (C.val / 64)) = 16 * (16 * k.val + C.val / 64) + p.val
    omega
  · intro a _ ha
    refine Finset.sum_eq_zero fun p _ => ?_
    rw [blkT_apply, if_neg, mul_zero, mul_zero]
    intro e
    apply ha
    have q : (finProdFinEquiv (a, p)).val = p.val + 16 * a.val := rfl
    have e' := congrArg Fin.val e
    simp only [q] at e'
    exact Fin.ext (by show a.val = C.val / 64; omega)
  · exact fun h => absurd (Finset.mem_univ _) h

end Matrices

section Spec

variable (x : FVec Ideal S128x1x1024 .f32) (g : FVec Ideal S1024 .f32) (sh sc : FVec Ideal S128x1024 .f32) (hre him : FVec Ideal S128x64x64 .f32)
  (are aim : FVec Ideal S64x64 .f32) (ldt : FVec Ideal S64 .f32) (bre bim : FVec Ideal S64x64x16 .f32) (R : Fin 128)

/-- The normalized, modulated row. -/
def hidden (k : Fin 1024) : EReal :=
  hid (fun k => x (ix3 R 0 k)) (fun k => g (ix1 k)) (fun k => sh (ix2 R k)) (fun k => sc (ix2 R k)) k

/-- The real and the imaginary parts of the next state. -/
def nextRe (J : Fin 4096) : EReal :=
  lrT are aim ldt (ix2 ⟨J.val / 64, by omega⟩ ⟨J.val % 64, by omega⟩) * hre (ix3 R ⟨J.val / 64, by omega⟩ ⟨J.val % 64, by omega⟩)
    - liT are aim ldt (ix2 ⟨J.val / 64, by omega⟩ ⟨J.val % 64, by omega⟩) * him (ix3 R ⟨J.val / 64, by omega⟩ ⟨J.val % 64, by omega⟩)
    + ∑ p : Fin 16, hidden x g sh sc R ⟨16 * (J.val / 64) + p.val, by omega⟩ * bbrT are aim ldt bre bim (ix3 ⟨J.val / 64, by omega⟩ ⟨J.val % 64, by omega⟩ p)
def nextIm (J : Fin 4096) : EReal :=
  lrT are aim ldt (ix2 ⟨J.val / 64, by omega⟩ ⟨J.val % 64, by omega⟩) * him (ix3 R ⟨J.val / 64, by omega⟩ ⟨J.val % 64, by omega⟩)
    + liT are aim ldt (ix2 ⟨J.val / 64, by omega⟩ ⟨J.val % 64, by omega⟩) * hre (ix3 R ⟨J.val / 64, by omega⟩ ⟨J.val % 64, by omega⟩)
    + ∑ p : Fin 16, hidden x g sh sc R ⟨16 * (J.val / 64) + p.val, by omega⟩ * bbiT are aim ldt bre bim (ix3 ⟨J.val / 64, by omega⟩ ⟨J.val % 64, by omega⟩ p)

end Spec

end Cert.Kernel9Ideal.S5
end
-- ==== Proof.S5Block.lean ====
module

public import proofs.«01_k».proof.Proof.Proj
public import proofs.«01_k».proof.Proof.Gen.Kernel9Ideal.Value

@[expose] public section

set_option maxRecDepth 16384

noncomputable section

/- What the recurrence's step computes on blocks of numbers, at an element of each block of 1024 states. -/
namespace Cert.Kernel9Ideal.S5

open Idealize.ShloMosaic Idealize.ShloMosaic.TcCoe Idealize.SL.Sem Cert.Kernel9Ideal Cert.Kernel9Ideal.Gen Cert.Proj

section Block

variable (x : Vec Ideal S1x128x1024 .f32) (g : Vec Ideal S1x1024 .f32) (sh sc : Vec Ideal S1x128x1024 .f32)
  (h : FVec Ideal S128x1024 .f32) (bh bl : Vec Ideal S1x256x2048 .bf16) (lr li : Vec Ideal S1x1024 .f32) (p q : Vec Ideal S128x1024 .f32)
  (bu : FVec Ideal S128x2048 .f32)

/-- Row `r` of the normalized block. -/
def hidB (r : Fin 128) (k : Fin 1024) : EReal :=
  hid (fun k => x (ix3 0 r k)) (fun k => g (ix2 0 k)) (fun k => sh (ix3 0 r k)) (fun k => sc (ix3 0 r k)) k

theorem pay1_apply (r : Fin 128) (k : Fin 1024) : k0_pay1 x g sh sc (ix2 r k) = hidB x g sh sc r k := by
  pointwise [k0_pay1, hidB, hid]

/-- The input of the states from 256 columns of the block, the first of which is column `o`, as the sum of three products. -/
def threeB (o : ℕ) (ho : o + 256 ≤ 1024) (r : Fin 128) (J : Fin 2048) : EReal :=
  (∑ j : Fin 256, h (ix2 r ⟨o + j.val, by omega⟩) * bh (ix3 0 j J)) + ((∑ j : Fin 256, h (ix2 r ⟨o + j.val, by omega⟩) * bl (ix3 0 j J))
    + ∑ j : Fin 256, (h (ix2 r ⟨o + j.val, by omega⟩) - h (ix2 r ⟨o + j.val, by omega⟩)) * bh (ix3 0 j J))

theorem in0 (r : Fin 128) (J : Fin 2048) :
    k0_pay8 (k0_pay3 bh) (k0_pay5 x g sh sc) (k0_pay6 x g sh sc bh) (k0_pay7 x g sh sc bl) (ix2 r J) = threeB (k0_pay1 x g sh sc) bh bl 0 (by norm_num) r J := by
  have e : ∀ j : Fin 256, (⟨0 + j.val, by omega⟩ : Fin 1024) = ⟨j.val, by omega⟩ := fun j => Fin.ext (Nat.zero_add _)
  unfold threeB
  simp only [e]
  pointwise [k0_pay8, k0_pay3, k0_pay5, k0_pay6, k0_pay7, k0_pay4, k0_pay2]

theorem in1 (r : Fin 128) (J : Fin 2048) : k0_pay18 h bh bl (ix2 r J) = threeB h bh bl 256 (by norm_num) r J := by
  pointwise [k0_pay18, threeB]

theorem in2 (r : Fin 128) (J : Fin 2048) : k0_pay28 h bh bl (ix2 r J) = threeB h bh bl 512 (by norm_num) r J := by
  pointwise [k0_pay28, threeB]

theorem in3 (r : Fin 128) (J : Fin 2048) : k0_pay38 h bh bl (ix2 r J) = threeB h bh bl 768 (by norm_num) r J := by
  pointwise [k0_pay38, threeB]

/-- The real and the imaginary parts of the next state. -/
def reB (r : Fin 128) (C : Fin 1024) : EReal :=
  lr (ix2 0 C) * p (ix2 r C) - li (ix2 0 C) * q (ix2 r C) + bu (ix2 r ⟨C.val, by omega⟩)
def imB (r : Fin 128) (C : Fin 1024) : EReal :=
  lr (ix2 0 C) * q (ix2 r C) + li (ix2 0 C) * p (ix2 r C) + bu (ix2 r ⟨1024 + C.val, by omega⟩)

theorem re0 (v26 : FVec Ideal S256x2048 .bf16) (v32 : FVec Ideal S128x256 .bf16) (v33 v34 : FVec Ideal S128x2048 .f32) (r : Fin 128) (C : Fin 1024) :
    k0_pay13 v26 v32 v33 v34 lr li p q (ix2 r C) = reB lr li p q (k0_pay8 v26 v32 v33 v34) r C := by
  pointwise [k0_pay13, k0_pay9, k0_pay10, k0_pay11, k0_pay12, reB]

theorem im0 (v26 : FVec Ideal S256x2048 .bf16) (v32 : FVec Ideal S128x256 .bf16) (v33 v34 : FVec Ideal S128x2048 .f32) (r : Fin 128) (C : Fin 1024) :
    k0_pay14 v26 v32 v33 v34 lr li p q (ix2 r C) = imB lr li p q (k0_pay8 v26 v32 v33 v34) r C := by
  pointwise [k0_pay14, k0_pay9, k0_pay10, k0_pay11, k0_pay12, imB]

theorem re1 (r : Fin 128) (C : Fin 1024) : k0_pay23 bu (k0_pay19 lr) li p q (ix2 r C) = reB lr li p q bu r C := by
  pointwise [k0_pay23, k0_pay19, k0_pay20, k0_pay21, k0_pay22, reB]

theorem im1 (r : Fin 128) (C : Fin 1024) : k0_pay24 bu (k0_pay19 lr) li p q (ix2 r C) = imB lr li p q bu r C := by
  pointwise [k0_pay24, k0_pay19, k0_pay20, k0_pay21, k0_pay22, imB]

theorem re2 (r : Fin 128) (C : Fin 1024) : k0_pay33 bu (k0_pay29 lr) (k0_pay30 li) (k0_pay31 p) (k0_pay32 q) (ix2 r C) = reB lr li p q bu r C := by
  pointwise [k0_pay33, k0_pay29, k0_pay30, k0_pay31, k0_pay32, reB]

theorem im2 (r : Fin 128) (C : Fin 1024) : k0_pay34 bu (k0_pay29 lr) (k0_pay30 li) (k0_pay31 p) (k0_pay32 q) (ix2 r C) = imB lr li p q bu r C := by
  pointwise [k0_pay34, k0_pay29, k0_pay30, k0_pay31, k0_pay32, imB]

theorem re3 (r : Fin 128) (C : Fin 1024) : k0_pay43 h bh bl lr li p q (ix2 r C) = reB lr li p q (k0_pay38 h bh bl) r C := by
  pointwise [k0_pay43, k0_pay39, k0_pay40, k0_pay41, k0_pay42, reB]

theorem im3 (r : Fin 128) (C : Fin 1024) : k0_pay46 bu (k0_pay41 p) (k0_pay44 lr q) (k0_pay45 li) (ix2 r C) = imB lr li p q bu r C := by
  pointwise [k0_pay46, k0_pay44, k0_pay45, k0_pay39, k0_pay40, k0_pay41, k0_pay42, imB]

end Block

end Cert.Kernel9Ideal.S5
end
-- ==== Proof.S5Host.lean ====
module

public import proofs.«01_k».proof.Proof.S5Terms
public import proofs.«01_k».proof.Proof.S5Block

@[expose] public section

set_option maxRecDepth 16384

noncomputable section

/- The blocks that the recurrence's step loads, as the arguments' elements. -/
namespace Cert.Kernel9Ideal.S5

open Idealize.ShloMosaic Idealize.ShloMosaic.TcCoe Idealize.SL.Sem Cert.Kernel9Ideal Cert.Kernel9Ideal.Gen Cert.Proj
open Idealize.ShloMosaic.Pipeline (Dat)

theorem idx_x : ∀ t : Fin cfg0.N, win0_0.index t = ![0, 0, 0] :=
  (by decide +kernel : ∀ t : Fin grid0.N, _)
theorem idx_g : ∀ t : Fin cfg0.N, win0_1.index t = ![0, 0] :=
  (by decide +kernel : ∀ t : Fin grid0.N, _)
theorem idx_sh : ∀ t : Fin cfg0.N, win0_2.index t = ![0, 0, 0] :=
  (by decide +kernel : ∀ t : Fin grid0.N, _)
theorem idx_sc : ∀ t : Fin cfg0.N, win0_3.index t = ![0, 0, 0] :=
  (by decide +kernel : ∀ t : Fin grid0.N, _)
theorem idx_hr : ∀ t : Fin cfg0.N, win0_4.index t = ![0, 0] :=
  (by decide +kernel : ∀ t : Fin grid0.N, _)
theorem idx_hi : ∀ t : Fin cfg0.N, win0_5.index t = ![0, 0] :=
  (by decide +kernel : ∀ t : Fin grid0.N, _)
theorem idx_bh : ∀ t : Fin cfg0.N, win0_6.index t = ![0, 0, 0] :=
  (by decide +kernel : ∀ t : Fin grid0.N, _)
theorem idx_bl : ∀ t : Fin cfg0.N, win0_7.index t = ![0, 0, 0] :=
  (by decide +kernel : ∀ t : Fin grid0.N, _)
theorem idx_lr : ∀ t : Fin cfg0.N, win0_9.index t = ![0, 0] :=
  (by decide +kernel : ∀ t : Fin grid0.N, _)
theorem idx_li : ∀ t : Fin cfg0.N, win0_10.index t = ![0, 0] :=
  (by decide +kernel : ∀ t : Fin grid0.N, _)
theorem idx_re : ∀ t : Fin cfg0.N, win0_13.index t = ![0, 0] :=
  (by decide +kernel : ∀ t : Fin grid0.N, _)
theorem idx_im : ∀ t : Fin cfg0.N, win0_14.index t = ![0, 0] :=
  (by decide +kernel : ∀ t : Fin grid0.N, _)

section Array

variable (m : (ℓ : Loc nD τ sig) → Buf (Elt Ideal) ℓ) (c : Dev nD)

/-- The arguments. -/
abbrev X : FVec Ideal S128x1x1024 .f32 := m ((c.tc : Thread nD τ).loc main_arg0)
abbrev G : FVec Ideal S1024 .f32 := m ((c.tc : Thread nD τ).loc main_arg1)
abbrev Sh : FVec Ideal S128x1024 .f32 := m ((c.tc : Thread nD τ).loc main_arg2)
abbrev Sc : FVec Ideal S128x1024 .f32 := m ((c.tc : Thread nD τ).loc main_arg3)
abbrev Hre : FVec Ideal S128x64x64 .f32 := m ((c.tc : Thread nD τ).loc main_arg4)
abbrev Him : FVec Ideal S128x64x64 .f32 := m ((c.tc : Thread nD τ).loc main_arg5)
abbrev Are : FVec Ideal S64x64 .f32 := m ((c.tc : Thread nD τ).loc main_arg6)
abbrev Aim : FVec Ideal S64x64 .f32 := m ((c.tc : Thread nD τ).loc main_arg7)
abbrev Ldt : FVec Ideal S64 .f32 := m ((c.tc : Thread nD τ).loc main_arg8)
abbrev Bre : FVec Ideal S64x64x16 .f32 := m ((c.tc : Thread nD τ).loc main_arg9)
abbrev Bim : FVec Ideal S64x64x16 .f32 := m ((c.tc : Thread nD τ).loc main_arg10)

theorem host_x : (V m c main_v91 : FVec Ideal S1x128x1024 .f32) = shapeCast S1x128x1024 (m ((c.tc : Thread nD τ).loc main_arg0)) shapeCasts_S128x1x1024_S1x128x1024 := by
  simp only [V, hostOps0]
  after_results <;> rfl

theorem host_g : (V m c main_v92 : FVec Ideal S1x1024 .f32) = shapeCast S1x1024 (m ((c.tc : Thread nD τ).loc main_arg1)) shapeCasts_S1024_S1x1024 := by
  simp only [V, hostOps0]
  after_results <;> rfl

theorem host_sh : (V m c main_v93 : FVec Ideal S1x128x1024 .f32) = broadcastInDim S1x128x1024 ![1, 2] bcast_S128x1024_S1x128x1024_1_2 (m ((c.tc : Thread nD τ).loc main_arg2)) := by
  simp only [V, hostOps0]
  after_results <;> rfl

theorem host_sc : (V m c main_v94 : FVec Ideal S1x128x1024 .f32) = broadcastInDim S1x128x1024 ![1, 2] bcast_S128x1024_S1x128x1024_1_2 (m ((c.tc : Thread nD τ).loc main_arg3)) := by
  simp only [V, hostOps0]
  after_results <;> rfl

theorem host_hr : (V m c main_v95 : FVec Ideal S128x4096 .f32) = shapeCast S128x4096 (m ((c.tc : Thread nD τ).loc main_arg4)) shapeCasts_S128x64x64_S128x4096 := by
  simp only [V, hostOps0]
  after_results <;> rfl

theorem host_hi : (V m c main_v96 : FVec Ideal S128x4096 .f32) = shapeCast S128x4096 (m ((c.tc : Thread nD τ).loc main_arg5)) shapeCasts_S128x64x64_S128x4096 := by
  simp only [V, hostOps0]
  after_results <;> rfl

theorem host_lr : (V m c main_v89 : FVec Ideal S1x4096 .f32) = shapeCast S1x4096 (lrT (m ((c.tc : Thread nD τ).loc main_arg6)) (m ((c.tc : Thread nD τ).loc main_arg7)) (m ((c.tc : Thread nD τ).loc main_arg8))) shapeCasts_S64x64_S1x4096 := by
  unfold lrT dtT
  simp only [V, hostOps0]
  after_results <;> rfl

theorem host_li : (V m c main_v90 : FVec Ideal S1x4096 .f32) = shapeCast S1x4096 (liT (m ((c.tc : Thread nD τ).loc main_arg6)) (m ((c.tc : Thread nD τ).loc main_arg7)) (m ((c.tc : Thread nD τ).loc main_arg8))) shapeCasts_S64x64_S1x4096 := by
  unfold liT dtT
  simp only [V, hostOps0]
  after_results <;> rfl

theorem host_bh : (V m c main_v85 : FVec Ideal S4x256x2048 .bf16) = truncf (F := Ideal) .bf16 (extf (F := Ideal) .f32 (truncf (F := Ideal) .bf16 (allT (bbrT (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (bbiT (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) bitsLt_bf16_f32) bitsLt_bf16_f32) bitsLt_bf16_f32 := by
  unfold allT blkT eyeT sameT bbrT bbiT eachT krT kiT numT denT lrT liT dtT
  simp only [V, hostOps0]
  after_results <;> rfl

theorem host_bl : (V m c main_v87 : FVec Ideal S4x256x2048 .bf16) = truncf (F := Ideal) .bf16 (subf (allT (bbrT (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (bbiT (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) (extf (F := Ideal) .f32 (truncf (F := Ideal) .bf16 (allT (bbrT (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (bbiT (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))) bitsLt_bf16_f32) bitsLt_bf16_f32)) bitsLt_bf16_f32 := by
  unfold allT blkT eyeT sameT bbrT bbiT eachT krT kiT numT denT lrT liT dtT
  simp only [V, hostOps0]
  after_results <;> rfl

/-- The four block matrices of the arguments. -/
def allW : FVec Ideal S4x256x2048 .f32 :=
  allT (bbrT (Are m c) (Aim m c) (Ldt m c) (Bre m c) (Bim m c)) (bbiT (Are m c) (Aim m c) (Ldt m c) (Bre m c) (Bim m c))

/-- The rows, reshaped. -/
theorem swap_apply (x : FVec Ideal S128x1x1024 .f32) (r : Fin 128) (k : Fin 1024) :
    shapeCast S1x128x1024 x shapeCasts_S128x1x1024_S1x128x1024 (ix3 0 r k) = x (ix3 r 0 k) := by
  pointwise

/-- The gains, reshaped. -/
theorem gains_apply (x : FVec Ideal S1024 .f32) (k : Fin 1024) : shapeCast S1x1024 x shapeCasts_S1024_S1x1024 (ix2 0 k) = x (ix1 k) := by
  pointwise

/-- The states and the poles, in rows. -/
theorem rows_apply (x : FVec Ideal S128x64x64 .f32) (r : Fin 128) (J : Fin 4096) :
    shapeCast S128x4096 x shapeCasts_S128x64x64_S128x4096 (ix2 r J) = x (ix3 r ⟨J.val / 64, by omega⟩ ⟨J.val % 64, by omega⟩) := by
  pointwise

theorem row_apply (x : FVec Ideal S64x64 .f32) (J : Fin 4096) :
    shapeCast S1x4096 x shapeCasts_S64x64_S1x4096 (ix2 0 J) = x (ix2 ⟨J.val / 64, by omega⟩ ⟨J.val % 64, by omega⟩) := by
  pointwise

theorem block_x (t : Fin cfg0.N) (r : Fin 128) (k : Fin 1024) : View.ld (iblk m c 0 t) r0_0 (ix3 0 r k) = X m c (ix3 r 0 k) := by
  have e : View.ld (iblk m c 0 t) r0_0 (ix3 0 r k) = V m c main_v91 (ix3 0 r k) := by
    show V m c main_v91 ((win0_0.blk t).view.emb (r0_0.idx (ix3 0 r k))) = _
    refine congrArg (V m c main_v91) (funext fun a => Fin.ext ?_)
    match a with
    | ⟨0, _⟩ => blk_simp [idx_x]; rfl
    | ⟨1, _⟩ => blk_simp [idx_x]; show 0 + 1 * r.val = r.val; omega
    | ⟨2, _⟩ => blk_simp [idx_x]; show 0 + 1 * k.val = k.val; omega
  rw [e, host_x]
  exact swap_apply _ r k

theorem block_g (t : Fin cfg0.N) (k : Fin 1024) : View.ld (iblk m c 1 t) r0_1 (ix2 0 k) = G m c (ix1 k) := by
  have e : View.ld (iblk m c 1 t) r0_1 (ix2 0 k) = V m c main_v92 (ix2 0 k) := by
    show V m c main_v92 ((win0_1.blk t).view.emb (r0_1.idx (ix2 0 k))) = _
    refine congrArg (V m c main_v92) (funext fun a => Fin.ext ?_)
    match a with
    | ⟨0, _⟩ => blk_simp [idx_g]; rfl
    | ⟨1, _⟩ => blk_simp [idx_g]; show 0 + 1 * k.val = k.val; omega
  rw [e, host_g]
  exact gains_apply _ k

theorem block_sh (t : Fin cfg0.N) (r : Fin 128) (k : Fin 1024) : View.ld (iblk m c 2 t) r0_0 (ix3 0 r k) = Sh m c (ix2 r k) := by
  have e : View.ld (iblk m c 2 t) r0_0 (ix3 0 r k) = V m c main_v93 (ix3 0 r k) := by
    show V m c main_v93 ((win0_2.blk t).view.emb (r0_0.idx (ix3 0 r k))) = _
    refine congrArg (V m c main_v93) (funext fun a => Fin.ext ?_)
    match a with
    | ⟨0, _⟩ => blk_simp [idx_sh]; rfl
    | ⟨1, _⟩ => blk_simp [idx_sh]; show 0 + 1 * r.val = r.val; omega
    | ⟨2, _⟩ => blk_simp [idx_sh]; show 0 + 1 * k.val = k.val; omega
  rw [e, host_sh]
  pointwise

theorem block_sc (t : Fin cfg0.N) (r : Fin 128) (k : Fin 1024) : View.ld (iblk m c 3 t) r0_0 (ix3 0 r k) = Sc m c (ix2 r k) := by
  have e : View.ld (iblk m c 3 t) r0_0 (ix3 0 r k) = V m c main_v94 (ix3 0 r k) := by
    show V m c main_v94 ((win0_3.blk t).view.emb (r0_0.idx (ix3 0 r k))) = _
    refine congrArg (V m c main_v94) (funext fun a => Fin.ext ?_)
    match a with
    | ⟨0, _⟩ => blk_simp [idx_sc]; rfl
    | ⟨1, _⟩ => blk_simp [idx_sc]; show 0 + 1 * r.val = r.val; omega
    | ⟨2, _⟩ => blk_simp [idx_sc]; show 0 + 1 * k.val = k.val; omega
  rw [e, host_sc]
  pointwise

theorem block_hid (t : Fin cfg0.N) (r : Fin 128) (k : Fin 1024) : (k0_pay1 (View.ld (iblk m c 0 t) r0_0) (View.ld (iblk m c 1 t) r0_1) (View.ld (iblk m c 2 t) r0_0) (View.ld (iblk m c 3 t) r0_0)) (ix2 r k) = hidden (X m c) (G m c) (Sh m c) (Sc m c) r k := by
  rw [pay1_apply]
  unfold hidB hidden
  simp only [block_x, block_g, block_sh, block_sc]

theorem block_lr0 (t : Fin cfg0.N) (C : Fin 1024) : View.ld (iblk m c 9 t) r0_3 (ix2 0 C)
    = lrT (Are m c) (Aim m c) (Ldt m c) (ix2 ⟨(0 + C.val) / 64, by omega⟩ ⟨(0 + C.val) % 64, by omega⟩) := by
  have e : View.ld (iblk m c 9 t) r0_3 (ix2 0 C) = V m c main_v89 (ix2 0 (⟨0 + C.val, by omega⟩ : Fin 4096)) := by
    show V m c main_v89 ((win0_9.blk t).view.emb (r0_3.idx (ix2 0 C))) = _
    refine congrArg (V m c main_v89) (funext fun a => Fin.ext ?_)
    match a with
    | ⟨0, _⟩ => blk_simp [idx_lr]; rfl
    | ⟨1, _⟩ => blk_simp [idx_lr]; show 0 + 1 * C.val = C.val; omega
  rw [e, host_lr]
  exact row_apply _ _

theorem block_li0 (t : Fin cfg0.N) (C : Fin 1024) : View.ld (iblk m c 10 t) r0_3 (ix2 0 C)
    = liT (Are m c) (Aim m c) (Ldt m c) (ix2 ⟨(0 + C.val) / 64, by omega⟩ ⟨(0 + C.val) % 64, by omega⟩) := by
  have e : View.ld (iblk m c 10 t) r0_3 (ix2 0 C) = V m c main_v90 (ix2 0 (⟨0 + C.val, by omega⟩ : Fin 4096)) := by
    show V m c main_v90 ((win0_10.blk t).view.emb (r0_3.idx (ix2 0 C))) = _
    refine congrArg (V m c main_v90) (funext fun a => Fin.ext ?_)
    match a with
    | ⟨0, _⟩ => blk_simp [idx_li]; rfl
    | ⟨1, _⟩ => blk_simp [idx_li]; show 0 + 1 * C.val = C.val; omega
  rw [e, host_li]
  exact row_apply _ _

theorem block_hr0 (t : Fin cfg0.N) (r : Fin 128) (C : Fin 1024) : View.ld (iblk m c 4 t) r0_4 (ix2 r C)
    = Hre m c (ix3 r ⟨(0 + C.val) / 64, by omega⟩ ⟨(0 + C.val) % 64, by omega⟩) := by
  have e : View.ld (iblk m c 4 t) r0_4 (ix2 r C) = V m c main_v95 (ix2 r (⟨0 + C.val, by omega⟩ : Fin 4096)) := by
    show V m c main_v95 ((win0_4.blk t).view.emb (r0_4.idx (ix2 r C))) = _
    refine congrArg (V m c main_v95) (funext fun a => Fin.ext ?_)
    match a with
    | ⟨0, _⟩ => blk_simp [idx_hr]; show 0 + 1 * r.val = r.val; omega
    | ⟨1, _⟩ => blk_simp [idx_hr]; show 0 + 1 * C.val = C.val; omega
  rw [e, host_hr]
  exact rows_apply _ _ _

theorem block_hi0 (t : Fin cfg0.N) (r : Fin 128) (C : Fin 1024) : View.ld (iblk m c 5 t) r0_4 (ix2 r C)
    = Him m c (ix3 r ⟨(0 + C.val) / 64, by omega⟩ ⟨(0 + C.val) % 64, by omega⟩) := by
  have e : View.ld (iblk m c 5 t) r0_4 (ix2 r C) = V m c main_v96 (ix2 r (⟨0 + C.val, by omega⟩ : Fin 4096)) := by
    show V m c main_v96 ((win0_5.blk t).view.emb (r0_4.idx (ix2 r C))) = _
    refine congrArg (V m c main_v96) (funext fun a => Fin.ext ?_)
    match a with
    | ⟨0, _⟩ => blk_simp [idx_hi]; show 0 + 1 * r.val = r.val; omega
    | ⟨1, _⟩ => blk_simp [idx_hi]; show 0 + 1 * C.val = C.val; omega
  rw [e, host_hi]
  exact rows_apply _ _ _

theorem block_bh0 (t : Fin cfg0.N) (j : Fin 256) (J : Fin 2048) : View.ld (iblk m c 6 t) r0_2 (ix3 0 j J)
    = allW m c (ix3 0 j J) := by
  have e : View.ld (iblk m c 6 t) r0_2 (ix3 0 j J) = V m c main_v85 (ix3 (⟨0, by norm_num⟩ : Fin 4) j J) := by
    show V m c main_v85 ((win0_6.blk t).view.emb (r0_2.idx (ix3 0 j J))) = _
    refine congrArg (V m c main_v85) (funext fun a => Fin.ext ?_)
    match a with
    | ⟨0, _⟩ => blk_simp [idx_bh]; rfl
    | ⟨1, _⟩ => blk_simp [idx_bh]; show 0 + 1 * j.val = j.val; omega
    | ⟨2, _⟩ => blk_simp [idx_bh]; show 0 + 1 * J.val = J.val; omega
  rw [e, host_bh]
  rfl

theorem block_bl0 (t : Fin cfg0.N) (j : Fin 256) (J : Fin 2048) : View.ld (iblk m c 7 t) r0_2 (ix3 0 j J)
    = allW m c (ix3 0 j J) - allW m c (ix3 0 j J) := by
  have e : View.ld (iblk m c 7 t) r0_2 (ix3 0 j J) = V m c main_v87 (ix3 (⟨0, by norm_num⟩ : Fin 4) j J) := by
    show V m c main_v87 ((win0_7.blk t).view.emb (r0_2.idx (ix3 0 j J))) = _
    refine congrArg (V m c main_v87) (funext fun a => Fin.ext ?_)
    match a with
    | ⟨0, _⟩ => blk_simp [idx_bl]; rfl
    | ⟨1, _⟩ => blk_simp [idx_bl]; show 0 + 1 * j.val = j.val; omega
    | ⟨2, _⟩ => blk_simp [idx_bl]; show 0 + 1 * J.val = J.val; omega
  rw [e, host_bl]
  rfl

theorem block_lr1 (t : Fin cfg0.N) (C : Fin 1024) : View.ld (iblk m c 9 t) r0_10 (ix2 0 C)
    = lrT (Are m c) (Aim m c) (Ldt m c) (ix2 ⟨(1024 + C.val) / 64, by omega⟩ ⟨(1024 + C.val) % 64, by omega⟩) := by
  have e : View.ld (iblk m c 9 t) r0_10 (ix2 0 C) = V m c main_v89 (ix2 0 (⟨1024 + C.val, by omega⟩ : Fin 4096)) := by
    show V m c main_v89 ((win0_9.blk t).view.emb (r0_10.idx (ix2 0 C))) = _
    refine congrArg (V m c main_v89) (funext fun a => Fin.ext ?_)
    match a with
    | ⟨0, _⟩ => blk_simp [idx_lr]; rfl
    | ⟨1, _⟩ => blk_simp [idx_lr]; show 1024 + 1 * C.val = 1024 + C.val; omega
  rw [e, host_lr]
  exact row_apply _ _

theorem block_li1 (t : Fin cfg0.N) (C : Fin 1024) : View.ld (iblk m c 10 t) r0_10 (ix2 0 C)
    = liT (Are m c) (Aim m c) (Ldt m c) (ix2 ⟨(1024 + C.val) / 64, by omega⟩ ⟨(1024 + C.val) % 64, by omega⟩) := by
  have e : View.ld (iblk m c 10 t) r0_10 (ix2 0 C) = V m c main_v90 (ix2 0 (⟨1024 + C.val, by omega⟩ : Fin 4096)) := by
    show V m c main_v90 ((win0_10.blk t).view.emb (r0_10.idx (ix2 0 C))) = _
    refine congrArg (V m c main_v90) (funext fun a => Fin.ext ?_)
    match a with
    | ⟨0, _⟩ => blk_simp [idx_li]; rfl
    | ⟨1, _⟩ => blk_simp [idx_li]; show 1024 + 1 * C.val = 1024 + C.val; omega
  rw [e, host_li]
  exact row_apply _ _

theorem block_hr1 (t : Fin cfg0.N) (r : Fin 128) (C : Fin 1024) : View.ld (iblk m c 4 t) r0_11 (ix2 r C)
    = Hre m c (ix3 r ⟨(1024 + C.val) / 64, by omega⟩ ⟨(1024 + C.val) % 64, by omega⟩) := by
  have e : View.ld (iblk m c 4 t) r0_11 (ix2 r C) = V m c main_v95 (ix2 r (⟨1024 + C.val, by omega⟩ : Fin 4096)) := by
    show V m c main_v95 ((win0_4.blk t).view.emb (r0_11.idx (ix2 r C))) = _
    refine congrArg (V m c main_v95) (funext fun a => Fin.ext ?_)
    match a with
    | ⟨0, _⟩ => blk_simp [idx_hr]; show 0 + 1 * r.val = r.val; omega
    | ⟨1, _⟩ => blk_simp [idx_hr]; show 1024 + 1 * C.val = 1024 + C.val; omega
  rw [e, host_hr]
  exact rows_apply _ _ _

theorem block_hi1 (t : Fin cfg0.N) (r : Fin 128) (C : Fin 1024) : View.ld (iblk m c 5 t) r0_11 (ix2 r C)
    = Him m c (ix3 r ⟨(1024 + C.val) / 64, by omega⟩ ⟨(1024 + C.val) % 64, by omega⟩) := by
  have e : View.ld (iblk m c 5 t) r0_11 (ix2 r C) = V m c main_v96 (ix2 r (⟨1024 + C.val, by omega⟩ : Fin 4096)) := by
    show V m c main_v96 ((win0_5.blk t).view.emb (r0_11.idx (ix2 r C))) = _
    refine congrArg (V m c main_v96) (funext fun a => Fin.ext ?_)
    match a with
    | ⟨0, _⟩ => blk_simp [idx_hi]; show 0 + 1 * r.val = r.val; omega
    | ⟨1, _⟩ => blk_simp [idx_hi]; show 1024 + 1 * C.val = 1024 + C.val; omega
  rw [e, host_hi]
  exact rows_apply _ _ _

theorem block_bh1 (t : Fin cfg0.N) (j : Fin 256) (J : Fin 2048) : View.ld (iblk m c 6 t) r0_9 (ix3 0 j J)
    = allW m c (ix3 1 j J) := by
  have e : View.ld (iblk m c 6 t) r0_9 (ix3 0 j J) = V m c main_v85 (ix3 (⟨1, by norm_num⟩ : Fin 4) j J) := by
    show V m c main_v85 ((win0_6.blk t).view.emb (r0_9.idx (ix3 0 j J))) = _
    refine congrArg (V m c main_v85) (funext fun a => Fin.ext ?_)
    match a with
    | ⟨0, _⟩ => blk_simp [idx_bh]; rfl
    | ⟨1, _⟩ => blk_simp [idx_bh]; show 0 + 1 * j.val = j.val; omega
    | ⟨2, _⟩ => blk_simp [idx_bh]; show 0 + 1 * J.val = J.val; omega
  rw [e, host_bh]
  rfl

theorem block_bl1 (t : Fin cfg0.N) (j : Fin 256) (J : Fin 2048) : View.ld (iblk m c 7 t) r0_9 (ix3 0 j J)
    = allW m c (ix3 1 j J) - allW m c (ix3 1 j J) := by
  have e : View.ld (iblk m c 7 t) r0_9 (ix3 0 j J) = V m c main_v87 (ix3 (⟨1, by norm_num⟩ : Fin 4) j J) := by
    show V m c main_v87 ((win0_7.blk t).view.emb (r0_9.idx (ix3 0 j J))) = _
    refine congrArg (V m c main_v87) (funext fun a => Fin.ext ?_)
    match a with
    | ⟨0, _⟩ => blk_simp [idx_bl]; rfl
    | ⟨1, _⟩ => blk_simp [idx_bl]; show 0 + 1 * j.val = j.val; omega
    | ⟨2, _⟩ => blk_simp [idx_bl]; show 0 + 1 * J.val = J.val; omega
  rw [e, host_bl]
  rfl

theorem block_lr2 (t : Fin cfg0.N) (C : Fin 1024) : View.ld (iblk m c 9 t) r0_17 (ix2 0 C)
    = lrT (Are m c) (Aim m c) (Ldt m c) (ix2 ⟨(2048 + C.val) / 64, by omega⟩ ⟨(2048 + C.val) % 64, by omega⟩) := by
  have e : View.ld (iblk m c 9 t) r0_17 (ix2 0 C) = V m c main_v89 (ix2 0 (⟨2048 + C.val, by omega⟩ : Fin 4096)) := by
    show V m c main_v89 ((win0_9.blk t).view.emb (r0_17.idx (ix2 0 C))) = _
    refine congrArg (V m c main_v89) (funext fun a => Fin.ext ?_)
    match a with
    | ⟨0, _⟩ => blk_simp [idx_lr]; rfl
    | ⟨1, _⟩ => blk_simp [idx_lr]; show 2048 + 1 * C.val = 2048 + C.val; omega
  rw [e, host_lr]
  exact row_apply _ _

theorem block_li2 (t : Fin cfg0.N) (C : Fin 1024) : View.ld (iblk m c 10 t) r0_17 (ix2 0 C)
    = liT (Are m c) (Aim m c) (Ldt m c) (ix2 ⟨(2048 + C.val) / 64, by omega⟩ ⟨(2048 + C.val) % 64, by omega⟩) := by
  have e : View.ld (iblk m c 10 t) r0_17 (ix2 0 C) = V m c main_v90 (ix2 0 (⟨2048 + C.val, by omega⟩ : Fin 4096)) := by
    show V m c main_v90 ((win0_10.blk t).view.emb (r0_17.idx (ix2 0 C))) = _
    refine congrArg (V m c main_v90) (funext fun a => Fin.ext ?_)
    match a with
    | ⟨0, _⟩ => blk_simp [idx_li]; rfl
    | ⟨1, _⟩ => blk_simp [idx_li]; show 2048 + 1 * C.val = 2048 + C.val; omega
  rw [e, host_li]
  exact row_apply _ _

theorem block_hr2 (t : Fin cfg0.N) (r : Fin 128) (C : Fin 1024) : View.ld (iblk m c 4 t) r0_18 (ix2 r C)
    = Hre m c (ix3 r ⟨(2048 + C.val) / 64, by omega⟩ ⟨(2048 + C.val) % 64, by omega⟩) := by
  have e : View.ld (iblk m c 4 t) r0_18 (ix2 r C) = V m c main_v95 (ix2 r (⟨2048 + C.val, by omega⟩ : Fin 4096)) := by
    show V m c main_v95 ((win0_4.blk t).view.emb (r0_18.idx (ix2 r C))) = _
    refine congrArg (V m c main_v95) (funext fun a => Fin.ext ?_)
    match a with
    | ⟨0, _⟩ => blk_simp [idx_hr]; show 0 + 1 * r.val = r.val; omega
    | ⟨1, _⟩ => blk_simp [idx_hr]; show 2048 + 1 * C.val = 2048 + C.val; omega
  rw [e, host_hr]
  exact rows_apply _ _ _

theorem block_hi2 (t : Fin cfg0.N) (r : Fin 128) (C : Fin 1024) : View.ld (iblk m c 5 t) r0_18 (ix2 r C)
    = Him m c (ix3 r ⟨(2048 + C.val) / 64, by omega⟩ ⟨(2048 + C.val) % 64, by omega⟩) := by
  have e : View.ld (iblk m c 5 t) r0_18 (ix2 r C) = V m c main_v96 (ix2 r (⟨2048 + C.val, by omega⟩ : Fin 4096)) := by
    show V m c main_v96 ((win0_5.blk t).view.emb (r0_18.idx (ix2 r C))) = _
    refine congrArg (V m c main_v96) (funext fun a => Fin.ext ?_)
    match a with
    | ⟨0, _⟩ => blk_simp [idx_hi]; show 0 + 1 * r.val = r.val; omega
    | ⟨1, _⟩ => blk_simp [idx_hi]; show 2048 + 1 * C.val = 2048 + C.val; omega
  rw [e, host_hi]
  exact rows_apply _ _ _

theorem block_bh2 (t : Fin cfg0.N) (j : Fin 256) (J : Fin 2048) : View.ld (iblk m c 6 t) r0_16 (ix3 0 j J)
    = allW m c (ix3 2 j J) := by
  have e : View.ld (iblk m c 6 t) r0_16 (ix3 0 j J) = V m c main_v85 (ix3 (⟨2, by norm_num⟩ : Fin 4) j J) := by
    show V m c main_v85 ((win0_6.blk t).view.emb (r0_16.idx (ix3 0 j J))) = _
    refine congrArg (V m c main_v85) (funext fun a => Fin.ext ?_)
    match a with
    | ⟨0, _⟩ => blk_simp [idx_bh]; rfl
    | ⟨1, _⟩ => blk_simp [idx_bh]; show 0 + 1 * j.val = j.val; omega
    | ⟨2, _⟩ => blk_simp [idx_bh]; show 0 + 1 * J.val = J.val; omega
  rw [e, host_bh]
  rfl

theorem block_bl2 (t : Fin cfg0.N) (j : Fin 256) (J : Fin 2048) : View.ld (iblk m c 7 t) r0_16 (ix3 0 j J)
    = allW m c (ix3 2 j J) - allW m c (ix3 2 j J) := by
  have e : View.ld (iblk m c 7 t) r0_16 (ix3 0 j J) = V m c main_v87 (ix3 (⟨2, by norm_num⟩ : Fin 4) j J) := by
    show V m c main_v87 ((win0_7.blk t).view.emb (r0_16.idx (ix3 0 j J))) = _
    refine congrArg (V m c main_v87) (funext fun a => Fin.ext ?_)
    match a with
    | ⟨0, _⟩ => blk_simp [idx_bl]; rfl
    | ⟨1, _⟩ => blk_simp [idx_bl]; show 0 + 1 * j.val = j.val; omega
    | ⟨2, _⟩ => blk_simp [idx_bl]; show 0 + 1 * J.val = J.val; omega
  rw [e, host_bl]
  rfl

theorem block_lr3 (t : Fin cfg0.N) (C : Fin 1024) : View.ld (iblk m c 9 t) r0_24 (ix2 0 C)
    = lrT (Are m c) (Aim m c) (Ldt m c) (ix2 ⟨(3072 + C.val) / 64, by omega⟩ ⟨(3072 + C.val) % 64, by omega⟩) := by
  have e : View.ld (iblk m c 9 t) r0_24 (ix2 0 C) = V m c main_v89 (ix2 0 (⟨3072 + C.val, by omega⟩ : Fin 4096)) := by
    show V m c main_v89 ((win0_9.blk t).view.emb (r0_24.idx (ix2 0 C))) = _
    refine congrArg (V m c main_v89) (funext fun a => Fin.ext ?_)
    match a with
    | ⟨0, _⟩ => blk_simp [idx_lr]; rfl
    | ⟨1, _⟩ => blk_simp [idx_lr]; show 3072 + 1 * C.val = 3072 + C.val; omega
  rw [e, host_lr]
  exact row_apply _ _

theorem block_li3 (t : Fin cfg0.N) (C : Fin 1024) : View.ld (iblk m c 10 t) r0_24 (ix2 0 C)
    = liT (Are m c) (Aim m c) (Ldt m c) (ix2 ⟨(3072 + C.val) / 64, by omega⟩ ⟨(3072 + C.val) % 64, by omega⟩) := by
  have e : View.ld (iblk m c 10 t) r0_24 (ix2 0 C) = V m c main_v90 (ix2 0 (⟨3072 + C.val, by omega⟩ : Fin 4096)) := by
    show V m c main_v90 ((win0_10.blk t).view.emb (r0_24.idx (ix2 0 C))) = _
    refine congrArg (V m c main_v90) (funext fun a => Fin.ext ?_)
    match a with
    | ⟨0, _⟩ => blk_simp [idx_li]; rfl
    | ⟨1, _⟩ => blk_simp [idx_li]; show 3072 + 1 * C.val = 3072 + C.val; omega
  rw [e, host_li]
  exact row_apply _ _

theorem block_hr3 (t : Fin cfg0.N) (r : Fin 128) (C : Fin 1024) : View.ld (iblk m c 4 t) r0_25 (ix2 r C)
    = Hre m c (ix3 r ⟨(3072 + C.val) / 64, by omega⟩ ⟨(3072 + C.val) % 64, by omega⟩) := by
  have e : View.ld (iblk m c 4 t) r0_25 (ix2 r C) = V m c main_v95 (ix2 r (⟨3072 + C.val, by omega⟩ : Fin 4096)) := by
    show V m c main_v95 ((win0_4.blk t).view.emb (r0_25.idx (ix2 r C))) = _
    refine congrArg (V m c main_v95) (funext fun a => Fin.ext ?_)
    match a with
    | ⟨0, _⟩ => blk_simp [idx_hr]; show 0 + 1 * r.val = r.val; omega
    | ⟨1, _⟩ => blk_simp [idx_hr]; show 3072 + 1 * C.val = 3072 + C.val; omega
  rw [e, host_hr]
  exact rows_apply _ _ _

theorem block_hi3 (t : Fin cfg0.N) (r : Fin 128) (C : Fin 1024) : View.ld (iblk m c 5 t) r0_25 (ix2 r C)
    = Him m c (ix3 r ⟨(3072 + C.val) / 64, by omega⟩ ⟨(3072 + C.val) % 64, by omega⟩) := by
  have e : View.ld (iblk m c 5 t) r0_25 (ix2 r C) = V m c main_v96 (ix2 r (⟨3072 + C.val, by omega⟩ : Fin 4096)) := by
    show V m c main_v96 ((win0_5.blk t).view.emb (r0_25.idx (ix2 r C))) = _
    refine congrArg (V m c main_v96) (funext fun a => Fin.ext ?_)
    match a with
    | ⟨0, _⟩ => blk_simp [idx_hi]; show 0 + 1 * r.val = r.val; omega
    | ⟨1, _⟩ => blk_simp [idx_hi]; show 3072 + 1 * C.val = 3072 + C.val; omega
  rw [e, host_hi]
  exact rows_apply _ _ _

theorem block_bh3 (t : Fin cfg0.N) (j : Fin 256) (J : Fin 2048) : View.ld (iblk m c 6 t) r0_23 (ix3 0 j J)
    = allW m c (ix3 3 j J) := by
  have e : View.ld (iblk m c 6 t) r0_23 (ix3 0 j J) = V m c main_v85 (ix3 (⟨3, by norm_num⟩ : Fin 4) j J) := by
    show V m c main_v85 ((win0_6.blk t).view.emb (r0_23.idx (ix3 0 j J))) = _
    refine congrArg (V m c main_v85) (funext fun a => Fin.ext ?_)
    match a with
    | ⟨0, _⟩ => blk_simp [idx_bh]; rfl
    | ⟨1, _⟩ => blk_simp [idx_bh]; show 0 + 1 * j.val = j.val; omega
    | ⟨2, _⟩ => blk_simp [idx_bh]; show 0 + 1 * J.val = J.val; omega
  rw [e, host_bh]
  rfl

theorem block_bl3 (t : Fin cfg0.N) (j : Fin 256) (J : Fin 2048) : View.ld (iblk m c 7 t) r0_23 (ix3 0 j J)
    = allW m c (ix3 3 j J) - allW m c (ix3 3 j J) := by
  have e : View.ld (iblk m c 7 t) r0_23 (ix3 0 j J) = V m c main_v87 (ix3 (⟨3, by norm_num⟩ : Fin 4) j J) := by
    show V m c main_v87 ((win0_7.blk t).view.emb (r0_23.idx (ix3 0 j J))) = _
    refine congrArg (V m c main_v87) (funext fun a => Fin.ext ?_)
    match a with
    | ⟨0, _⟩ => blk_simp [idx_bl]; rfl
    | ⟨1, _⟩ => blk_simp [idx_bl]; show 0 + 1 * j.val = j.val; omega
    | ⟨2, _⟩ => blk_simp [idx_bl]; show 0 + 1 * J.val = J.val; omega
  rw [e, host_bl]
  rfl

end Array

end Cert.Kernel9Ideal.S5
end
-- ==== Proof.S5Out.lean ====
module

public import proofs.«01_k».proof.Proof.S5Host

@[expose] public section

set_option maxRecDepth 16384

noncomputable section

/- The arrays of the recurrence's step: the next states. -/
namespace Cert.Kernel9Ideal.S5

open Idealize.ShloMosaic Idealize.ShloMosaic.TcCoe Idealize.SL.Sem Cert.Kernel9Ideal Cert.Kernel9Ideal.Gen Cert.Proj
open Idealize.ShloMosaic.Pipeline (Dat)

section Array

variable (m : (ℓ : Loc nD τ sig) → Buf (Elt Ideal) ℓ) (c : Dev nD)

/-- The arguments are real numbers, and no pole is zero. -/
def Reals : Prop :=
  ((∀ y, IsReal (X m c y)) ∧ (∀ y, IsReal (G m c y)) ∧ (∀ y, IsReal (Sh m c y)) ∧ (∀ y, IsReal (Sc m c y)))
    ∧ Poles (Are m c) (Aim m c) (Ldt m c) (Bre m c) (Bim m c)

variable {m c} in
theorem hidden_real (fin : Reals m c) (r : Fin 128) (k : Fin 1024) : IsReal (hidden (X m c) (G m c) (Sh m c) (Sc m c) r k) :=
  hid_real (fun _ => fin.1.1 _) (fun _ => fin.1.2.1 _) (fun _ => fin.1.2.2.1 _) (fun _ => fin.1.2.2.2 _) k

/-- The input of the real parts of a block of states, and of the imaginary parts. -/
theorem fed_re (fin : Reals m c) (k : Fin 4) (h : FVec Ideal S128x1024 .f32) (bh bl : Vec Ideal S1x256x2048 .bf16)
    (hh : ∀ r j, h (ix2 r j) = hidden (X m c) (G m c) (Sh m c) (Sc m c) r j) (hbh : ∀ j J, bh (ix3 0 j J) = allW m c (ix3 k j J))
    (hbl : ∀ j J, bl (ix3 0 j J) = allW m c (ix3 k j J) - allW m c (ix3 k j J)) (r : Fin 128) (C : Fin 1024) :
    threeB h bh bl (256 * k.val) (by omega) r ⟨C.val, by omega⟩
      = ∑ p : Fin 16, hidden (X m c) (G m c) (Sh m c) (Sc m c) r ⟨16 * (16 * k.val + C.val / 64) + p.val, by omega⟩
          * bbrT (Are m c) (Aim m c) (Ldt m c) (Bre m c) (Bim m c) (ix3 ⟨16 * k.val + C.val / 64, by omega⟩ ⟨C.val % 64, by omega⟩ p) := by
  unfold threeB
  simp only [hh, hbh, hbl, allW, allT_left]
  rw [three (fun j : Fin 256 => hidden (X m c) (G m c) (Sh m c) (Sc m c) r ⟨256 * k.val + j.val, by omega⟩) (fun j => blkT _ (ix3 k j C))
    (fun j => hidden_real fin r _) (fun j => blkT_real (bbr_real fin.2) k j C)]
  exact group _ (fun k => hidden (X m c) (G m c) (Sh m c) (Sc m c) r k) k C

theorem fed_im (fin : Reals m c) (k : Fin 4) (h : FVec Ideal S128x1024 .f32) (bh bl : Vec Ideal S1x256x2048 .bf16)
    (hh : ∀ r j, h (ix2 r j) = hidden (X m c) (G m c) (Sh m c) (Sc m c) r j) (hbh : ∀ j J, bh (ix3 0 j J) = allW m c (ix3 k j J))
    (hbl : ∀ j J, bl (ix3 0 j J) = allW m c (ix3 k j J) - allW m c (ix3 k j J)) (r : Fin 128) (C : Fin 1024) :
    threeB h bh bl (256 * k.val) (by omega) r ⟨1024 + C.val, by omega⟩
      = ∑ p : Fin 16, hidden (X m c) (G m c) (Sh m c) (Sc m c) r ⟨16 * (16 * k.val + C.val / 64) + p.val, by omega⟩
          * bbiT (Are m c) (Aim m c) (Ldt m c) (Bre m c) (Bim m c) (ix3 ⟨16 * k.val + C.val / 64, by omega⟩ ⟨C.val % 64, by omega⟩ p) := by
  unfold threeB
  simp only [hh, hbh, hbl, allW, allT_right]
  rw [three (fun j : Fin 256 => hidden (X m c) (G m c) (Sh m c) (Sc m c) r ⟨256 * k.val + j.val, by omega⟩) (fun j => blkT _ (ix3 k j C))
    (fun j => hidden_real fin r _) (fun j => blkT_real (bbi_real fin.2) k j C)]
  exact group _ (fun k => hidden (X m c) (G m c) (Sh m c) (Sc m c) r k) k C

/-- A block of the next states, its input given. -/
theorem state_re (k : Fin 4) (lr li : Vec Ideal S1x1024 .f32) (p q : Vec Ideal S128x1024 .f32) (bu : FVec Ideal S128x2048 .f32) (r : Fin 128) (C : Fin 1024)
    (hlr : lr (ix2 0 C) = lrT (Are m c) (Aim m c) (Ldt m c) (ix2 ⟨(1024 * k.val + C.val) / 64, by omega⟩ ⟨(1024 * k.val + C.val) % 64, by omega⟩))
    (hli : li (ix2 0 C) = liT (Are m c) (Aim m c) (Ldt m c) (ix2 ⟨(1024 * k.val + C.val) / 64, by omega⟩ ⟨(1024 * k.val + C.val) % 64, by omega⟩))
    (hp : p (ix2 r C) = Hre m c (ix3 r ⟨(1024 * k.val + C.val) / 64, by omega⟩ ⟨(1024 * k.val + C.val) % 64, by omega⟩))
    (hq : q (ix2 r C) = Him m c (ix3 r ⟨(1024 * k.val + C.val) / 64, by omega⟩ ⟨(1024 * k.val + C.val) % 64, by omega⟩))
    (hu : bu (ix2 r ⟨C.val, by omega⟩) = ∑ p : Fin 16, hidden (X m c) (G m c) (Sh m c) (Sc m c) r ⟨16 * (16 * k.val + C.val / 64) + p.val, by omega⟩
          * bbrT (Are m c) (Aim m c) (Ldt m c) (Bre m c) (Bim m c) (ix3 ⟨16 * k.val + C.val / 64, by omega⟩ ⟨C.val % 64, by omega⟩ p)) :
    reB lr li p q bu r C = nextRe (X m c) (G m c) (Sh m c) (Sc m c) (Hre m c) (Him m c) (Are m c) (Aim m c) (Ldt m c) (Bre m c) (Bim m c) r ⟨1024 * k.val + C.val, by omega⟩ := by
  unfold reB nextRe
  rw [hlr, hli, hp, hq, hu]
  have d : 16 * k.val + C.val / 64 = (1024 * k.val + C.val) / 64 := by omega
  have e : C.val % 64 = (1024 * k.val + C.val) % 64 := by omega
  simp only [d, e]

theorem state_im (k : Fin 4) (lr li : Vec Ideal S1x1024 .f32) (p q : Vec Ideal S128x1024 .f32) (bu : FVec Ideal S128x2048 .f32) (r : Fin 128) (C : Fin 1024)
    (hlr : lr (ix2 0 C) = lrT (Are m c) (Aim m c) (Ldt m c) (ix2 ⟨(1024 * k.val + C.val) / 64, by omega⟩ ⟨(1024 * k.val + C.val) % 64, by omega⟩))
    (hli : li (ix2 0 C) = liT (Are m c) (Aim m c) (Ldt m c) (ix2 ⟨(1024 * k.val + C.val) / 64, by omega⟩ ⟨(1024 * k.val + C.val) % 64, by omega⟩))
    (hp : p (ix2 r C) = Hre m c (ix3 r ⟨(1024 * k.val + C.val) / 64, by omega⟩ ⟨(1024 * k.val + C.val) % 64, by omega⟩))
    (hq : q (ix2 r C) = Him m c (ix3 r ⟨(1024 * k.val + C.val) / 64, by omega⟩ ⟨(1024 * k.val + C.val) % 64, by omega⟩))
    (hu : bu (ix2 r ⟨1024 + C.val, by omega⟩) = ∑ p : Fin 16, hidden (X m c) (G m c) (Sh m c) (Sc m c) r ⟨16 * (16 * k.val + C.val / 64) + p.val, by omega⟩
          * bbiT (Are m c) (Aim m c) (Ldt m c) (Bre m c) (Bim m c) (ix3 ⟨16 * k.val + C.val / 64, by omega⟩ ⟨C.val % 64, by omega⟩ p)) :
    imB lr li p q bu r C = nextIm (X m c) (G m c) (Sh m c) (Sc m c) (Hre m c) (Him m c) (Are m c) (Aim m c) (Ldt m c) (Bre m c) (Bim m c) r ⟨1024 * k.val + C.val, by omega⟩ := by
  unfold imB nextIm
  rw [hlr, hli, hp, hq, hu]
  have d : 16 * k.val + C.val / 64 = (1024 * k.val + C.val) / 64 := by omega
  have e : C.val % 64 = (1024 * k.val + C.val) % 64 := by omega
  simp only [d, e]

theorem next_congr {f : Fin 128 → Fin 4096 → EReal} {r r' : Fin 128} {J J' : Fin 4096} (hr : r.val = r'.val) (hJ : J.val = J'.val) : f r J = f r' J' := by
  rw [Fin.ext hr, Fin.ext hJ]

theorem re_0 (fin : Reals m c) (t : Fin cfg0.N) (r : Fin 128) (C : Fin 1024) :
    k0_pay13 (k0_pay49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 9 t) r0_3) (View.ld (iblk m c 10 t) r0_3) (View.ld (iblk m c 4 t) r0_4) (View.ld (iblk m c 5 t) r0_4) (ix2 r C)
      = nextRe (X m c) (G m c) (Sh m c) (Sc m c) (Hre m c) (Him m c) (Are m c) (Aim m c) (Ldt m c) (Bre m c) (Bim m c) r ⟨0 + C.val, by omega⟩ := by
  refine (re0 (View.ld (iblk m c 9 t) r0_3) (View.ld (iblk m c 10 t) r0_3) (View.ld (iblk m c 4 t) r0_4) (View.ld (iblk m c 5 t) r0_4) _ _ _ _ r C).trans ?_
  refine (state_re m c 0 _ _ _ _ _ r C (block_lr0 m c t C) (block_li0 m c t C) (block_hr0 m c t r C) (block_hi0 m c t r C) ?_).trans
    (next_congr rfl rfl)
  exact (in0 (View.ld (iblk m c 0 t) r0_0) (View.ld (iblk m c 1 t) r0_1) (View.ld (iblk m c 2 t) r0_0) (View.ld (iblk m c 3 t) r0_0) (View.ld (iblk m c 6 t) r0_2) (View.ld (iblk m c 7 t) r0_2) r ⟨C.val, by omega⟩).trans
    (fed_re m c fin 0 _ _ _ (block_hid m c t) (block_bh0 m c t) (block_bl0 m c t) r C)

theorem re_1 (fin : Reals m c) (t : Fin cfg0.N) (r : Fin 128) (C : Fin 1024) :
    k0_pay23 (k0_pay53 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay54 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 10 t) r0_10) (View.ld (iblk m c 4 t) r0_11) (View.ld (iblk m c 5 t) r0_11) (ix2 r C)
      = nextRe (X m c) (G m c) (Sh m c) (Sc m c) (Hre m c) (Him m c) (Are m c) (Aim m c) (Ldt m c) (Bre m c) (Bim m c) r ⟨1024 + C.val, by omega⟩ := by
  refine (re1 (View.ld (iblk m c 9 t) r0_10) (View.ld (iblk m c 10 t) r0_10) (View.ld (iblk m c 4 t) r0_11) (View.ld (iblk m c 5 t) r0_11) _ r C).trans ?_
  refine (state_re m c 1 _ _ _ _ _ r C (block_lr1 m c t C) (block_li1 m c t C) (block_hr1 m c t r C) (block_hi1 m c t r C) ?_).trans
    (next_congr rfl rfl)
  exact (in1 (k0_pay1 (View.ld (iblk m c 0 t) r0_0) (View.ld (iblk m c 1 t) r0_1) (View.ld (iblk m c 2 t) r0_0) (View.ld (iblk m c 3 t) r0_0)) (View.ld (iblk m c 6 t) r0_9) (View.ld (iblk m c 7 t) r0_9) r ⟨C.val, by omega⟩).trans
    (fed_re m c fin 1 _ _ _ (block_hid m c t) (block_bh1 m c t) (block_bl1 m c t) r C)

theorem re_2 (fin : Reals m c) (t : Fin cfg0.N) (r : Fin 128) (C : Fin 1024) :
    k0_pay33 (k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay56 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay57 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay58 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 r C)
      = nextRe (X m c) (G m c) (Sh m c) (Sc m c) (Hre m c) (Him m c) (Are m c) (Aim m c) (Ldt m c) (Bre m c) (Bim m c) r ⟨2048 + C.val, by omega⟩ := by
  refine (re2 (View.ld (iblk m c 9 t) r0_17) (View.ld (iblk m c 10 t) r0_17) (View.ld (iblk m c 4 t) r0_18) (View.ld (iblk m c 5 t) r0_18) _ r C).trans ?_
  refine (state_re m c 2 _ _ _ _ _ r C (block_lr2 m c t C) (block_li2 m c t C) (block_hr2 m c t r C) (block_hi2 m c t r C) ?_).trans
    (next_congr rfl rfl)
  exact (in2 (k0_pay1 (View.ld (iblk m c 0 t) r0_0) (View.ld (iblk m c 1 t) r0_1) (View.ld (iblk m c 2 t) r0_0) (View.ld (iblk m c 3 t) r0_0)) (View.ld (iblk m c 6 t) r0_16) (View.ld (iblk m c 7 t) r0_16) r ⟨C.val, by omega⟩).trans
    (fed_re m c fin 2 _ _ _ (block_hid m c t) (block_bh2 m c t) (block_bl2 m c t) r C)

theorem re_3 (fin : Reals m c) (t : Fin cfg0.N) (r : Fin 128) (C : Fin 1024) :
    k0_pay62 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r C)
      = nextRe (X m c) (G m c) (Sh m c) (Sc m c) (Hre m c) (Him m c) (Are m c) (Aim m c) (Ldt m c) (Bre m c) (Bim m c) r ⟨3072 + C.val, by omega⟩ := by
  refine (re3 _ (View.ld (iblk m c 6 t) r0_23) (View.ld (iblk m c 7 t) r0_23) (View.ld (iblk m c 9 t) r0_24) (View.ld (iblk m c 10 t) r0_24) (View.ld (iblk m c 4 t) r0_25) (View.ld (iblk m c 5 t) r0_25) r C).trans ?_
  refine (state_re m c 3 _ _ _ _ _ r C (block_lr3 m c t C) (block_li3 m c t C) (block_hr3 m c t r C) (block_hi3 m c t r C) ?_).trans
    (next_congr rfl rfl)
  exact (in3 (k0_pay1 (View.ld (iblk m c 0 t) r0_0) (View.ld (iblk m c 1 t) r0_1) (View.ld (iblk m c 2 t) r0_0) (View.ld (iblk m c 3 t) r0_0)) (View.ld (iblk m c 6 t) r0_23) (View.ld (iblk m c 7 t) r0_23) r ⟨C.val, by omega⟩).trans
    (fed_re m c fin 3 _ _ _ (block_hid m c t) (block_bh3 m c t) (block_bl3 m c t) r C)

theorem im_0 (fin : Reals m c) (t : Fin cfg0.N) (r : Fin 128) (C : Fin 1024) :
    k0_pay14 (k0_pay49 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay50 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay51 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay52 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 9 t) r0_3) (View.ld (iblk m c 10 t) r0_3) (View.ld (iblk m c 4 t) r0_4) (View.ld (iblk m c 5 t) r0_4) (ix2 r C)
      = nextIm (X m c) (G m c) (Sh m c) (Sc m c) (Hre m c) (Him m c) (Are m c) (Aim m c) (Ldt m c) (Bre m c) (Bim m c) r ⟨0 + C.val, by omega⟩ := by
  refine (im0 (View.ld (iblk m c 9 t) r0_3) (View.ld (iblk m c 10 t) r0_3) (View.ld (iblk m c 4 t) r0_4) (View.ld (iblk m c 5 t) r0_4) _ _ _ _ r C).trans ?_
  refine (state_im m c 0 _ _ _ _ _ r C (block_lr0 m c t C) (block_li0 m c t C) (block_hr0 m c t r C) (block_hi0 m c t r C) ?_).trans
    (next_congr rfl rfl)
  exact (in0 (View.ld (iblk m c 0 t) r0_0) (View.ld (iblk m c 1 t) r0_1) (View.ld (iblk m c 2 t) r0_0) (View.ld (iblk m c 3 t) r0_0) (View.ld (iblk m c 6 t) r0_2) (View.ld (iblk m c 7 t) r0_2) r ⟨1024 + C.val, by omega⟩).trans
    (fed_im m c fin 0 _ _ _ (block_hid m c t) (block_bh0 m c t) (block_bl0 m c t) r C)

theorem im_1 (fin : Reals m c) (t : Fin cfg0.N) (r : Fin 128) (C : Fin 1024) :
    k0_pay24 (k0_pay53 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay54 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (View.ld (iblk m c 10 t) r0_10) (View.ld (iblk m c 4 t) r0_11) (View.ld (iblk m c 5 t) r0_11) (ix2 r C)
      = nextIm (X m c) (G m c) (Sh m c) (Sc m c) (Hre m c) (Him m c) (Are m c) (Aim m c) (Ldt m c) (Bre m c) (Bim m c) r ⟨1024 + C.val, by omega⟩ := by
  refine (im1 (View.ld (iblk m c 9 t) r0_10) (View.ld (iblk m c 10 t) r0_10) (View.ld (iblk m c 4 t) r0_11) (View.ld (iblk m c 5 t) r0_11) _ r C).trans ?_
  refine (state_im m c 1 _ _ _ _ _ r C (block_lr1 m c t C) (block_li1 m c t C) (block_hr1 m c t r C) (block_hi1 m c t r C) ?_).trans
    (next_congr rfl rfl)
  exact (in1 (k0_pay1 (View.ld (iblk m c 0 t) r0_0) (View.ld (iblk m c 1 t) r0_1) (View.ld (iblk m c 2 t) r0_0) (View.ld (iblk m c 3 t) r0_0)) (View.ld (iblk m c 6 t) r0_9) (View.ld (iblk m c 7 t) r0_9) r ⟨1024 + C.val, by omega⟩).trans
    (fed_im m c fin 1 _ _ _ (block_hid m c t) (block_bh1 m c t) (block_bl1 m c t) r C)

theorem im_2 (fin : Reals m c) (t : Fin cfg0.N) (r : Fin 128) (C : Fin 1024) :
    k0_pay34 (k0_pay55 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay56 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay57 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay58 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay59 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 r C)
      = nextIm (X m c) (G m c) (Sh m c) (Sc m c) (Hre m c) (Him m c) (Are m c) (Aim m c) (Ldt m c) (Bre m c) (Bim m c) r ⟨2048 + C.val, by omega⟩ := by
  refine (im2 (View.ld (iblk m c 9 t) r0_17) (View.ld (iblk m c 10 t) r0_17) (View.ld (iblk m c 4 t) r0_18) (View.ld (iblk m c 5 t) r0_18) _ r C).trans ?_
  refine (state_im m c 2 _ _ _ _ _ r C (block_lr2 m c t C) (block_li2 m c t C) (block_hr2 m c t r C) (block_hi2 m c t r C) ?_).trans
    (next_congr rfl rfl)
  exact (in2 (k0_pay1 (View.ld (iblk m c 0 t) r0_0) (View.ld (iblk m c 1 t) r0_1) (View.ld (iblk m c 2 t) r0_0) (View.ld (iblk m c 3 t) r0_0)) (View.ld (iblk m c 6 t) r0_16) (View.ld (iblk m c 7 t) r0_16) r ⟨1024 + C.val, by omega⟩).trans
    (fed_im m c fin 2 _ _ _ (block_hid m c t) (block_bh2 m c t) (block_bl2 m c t) r C)

theorem im_3 (fin : Reals m c) (t : Fin cfg0.N) (r : Fin 128) (C : Fin 1024) :
    k0_pay46 (k0_pay60 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay61 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay63 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay64 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (ix2 r C)
      = nextIm (X m c) (G m c) (Sh m c) (Sc m c) (Hre m c) (Him m c) (Are m c) (Aim m c) (Ldt m c) (Bre m c) (Bim m c) r ⟨3072 + C.val, by omega⟩ := by
  refine (im3 (View.ld (iblk m c 9 t) r0_24) (View.ld (iblk m c 10 t) r0_24) (View.ld (iblk m c 4 t) r0_25) (View.ld (iblk m c 5 t) r0_25) _ r C).trans ?_
  refine (state_im m c 3 _ _ _ _ _ r C (block_lr3 m c t C) (block_li3 m c t C) (block_hr3 m c t r C) (block_hi3 m c t r C) ?_).trans
    (next_congr rfl rfl)
  exact (in3 (k0_pay1 (View.ld (iblk m c 0 t) r0_0) (View.ld (iblk m c 1 t) r0_1) (View.ld (iblk m c 2 t) r0_0) (View.ld (iblk m c 3 t) r0_0)) (View.ld (iblk m c 6 t) r0_23) (View.ld (iblk m c 7 t) r0_23) r ⟨1024 + C.val, by omega⟩).trans
    (fed_im m c fin 3 _ _ _ (block_hid m c t) (block_bh3 m c t) (block_bl3 m c t) r C)

theorem point13 (fin : Reals m c) (t : Fin cfg0.N) (r : Fin 128) (J : Fin 4096) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r J)
      = nextRe (X m c) (G m c) (Sh m c) (Sc m c) (Hre m c) (Him m c) (Are m c) (Aim m c) (Ldt m c) (Bre m c) (Bim m c) r J := by
  unfold out0_13
  refine (View.canon_apply_of_pieces ((fun y => nextRe (X m c) (G m c) (Sh m c) (Sc m c) (Hre m c) (Him m c) (Are m c) (Aim m c) (Ldt m c) (Bre m c) (Bim m c) (y 0) (y 1)) : Vec Ideal S128x4096 .f32) _ ?_ _ (cover0_13 _ _ _ _ _)).trans rfl
  intro pc hpc
  rcases List.mem_cons.mp hpc with rfl | hpc
  · intro x
    obtain ⟨r, C, rfl⟩ : ∃ (r : Fin 128) (C : Fin 1024), x = ix2 r C := ⟨x 0, x 1, by ext a; fin_cases a <;> rfl⟩
    exact (re_3 m c fin t r C).trans (next_congr (by show r.val = 0 + 1 * r.val; omega) (by show 3072 + C.val = 3072 + 1 * C.val; omega))
  rcases List.mem_cons.mp hpc with rfl | hpc
  · intro x
    obtain ⟨r, C, rfl⟩ : ∃ (r : Fin 128) (C : Fin 1024), x = ix2 r C := ⟨x 0, x 1, by ext a; fin_cases a <;> rfl⟩
    exact (re_2 m c fin t r C).trans (next_congr (by show r.val = 0 + 1 * r.val; omega) (by show 2048 + C.val = 2048 + 1 * C.val; omega))
  rcases List.mem_cons.mp hpc with rfl | hpc
  · intro x
    obtain ⟨r, C, rfl⟩ : ∃ (r : Fin 128) (C : Fin 1024), x = ix2 r C := ⟨x 0, x 1, by ext a; fin_cases a <;> rfl⟩
    exact (re_1 m c fin t r C).trans (next_congr (by show r.val = 0 + 1 * r.val; omega) (by show 1024 + C.val = 1024 + 1 * C.val; omega))
  obtain rfl := List.mem_singleton.mp hpc
  · intro x
    obtain ⟨r, C, rfl⟩ : ∃ (r : Fin 128) (C : Fin 1024), x = ix2 r C := ⟨x 0, x 1, by ext a; fin_cases a <;> rfl⟩
    exact (re_0 m c fin t r C).trans (next_congr (by show r.val = 0 + 1 * r.val; omega) (by show 0 + C.val = 0 + 1 * C.val; omega))

/-- The array of the real parts. -/
theorem final13 (fin : Reals m c) : (dats m 0 c).arrAt 13 cfg0.N = fun i => nextRe (X m c) (G m c) (Sh m c) (Sc m c) (Hre m c) (Him m c) (Are m c) (Aim m c) (Ldt m c) (Bre m c) (Bim m c) (i 0) (i 1) := by
  refine (dats m 0 c).arrAt_eq_of_covers 13 _ (by decide +kernel) fun t hf y => ?_
  blk_simp
  rw [after0_13]
  obtain ⟨r, J, rfl⟩ : ∃ (r : Fin 128) (J : Fin 4096), y = ix2 r J := ⟨y 0, y 1, by ext a; fin_cases a <;> rfl⟩
  refine (point13 m c fin t r J).trans ?_
  have z0 : r = (win0_13.blk t).view.emb (ix2 r J) 0 := Fin.ext (by blk_simp [idx_re])
  have z1 : J = (win0_13.blk t).view.emb (ix2 r J) 1 := Fin.ext (by blk_simp [idx_re])
  exact congr (congrArg _ z0) z1

theorem point14 (fin : Reals m c) (t : Fin cfg0.N) (r : Fin 128) (J : Fin 4096) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r J)
      = nextIm (X m c) (G m c) (Sh m c) (Sc m c) (Hre m c) (Him m c) (Are m c) (Aim m c) (Ldt m c) (Bre m c) (Bim m c) r J := by
  unfold out0_14
  refine (View.canon_apply_of_pieces ((fun y => nextIm (X m c) (G m c) (Sh m c) (Sc m c) (Hre m c) (Him m c) (Are m c) (Aim m c) (Ldt m c) (Bre m c) (Bim m c) (y 0) (y 1)) : Vec Ideal S128x4096 .f32) _ ?_ _ (cover0_14 _ _ _ _ _)).trans rfl
  intro pc hpc
  rcases List.mem_cons.mp hpc with rfl | hpc
  · intro x
    obtain ⟨r, C, rfl⟩ : ∃ (r : Fin 128) (C : Fin 1024), x = ix2 r C := ⟨x 0, x 1, by ext a; fin_cases a <;> rfl⟩
    exact (im_3 m c fin t r C).trans (next_congr (by show r.val = 0 + 1 * r.val; omega) (by show 3072 + C.val = 3072 + 1 * C.val; omega))
  rcases List.mem_cons.mp hpc with rfl | hpc
  · intro x
    obtain ⟨r, C, rfl⟩ : ∃ (r : Fin 128) (C : Fin 1024), x = ix2 r C := ⟨x 0, x 1, by ext a; fin_cases a <;> rfl⟩
    exact (im_2 m c fin t r C).trans (next_congr (by show r.val = 0 + 1 * r.val; omega) (by show 2048 + C.val = 2048 + 1 * C.val; omega))
  rcases List.mem_cons.mp hpc with rfl | hpc
  · intro x
    obtain ⟨r, C, rfl⟩ : ∃ (r : Fin 128) (C : Fin 1024), x = ix2 r C := ⟨x 0, x 1, by ext a; fin_cases a <;> rfl⟩
    exact (im_1 m c fin t r C).trans (next_congr (by show r.val = 0 + 1 * r.val; omega) (by show 1024 + C.val = 1024 + 1 * C.val; omega))
  obtain rfl := List.mem_singleton.mp hpc
  · intro x
    obtain ⟨r, C, rfl⟩ : ∃ (r : Fin 128) (C : Fin 1024), x = ix2 r C := ⟨x 0, x 1, by ext a; fin_cases a <;> rfl⟩
    exact (im_0 m c fin t r C).trans (next_congr (by show r.val = 0 + 1 * r.val; omega) (by show 0 + C.val = 0 + 1 * C.val; omega))

/-- The array of the imaginary parts. -/
theorem final14 (fin : Reals m c) : (dats m 0 c).arrAt 14 cfg0.N = fun i => nextIm (X m c) (G m c) (Sh m c) (Sc m c) (Hre m c) (Him m c) (Are m c) (Aim m c) (Ldt m c) (Bre m c) (Bim m c) (i 0) (i 1) := by
  refine (dats m 0 c).arrAt_eq_of_covers 14 _ (by decide +kernel) fun t hf y => ?_
  blk_simp
  rw [after0_14]
  obtain ⟨r, J, rfl⟩ : ∃ (r : Fin 128) (J : Fin 4096), y = ix2 r J := ⟨y 0, y 1, by ext a; fin_cases a <;> rfl⟩
  refine (point14 m c fin t r J).trans ?_
  have z0 : r = (win0_14.blk t).view.emb (ix2 r J) 0 := Fin.ext (by blk_simp [idx_im])
  have z1 : J = (win0_14.blk t).view.emb (ix2 r J) 1 := Fin.ext (by blk_simp [idx_im])
  exact congr (congrArg _ z0) z1

end Array

end Cert.Kernel9Ideal.S5
end
-- ==== Proof.S5Ref.lean ====
module

public import proofs.«01_k».proof.Proof.S5Terms
public import proofs.«01_k».proof.Proof.Gen.Reference9Ideal.Run
public import proofs.«01_k».proof.Proof.Gen.Pre_finite_s5

@[expose] public section

set_option maxRecDepth 16384

noncomputable section

/- The reference of the recurrence's step computes the same two functions of the arguments. -/
namespace Cert.Reference9Ideal.S5

open Idealize.ShloMosaic Idealize.ShloMosaic.TcCoe Idealize.SL.Sem Cert.Reference9Ideal Cert.Reference9Ideal.Gen Cert.Proj
open Cert.Kernel9Ideal.S5 (lrT liT bbrT bbiT hidden nextRe nextIm)

section Terms

variable (x : FVec Ideal S128x1x1024 .f32) (g : FVec Ideal S1024 .f32) (sh sc : FVec Ideal S128x1024 .f32) (hre him : FVec Ideal S128x64x64 .f32)
  (are aim : FVec Ideal S64x64 .f32) (ldt : FVec Ideal S64 .f32) (bre bim : FVec Ideal S64x64x16 .f32)

/-- The normalized, modulated rows. -/
def hiddenT : FVec Ideal S128x1x1024 .f32 :=
  addf (mulf (mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))) (addf (broadcastInDim S128x1x1024 ![] bcast_S_S128x1x1024 (constant S_ .f32 0x3F800000#32)) (broadcastInDim S128x1x1024 ![0, 2] bcast_S128x1024_S128x1x1024_0_2 sc))) (broadcastInDim S128x1x1024 ![0, 2] bcast_S128x1024_S128x1x1024_0_2 sh)

theorem hiddenT_apply (R : Fin 128) (k : Fin 1024) : hiddenT x g sh sc (ix3 R 0 k) = hidden x g sh sc R k := by
  pointwise [hiddenT, Cert.Kernel9Ideal.S5.hidden, hid]

/-- The rows by groups of channels. -/
def inputT : FVec Ideal S128x64x16 .f32 := shapeCast S128x64x16 (hiddenT x g sh sc) shapeCasts_S128x1x1024_S128x64x16

theorem split_apply (y : FVec Ideal S128x1x1024 .f32) (R : Fin 128) (G : Fin 64) (p : Fin 16) :
    shapeCast S128x64x16 y shapeCasts_S128x1x1024_S128x64x16 (ix3 R G p) = y (ix3 R 0 ⟨G.val * 16 + p.val, by omega⟩) := by
  pointwise

theorem inputT_apply (R : Fin 128) (G : Fin 64) (p : Fin 16) :
    inputT x g sh sc (ix3 R G p) = hidden x g sh sc R ⟨16 * G.val + p.val, by omega⟩ := by
  unfold inputT
  rw [split_apply, hiddenT_apply]
  exact congrArg _ (Fin.ext (by show G.val * 16 + p.val = 16 * G.val + p.val; omega))

/-- A product of the rows with the matrices of the groups. -/
def fedT (b : FVec Ideal S64x64x16 .f32) (u : FVec Ideal S128x64x16 .f32) : FVec Ideal S128x64x64 .f32 :=
  transpose S128x64x64 [2, 0, 1] (Host.dotGeneral dot_S64x64x16_S128x64x16_S64x64x128_2_2_1_0_0_1 none b u) transposes_S64x64x128_S128x64x64_2_0_1

theorem fedT_apply (b : FVec Ideal S64x64x16 .f32) (u : FVec Ideal S128x64x16 .f32) (R : Fin 128) (G n : Fin 64) :
    fedT b u (ix3 R G n) = ∑ p : Fin 16, u (ix3 R G p) * b (ix3 G n p) := by
  simp only [mul_comm (u _)]
  pointwise [fedT]

/-- A coefficient on every sequence. -/
def allT (k : FVec Ideal S64x64 .f32) : FVec Ideal S128x64x64 .f32 :=
  broadcastInDim S128x64x64 ![0, 1, 2] bcast_S1x64x64_S128x64x64_0_1_2 (broadcastInDim S1x64x64 ![1, 2] bcast_S64x64_S1x64x64_1_2 k)

theorem allT_apply (k : FVec Ideal S64x64 .f32) (R : Fin 128) (G n : Fin 64) : allT k (ix3 R G n) = k (ix2 G n) := by
  pointwise [allT]

/-- The two parts of the next state. -/
def reT : FVec Ideal S128x64x64 .f32 :=
  addf (subf (mulf (allT (lrT are aim ldt)) hre) (mulf (allT (liT are aim ldt)) him)) (fedT (bbrT are aim ldt bre bim) (inputT x g sh sc))
def imT : FVec Ideal S128x64x64 .f32 :=
  addf (addf (mulf (allT (lrT are aim ldt)) him) (mulf (allT (liT are aim ldt)) hre)) (fedT (bbiT are aim ldt bre bim) (inputT x g sh sc))

theorem rows_apply (y : FVec Ideal S128x64x64 .f32) (R : Fin 128) (J : Fin 4096) :
    shapeCast S128x4096 y shapeCasts_S128x64x64_S128x4096 (ix2 R J) = y (ix3 R ⟨J.val / 64, by omega⟩ ⟨J.val % 64, by omega⟩) := by
  pointwise

theorem re_eq : shapeCast S128x4096 (reT x g sh sc hre him are aim ldt bre bim) shapeCasts_S128x64x64_S128x4096
    = fun i => nextRe x g sh sc hre him are aim ldt bre bim (i 0) (i 1) := by
  funext i
  obtain ⟨R, J, rfl⟩ : ∃ (R : Fin 128) (J : Fin 4096), i = ix2 R J := ⟨i 0, i 1, by ext a; fin_cases a <;> rfl⟩
  rw [rows_apply]
  generalize hG : (⟨J.val / 64, by omega⟩ : Fin 64) = G
  generalize hn : (⟨J.val % 64, by omega⟩ : Fin 64) = n
  refine (show reT x g sh sc hre him are aim ldt bre bim (ix3 R G n) = allT (lrT are aim ldt) (ix3 R G n) * hre (ix3 R G n)
    - allT (liT are aim ldt) (ix3 R G n) * him (ix3 R G n) + fedT (bbrT are aim ldt bre bim) (inputT x g sh sc) (ix3 R G n) from rfl).trans ?_
  rw [allT_apply, allT_apply, fedT_apply]
  simp only [inputT_apply]
  subst hG hn
  rfl

theorem im_eq : shapeCast S128x4096 (imT x g sh sc hre him are aim ldt bre bim) shapeCasts_S128x64x64_S128x4096
    = fun i => nextIm x g sh sc hre him are aim ldt bre bim (i 0) (i 1) := by
  funext i
  obtain ⟨R, J, rfl⟩ : ∃ (R : Fin 128) (J : Fin 4096), i = ix2 R J := ⟨i 0, i 1, by ext a; fin_cases a <;> rfl⟩
  rw [rows_apply]
  generalize hG : (⟨J.val / 64, by omega⟩ : Fin 64) = G
  generalize hn : (⟨J.val % 64, by omega⟩ : Fin 64) = n
  refine (show imT x g sh sc hre him are aim ldt bre bim (ix3 R G n) = allT (lrT are aim ldt) (ix3 R G n) * him (ix3 R G n)
    + allT (liT are aim ldt) (ix3 R G n) * hre (ix3 R G n) + fedT (bbiT are aim ldt bre bim) (inputT x g sh sc) (ix3 R G n) from rfl).trans ?_
  rw [allT_apply, allT_apply, fedT_apply]
  simp only [inputT_apply]
  subst hG hn
  rfl

end Terms

section Results

variable (m : (ℓ : Loc nD τ sig) → Buf (Elt Ideal) ℓ) (c : Dev nD)
  (x : FVec Ideal S128x1x1024 .f32) (g : FVec Ideal S1024 .f32) (sh sc : FVec Ideal S128x1024 .f32) (hre him : FVec Ideal S128x64x64 .f32)
  (are aim : FVec Ideal S64x64 .f32) (ldt : FVec Ideal S64 .f32) (bre bim : FVec Ideal S64x64x16 .f32)
  (h0 : m ((c.tc : Thread nD τ).loc main_arg0) = x) (h1 : m ((c.tc : Thread nD τ).loc main_arg1) = g)
  (h2 : m ((c.tc : Thread nD τ).loc main_arg2) = sh) (h3 : m ((c.tc : Thread nD τ).loc main_arg3) = sc)
  (h4 : m ((c.tc : Thread nD τ).loc main_arg4) = hre) (h5 : m ((c.tc : Thread nD τ).loc main_arg5) = him)
  (h6 : m ((c.tc : Thread nD τ).loc main_arg6) = are) (h7 : m ((c.tc : Thread nD τ).loc main_arg7) = aim)
  (h8 : m ((c.tc : Thread nD τ).loc main_arg8) = ldt) (h9 : m ((c.tc : Thread nD τ).loc main_arg9) = bre)
  (h10 : m ((c.tc : Thread nD τ).loc main_arg10) = bim)
include h0 h1 h2 h3 h4 h5 h6 h7 h8 h9 h10

/-- The results that the run names are these functions of the arguments. -/
theorem out0 : Cert.Reference9Ideal.Value.res_main_v85 (F := Ideal) m c = fun i => nextRe x g sh sc hre him are aim ldt bre bim (i 0) (i 1) := by
  subst h0 h1 h2 h3 h4 h5 h6 h7 h8 h9 h10
  exact re_eq _ _ _ _ _ _ _ _ _ _ _

theorem out1 : Cert.Reference9Ideal.Value.res_main_v86 (F := Ideal) m c = fun i => nextIm x g sh sc hre him are aim ldt bre bim (i 0) (i 1) := by
  subst h0 h1 h2 h3 h4 h5 h6 h7 h8 h9 h10
  exact im_eq _ _ _ _ _ _ _ _ _ _ _

end Results

end Cert.Reference9Ideal.S5

/- The precondition read back: the arguments that it names are real numbers, and no pole is zero. -/
namespace Cert.Pre_finite_s5.S5

open Idealize.ShloMosaic Cert.Pre_finite_s5 Cert.Pre_finite_s5.Gen Cert.Proj

/-- Where a test of every element against zero holds, every element is positive. -/
theorem pos_of_all (d : FVec Ideal S64x64 .f32) {dims : Fin S_.rank → Fin S64x64.rank} {axes : List (Fin S64x64.rank)} (hb : S_.BroadcastsInDim S64x64 dims)
    (hr : S64x64.ReducesTo axes S_) (hu : 0 < S_.numel) (j : S_.Idx)
    (h : Host.reduce IntOp.andi (cmpf .ogt d (broadcastInDim S64x64 dims hb (constant S_ .f32 0x00000000#32))) (constantI S_ 1 1#1) hr hu j = 1#1)
    (y : S64x64.Idx) : 0 < (d y : EReal) := by
  haveI : Subsingleton S_.Idx := ⟨fun a b => funext fun j => j.elim0⟩
  have e := Host.reduce_andi_all _ _ hr hu _ h y
  have e' : BitVec.ofBool (decide (Ideal.ofBits FTy.f32 0x00000000#32 < (d y : EReal))) = 1#1 := e
  have z : Ideal.ofBits FTy.f32 0x00000000#32 = 0 := by simp [Ideal.ofBits, Ideal.ieee]
  rw [z] at e'
  by_contra hn
  rw [decide_eq_false hn] at e'
  exact absurd e' (by decide)

theorem real (x : FVec Ideal S128x1x1024 .f32) (g : FVec Ideal S1024 .f32) (sh sc : FVec Ideal S128x1024 .f32) (hre him : FVec Ideal S128x64x64 .f32)
    (are aim : FVec Ideal S64x64 .f32) (ldt : FVec Ideal S64 .f32) (bre bim : FVec Ideal S64x64x16 .f32) (cre cim : FVec Ideal S64x16x64 .f32) (d : FVec Ideal S1024 .f32)
    (h : fn (F := Ideal) x g sh sc hre him are aim ldt bre bim cre cim d = fun _ => 1#1) :
    ((∀ y, IsReal (x y)) ∧ (∀ y, IsReal (g y)) ∧ (∀ y, IsReal (sh y)) ∧ (∀ y, IsReal (sc y))) ∧ Cert.Kernel9Ideal.S5.Poles are aim ldt bre bim := by
  haveI : Subsingleton S_.Idx := ⟨fun a b => funext fun j => j.elim0⟩
  have e := congrFun h (Shape.Idx.first h_S_)
  obtain ⟨e, e9⟩ := both_one _ _ e
  obtain ⟨e, e8⟩ := both_one _ _ e
  obtain ⟨e, e7⟩ := both_one _ _ e
  obtain ⟨e, e6⟩ := both_one _ _ e
  obtain ⟨e, e5⟩ := both_one _ _ e
  obtain ⟨e, e4⟩ := both_one _ _ e
  obtain ⟨e, e3⟩ := both_one _ _ e
  obtain ⟨e, e2⟩ := both_one _ _ e
  obtain ⟨e0, e1⟩ := both_one _ _ e
  exact ⟨⟨real_of_all x _ _ _ _ e0, real_of_all g _ _ _ _ e1, real_of_all sh _ _ _ _ e2, real_of_all sc _ _ _ _ e3⟩,
    fun G n => real_of_all are _ _ _ _ e4 _, fun G n => real_of_all aim _ _ _ _ e5 _, fun G => real_of_all ldt _ _ _ _ e6 _,
    fun G n p => real_of_all bre _ _ _ _ e7 _, fun G n p => real_of_all bim _ _ _ _ e8 _, fun G n => pos_of_all _ _ _ _ _ e9 (ix2 G n)⟩

end Cert.Pre_finite_s5.S5
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite_kv
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_q
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite_kv_s
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Pre_finite_s5
public import proofs.«01_k».proof.Proof.FlashOut
public import proofs.«01_k».proof.Proof.FlashRef
public import proofs.«01_k».proof.Proof.FlashPre
public import proofs.«01_k».proof.Proof.Glu
public import proofs.«01_k».proof.Proof.Out
public import proofs.«01_k».proof.Proof.Norm
public import proofs.«01_k».proof.Proof.KvRef
public import proofs.«01_k».proof.Proof.QRef
public import proofs.«01_k».proof.Proof.Step
public import proofs.«01_k».proof.Proof.KvStepRef
public import proofs.«01_k».proof.Proof.S5Out
public import proofs.«01_k».proof.Proof.S5Ref
public import Idealize.ShloMosaic.Lib.Quiescent
public import Idealize.ShloMosaic.Adequacy
public import Idealize.ShloMosaic.Init

@[expose] public section

noncomputable section

namespace Cert.Proof

open Idealize.ShloMosaic Idealize.SL.Sem

/-- The reference runs from any memory, leaves its arguments and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2, Idealize.ShloMosaic.sem_eq_zero_of_no_sems (by decide) r.2⟩) (Cert.ReferenceIdeal.Value.run m g)

/-- Kernel and reference end with the causal attention of their arguments, where the queries and the keys are real. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' pre same =>
  ⟨fun c => Cert.OnlineSoftmax.attend (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c =>
      ⟨(h c).1.trans (Cert.KernelIdeal.Flash.final_o m c (Cert.Pre_finite.Flash.real _ _ _ (pre c)).1 (Cert.Pre_finite.Flash.real _ _ _ (pre c)).2), (h c).2⟩)
      (Cert.KernelIdeal.Value.run_blocks m g),
    (θ_run Cert.ReferenceIdeal.defs _ _).mono (fun _ h c =>
      ⟨(h c).1.trans ((Cert.ReferenceIdeal.Flash.result m' c).trans (by rw [(same c).1, (same c).2.1, (same c).2.2])), (h c).2⟩)
      (Cert.ReferenceIdeal.Value.run m' g')⟩

/-- Reference 2 runs from any memory, leaves its arguments and ends with every counter at zero. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono
    (fun r h => ⟨fun c => (h c).2, Idealize.ShloMosaic.sem_eq_zero_of_no_sems (by decide) r.2⟩) (Cert.Reference2Ideal.Value.run m g)

/-- Reference 3 runs from any memory, leaves its arguments and ends with every counter at zero. -/
theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run Cert.Reference3Ideal.defs _ _).mono
    (fun r h => ⟨fun c => (h c).2, Idealize.ShloMosaic.sem_eq_zero_of_no_sems (by decide) r.2⟩) (Cert.Reference3Ideal.Value.run m g)

/-- Reference 4 runs from any memory, leaves its arguments and ends with every counter at zero. -/
theorem reference4_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run Cert.Reference4Ideal.defs _ _).mono
    (fun r h => ⟨fun c => (h c).2, Idealize.ShloMosaic.sem_eq_zero_of_no_sems (by decide) r.2⟩) (Cert.Reference4Ideal.Value.run m g)

/-- Kernel and reference end with the gated product and its residual. -/
theorem gates : Cert.algebraic_Kernel2Ideal_Reference2Ideal (hKernel2Ideal := Cert.Kernel2Ideal.Gen.facts)
    (hReference2Ideal := Cert.Reference2Ideal.Gen.facts) := fun m g m' g' _ same =>
  ⟨fun c i => Cert.Kernel2Ideal.Glu.gated (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (i 0) (i 1) (i 2),
    (θ_run Cert.Kernel2Ideal.defs _ _).mono (fun _ h c => ⟨(h c).1.trans (Cert.Kernel2Ideal.Glu.final m c), (h c).2⟩) (Cert.Kernel2Ideal.Value.run_blocks m g),
    (θ_run Cert.Reference2Ideal.defs _ _).mono (fun _ h c =>
      ⟨(h c).1.trans ((Cert.Reference2Ideal.Glu.term_eq _ _ _ _).trans (by rw [(same c).1, (same c).2.1, (same c).2.2.1, (same c).2.2.2]; rfl)), (h c).2⟩)
      (Cert.Reference2Ideal.Value.run m' g')⟩

/-- Kernel and reference end with the projection of the heads and its residual. -/
theorem heads : Cert.algebraic_Kernel3Ideal_Reference3Ideal (hKernel3Ideal := Cert.Kernel3Ideal.Gen.facts)
    (hReference3Ideal := Cert.Reference3Ideal.Gen.facts) := fun m g m' g' _ same =>
  ⟨fun c i => Cert.Kernel3Ideal.Out.projected (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      (i 0) (i 1) (i 2),
    (θ_run Cert.Kernel3Ideal.defs _ _).mono (fun _ h c => ⟨(h c).1.trans (Cert.Kernel3Ideal.Out.final m c), (h c).2⟩) (Cert.Kernel3Ideal.Value.run_blocks m g),
    (θ_run Cert.Reference3Ideal.defs _ _).mono (fun _ h c =>
      ⟨(h c).1.trans ((Cert.Reference3Ideal.Out.term_eq _ _ _ _).trans (by rw [(same c).1, (same c).2.1, (same c).2.2.1, (same c).2.2.2]; rfl)), (h c).2⟩)
      (Cert.Reference3Ideal.Value.run m' g')⟩

/-- Kernel and reference end with the normalized, modulated rows. -/
theorem norms : Cert.algebraic_Kernel4Ideal_Reference4Ideal (hKernel4Ideal := Cert.Kernel4Ideal.Gen.facts)
    (hReference4Ideal := Cert.Reference4Ideal.Gen.facts) := fun m g m' g' _ same =>
  ⟨fun c i => Cert.Kernel4Ideal.Norm.normed (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))
      (i 0) (i 1) (i 2),
    (θ_run Cert.Kernel4Ideal.defs _ _).mono (fun _ h c => ⟨(h c).1.trans (Cert.Kernel4Ideal.Norm.final m c), (h c).2⟩) (Cert.Kernel4Ideal.Value.run_blocks m g),
    (θ_run Cert.Reference4Ideal.defs _ _).mono (fun _ h c =>
      ⟨(h c).1.trans ((Cert.Reference4Ideal.Norm.term_eq _ _ _ _).trans (by rw [(same c).1, (same c).2.1, (same c).2.2.1, (same c).2.2.2]; rfl)), (h c).2⟩)
      (Cert.Reference4Ideal.Value.run m' g')⟩

/-- Reference 5 runs from any memory, leaves its arguments and ends with every counter at zero. -/
theorem reference5_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0) :=
  (θ_run Cert.Reference5Ideal.defs _ _).mono
    (fun r h => ⟨fun c => (h c).2.2.2.2, Idealize.ShloMosaic.sem_eq_zero_of_no_sems (by decide) r.2⟩) (Cert.Reference5Ideal.Value.run m g)

/-- Kernel and reference end with the latents, shared keys, keys and values, where the arguments that the precondition names are real. -/
theorem keys_and_values : Cert.algebraic_Kernel5Ideal_Reference5Ideal_pre_finite_kv (hKernel5Ideal := Cert.Kernel5Ideal.Gen.facts)
    (hReference5Ideal := Cert.Reference5Ideal.Gen.facts) (hPre_finite_kv := Cert.Pre_finite_kv.Gen.facts) := fun m g m' g' pre same =>
  ⟨fun c i => Cert.Kernel5Ideal.Kv.latent (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (i 0) (i 1) (i 2),
    fun c i => Cert.Kernel5Ideal.Kv.shared (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg6)) (i 0) (i 1) (i 2),
    fun c i => Cert.Kernel5Ideal.Kv.keys (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (i 0) (i 1) (i 2),
    fun c i => Cert.Kernel5Ideal.Kv.values (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg7)) (i 0) (i 1) (i 2),
    (θ_run Cert.Kernel5Ideal.defs _ _).mono (fun _ h c =>
      ⟨(h c).1.trans (Cert.Kernel5Ideal.Kv.final13 m c (Cert.Pre_finite_kv.Kv.real _ _ _ _ _ _ _ _ (pre c))),
        (h c).2.1.trans (Cert.Kernel5Ideal.Kv.final14 m c (Cert.Pre_finite_kv.Kv.real _ _ _ _ _ _ _ _ (pre c))),
        (h c).2.2.1.trans (Cert.Kernel5Ideal.Kv.final15 m c (Cert.Pre_finite_kv.Kv.real _ _ _ _ _ _ _ _ (pre c))),
        (h c).2.2.2.1.trans (Cert.Kernel5Ideal.Kv.final16 m c (Cert.Pre_finite_kv.Kv.real _ _ _ _ _ _ _ _ (pre c))),
        (h c).2.2.2.2⟩) (Cert.Kernel5Ideal.Value.run_blocks m g),
    (θ_run Cert.Reference5Ideal.defs _ _).mono (fun _ h c =>
      ⟨(h c).1.trans (Cert.Reference5Ideal.Kv.out0 m' c _ _ _ _ _ _ (same c).1 (same c).2.1 (same c).2.2.1 (same c).2.2.2.1 (same c).2.2.2.2.1 (same c).2.2.2.2.2.1),
        (h c).2.1.trans (Cert.Reference5Ideal.Kv.out1 m' c _ _ _ _ _ (same c).1 (same c).2.1 (same c).2.2.1 (same c).2.2.2.1 (same c).2.2.2.2.2.2.1),
        (h c).2.2.1.trans (Cert.Reference5Ideal.Kv.out2 m' c _ _ _ _ _ _ _ _ (same c).1 (same c).2.1 (same c).2.2.1 (same c).2.2.2.1 (same c).2.2.2.2.1 (same c).2.2.2.2.2.1 (same c).2.2.2.2.2.2.1 (same c).2.2.2.2.2.2.2),
        (h c).2.2.2.1.trans (Cert.Reference5Ideal.Kv.out3 m' c _ _ _ _ _ _ _ (same c).1 (same c).2.1 (same c).2.2.1 (same c).2.2.2.1 (same c).2.2.2.2.1 (same c).2.2.2.2.2.1 (same c).2.2.2.2.2.2.2),
        (h c).2.2.2.2⟩) (Cert.Reference5Ideal.Value.run m' g')⟩

/-- Reference 6 runs from any memory, leaves its arguments and ends with every counter at zero. -/
theorem reference6_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0) :=
  (θ_run Cert.Reference6Ideal.defs _ _).mono
    (fun r h => ⟨fun c => (h c).2, Idealize.ShloMosaic.sem_eq_zero_of_no_sems (by decide) r.2⟩) (Cert.Reference6Ideal.Value.run m g)

/-- Kernel and reference end with the scaled queries, where the arguments that the precondition names are real. -/
theorem queries : Cert.algebraic_Kernel6Ideal_Reference6Ideal_pre_finite_q (hKernel6Ideal := Cert.Kernel6Ideal.Gen.facts)
    (hReference6Ideal := Cert.Reference6Ideal.Gen.facts) (hPre_finite_q := Cert.Pre_finite_q.Gen.facts) := fun m g m' g' pre same =>
  ⟨fun c i => Cert.Kernel6Ideal.Q.queries (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (i 0) (i 1) (i 2),
    (θ_run Cert.Kernel6Ideal.defs _ _).mono (fun _ h c => ⟨(h c).1.trans (Cert.Kernel6Ideal.Q.final m c (Cert.Pre_finite_q.Q.real _ _ _ _ _ _ _ _ (pre c))), (h c).2⟩) (Cert.Kernel6Ideal.Value.run_blocks m g),
    (θ_run Cert.Reference6Ideal.defs _ _).mono (fun _ h c =>
      ⟨(h c).1.trans (Cert.Reference6Ideal.Q.out m' c _ _ _ _ _ _ _ (same c).1 (same c).2.1 (same c).2.2.1 (same c).2.2.2.1 (same c).2.2.2.2.1 (same c).2.2.2.2.2.1 (same c).2.2.2.2.2.2.1), (h c).2⟩)
      (Cert.Reference6Ideal.Value.run m' g')⟩

/-- Reference 7 runs from any memory, leaves its arguments and ends with every counter at zero. -/
theorem reference7_frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run Cert.Reference7Ideal.defs _ _).mono
    (fun r h => ⟨fun c => (h c).2, Idealize.ShloMosaic.sem_eq_zero_of_no_sems (by decide) r.2⟩) (Cert.Reference7Ideal.Value.run m g)

/-- Kernel and reference end with the normalized, modulated rows of the sample's step. -/
theorem step_norms : Cert.algebraic_Kernel7Ideal_Reference7Ideal (hKernel7Ideal := Cert.Kernel7Ideal.Gen.facts)
    (hReference7Ideal := Cert.Reference7Ideal.Gen.facts) := fun m g m' g' _ same =>
  ⟨fun c i => Cert.Kernel7Ideal.Step.normed (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (i 1) (i 2),
    (θ_run Cert.Kernel7Ideal.defs _ _).mono (fun _ h c => ⟨(h c).1.trans (Cert.Kernel7Ideal.Step.final m c), (h c).2⟩) (Cert.Kernel7Ideal.Value.run_blocks m g),
    (θ_run Cert.Reference7Ideal.defs _ _).mono (fun _ h c =>
      ⟨(h c).1.trans ((Cert.Reference7Ideal.Step.term_eq _ _ _ _).trans (by rw [(same c).1, (same c).2.1, (same c).2.2.1, (same c).2.2.2]; rfl)), (h c).2⟩)
      (Cert.Reference7Ideal.Value.run m' g')⟩

/-- Reference 8 runs from any memory, leaves its arguments and ends with every counter at zero. -/
theorem reference8_frame (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0) :=
  (θ_run Cert.Reference8Ideal.defs _ _).mono
    (fun r h => ⟨fun c => (h c).2.2, Idealize.ShloMosaic.sem_eq_zero_of_no_sems (by decide) r.2⟩) (Cert.Reference8Ideal.Value.run m g)

/-- Kernel and reference end with the latents and shared keys of the sample's step, where the arguments that the precondition names are real. -/
theorem latents_of_the_step : Cert.algebraic_Kernel8Ideal_Reference8Ideal_pre_finite_kv_s (hKernel8Ideal := Cert.Kernel8Ideal.Gen.facts)
    (hReference8Ideal := Cert.Reference8Ideal.Gen.facts) (hPre_finite_kv_s := Cert.Pre_finite_kv_s.Gen.facts) := fun m g m' g' pre same =>
  ⟨fun c i => Cert.Kernel8Ideal.Kv.latent (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (i 1) (i 2),
    fun c i => Cert.Kernel8Ideal.Kv.shared (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg6)) (i 1) (i 2),
    (θ_run Cert.Kernel8Ideal.defs _ _).mono (fun _ h c =>
      ⟨(h c).1.trans (Cert.Kernel8Ideal.Kv.final10 m c (Cert.Pre_finite_kv_s.Kv.real _ _ _ _ _ _ _ _ (pre c))),
        (h c).2.1.trans (Cert.Kernel8Ideal.Kv.final11 m c (Cert.Pre_finite_kv_s.Kv.real _ _ _ _ _ _ _ _ (pre c))),
        (h c).2.2⟩) (Cert.Kernel8Ideal.Value.run_blocks m g),
    (θ_run Cert.Reference8Ideal.defs _ _).mono (fun _ h c =>
      ⟨(h c).1.trans (Cert.Reference8Ideal.Kv.out0 m' c _ _ _ _ _ _ (same c).1 (same c).2.1 (same c).2.2.1 (same c).2.2.2.1 (same c).2.2.2.2.1 (same c).2.2.2.2.2.1),
        (h c).2.1.trans (Cert.Reference8Ideal.Kv.out1 m' c _ _ _ _ _ (same c).1 (same c).2.1 (same c).2.2.1 (same c).2.2.2.1 (same c).2.2.2.2.2.2.1),
        (h c).2.2⟩) (Cert.Reference8Ideal.Value.run m' g')⟩

/-- Reference 9 runs from any memory, leaves its arguments and ends with every counter at zero. -/
theorem reference9_frame (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13))
      ∧ r.2.sem = fun _ => 0) :=
  (θ_run Cert.Reference9Ideal.defs _ _).mono
    (fun r h => ⟨fun c => (h c).2.2, Idealize.ShloMosaic.sem_eq_zero_of_no_sems (by decide) r.2⟩) (Cert.Reference9Ideal.Value.run m g)

/-- Kernel and reference end with the next states of the sample's step, where the arguments that the precondition names are real and no pole is zero. -/
theorem states_of_the_step : Cert.algebraic_Kernel9Ideal_Reference9Ideal_pre_finite_s5 (hKernel9Ideal := Cert.Kernel9Ideal.Gen.facts)
    (hReference9Ideal := Cert.Reference9Ideal.Gen.facts) (hPre_finite_s5 := Cert.Pre_finite_s5.Gen.facts) := fun m g m' g' pre same =>
  ⟨fun c i => Cert.Kernel9Ideal.S5.nextRe (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (i 0) (i 1),
    fun c i => Cert.Kernel9Ideal.S5.nextIm (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (i 0) (i 1),
    (θ_run Cert.Kernel9Ideal.defs _ _).mono (fun _ h c =>
      ⟨(h c).2.1.trans (Cert.Kernel9Ideal.S5.final13 m c (Cert.Pre_finite_s5.S5.real _ _ _ _ _ _ _ _ _ _ _ _ _ _ (pre c))),
        (h c).2.2.1.trans (Cert.Kernel9Ideal.S5.final14 m c (Cert.Pre_finite_s5.S5.real _ _ _ _ _ _ _ _ _ _ _ _ _ _ (pre c))),
        (h c).2.2.2⟩) (Cert.Kernel9Ideal.Value.run_blocks m g),
    (θ_run Cert.Reference9Ideal.defs _ _).mono (fun _ h c =>
      ⟨(h c).1.trans (Cert.Reference9Ideal.S5.out0 m' c _ _ _ _ _ _ _ _ _ _ _ (same c).1 (same c).2.1 (same c).2.2.1 (same c).2.2.2.1 (same c).2.2.2.2.1 (same c).2.2.2.2.2.1 (same c).2.2.2.2.2.2.1 (same c).2.2.2.2.2.2.2.1 (same c).2.2.2.2.2.2.2.2.1 (same c).2.2.2.2.2.2.2.2.2.1 (same c).2.2.2.2.2.2.2.2.2.2.1),
        (h c).2.1.trans (Cert.Reference9Ideal.S5.out1 m' c _ _ _ _ _ _ _ _ _ _ _ (same c).1 (same c).2.1 (same c).2.2.1 (same c).2.2.2.1 (same c).2.2.2.2.1 (same c).2.2.2.2.2.1 (same c).2.2.2.2.2.2.1 (same c).2.2.2.2.2.2.2.1 (same c).2.2.2.2.2.2.2.2.1 (same c).2.2.2.2.2.2.2.2.2.1 (same c).2.2.2.2.2.2.2.2.2.2.1),
        (h c).2.2⟩) (Cert.Reference9Ideal.Value.run m' g')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts, Cert.Pre_finite_kv.Gen.facts, Cert.Pre_finite_q.Gen.facts, Cert.Pre_finite_kv_s.Gen.facts, Cert.Pre_finite_s5.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g,
    fun m g _ => Cert.Kernel2Ideal.Gen.frame m g,
    fun m g _ => reference2_frame m g,
    fun m g _ => Cert.Kernel3.Gen.frame m g,
    fun m g _ => Cert.Kernel3Ideal.Gen.frame m g,
    fun m g _ => reference3_frame m g,
    fun m g _ => Cert.Kernel4.Gen.frame m g,
    fun m g _ => Cert.Kernel4Ideal.Gen.frame m g,
    fun m g _ => reference4_frame m g,
    fun m g _ => Cert.Kernel5.Gen.frame m g,
    fun m g _ => Cert.Kernel5Ideal.Gen.frame m g,
    fun m g _ => Cert.Kernel5Ideal.Gen.frame m g,
    fun m g _ => reference5_frame m g,
    fun m g _ => reference5_frame m g,
    fun m g _ => Cert.Kernel6.Gen.frame m g,
    fun m g _ => Cert.Kernel6Ideal.Gen.frame m g,
    fun m g _ => Cert.Kernel6Ideal.Gen.frame m g,
    fun m g _ => reference6_frame m g,
    fun m g _ => reference6_frame m g,
    fun m g _ => Cert.Kernel7.Gen.frame m g,
    fun m g _ => Cert.Kernel7Ideal.Gen.frame m g,
    fun m g _ => reference7_frame m g,
    fun m g _ => Cert.Kernel8.Gen.frame m g,
    fun m g _ => Cert.Kernel8Ideal.Gen.frame m g,
    fun m g _ => Cert.Kernel8Ideal.Gen.frame m g,
    fun m g _ => reference8_frame m g,
    fun m g _ => reference8_frame m g,
    fun m g _ => Cert.Kernel9.Gen.frame m g,
    fun m g _ => Cert.Kernel9Ideal.Gen.frame m g,
    fun m g _ => Cert.Kernel9Ideal.Gen.frame m g,
    fun m g _ => reference9_frame m g,
    fun m g _ => reference9_frame m g,
    IdealRules.named_const.statement Cert.KernelIdeal.κ "mask" .f32 0xF149F2CA#32 ⊥ rfl,
    attention, trivial, gates, trivial, heads, trivial, norms, trivial, keys_and_values, trivial, queries, trivial, step_norms, trivial, latents_of_the_step, trivial, states_of_the_step⟩

end Cert.Proof

end
